-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_proj [hPre_finite_proj : Cert.Pre_finite_proj.Facts] (m : (ℓ : Loc Cert.KernelIdeal.nD Cert.KernelIdeal.τ Cert.KernelIdeal.sig) → Buf (Elt Ideal) ℓ) : Prop :=
  ∀ c : Dev Cert.KernelIdeal.nD,
    (Cert.Pre_finite_proj.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_proj [hPre_finite_proj : Cert.Pre_finite_proj.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_proj.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_ffn [hPre_finite_ffn : Cert.Pre_finite_ffn.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_ffn [hPre_finite_ffn : Cert.Pre_finite_ffn.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_cross [hPre_finite_cross : Cert.Pre_finite_cross.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_cross.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_cross [hPre_finite_cross : Cert.Pre_finite_cross.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_cross.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_proj [hKernelIdeal : Cert.KernelIdeal.Facts] [hPre_finite_proj : Cert.Pre_finite_proj.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_proj m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_proj [hReferenceIdeal : Cert.ReferenceIdeal.Facts] [hPre_finite_proj : Cert.Pre_finite_proj.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_proj m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_ffn [hKernel2Ideal : Cert.Kernel2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_ffn m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_ffn [hReference2Ideal : Cert.Reference2Ideal.Facts] [hPre_finite_ffn : Cert.Pre_finite_ffn.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_ffn m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Kernel3Ideal_pre_finite_cross [hKernel3Ideal : Cert.Kernel3Ideal.Facts] [hPre_finite_cross : Cert.Pre_finite_cross.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_cross m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Reference3Ideal_pre_finite_cross [hReference3Ideal : Cert.Reference3Ideal.Facts] [hPre_finite_cross : Cert.Pre_finite_cross.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_cross m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  IdealRules.named_const.Statement Cert.KernelIdeal.κ "log_decay0" .f32 0xBD020AEC#32 ((Real.log (31 / 32) : ℝ) : EReal)
  ∧ IdealRules.named_const.Statement Cert.KernelIdeal.κ "log_decay1" .f32 0xBC8102B3#32 ((Real.log (63 / 64) : ℝ) : EReal)
  ∧ IdealRules.named_const.Statement Cert.KernelIdeal.κ "log_decay2" .f32 0xBC0080AC#32 ((Real.log (127 / 128) : ℝ) : EReal)
  ∧ IdealRules.named_const.Statement Cert.KernelIdeal.κ "log_decay3" .f32 0xBB80402B#32 ((Real.log (255 / 256) : ℝ) : EReal)
  ∧ IdealRules.named_const.Statement Cert.KernelIdeal.κ "chunk_decay0" .f32 0x399ACCA1#32 ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  ∧ IdealRules.named_const.Statement Cert.KernelIdeal.κ "chunk_decay1" .f32 0x3C9160A5#32 ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  ∧ IdealRules.named_const.Statement Cert.KernelIdeal.κ "chunk_decay2" .f32 0x3E097FCE#32 ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  ∧ IdealRules.named_const.Statement Cert.KernelIdeal.κ "chunk_decay3" .f32 0x3EBBFC5D#32 ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)

def algebraic_KernelIdeal_ReferenceIdeal_pre_finite_proj [hKernelIdeal : Cert.KernelIdeal.Facts] [hReferenceIdeal : Cert.ReferenceIdeal.Facts] [hPre_finite_proj : Cert.Pre_finite_proj.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_proj m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_v105) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite_ffn [hKernel2Ideal : Cert.Kernel2Ideal.Facts] [hReference2Ideal : Cert.Reference2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_ffn m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite_cross [hKernel3Ideal : Cert.Kernel3Ideal.Facts] [hReference3Ideal : Cert.Reference3Ideal.Facts] [hPre_finite_cross : Cert.Pre_finite_cross.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_cross m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v82) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v144_0)) (v1 : (c : Dev Cert.Kernel4Ideal.nD) → Buf (Elt Ideal) ((c.tc : Thread Cert.Kernel4Ideal.nD Cert.Kernel4Ideal.τ).loc Cert.Kernel4Ideal.main_v144_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v144_0) = v0 c
          ∧ r.2.mem ((c.tc : Thread Cert.Kernel4Ideal.nD Cert.Kernel4Ideal.τ).loc Cert.Kernel4Ideal.main_v144_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v171) = v0 c
          ∧ r.2.mem ((c.tc : Thread Cert.Reference4Ideal.nD Cert.Reference4Ideal.τ).loc Cert.Reference4Ideal.main_v98) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_proj : Cert.Pre_finite_proj.Facts) (hPre_finite_ffn : Cert.Pre_finite_ffn.Facts) (hPre_finite_cross : Cert.Pre_finite_cross.Facts),
    quiescent_Kernel (hKernel := hKernel)
    ∧ quiescent_KernelIdeal (hKernelIdeal := hKernelIdeal)
    ∧ quiescent_KernelIdeal_pre_finite_proj (hKernelIdeal := hKernelIdeal) (hPre_finite_proj := hPre_finite_proj)
    ∧ quiescent_ReferenceIdeal (hReferenceIdeal := hReferenceIdeal)
    ∧ quiescent_ReferenceIdeal_pre_finite_proj (hReferenceIdeal := hReferenceIdeal) (hPre_finite_proj := hPre_finite_proj)
    ∧ quiescent_Kernel2 (hKernel2 := hKernel2)
    ∧ quiescent_Kernel2Ideal (hKernel2Ideal := hKernel2Ideal)
    ∧ quiescent_Kernel2Ideal_pre_finite_ffn (hKernel2Ideal := hKernel2Ideal) (hPre_finite_ffn := hPre_finite_ffn)
    ∧ quiescent_Reference2Ideal (hReference2Ideal := hReference2Ideal)
    ∧ quiescent_Reference2Ideal_pre_finite_ffn (hReference2Ideal := hReference2Ideal) (hPre_finite_ffn := hPre_finite_ffn)
    ∧ quiescent_Kernel3 (hKernel3 := hKernel3)
    ∧ quiescent_Kernel3Ideal (hKernel3Ideal := hKernel3Ideal)
    ∧ quiescent_Kernel3Ideal_pre_finite_cross (hKernel3Ideal := hKernel3Ideal) (hPre_finite_cross := hPre_finite_cross)
    ∧ quiescent_Reference3Ideal (hReference3Ideal := hReference3Ideal)
    ∧ quiescent_Reference3Ideal_pre_finite_cross (hReference3Ideal := hReference3Ideal) (hPre_finite_cross := hPre_finite_cross)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_proj (hKernelIdeal := hKernelIdeal) (hReferenceIdeal := hReferenceIdeal) (hPre_finite_proj := hPre_finite_proj)
    ∧ preserves_Kernel2_Kernel2Ideal
    ∧ algebraic_Kernel2Ideal_Reference2Ideal_pre_finite_ffn (hKernel2Ideal := hKernel2Ideal) (hReference2Ideal := hReference2Ideal) (hPre_finite_ffn := hPre_finite_ffn)
    ∧ preserves_Kernel3_Kernel3Ideal
    ∧ algebraic_Kernel3Ideal_Reference3Ideal_pre_finite_cross (hKernel3Ideal := hKernel3Ideal) (hReference3Ideal := hReference3Ideal) (hPre_finite_cross := hPre_finite_cross)
    ∧ preserves_Kernel4_Kernel4Ideal
    ∧ algebraic_Kernel4Ideal_Reference4Ideal (hKernel4Ideal := hKernel4Ideal) (hReference4Ideal := hReference4Ideal)
-- ==== Pre_finite_cross.lean ====
abbrev S16384x512 : Shape := ⟨2, ![16384, 512]⟩
abbrev S8x2048x1024 : Shape := ⟨3, ![8, 2048, 1024]⟩
abbrev S2048x2048 : Shape := ⟨2, ![2048, 2048]⟩
abbrev S1x1024x1024 : Shape := ⟨3, ![1, 1024, 1024]⟩
abbrev S1x1024 : Shape := ⟨2, ![1, 1024]⟩
abbrev S2048x1024 : Shape := ⟨2, ![2048, 1024]⟩
abbrev S_ : Shape := ⟨0, ![]⟩

class Facts : Prop where
  slices_S2048x2048_S2048x1024_0_0 : S2048x2048.Slices ![0, 0] S2048x1024
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_

variable [Facts]

def fn {F : FTy → Type} [FloatOps F] (main_arg0 : FVec F S16384x512 .bf16) (main_arg1 : FVec F S16384x512 .bf16) (main_arg2 : FVec F S8x2048x1024 .f32) (main_arg3 : FVec F S2048x2048 .bf16) (main_arg4 : FVec F S1x1024x1024 .f32) (main_arg5 : FVec F S1x1024 .f32) (main_arg6 : FVec F S1x1024 .f32) (main_arg7 : FVec F S1x1024x1024 .f32) (main_arg8 : FVec F S1x1024x1024 .f32) (main_arg9 : FVec F S1x1024 .f32) : IVec S_ 1 :=
  let main_v0 : FVec F S2048x1024 .bf16 := (extractStridedSlice S2048x1024 ![0, 0] · slices_S2048x2048_S2048x1024_0_0) main_arg3
  let main_v1 : FVec F S2048x1024 .f32 := (extf .f32 · bitsLt_bf16_f32) main_v0
  let main_v2 : FVec F S2048x1024 .f32 := Host.absf main_v1
  let main_cst : FVec F S_ .f32 := constant S_ .f32 0x7F800000#32
  let main_v3 : FVec F S2048x1024 .f32 := broadcastInDim S2048x1024 ![] bcast_S_S2048x1024 main_cst
  let main_v4 : IVec S2048x1024 1 := cmpf .olt main_v2 main_v3
  let main_c : IVec S_ 1 := constantI S_ 1 1#1
  let main_v5 : IVec S_ 1 := (fun x v => Host.reduce IntOp.andi x v reducesTo_S2048x1024_S_d0_1 h_S_) main_v4 main_c
  let main_v6 : FVec F S1x1024 .f32 := Host.absf main_arg6
  let main_cst_0 : FVec F S_ .f32 := constant S_ .f32 0x7F800000#32
  let main_v7 : FVec F S1x1024 .f32 := broadcastInDim S1x1024 ![] bcast_S_S1x1024 main_cst_0
  let main_v8 : IVec S1x1024 1 := cmpf .olt main_v6 main_v7
  let main_c_1 : IVec S_ 1 := constantI S_ 1 1#1
  let main_v9 : IVec S_ 1 := (fun x v => Host.reduce IntOp.andi x v reducesTo_S1x1024_S_d0_1 h_S_) main_v8 main_c_1
  let main_v10 : IVec S_ 1 := andi main_v5 main_v9
  let main_v11 : FVec F S1x1024x1024 .f32 := Host.absf main_arg7
  let main_cst_2 : FVec F S_ .f32 := constant S_ .f32 0x7F800000#32
  let main_v12 : FVec F S1x1024x1024 .f32 := broadcastInDim S1x1024x1024 ![] bcast_S_S1x1024x1024 main_cst_2
  let main_v13 : IVec S1x1024x1024 1 := cmpf .olt main_v11 main_v12
  let main_c_3 : IVec S_ 1 := constantI S_ 1 1#1
  let main_v14 : IVec S_ 1 := (fun x v => Host.reduce IntOp.andi x v reducesTo_S1x1024x1024_S_d0_1_2 h_S_) main_v13 main_c_3
  let main_v15 : IVec S_ 1 := andi main_v10 main_v14
  main_v15
-- ==== Pre_finite_ffn.lean ====
abbrev S8x2048x1024 : Shape := ⟨3, ![8, 2048, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S_ : Shape := ⟨0, ![]⟩
abbrev S1x1024x2816 : Shape := ⟨3, ![1, 1024, 2816]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  slices_S1x1024x5632_S1x1024x2816_0_0_0 : S1x1024x5632.Slices ![0, 0, 0] S1x1024x2816
  bcast_S_S1x1024x2816 : S_.BroadcastsInDim S1x1024x2816 (![] : Fin 0 → Fin S1x1024x2816.rank)
  reducesTo_S1x1024x2816_S_d0_1_2 : S1x1024x2816.ReducesTo [0, 1, 2] S_

variable [Facts]

def fn {F : FTy → Type} [FloatOps F] (main_arg0 : FVec F S8x2048x1024 .f32) (main_arg1 : FVec F S1x1024 .f32) (main_arg2 : FVec F S1x1024x5632 .f32) (main_arg3 : FVec F S1x2816x1024 .f32) (main_arg4 : FVec F S1x1024 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024x2816 .f32 := (extractStridedSlice S1x1024x2816 ![0, 0, 0] · slices_S1x1024x5632_S1x1024x2816_0_0_0) main_arg2
  let main_v5 : FVec F S1x1024x2816 .f32 := Host.absf main_v4
  let main_cst_0 : FVec F S_ .f32 := constant S_ .f32 0x7F800000#32
  let main_v6 : FVec F S1x1024x2816 .f32 := broadcastInDim S1x1024x2816 ![] bcast_S_S1x1024x2816 main_cst_0
  let main_v7 : IVec S1x1024x2816 1 := cmpf .olt main_v5 main_v6
  let main_c_1 : IVec S_ 1 := constantI S_ 1 1#1
  let main_v8 : IVec S_ 1 := (fun x v => Host.reduce IntOp.andi x v reducesTo_S1x1024x2816_S_d0_1_2 h_S_) main_v7 main_c_1
  let main_v9 : IVec S_ 1 := andi main_v3 main_v8
  main_v9
-- ==== Pre_finite_proj.lean ====
abbrev S16384x3072 : Shape := ⟨2, ![16384, 3072]⟩
abbrev S8x256x1024 : Shape := ⟨3, ![8, 256, 1024]⟩
abbrev S1x1024 : Shape := ⟨2, ![1, 1024]⟩
abbrev S1x1024x2048 : Shape := ⟨3, ![1, 1024, 2048]⟩
abbrev S16384x1536 : Shape := ⟨2, ![16384, 1536]⟩
abbrev S_ : Shape := ⟨0, ![]⟩

class Facts : Prop where
  slices_S16384x3072_S16384x1536_0_1536 : S16384x3072.Slices ![0, 1536] S16384x1536
  bitsLt_bf16_f32 : FTy.bits .bf16 < FTy.bits .f32
  bcast_S_S16384x1536 : S_.BroadcastsInDim S16384x1536 (![] : Fin 0 → Fin S16384x1536.rank)
  reducesTo_S16384x1536_S_d0_1 : S16384x1536.ReducesTo [0, 1] S_
  h_S_ : 0 < S_.numel

variable [Facts]

def fn {F : FTy → Type} [FloatOps F] (main_arg0 : FVec F S16384x3072 .bf16) (main_arg1 : FVec F S8x256x1024 .f32) (main_arg2 : FVec F S1x1024 .f32) (main_arg3 : FVec F S1x1024x2048 .f32) : IVec S_ 1 :=
  let main_v0 : FVec F S16384x1536 .bf16 := (extractStridedSlice S16384x1536 ![0, 1536] · slices_S16384x3072_S16384x1536_0_1536) main_arg0
  let main_v1 : FVec F S16384x1536 .f32 := (extf .f32 · bitsLt_bf16_f32) main_v0
  let main_v2 : FVec F S16384x1536 .f32 := Host.absf main_v1
  let main_cst : FVec F S_ .f32 := constant S_ .f32 0x7F800000#32
  let main_v3 : FVec F S16384x1536 .f32 := broadcastInDim S16384x1536 ![] bcast_S_S16384x1536 main_cst
  let main_v4 : IVec S16384x1536 1 := cmpf .olt main_v2 main_v3
  let main_c : IVec S_ 1 := constantI S_ 1 1#1
  let main_v5 : IVec S_ 1 := (fun x v => Host.reduce IntOp.andi x v reducesTo_S16384x1536_S_d0_1 h_S_) main_v4 main_c
  main_v5
-- ==== Kernel.lean ====
abbrev S16384x3072 : Shape := ⟨2, ![16384, 3072]⟩
abbrev S8x256x1024 : Shape := ⟨3, ![8, 256, 1024]⟩
abbrev S1x1024 : Shape := ⟨2, ![1, 1024]⟩
abbrev S1x1024x2048 : Shape := ⟨3, ![1, 1024, 2048]⟩
abbrev S2048x1024 : Shape := ⟨2, ![2048, 1024]⟩
abbrev S1024 : Shape := ⟨1, ![1024]⟩
abbrev S1024x2048 : Shape := ⟨2, ![1024, 2048]⟩
abbrev S16384x512 : Shape := ⟨2, ![16384, 512]⟩
abbrev S2048x2048 : Shape := ⟨2, ![2048, 2048]⟩
abbrev S2048x256 : Shape := ⟨2, ![2048, 256]⟩
abbrev S2048x512 : Shape := ⟨2, ![2048, 512]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩
abbrev S256x256 : Shape := ⟨2, ![256, 256]⟩
abbrev S128x128 : Shape := ⟨2, ![128, 128]⟩

abbrev nBuf : Space → Nat
  | .hbm => 11
  | .vmem => 16
  | .smem => 0
  | _ => 0

abbrev bufTy : (tb : Table) → Fin (tcTables nBuf tb) → BufTy
  | .hbm, ⟨0, _⟩ => ⟨S16384x3072, .bf16⟩
  | .hbm, ⟨1, _⟩ => ⟨S8x256x1024, .f32⟩
  | .hbm, ⟨2, _⟩ => ⟨S1x1024, .f32⟩
  | .hbm, ⟨3, _⟩ => ⟨S1x1024x2048, .f32⟩
  | .hbm, ⟨4, _⟩ => ⟨S2048x1024, .f32⟩
  | .hbm, ⟨5, _⟩ => ⟨S1024, .f32⟩
  | .hbm, ⟨6, _⟩ => ⟨S1x1024, .f32⟩
  | .hbm, ⟨7, _⟩ => ⟨S1024x2048, .f32⟩
  | .hbm, ⟨8, _⟩ => ⟨S1024x2048, .bf16⟩
  | .hbm, ⟨9, _⟩ => ⟨S16384x512, .bf16⟩
  | .hbm, ⟨10, _⟩ => ⟨S2048x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1024x2048, .bf16⟩
  | .local _ .vmem, ⟨12, _⟩ => ⟨S2048x512, .bf16⟩
  | .local _ .vmem, ⟨13, _⟩ => ⟨S2048x512, .bf16⟩
  | .local _ .vmem, ⟨14, _⟩ => ⟨S256x2048, .bf16⟩
  | .local _ .vmem, ⟨15, _⟩ => ⟨S256x2048, .bf16⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "chunk_decay0" => some ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  | "chunk_decay1" => some ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  | "chunk_decay2" => some ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  | "chunk_decay3" => some ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)
  | "log_decay0" => some ((Real.log (31 / 32) : ℝ) : EReal)
  | "log_decay1" => some ((Real.log (63 / 64) : ℝ) : EReal)
  | "log_decay2" => some ((Real.log (127 / 128) : ℝ) : EReal)
  | "log_decay3" => some ((Real.log (255 / 256) : ℝ) : EReal)
  | _ => none
-- ==== ReferenceIdeal.lean ====
abbrev S16384x3072 : Shape := ⟨2, ![16384, 3072]⟩
abbrev S8x256x1024 : Shape := ⟨3, ![8, 256, 1024]⟩
abbrev S1x1024 : Shape := ⟨2, ![1, 1024]⟩
abbrev S1x1024x2048 : Shape := ⟨3, ![1, 1024, 2048]⟩
abbrev S8x2048x3072 : Shape := ⟨3, ![8, 2048, 3072]⟩
abbrev S8x2048x256 : Shape := ⟨3, ![8, 2048, 256]⟩
abbrev S8x2048x512 : Shape := ⟨3, ![8, 2048, 512]⟩
abbrev S8x2048x4x64 : Shape := ⟨4, ![8, 2048, 4, 64]⟩
abbrev S8x4x2048x64 : Shape := ⟨4, ![8, 4, 2048, 64]⟩
abbrev S8x2048x4x128 : Shape := ⟨4, ![8, 2048, 4, 128]⟩
abbrev S8x4x2048x128 : Shape := ⟨4, ![8, 4, 2048, 128]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S1x4x128x1 : Shape := ⟨4, ![1, 4, 128, 1]⟩
abbrev S1x4x1x1 : Shape := ⟨4, ![1, 4, 1, 1]⟩
abbrev S8x4x64x128 : Shape := ⟨4, ![8, 4, 64, 128]⟩
abbrev S8x4x16x128x64 : Shape := ⟨5, ![8, 4, 16, 128, 64]⟩
abbrev S16x8x4x128x64 : Shape := ⟨5, ![16, 8, 4, 128, 64]⟩
abbrev S8x4x16x128x128 : Shape := ⟨5, ![8, 4, 16, 128, 128]⟩
abbrev S16x8x4x128x128 : Shape := ⟨5, ![16, 8, 4, 128, 128]⟩
abbrev S1x8x4x128x64 : Shape := ⟨5, ![1, 8, 4, 128, 64]⟩
abbrev S8x4x128x64 : Shape := ⟨4, ![8, 4, 128, 64]⟩
abbrev S1x8x4x128x128 : Shape := ⟨5, ![1, 8, 4, 128, 128]⟩
abbrev S8x4x128x128 : Shape := ⟨4, ![8, 4, 128, 128]⟩
abbrev S1x4x128x128 : Shape := ⟨4, ![1, 4, 128, 128]⟩
abbrev S8x4x2048 : Shape := ⟨3, ![8, 4, 2048]⟩
abbrev S8x4x2048x1 : Shape := ⟨4, ![8, 4, 2048, 1]⟩
abbrev S1024 : Shape := ⟨1, ![1024]⟩
abbrev S8x256 : Shape := ⟨2, ![8, 256]⟩
abbrev S8x256x1 : Shape := ⟨3, ![8, 256, 1]⟩
abbrev S1x1x1024 : Shape := ⟨3, ![1, 1, 1024]⟩
abbrev S1024x2048 : Shape := ⟨2, ![1024, 2048]⟩
abbrev S8x256x2048 : Shape := ⟨3, ![8, 256, 2048]⟩
abbrev S16384x512 : Shape := ⟨2, ![16384, 512]⟩
abbrev S2048x2048 : Shape := ⟨2, ![2048, 2048]⟩

abbrev nBuf : Space → Nat
  | .hbm => 191
  | .vmem => 0
  | .smem => 0
  | _ => 0

abbrev hbmTy0_0 (i : Nat) : BufTy := match i % 128 with
  | 0 => ⟨S16384x3072, .bf16⟩
  | 1 => ⟨S8x256x1024, .f32⟩
  | 2 => ⟨S1x1024, .f32⟩
  | 3 => ⟨S1x1024x2048, .f32⟩
  | 4 => ⟨S16384x3072, .f32⟩
  | 5 => ⟨S8x2048x3072, .f32⟩
  | 6 => ⟨S8x2048x256, .f32⟩
  | 7 => ⟨S8x2048x256, .f32⟩
  | 8 => ⟨S8x2048x512, .f32⟩
  | 9 => ⟨S8x2048x4x64, .f32⟩
  | 10 => ⟨S8x4x2048x64, .f32⟩
  | 11 => ⟨S8x2048x4x64, .f32⟩
  | 12 => ⟨S8x4x2048x64, .f32⟩
  | 13 => ⟨S8x2048x4x128, .f32⟩
  | 14 => ⟨S8x4x2048x128, .f32⟩
  | 15 => ⟨S4, .f32⟩
  | 16 => ⟨S_, .f32⟩
  | 17 => ⟨S4, .f32⟩
  | 18 => ⟨S4, .f32⟩
  | 19 => ⟨S_, .f32⟩
  | 20 => ⟨S4, .f32⟩
  | 21 => ⟨S4, .f32⟩
  | 22 => ⟨S_, .f32⟩
  | 23 => ⟨S4, .f32⟩
  | 24 => ⟨S4, .f32⟩
  | 25 => ⟨S4, .f32⟩
  | 26 => ⟨S128, .f32⟩
  | 27 => ⟨S128x1, .f32⟩
  | 28 => ⟨S1x128, .f32⟩
  | 29 => ⟨S128x128, .f32⟩
  | 30 => ⟨S128x128, .f32⟩
  | 31 => ⟨S128x128, .f32⟩
  | 32 => ⟨S_, .f32⟩
  | 33 => ⟨S128x128, .f32⟩
  | 34 => ⟨S128x128, .i1⟩
  | 35 => ⟨S4x1x1, .f32⟩
  | 36 => ⟨S_, .f32⟩
  | 37 => ⟨S128x128, .f32⟩
  | 38 => ⟨S128x128, .f32⟩
  | 39 => ⟨S1x128x128, .f32⟩
  | 40 => ⟨S4x128x128, .f32⟩
  | 41 => ⟨S4x128x128, .f32⟩
  | 42 => ⟨S4x128x128, .f32⟩
  | 43 => ⟨S4x128x128, .f32⟩
  | 44 => ⟨S_, .f32⟩
  | 45 => ⟨S_, .f32⟩
  | 46 => ⟨S4x128x128, .i1⟩
  | 47 => ⟨S4x128x128, .f32⟩
  | 48 => ⟨S4x128x128, .f32⟩
  | 49 => ⟨S4x1, .f32⟩
  | 50 => ⟨S_, .f32⟩
  | 51 => ⟨S128, .f32⟩
  | 52 => ⟨S128, .f32⟩
  | 53 => ⟨S1x128, .f32⟩
  | 54 => ⟨S4x128, .f32⟩
  | 55 => ⟨S4x128, .f32⟩
  | 56 => ⟨S4x128, .f32⟩
  | 57 => ⟨S4x128, .f32⟩
  | 58 => ⟨S1x4x128x1, .f32⟩
  | 59 => ⟨S4x1, .f32⟩
  | 60 => ⟨S_, .f32⟩
  | 61 => ⟨S128, .f32⟩
  | 62 => ⟨S128, .f32⟩
  | 63 => ⟨S1x128, .f32⟩
  | 64 => ⟨S4x128, .f32⟩
  | 65 => ⟨S4x128, .f32⟩
  | 66 => ⟨S4x128, .f32⟩
  | 67 => ⟨S4x128, .f32⟩
  | 68 => ⟨S1x4x128x1, .f32⟩
  | 69 => ⟨S_, .f32⟩
  | 70 => ⟨S4, .f32⟩
  | 71 => ⟨S4, .f32⟩
  | 72 => ⟨S4, .f32⟩
  | 73 => ⟨S1x4x1x1, .f32⟩
  | 74 => ⟨S_, .f32⟩
  | 75 => ⟨S8x4x64x128, .f32⟩
  | 76 => ⟨S8x4x16x128x64, .f32⟩
  | 77 => ⟨S16x8x4x128x64, .f32⟩
  | 78 => ⟨S8x4x16x128x64, .f32⟩
  | 79 => ⟨S16x8x4x128x64, .f32⟩
  | 80 => ⟨S8x4x16x128x128, .f32⟩
  | 81 => ⟨S16x8x4x128x128, .f32⟩
  | 82 => ⟨S_, .f32⟩
  | 83 => ⟨S16x8x4x128x128, .f32⟩
  | 84 => ⟨S_, .i32⟩
  | 85 => ⟨S16x8x4x128x64, .f32⟩
  | 86 => ⟨S16x8x4x128x64, .f32⟩
  | 87 => ⟨S16x8x4x128x128, .f32⟩
  | 88 => ⟨S4x128x128, .f32⟩
  | 89 => ⟨S1x4x128x1, .f32⟩
  | 90 => ⟨S1x4x1x1, .f32⟩
  | 91 => ⟨S1x4x128x1, .f32⟩
  | 92 => ⟨S_, .i32⟩
  | 93 => ⟨S8x4x64x128, .f32⟩
  | 94 => ⟨S16x8x4x128x128, .f32⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S1x8x4x128x64, .f32⟩
  | 102 => ⟨S8x4x128x64, .f32⟩
  | 103 => ⟨S_, .i32⟩
  | 104 => ⟨S_, .i32⟩
  | 105 => ⟨S_, .i32⟩
  | 106 => ⟨S_, .i32⟩
  | 107 => ⟨S1x8x4x128x64, .f32⟩
  | 108 => ⟨S8x4x128x64, .f32⟩
  | 109 => ⟨S_, .i32⟩
  | 110 => ⟨S_, .i32⟩
  | 111 => ⟨S_, .i32⟩
  | 112 => ⟨S_, .i32⟩
  | 113 => ⟨S1x8x4x128x128, .f32⟩
  | 114 => ⟨S8x4x128x128, .f32⟩
  | 115 => ⟨S8x4x128x128, .f32⟩
  | 116 => ⟨S1x4x128x128, .f32⟩
  | 117 => ⟨S8x4x128x128, .f32⟩
  | 118 => ⟨S8x4x128x128, .f32⟩
  | 119 => ⟨S8x4x128x128, .f32⟩
  | 120 => ⟨S8x4x128x64, .f32⟩
  | 121 => ⟨S8x4x128x64, .f32⟩
  | 122 => ⟨S8x4x128x128, .f32⟩
  | 123 => ⟨S8x4x64x128, .f32⟩
  | 124 => ⟨S8x4x64x128, .f32⟩
  | 125 => ⟨S8x4x128x64, .f32⟩
  | 126 => ⟨S8x4x128x64, .f32⟩
  | 127 => ⟨S8x4x64x128, .f32⟩
  | _ => ⟨S16384x3072, .bf16⟩

abbrev hbmTy0_1 (i : Nat) : BufTy := match i % 128 with
  | 0 => ⟨S8x4x64x128, .f32⟩
  | 1 => ⟨S8x4x128x128, .f32⟩
  | 2 => ⟨S1x8x4x128x128, .f32⟩
  | 3 => ⟨S_, .i32⟩
  | 4 => ⟨S_, .i32⟩
  | 5 => ⟨S_, .i32⟩
  | 6 => ⟨S_, .i32⟩
  | 7 => ⟨S16x8x4x128x128, .f32⟩
  | 8 => ⟨S_, .i32⟩
  | 9 => ⟨S_, .i32⟩
  | 10 => ⟨S8x4x16x128x128, .f32⟩
  | 11 => ⟨S8x4x2048x128, .f32⟩
  | 12 => ⟨S8x4x2048x128, .f32⟩
  | 13 => ⟨S_, .f32⟩
  | 14 => ⟨S8x4x2048, .f32⟩
  | 15 => ⟨S8x4x2048x1, .f32⟩
  | 16 => ⟨S_, .f32⟩
  | 17 => ⟨S8x4x2048x1, .f32⟩
  | 18 => ⟨S8x4x2048x1, .f32⟩
  | 19 => ⟨S_, .f32⟩
  | 20 => ⟨S8x4x2048x1, .f32⟩
  | 21 => ⟨S8x4x2048x1, .f32⟩
  | 22 => ⟨S8x4x2048x1, .f32⟩
  | 23 => ⟨S8x4x2048x128, .f32⟩
  | 24 => ⟨S8x4x2048x128, .f32⟩
  | 25 => ⟨S16384x3072, .f32⟩
  | 26 => ⟨S8x2048x3072, .f32⟩
  | 27 => ⟨S8x2048x512, .f32⟩
  | 28 => ⟨S8x2048x512, .f32⟩
  | 29 => ⟨S8x2048x512, .f32⟩
  | 30 => ⟨S_, .f32⟩
  | 31 => ⟨S8x2048x512, .f32⟩
  | 32 => ⟨S8x2048x512, .f32⟩
  | 33 => ⟨S_, .f32⟩
  | 34 => ⟨S8x2048x512, .f32⟩
  | 35 => ⟨S8x2048x512, .f32⟩
  | 36 => ⟨S8x2048x512, .f32⟩
  | 37 => ⟨S8x2048x4x128, .f32⟩
  | 38 => ⟨S8x2048x512, .f32⟩
  | 39 => ⟨S8x2048x512, .f32⟩
  | 40 => ⟨S1024, .f32⟩
  | 41 => ⟨S8x256x1024, .f32⟩
  | 42 => ⟨S_, .f32⟩
  | 43 => ⟨S8x256, .f32⟩
  | 44 => ⟨S8x256x1, .f32⟩
  | 45 => ⟨S_, .f32⟩
  | 46 => ⟨S8x256x1, .f32⟩
  | 47 => ⟨S8x256x1, .f32⟩
  | 48 => ⟨S_, .f32⟩
  | 49 => ⟨S8x256x1, .f32⟩
  | 50 => ⟨S8x256x1, .f32⟩
  | 51 => ⟨S8x256x1, .f32⟩
  | 52 => ⟨S8x256x1024, .f32⟩
  | 53 => ⟨S8x256x1024, .f32⟩
  | 54 => ⟨S1x1x1024, .f32⟩
  | 55 => ⟨S8x256x1024, .f32⟩
  | 56 => ⟨S8x256x1024, .f32⟩
  | 57 => ⟨S1024x2048, .f32⟩
  | 58 => ⟨S8x256x2048, .f32⟩
  | 59 => ⟨S8x2048x512, .bf16⟩
  | 60 => ⟨S16384x512, .bf16⟩
  | 61 => ⟨S8x256x2048, .bf16⟩
  | 62 => ⟨S2048x2048, .bf16⟩
  | _ => ⟨S16384x3072, .bf16⟩

abbrev hbmTy (i : Nat) : BufTy := match i / 128 with
  | 0 => hbmTy0_0 i
  | 1 => hbmTy0_1 i
  | _ => ⟨S16384x3072, .bf16⟩

abbrev bufTy : (tb : Table) → Fin (tcTables nBuf tb) → BufTy
  | .hbm, ⟨i, _⟩ => hbmTy i
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_7 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_8 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_9 : Ref sig .tc := ⟨.hbm, 82, rfl⟩
abbrev main_v65 : Ref sig .tc := ⟨.hbm, 83, rfl⟩
abbrev main_c : Ref sig .tc := ⟨.hbm, 84, rfl⟩
abbrev main_v66_0 : Ref sig .tc := ⟨.hbm, 85, rfl⟩
abbrev main_v66_1 : Ref sig .tc := ⟨.hbm, 86, rfl⟩
abbrev main_v66_2 : Ref sig .tc := ⟨.hbm, 87, rfl⟩
abbrev main_v66_3 : Ref sig .tc := ⟨.hbm, 88, rfl⟩
abbrev main_v66_4 : Ref sig .tc := ⟨.hbm, 89, rfl⟩
abbrev main_v66_5 : Ref sig .tc := ⟨.hbm, 90, rfl⟩
abbrev main_v66_6 : Ref sig .tc := ⟨.hbm, 91, rfl⟩
abbrev main_v66_7 : Ref sig .tc := ⟨.hbm, 92, rfl⟩
abbrev main_v66_8 : Ref sig .tc := ⟨.hbm, 93, rfl⟩
abbrev main_v66_9 : Ref sig .tc := ⟨.hbm, 94, rfl⟩
abbrev main_while0c_c_25 : Ref sig .tc := ⟨.hbm, 95, rfl⟩
abbrev main_while0c_v106 : Ref sig .tc := ⟨.hbm, 96, rfl⟩
abbrev main_while0b_call1_c : Ref sig .tc := ⟨.hbm, 97, rfl⟩
abbrev main_while0b_call1_c_0 : Ref sig .tc := ⟨.hbm, 98, rfl⟩
abbrev main_while0b_call1_c_1 : Ref sig .tc := ⟨.hbm, 99, rfl⟩
abbrev main_while0b_call1_c_2 : Ref sig .tc := ⟨.hbm, 100, rfl⟩
abbrev main_while0b_call1_v0 : Ref sig .tc := ⟨.hbm, 101, rfl⟩
abbrev main_while0b_v106 : Ref sig .tc := ⟨.hbm, 102, rfl⟩
abbrev main_while0b_call2_c : Ref sig .tc := ⟨.hbm, 103, rfl⟩
abbrev main_while0b_call2_c_0 : Ref sig .tc := ⟨.hbm, 104, rfl⟩
abbrev main_while0b_call2_c_1 : Ref sig .tc := ⟨.hbm, 105, rfl⟩
abbrev main_while0b_call2_c_2 : Ref sig .tc := ⟨.hbm, 106, rfl⟩
abbrev main_while0b_call2_v0 : Ref sig .tc := ⟨.hbm, 107, rfl⟩
abbrev main_while0b_v107 : Ref sig .tc := ⟨.hbm, 108, rfl⟩
abbrev main_while0b_call3_c : Ref sig .tc := ⟨.hbm, 109, rfl⟩
abbrev main_while0b_call3_c_0 : Ref sig .tc := ⟨.hbm, 110, rfl⟩
abbrev main_while0b_call3_c_1 : Ref sig .tc := ⟨.hbm, 111, rfl⟩
abbrev main_while0b_call3_c_2 : Ref sig .tc := ⟨.hbm, 112, rfl⟩
abbrev main_while0b_call3_v0 : Ref sig .tc := ⟨.hbm, 113, rfl⟩
abbrev main_while0b_v108 : Ref sig .tc := ⟨.hbm, 114, rfl⟩
abbrev main_while0b_v109 : Ref sig .tc := ⟨.hbm, 115, rfl⟩
abbrev main_while0b_v110 : Ref sig .tc := ⟨.hbm, 116, rfl⟩
abbrev main_while0b_v111 : Ref sig .tc := ⟨.hbm, 117, rfl⟩
abbrev main_while0b_v112 : Ref sig .tc := ⟨.hbm, 118, rfl⟩
abbrev main_while0b_v113 : Ref sig .tc := ⟨.hbm, 119, rfl⟩
abbrev main_while0b_v114 : Ref sig .tc := ⟨.hbm, 120, rfl⟩
abbrev main_while0b_v115 : Ref sig .tc := ⟨.hbm, 121, rfl⟩
abbrev main_while0b_v116 : Ref sig .tc := ⟨.hbm, 122, rfl⟩
abbrev main_while0b_v117 : Ref sig .tc := ⟨.hbm, 123, rfl⟩
abbrev main_while0b_v118 : Ref sig .tc := ⟨.hbm, 124, rfl⟩
abbrev main_while0b_v119 : Ref sig .tc := ⟨.hbm, 125, rfl⟩
abbrev main_while0b_v120 : Ref sig .tc := ⟨.hbm, 126, rfl⟩
abbrev main_while0b_v121 : Ref sig .tc := ⟨.hbm, 127, rfl⟩
abbrev main_while0b_v122 : Ref sig .tc := ⟨.hbm, 128, rfl⟩
abbrev main_while0b_v123 : Ref sig .tc := ⟨.hbm, 129, rfl⟩
abbrev main_while0b_call4_v0 : Ref sig .tc := ⟨.hbm, 130, rfl⟩
abbrev main_while0b_call4_c : Ref sig .tc := ⟨.hbm, 131, rfl⟩
abbrev main_while0b_call4_c_0 : Ref sig .tc := ⟨.hbm, 132, rfl⟩
abbrev main_while0b_call4_c_1 : Ref sig .tc := ⟨.hbm, 133, rfl⟩
abbrev main_while0b_call4_c_2 : Ref sig .tc := ⟨.hbm, 134, rfl⟩
abbrev main_while0b_v124 : Ref sig .tc := ⟨.hbm, 135, rfl⟩
abbrev main_while0b_c_25 : Ref sig .tc := ⟨.hbm, 136, rfl⟩
abbrev main_while0b_v125 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_cst_10 : Ref sig .tc := ⟨.hbm, 141, rfl⟩
abbrev main_v70 : Ref sig .tc := ⟨.hbm, 142, rfl⟩
abbrev main_v71 : Ref sig .tc := ⟨.hbm, 143, rfl⟩
abbrev main_cst_11 : Ref sig .tc := ⟨.hbm, 144, rfl⟩
abbrev main_v72 : Ref sig .tc := ⟨.hbm, 145, rfl⟩
abbrev main_v73 : Ref sig .tc := ⟨.hbm, 146, rfl⟩
abbrev main_cst_12 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_v81 : Ref sig .tc := ⟨.hbm, 155, rfl⟩
abbrev main_call5_v0 : Ref sig .tc := ⟨.hbm, 156, rfl⟩
abbrev main_call5_v1 : Ref sig .tc := ⟨.hbm, 157, rfl⟩
abbrev main_call5_cst : Ref sig .tc := ⟨.hbm, 158, rfl⟩
abbrev main_call5_v2 : Ref sig .tc := ⟨.hbm, 159, rfl⟩
abbrev main_call5_v3 : Ref sig .tc := ⟨.hbm, 160, rfl⟩
abbrev main_call5_cst_0 : Ref sig .tc := ⟨.hbm, 161, rfl⟩
abbrev main_call5_v4 : Ref sig .tc := ⟨.hbm, 162, rfl⟩
abbrev main_call5_v5 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_cst_13 : Ref sig .tc := ⟨.hbm, 170, rfl⟩
abbrev main_v88 : Ref sig .tc := ⟨.hbm, 171, rfl⟩
abbrev main_v89 : Ref sig .tc := ⟨.hbm, 172, rfl⟩
abbrev main_cst_14 : Ref sig .tc := ⟨.hbm, 173, rfl⟩
abbrev main_v90 : Ref sig .tc := ⟨.hbm, 174, rfl⟩
abbrev main_v91 : Ref sig .tc := ⟨.hbm, 175, rfl⟩
abbrev main_cst_15 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S8x2048x1024 : Shape := ⟨3, ![8, 2048, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S16384x1024 : Shape := ⟨2, ![16384, 1024]⟩
abbrev S1024x5632 : Shape := ⟨2, ![1024, 5632]⟩
abbrev S2816x1024 : Shape := ⟨2, ![2816, 1024]⟩
abbrev S1024 : Shape := ⟨1, ![1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S1024x1536 : Shape := ⟨2, ![1024, 1536]⟩
abbrev S256x1536 : Shape := ⟨2, ![256, 1536]⟩
abbrev S1536x1024 : Shape := ⟨2, ![1536, 1024]⟩
abbrev S1024x1280 : Shape := ⟨2, ![1024, 1280]⟩
abbrev S256x1280 : Shape := ⟨2, ![256, 1280]⟩
abbrev S1280x1024 : Shape := ⟨2, ![1280, 1024]⟩

abbrev nBuf : Space → Nat
  | .hbm => 15
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1x1024, .f32⟩
  | .hbm, ⟨5, _⟩ => ⟨S16384x1024, .f32⟩
  | .hbm, ⟨6, _⟩ => ⟨S1024x5632, .f32⟩
  | .hbm, ⟨7, _⟩ => ⟨S1024x5632, .bf16⟩
  | .hbm, ⟨8, _⟩ => ⟨S2816x1024, .f32⟩
  | .hbm, ⟨9, _⟩ => ⟨S2816x1024, .bf16⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S8x2048x1024 : Shape := ⟨3, ![8, 2048, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x5632 : Shape := ⟨2, ![1024, 5632]⟩
abbrev S8x2048x5632 : Shape := ⟨3, ![8, 2048, 5632]⟩
abbrev S8x2048x2816 : Shape := ⟨3, ![8, 2048, 2816]⟩
abbrev S2816x1024 : Shape := ⟨2, ![2816, 1024]⟩
abbrev S16384x1024 : Shape := ⟨2, ![16384, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1x1024, .f32⟩
  | .hbm, ⟨5, _⟩ => ⟨S1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S1024x5632, .f32⟩
  | .hbm, ⟨23, _⟩ => ⟨S8x2048x5632, .f32⟩
  | .hbm, ⟨24, _⟩ => ⟨S8x2048x2816, .f32⟩
  | .hbm, ⟨25, _⟩ => ⟨S8x2048x2816, .f32⟩
  | .hbm, ⟨26, _⟩ => ⟨S8x2048x2816, .f32⟩
  | .hbm, ⟨27, _⟩ => ⟨S_, .f32⟩
  | .hbm, ⟨28, _⟩ => ⟨S8x2048x2816, .f32⟩
  | .hbm, ⟨29, _⟩ => ⟨S8x2048x2816, .f32⟩
  | .hbm, ⟨30, _⟩ => ⟨S_, .f32⟩
  | .hbm, ⟨31, _⟩ => ⟨S8x2048x2816, .f32⟩
  | .hbm, ⟨32, _⟩ => ⟨S8x2048x2816, .f32⟩
  | .hbm, ⟨33, _⟩ => ⟨S8x2048x2816, .f32⟩
  | .hbm, ⟨34, _⟩ => ⟨S8x2048x2816, .f32⟩
  | .hbm, ⟨35, _⟩ => ⟨S8x2048x2816, .f32⟩
  | .hbm, ⟨36, _⟩ => ⟨S2816x1024, .f32⟩
  | .hbm, ⟨37, _⟩ => ⟨S8x2048x1024, .f32⟩
  | .hbm, ⟨38, _⟩ => ⟨S1024, .f32⟩
  | .hbm, ⟨39, _⟩ => ⟨S8x2048x1024, .f32⟩
  | .hbm, ⟨40, _⟩ => ⟨S_, .f32⟩
  | .hbm, ⟨41, _⟩ => ⟨S8x2048, .f32⟩
  | .hbm, ⟨42, _⟩ => ⟨S8x2048x1, .f32⟩
  | .hbm, ⟨43, _⟩ => ⟨S_, .f32⟩
  | .hbm, ⟨44, _⟩ => ⟨S8x2048x1, .f32⟩
  | .hbm, ⟨45, _⟩ => ⟨S8x2048x1, .f32⟩
  | .hbm, ⟨46, _⟩ => ⟨S_, .f32⟩
  | .hbm, ⟨47, _⟩ => ⟨S8x2048x1, .f32⟩
  | .hbm, ⟨48, _⟩ => ⟨S8x2048x1, .f32⟩
  | .hbm, ⟨49, _⟩ => ⟨S8x2048x1, .f32⟩
  | .hbm, ⟨50, _⟩ => ⟨S8x2048x1024, .f32⟩
  | .hbm, ⟨51, _⟩ => ⟨S8x2048x1024, .f32⟩
  | .hbm, ⟨52, _⟩ => ⟨S1x1x1024, .f32⟩
  | .hbm, ⟨53, _⟩ => ⟨S8x2048x1024, .f32⟩
  | .hbm, ⟨54, _⟩ => ⟨S8x2048x1024, .f32⟩
  | .hbm, ⟨55, _⟩ => ⟨S8x2048x1024, .f32⟩
  | .hbm, ⟨56, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩

abbrev nD : Nat := 1
abbrev τ : Topo := Topo.v7x

variable {F : FTy → Type} [FloatOps F]
-- ==== Kernel3.lean ====
abbrev S16384x512 : Shape := ⟨2, ![16384, 512]⟩
abbrev S8x2048x1024 : Shape := ⟨3, ![8, 2048, 1024]⟩
abbrev S2048x2048 : Shape := ⟨2, ![2048, 2048]⟩
abbrev S1x1024x1024 : Shape := ⟨3, ![1, 1024, 1024]⟩
abbrev S1x1024 : Shape := ⟨2, ![1, 1024]⟩
abbrev S16384x1024 : Shape := ⟨2, ![16384, 1024]⟩
abbrev S1024x1024 : Shape := ⟨2, ![1024, 1024]⟩
abbrev S1024 : Shape := ⟨1, ![1024]⟩
abbrev S1024x512 : Shape := ⟨2, ![1024, 512]⟩
abbrev S256x2048 : Shape := ⟨2, ![256, 2048]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S256x256 : Shape := ⟨2, ![256, 256]⟩

abbrev nBuf : Space → Nat
  | .hbm => 24
  | .vmem => 16
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S8x2048x1024, .f32⟩
  | .hbm, ⟨3, _⟩ => ⟨S2048x2048, .bf16⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S1x1024x1024, .f32⟩
  | .hbm, ⟨8, _⟩ => ⟨S1x1024x1024, .f32⟩
  | .hbm, ⟨9, _⟩ => ⟨S1x1024, .f32⟩
  | .hbm, ⟨10, _⟩ => ⟨S16384x1024, .f32⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S16384x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S256x2048, .bf16⟩
  | .local _ .vmem, ⟨7, _⟩ => ⟨S256x2048, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S16384x512 : Shape := ⟨2, ![16384, 512]⟩
abbrev S8x2048x1024 : Shape := ⟨3, ![8, 2048, 1024]⟩
abbrev S2048x2048 : Shape := ⟨2, ![2048, 2048]⟩
abbrev S1x1024x1024 : Shape := ⟨3, ![1, 1024, 1024]⟩
abbrev S1x1024 : Shape := ⟨2, ![1, 1024]⟩
abbrev S8x2048x512 : Shape := ⟨3, ![8, 2048, 512]⟩
abbrev S8x256x2048 : Shape := ⟨3, ![8, 256, 2048]⟩
abbrev S1024x1024 : Shape := ⟨2, ![1024, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4x256 : Shape := ⟨4, ![8, 2048, 4, 256]⟩
abbrev S8x4x2048x256 : Shape := ⟨4, ![8, 4, 2048, 256]⟩
abbrev S8x256x1024 : Shape := ⟨3, ![8, 256, 1024]⟩
abbrev S8x256x4x256 : Shape := ⟨4, ![8, 256, 4, 256]⟩
abbrev S8x4x256x256 : Shape := ⟨4, ![8, 4, 256, 256]⟩
abbrev S8x4x2048 : Shape := ⟨3, ![8, 4, 2048]⟩
abbrev S8x4x2048x1 : Shape := ⟨4, ![8, 4, 2048, 1]⟩
abbrev S16384x1024 : Shape := ⟨2, ![16384, 1024]⟩

abbrev nBuf : Space → Nat
  | .hbm => 106
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S8x2048x1024, .f32⟩
  | .hbm, ⟨3, _⟩ => ⟨S2048x2048, .bf16⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S1x1024x1024, .f32⟩
  | .hbm, ⟨8, _⟩ => ⟨S1x1024x1024, .f32⟩
  | .hbm, ⟨9, _⟩ => ⟨S1x1024, .f32⟩
  | .hbm, ⟨10, _⟩ => ⟨S16384x512, .f32⟩
  | .hbm, ⟨11, _⟩ => ⟨S8x2048x512, .f32⟩
  | .hbm, ⟨12, _⟩ => ⟨S16384x512, .f32⟩
  | .hbm, ⟨13, _⟩ => ⟨S8x2048x512, .f32⟩
  | .hbm, ⟨14, _⟩ => ⟨S2048x2048, .f32⟩
  | .hbm, ⟨15, _⟩ => ⟨S8x256x2048, .f32⟩
  | .hbm, ⟨16, _⟩ => ⟨S8x2048x1024, .f32⟩
  | .hbm, ⟨17, _⟩ => ⟨S1024x1024, .f32⟩
  | .hbm, ⟨18, _⟩ => ⟨S8x2048x1024, .f32⟩
  | .hbm, ⟨19, _⟩ => ⟨S1024, .f32⟩
  | .hbm, ⟨20, _⟩ => ⟨S8x2048x1024, .f32⟩
  | .hbm, ⟨21, _⟩ => ⟨S_, .f32⟩
  | .hbm, ⟨22, _⟩ => ⟨S8x2048, .f32⟩
  | .hbm, ⟨23, _⟩ => ⟨S8x2048x1, .f32⟩
  | .hbm, ⟨24, _⟩ => ⟨S_, .f32⟩
  | .hbm, ⟨25, _⟩ => ⟨S8x2048x1, .f32⟩
  | .hbm, ⟨26, _⟩ => ⟨S8x2048x1, .f32⟩
  | .hbm, ⟨27, _⟩ => ⟨S_, .f32⟩
  | .hbm, ⟨28, _⟩ => ⟨S8x2048x1, .f32⟩
  | .hbm, ⟨29, _⟩ => ⟨S8x2048x1, .f32⟩
  | .hbm, ⟨30, _⟩ => ⟨S8x2048x1, .f32⟩
  | .hbm, ⟨31, _⟩ => ⟨S8x2048x1024, .f32⟩
  | .hbm, ⟨32, _⟩ => ⟨S8x2048x1024, .f32⟩
  | .hbm, ⟨33, _⟩ => ⟨S1x1x1024, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S1024, .f32⟩
  | .hbm, ⟨38, _⟩ => ⟨S8x2048x1024, .f32⟩
  | .hbm, ⟨39, _⟩ => ⟨S_, .f32⟩
  | .hbm, ⟨40, _⟩ => ⟨S8x2048, .f32⟩
  | .hbm, ⟨41, _⟩ => ⟨S8x2048x1, .f32⟩
  | .hbm, ⟨42, _⟩ => ⟨S_, .f32⟩
  | .hbm, ⟨43, _⟩ => ⟨S8x2048x1, .f32⟩
  | .hbm, ⟨44, _⟩ => ⟨S8x2048x1, .f32⟩
  | .hbm, ⟨45, _⟩ => ⟨S_, .f32⟩
  | .hbm, ⟨46, _⟩ => ⟨S8x2048x1, .f32⟩
  | .hbm, ⟨47, _⟩ => ⟨S8x2048x1, .f32⟩
  | .hbm, ⟨48, _⟩ => ⟨S8x2048x1, .f32⟩
  | .hbm, ⟨49, _⟩ => ⟨S8x2048x1024, .f32⟩
  | .hbm, ⟨50, _⟩ => ⟨S8x2048x1024, .f32⟩
  | .hbm, ⟨51, _⟩ => ⟨S1x1x1024, .f32⟩
  | .hbm, ⟨52, _⟩ => ⟨S8x2048x1024, .f32⟩
  | .hbm, ⟨53, _⟩ => ⟨S8x2048x1024, .f32⟩
  | .hbm, ⟨54, _⟩ => ⟨S1024x1024, .f32⟩
  | .hbm, ⟨55, _⟩ => ⟨S8x2048x1024, .f32⟩
  | .hbm, ⟨56, _⟩ => ⟨S8x2048x4x256, .f32⟩
  | .hbm, ⟨57, _⟩ => ⟨S8x4x2048x256, .f32⟩
  | .hbm, ⟨58, _⟩ => ⟨S8x256x1024, .f32⟩
  | .hbm, ⟨59, _⟩ => ⟨S8x256x4x256, .f32⟩
  | .hbm, ⟨60, _⟩ => ⟨S8x4x256x256, .f32⟩
  | .hbm, ⟨61, _⟩ => ⟨S8x256x1024, .f32⟩
  | .hbm, ⟨62, _⟩ => ⟨S8x256x4x256, .f32⟩
  | .hbm, ⟨63, _⟩ => ⟨S8x4x256x256, .f32⟩
  | .hbm, ⟨64, _⟩ => ⟨S8x4x2048x256, .f32⟩
  | .hbm, ⟨65, _⟩ => ⟨S_, .f32⟩
  | .hbm, ⟨66, _⟩ => ⟨S8x4x2048x256, .f32⟩
  | .hbm, ⟨67, _⟩ => ⟨S8x4x2048x256, .f32⟩
  | .hbm, ⟨68, _⟩ => ⟨S_, .f32⟩
  | .hbm, ⟨69, _⟩ => ⟨S8x4x2048, .f32⟩
  | .hbm, ⟨70, _⟩ => ⟨S_, .f32⟩
  | .hbm, ⟨71, _⟩ => ⟨S8x4x2048, .f32⟩
  | .hbm, ⟨72, _⟩ => ⟨S8x4x2048, .f32⟩
  | .hbm, ⟨73, _⟩ => ⟨S8x4x2048x1, .f32⟩
  | .hbm, ⟨74, _⟩ => ⟨S8x4x2048x256, .f32⟩
  | .hbm, ⟨75, _⟩ => ⟨S8x4x2048x256, .f32⟩
  | .hbm, ⟨76, _⟩ => ⟨S8x4x2048x256, .f32⟩
  | .hbm, ⟨77, _⟩ => ⟨S_, .f32⟩
  | .hbm, ⟨78, _⟩ => ⟨S8x4x2048, .f32⟩
  | .hbm, ⟨79, _⟩ => ⟨S8x4x2048x1, .f32⟩
  | .hbm, ⟨80, _⟩ => ⟨S8x4x2048x256, .f32⟩
  | .hbm, ⟨81, _⟩ => ⟨S8x4x2048x256, .f32⟩
  | .hbm, ⟨82, _⟩ => ⟨S8x4x2048x256, .f32⟩
  | .hbm, ⟨83, _⟩ => ⟨S8x2048x4x256, .f32⟩
  | .hbm, ⟨84, _⟩ => ⟨S8x2048x1024, .f32⟩
  | .hbm, ⟨85, _⟩ => ⟨S1024x1024, .f32⟩
  | .hbm, ⟨86, _⟩ => ⟨S8x2048x1024, .f32⟩
  | .hbm, ⟨87, _⟩ => ⟨S1024, .f32⟩
  | .hbm, ⟨88, _⟩ => ⟨S8x2048x1024, .f32⟩
  | .hbm, ⟨89, _⟩ => ⟨S_, .f32⟩
  | .hbm, ⟨90, _⟩ => ⟨S8x2048, .f32⟩
  | .hbm, ⟨91, _⟩ => ⟨S8x2048x1, .f32⟩
  | .hbm, ⟨92, _⟩ => ⟨S_, .f32⟩
  | .hbm, ⟨93, _⟩ => ⟨S8x2048x1, .f32⟩
  | .hbm, ⟨94, _⟩ => ⟨S8x2048x1, .f32⟩
  | .hbm, ⟨95, _⟩ => ⟨S_, .f32⟩
  | .hbm, ⟨96, _⟩ => ⟨S8x2048x1, .f32⟩
  | .hbm, ⟨97, _⟩ => ⟨S8x2048x1, .f32⟩
  | .hbm, ⟨98, _⟩ => ⟨S8x2048x1, .f32⟩
  | .hbm, ⟨99, _⟩ => ⟨S8x2048x1024, .f32⟩
  | .hbm, ⟨100, _⟩ => ⟨S8x2048x1024, .f32⟩
  | .hbm, ⟨101, _⟩ => ⟨S1x1x1024, .f32⟩
  | .hbm, ⟨102, _⟩ => ⟨S8x2048x1024, .f32⟩
  | .hbm, ⟨103, _⟩ => ⟨S8x2048x1024, .f32⟩
  | .hbm, ⟨104, _⟩ => ⟨S8x2048x1024, .f32⟩
  | .hbm, ⟨105, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_5 : Ref sig .tc := ⟨.hbm, 65, rfl⟩
abbrev main_v49 : Ref sig .tc := ⟨.hbm, 66, rfl⟩
abbrev main_v50 : Ref sig .tc := ⟨.hbm, 67, rfl⟩
abbrev main_cst_6 : Ref sig .tc := ⟨.hbm, 68, rfl⟩
abbrev main_v51 : Ref sig .tc := ⟨.hbm, 69, rfl⟩
abbrev main_cst_7 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_8 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_9 : Ref sig .tc := ⟨.hbm, 89, rfl⟩
abbrev main_v69 : Ref sig .tc := ⟨.hbm, 90, rfl⟩
abbrev main_v70 : Ref sig .tc := ⟨.hbm, 91, rfl⟩
abbrev main_cst_10 : Ref sig .tc := ⟨.hbm, 92, rfl⟩
abbrev main_v71 : Ref sig .tc := ⟨.hbm, 93, rfl⟩
abbrev main_v72 : Ref sig .tc := ⟨.hbm, 94, rfl⟩
abbrev main_cst_11 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩

abbrev nD : Nat := 1
abbrev τ : Topo := Topo.v7x

variable {F : FTy → Type} [FloatOps F]
-- ==== Kernel4.lean ====
abbrev S8x2048x1024 : Shape := ⟨3, ![8, 2048, 1024]⟩
abbrev S1x1024 : Shape := ⟨2, ![1, 1024]⟩
abbrev S1x1024x3072 : Shape := ⟨3, ![1, 1024, 3072]⟩
abbrev S8 : Shape := ⟨1, ![8]⟩
abbrev S_ : Shape := ⟨0, ![]⟩
abbrev S31 : Shape := ⟨1, ![31]⟩
abbrev S1 : Shape := ⟨1, ![1]⟩
abbrev S32 : Shape := ⟨1, ![32]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S2048x56 : Shape := ⟨2, ![2048, 56]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x2048x128 : Shape := ⟨3, ![1, 2048, 128]⟩
abbrev S3x2048x128 : Shape := ⟨3, ![3, 2048, 128]⟩
abbrev S1x32 : Shape := ⟨2, ![1, 32]⟩
abbrev S2048x32 : Shape := ⟨2, ![2048, 32]⟩
abbrev S2048x0 : Shape := ⟨2, ![2048, 0]⟩
abbrev S16384x1024 : Shape := ⟨2, ![16384, 1024]⟩
abbrev S1024 : Shape := ⟨1, ![1024]⟩
abbrev S1024x3072 : Shape := ⟨2, ![1024, 3072]⟩
abbrev S16384x3072 : Shape := ⟨2, ![16384, 3072]⟩
abbrev S64x1x512 : Shape := ⟨3, ![64, 1, 512]⟩
abbrev S1024x1024 : Shape := ⟨2, ![1024, 1024]⟩
abbrev S3x1024x128 : Shape := ⟨3, ![3, 1024, 128]⟩
abbrev S4x1x512 : Shape := ⟨3, ![4, 1, 512]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1x512x128 : Shape := ⟨3, ![1, 512, 128]⟩
abbrev S512x128 : Shape := ⟨2, ![512, 128]⟩
abbrev S2x256x512 : Shape := ⟨3, ![2, 256, 512]⟩
abbrev S2x512 : Shape := ⟨2, ![2, 512]⟩
abbrev S2x1x512 : Shape := ⟨3, ![2, 1, 512]⟩
abbrev S1024x256 : Shape := ⟨2, ![1024, 256]⟩
abbrev S512x256 : Shape := ⟨2, ![512, 256]⟩

abbrev nBuf : Space → Nat
  | .hbm => 197
  | .vmem => 16
  | .smem => 0
  | _ => 0

abbrev hbmTy0_0 (i : Nat) : BufTy := match i % 128 with
  | 0 => ⟨S8x2048x1024, .f32⟩
  | 1 => ⟨S1x1024, .f32⟩
  | 2 => ⟨S1x1024x3072, .f32⟩
  | 3 => ⟨S8, .f32⟩
  | 4 => ⟨S8, .f32⟩
  | 5 => ⟨S_, .f32⟩
  | 6 => ⟨S8, .f32⟩
  | 7 => ⟨S8, .f32⟩
  | 8 => ⟨S_, .f32⟩
  | 9 => ⟨S8, .f32⟩
  | 10 => ⟨S8, .f32⟩
  | 11 => ⟨S_, .f32⟩
  | 12 => ⟨S8, .f32⟩
  | 13 => ⟨S8, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S31, .f32⟩
  | 22 => ⟨S_, .f32⟩
  | 23 => ⟨S31, .f32⟩
  | 24 => ⟨S31, .f32⟩
  | 25 => ⟨S1, .f32⟩
  | 26 => ⟨S_, .f32⟩
  | 27 => ⟨S31, .f32⟩
  | 28 => ⟨S31, .f32⟩
  | 29 => ⟨S31, .f32⟩
  | 30 => ⟨S31, .f32⟩
  | 31 => ⟨S1, .f32⟩
  | 32 => ⟨S31, .f32⟩
  | 33 => ⟨S31, .f32⟩
  | 34 => ⟨S31, .f32⟩
  | 35 => ⟨S1, .f32⟩
  | 36 => ⟨S32, .f32⟩
  | 37 => ⟨S_, .f32⟩
  | 38 => ⟨S32, .f32⟩
  | 39 => ⟨S32, .f32⟩
  | 40 => ⟨S_, .f32⟩
  | 41 => ⟨S32, .f32⟩
  | 42 => ⟨S32, .f32⟩
  | 43 => ⟨S_, .f32⟩
  | 44 => ⟨S_, .f32⟩
  | 45 => ⟨S_, .f32⟩
  | 46 => ⟨S_, .f32⟩
  | 47 => ⟨S2048, .f32⟩
  | 48 => ⟨S2048x1, .f32⟩
  | 49 => ⟨S1x8, .f32⟩
  | 50 => ⟨S2048x8, .f32⟩
  | 51 => ⟨S2048x8, .f32⟩
  | 52 => ⟨S2048x8, .f32⟩
  | 53 => ⟨S2048x8, .f32⟩
  | 54 => ⟨S2048x8, .f32⟩
  | 55 => ⟨S_, .f32⟩
  | 56 => ⟨S2048x48, .f32⟩
  | 57 => ⟨S2048x64, .f32⟩
  | 58 => ⟨S2048x8, .f32⟩
  | 59 => ⟨S_, .f32⟩
  | 60 => ⟨S2048x56, .f32⟩
  | 61 => ⟨S2048x64, .f32⟩
  | 62 => ⟨S_, .f32⟩
  | 63 => ⟨S2048x8, .f32⟩
  | 64 => ⟨S_, .f32⟩
  | 65 => ⟨S2048x48, .f32⟩
  | 66 => ⟨S2048x64, .f32⟩
  | 67 => ⟨S1x2048x1x64, .f32⟩
  | 68 => ⟨S1x2048x2x64, .f32⟩
  | 69 => ⟨S2048x128, .f32⟩
  | 70 => ⟨S1x2048x1x64, .f32⟩
  | 71 => ⟨S1x2048x2x64, .f32⟩
  | 72 => ⟨S2048x128, .f32⟩
  | 73 => ⟨S1x2048x1x64, .f32⟩
  | 74 => ⟨S1x2048x2x64, .f32⟩
  | 75 => ⟨S2048x128, .f32⟩
  | 76 => ⟨S1x2048x128, .f32⟩
  | 77 => ⟨S1x2048x128, .f32⟩
  | 78 => ⟨S1x2048x128, .f32⟩
  | 79 => ⟨S3x2048x128, .f32⟩
  | 80 => ⟨S_, .f32⟩
  | 81 => ⟨S3x2048x128, .f32⟩
  | 82 => ⟨S3x2048x128, .f32⟩
  | 83 => ⟨S2048, .f32⟩
  | 84 => ⟨S2048x1, .f32⟩
  | 85 => ⟨S1x8, .f32⟩
  | 86 => ⟨S2048x8, .f32⟩
  | 87 => ⟨S2048x8, .f32⟩
  | 88 => ⟨S2048x8, .f32⟩
  | 89 => ⟨S2048x8, .f32⟩
  | 90 => ⟨S2048x8, .f32⟩
  | 91 => ⟨S_, .f32⟩
  | 92 => ⟨S2048x48, .f32⟩
  | 93 => ⟨S2048x64, .f32⟩
  | 94 => ⟨S2048x8, .f32⟩
  | 95 => ⟨S_, .f32⟩
  | 96 => ⟨S2048x56, .f32⟩
  | 97 => ⟨S2048x64, .f32⟩
  | 98 => ⟨S_, .f32⟩
  | 99 => ⟨S2048x8, .f32⟩
  | 100 => ⟨S_, .f32⟩
  | 101 => ⟨S2048x48, .f32⟩
  | 102 => ⟨S2048x64, .f32⟩
  | 103 => ⟨S1x2048x1x64, .f32⟩
  | 104 => ⟨S1x2048x2x64, .f32⟩
  | 105 => ⟨S2048x128, .f32⟩
  | 106 => ⟨S1x2048x1x64, .f32⟩
  | 107 => ⟨S1x2048x2x64, .f32⟩
  | 108 => ⟨S2048x128, .f32⟩
  | 109 => ⟨S1x2048x1x64, .f32⟩
  | 110 => ⟨S1x2048x2x64, .f32⟩
  | 111 => ⟨S2048x128, .f32⟩
  | 112 => ⟨S1x2048x128, .f32⟩
  | 113 => ⟨S1x2048x128, .f32⟩
  | 114 => ⟨S1x2048x128, .f32⟩
  | 115 => ⟨S3x2048x128, .f32⟩
  | 116 => ⟨S_, .f32⟩
  | 117 => ⟨S3x2048x128, .f32⟩
  | 118 => ⟨S3x2048x128, .f32⟩
  | 119 => ⟨S2048, .f32⟩
  | 120 => ⟨S2048x1, .f32⟩
  | 121 => ⟨S1x32, .f32⟩
  | 122 => ⟨S2048x32, .f32⟩
  | 123 => ⟨S2048x32, .f32⟩
  | 124 => ⟨S2048x32, .f32⟩
  | 125 => ⟨S2048x32, .f32⟩
  | 126 => ⟨S2048x32, .f32⟩
  | 127 => ⟨S_, .f32⟩
  | _ => ⟨S8x2048x1024, .f32⟩

abbrev hbmTy0_1 (i : Nat) : BufTy := match i % 128 with
  | 0 => ⟨S2048x0, .f32⟩
  | 1 => ⟨S2048x64, .f32⟩
  | 2 => ⟨S2048x32, .f32⟩
  | 3 => ⟨S_, .f32⟩
  | 4 => ⟨S2048x32, .f32⟩
  | 5 => ⟨S2048x64, .f32⟩
  | 6 => ⟨S_, .f32⟩
  | 7 => ⟨S2048x32, .f32⟩
  | 8 => ⟨S_, .f32⟩
  | 9 => ⟨S2048x0, .f32⟩
  | 10 => ⟨S2048x64, .f32⟩
  | 11 => ⟨S1x2048x1x64, .f32⟩
  | 12 => ⟨S1x2048x2x64, .f32⟩
  | 13 => ⟨S2048x128, .f32⟩
  | 14 => ⟨S1x2048x1x64, .f32⟩
  | 15 => ⟨S1x2048x2x64, .f32⟩
  | 16 => ⟨S2048x128, .f32⟩
  | 17 => ⟨S1x2048x1x64, .f32⟩
  | 18 => ⟨S1x2048x2x64, .f32⟩
  | 19 => ⟨S2048x128, .f32⟩
  | 20 => ⟨S1x2048x128, .f32⟩
  | 21 => ⟨S1x2048x128, .f32⟩
  | 22 => ⟨S1x2048x128, .f32⟩
  | 23 => ⟨S3x2048x128, .f32⟩
  | 24 => ⟨S_, .f32⟩
  | 25 => ⟨S3x2048x128, .f32⟩
  | 26 => ⟨S3x2048x128, .f32⟩
  | 27 => ⟨S2048, .f32⟩
  | 28 => ⟨S2048x1, .f32⟩
  | 29 => ⟨S1x32, .f32⟩
  | 30 => ⟨S2048x32, .f32⟩
  | 31 => ⟨S2048x32, .f32⟩
  | 32 => ⟨S2048x32, .f32⟩
  | 33 => ⟨S2048x32, .f32⟩
  | 34 => ⟨S2048x32, .f32⟩
  | 35 => ⟨S_, .f32⟩
  | 36 => ⟨S2048x0, .f32⟩
  | 37 => ⟨S2048x64, .f32⟩
  | 38 => ⟨S2048x32, .f32⟩
  | 39 => ⟨S_, .f32⟩
  | 40 => ⟨S2048x32, .f32⟩
  | 41 => ⟨S2048x64, .f32⟩
  | 42 => ⟨S_, .f32⟩
  | 43 => ⟨S2048x32, .f32⟩
  | 44 => ⟨S_, .f32⟩
  | 45 => ⟨S2048x0, .f32⟩
  | 46 => ⟨S2048x64, .f32⟩
  | 47 => ⟨S1x2048x1x64, .f32⟩
  | 48 => ⟨S1x2048x2x64, .f32⟩
  | 49 => ⟨S2048x128, .f32⟩
  | 50 => ⟨S1x2048x1x64, .f32⟩
  | 51 => ⟨S1x2048x2x64, .f32⟩
  | 52 => ⟨S2048x128, .f32⟩
  | 53 => ⟨S1x2048x1x64, .f32⟩
  | 54 => ⟨S1x2048x2x64, .f32⟩
  | 55 => ⟨S2048x128, .f32⟩
  | 56 => ⟨S1x2048x128, .f32⟩
  | 57 => ⟨S1x2048x128, .f32⟩
  | 58 => ⟨S1x2048x128, .f32⟩
  | 59 => ⟨S3x2048x128, .f32⟩
  | 60 => ⟨S_, .f32⟩
  | 61 => ⟨S3x2048x128, .f32⟩
  | 62 => ⟨S3x2048x128, .f32⟩
  | 63 => ⟨S16384x1024, .f32⟩
  | 64 => ⟨S1024, .f32⟩
  | 65 => ⟨S1x1024, .f32⟩
  | 66 => ⟨S1024x3072, .f32⟩
  | 67 => ⟨S16384x3072, .bf16⟩
  | 68 => ⟨S64x1x512, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .f32⟩
  | .local _ .vmem, ⟨4, _⟩ => ⟨S3x1024x128, .f32⟩
  | .local _ .vmem, ⟨5, _⟩ => ⟨S3x1024x128, .f32⟩
  | .local _ .vmem, ⟨6, _⟩ => ⟨S3x1024x128, .f32⟩
  | .local _ .vmem, ⟨7, _⟩ => ⟨S3x1024x128, .f32⟩
  | .local _ .vmem, ⟨8, _⟩ => ⟨S3x1024x128, .f32⟩
  | .local _ .vmem, ⟨9, _⟩ => ⟨S3x1024x128, .f32⟩
  | .local _ .vmem, ⟨10, _⟩ => ⟨S3x1024x128, .f32⟩
  | .local _ .vmem, ⟨11, _⟩ => ⟨S3x1024x128, .f32⟩
  | .local _ .vmem, ⟨12, _⟩ => ⟨S1024x3072, .bf16⟩
  | .local _ .vmem, ⟨13, _⟩ => ⟨S1024x3072, .bf16⟩
  | .local _ .vmem, ⟨14, _⟩ => ⟨S4x1x512, .f32⟩
  | .local _ .vmem, ⟨15, _⟩ => ⟨S4x1x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_cst_3 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_cst : Ref sig .tc := ⟨.hbm, 19, rfl⟩
abbrev main_call0_v3 : Ref sig .tc := ⟨.hbm, 20, rfl⟩
abbrev main_call0_v4 : Ref sig .tc := ⟨.hbm, 21, rfl⟩
abbrev main_call0_cst_0 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_cst_1 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_v15 : Ref sig .tc := ⟨.hbm, 34, rfl⟩
abbrev main_call0_v16 : Ref sig .tc := ⟨.hbm, 35, rfl⟩
abbrev main_v8 : Ref sig .tc := ⟨.hbm, 36, rfl⟩
abbrev main_cst_4 : Ref sig .tc := ⟨.hbm, 37, rfl⟩
abbrev main_v9 : Ref sig .tc := ⟨.hbm, 38, rfl⟩
abbrev main_v10 : Ref sig .tc := ⟨.hbm, 39, rfl⟩
abbrev main_cst_5 : Ref sig .tc := ⟨.hbm, 40, rfl⟩
abbrev main_v11 : Ref sig .tc := ⟨.hbm, 41, rfl⟩
abbrev main_v12 : Ref sig .tc := ⟨.hbm, 42, rfl⟩
abbrev main_cst_6 : Ref sig .tc := ⟨.hbm, 43, rfl⟩
abbrev main_v13 : Ref sig .tc := ⟨.hbm, 44, rfl⟩
abbrev main_cst_7 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_cst_8 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_cst_9 : Ref sig .tc := ⟨.hbm, 59, rfl⟩
abbrev main_v26 : Ref sig .tc := ⟨.hbm, 60, rfl⟩
abbrev main_v27 : Ref sig .tc := ⟨.hbm, 61, rfl⟩
abbrev main_cst_10 : Ref sig .tc := ⟨.hbm, 62, rfl⟩
abbrev main_v28 : Ref sig .tc := ⟨.hbm, 63, rfl⟩
abbrev main_cst_11 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_12 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_13 : Ref sig .tc := ⟨.hbm, 95, rfl⟩
abbrev main_v58 : Ref sig .tc := ⟨.hbm, 96, rfl⟩
abbrev main_v59 : Ref sig .tc := ⟨.hbm, 97, rfl⟩
abbrev main_cst_14 : Ref sig .tc := ⟨.hbm, 98, rfl⟩
abbrev main_v60 : Ref sig .tc := ⟨.hbm, 99, rfl⟩
abbrev main_cst_15 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_16 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_17 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_18 : Ref sig .tc := ⟨.hbm, 131, rfl⟩
abbrev main_v89 : Ref sig .tc := ⟨.hbm, 132, rfl⟩
abbrev main_v90 : Ref sig .tc := ⟨.hbm, 133, rfl⟩
abbrev main_cst_19 : Ref sig .tc := ⟨.hbm, 134, rfl⟩
abbrev main_v91 : Ref sig .tc := ⟨.hbm, 135, rfl⟩
abbrev main_cst_20 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_cst_21 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_cst_22 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_cst_23 : Ref sig .tc := ⟨.hbm, 167, rfl⟩
abbrev main_v120 : Ref sig .tc := ⟨.hbm, 168, rfl⟩
abbrev main_v121 : Ref sig .tc := ⟨.hbm, 169, rfl⟩
abbrev main_cst_24 : Ref sig .tc := ⟨.hbm, 170, rfl⟩
abbrev main_v122 : Ref sig .tc := ⟨.hbm, 171, rfl⟩
abbrev main_cst_25 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_cst_26 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144_0 : Ref sig .tc := ⟨.hbm, 195, rfl⟩
abbrev main_v144_1 : Ref sig .tc := ⟨.hbm, 196, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_4 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_5 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_6 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S8x2048x1024 : Shape := ⟨3, ![8, 2048, 1024]⟩
abbrev S1x1024 : Shape := ⟨2, ![1, 1024]⟩
abbrev S1x1024x3072 : Shape := ⟨3, ![1, 1024, 3072]⟩
abbrev S8 : Shape := ⟨1, ![8]⟩
abbrev S_ : Shape := ⟨0, ![]⟩
abbrev S31 : Shape := ⟨1, ![31]⟩
abbrev S1 : Shape := ⟨1, ![1]⟩
abbrev S32 : Shape := ⟨1, ![32]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩
abbrev S1024x3072 : Shape := ⟨2, ![1024, 3072]⟩
abbrev S8x2048x3072 : Shape := ⟨3, ![8, 2048, 3072]⟩
abbrev S8x2048x512 : Shape := ⟨3, ![8, 2048, 512]⟩
abbrev S8x2048x256 : Shape := ⟨3, ![8, 2048, 256]⟩
abbrev S8x2048x8x64 : Shape := ⟨4, ![8, 2048, 8, 64]⟩
abbrev S8x8x2048x64 : Shape := ⟨4, ![8, 8, 2048, 64]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S8x8x2048x8 : Shape := ⟨4, ![8, 8, 2048, 8]⟩
abbrev S1x1x2048x8 : Shape := ⟨4, ![1, 1, 2048, 8]⟩
abbrev S8x8x2048x16 : Shape := ⟨4, ![8, 8, 2048, 16]⟩
abbrev S8x8x2048x48 : Shape := ⟨4, ![8, 8, 2048, 48]⟩
abbrev S8x8x8x256x64 : Shape := ⟨5, ![8, 8, 8, 256, 64]⟩
abbrev S8x8x8x64 : Shape := ⟨4, ![8, 8, 8, 64]⟩
abbrev S64x1x512 : Shape := ⟨3, ![64, 1, 512]⟩
abbrev S8x2048x4x64 : Shape := ⟨4, ![8, 2048, 4, 64]⟩
abbrev S8x4x2048x64 : Shape := ⟨4, ![8, 4, 2048, 64]⟩
abbrev S1x32 : Shape := ⟨2, ![1, 32]⟩
abbrev S2048x32 : Shape := ⟨2, ![2048, 32]⟩
abbrev S8x4x2048x32 : Shape := ⟨4, ![8, 4, 2048, 32]⟩
abbrev S1x1x2048x32 : Shape := ⟨4, ![1, 1, 2048, 32]⟩
abbrev S16384x3072 : Shape := ⟨2, ![16384, 3072]⟩

abbrev nBuf : Space → Nat
  | .hbm => 210
  | .vmem => 0
  | .smem => 0
  | _ => 0

abbrev hbmTy0_0 (i : Nat) : BufTy := match i % 128 with
  | 0 => ⟨S8x2048x1024, .f32⟩
  | 1 => ⟨S1x1024, .f32⟩
  | 2 => ⟨S1x1024x3072, .f32⟩
  | 3 => ⟨S8, .f32⟩
  | 4 => ⟨S8, .f32⟩
  | 5 => ⟨S_, .f32⟩
  | 6 => ⟨S8, .f32⟩
  | 7 => ⟨S8, .f32⟩
  | 8 => ⟨S_, .f32⟩
  | 9 => ⟨S8, .f32⟩
  | 10 => ⟨S8, .f32⟩
  | 11 => ⟨S_, .f32⟩
  | 12 => ⟨S8, .f32⟩
  | 13 => ⟨S8, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S31, .f32⟩
  | 22 => ⟨S_, .f32⟩
  | 23 => ⟨S31, .f32⟩
  | 24 => ⟨S31, .f32⟩
  | 25 => ⟨S1, .f32⟩
  | 26 => ⟨S_, .f32⟩
  | 27 => ⟨S31, .f32⟩
  | 28 => ⟨S31, .f32⟩
  | 29 => ⟨S31, .f32⟩
  | 30 => ⟨S31, .f32⟩
  | 31 => ⟨S1, .f32⟩
  | 32 => ⟨S31, .f32⟩
  | 33 => ⟨S31, .f32⟩
  | 34 => ⟨S31, .f32⟩
  | 35 => ⟨S1, .f32⟩
  | 36 => ⟨S32, .f32⟩
  | 37 => ⟨S_, .f32⟩
  | 38 => ⟨S32, .f32⟩
  | 39 => ⟨S32, .f32⟩
  | 40 => ⟨S_, .f32⟩
  | 41 => ⟨S32, .f32⟩
  | 42 => ⟨S32, .f32⟩
  | 43 => ⟨S1024, .f32⟩
  | 44 => ⟨S8x2048x1024, .f32⟩
  | 45 => ⟨S_, .f32⟩
  | 46 => ⟨S8x2048, .f32⟩
  | 47 => ⟨S8x2048x1, .f32⟩
  | 48 => ⟨S_, .f32⟩
  | 49 => ⟨S8x2048x1, .f32⟩
  | 50 => ⟨S8x2048x1, .f32⟩
  | 51 => ⟨S_, .f32⟩
  | 52 => ⟨S8x2048x1, .f32⟩
  | 53 => ⟨S8x2048x1, .f32⟩
  | 54 => ⟨S8x2048x1, .f32⟩
  | 55 => ⟨S8x2048x1024, .f32⟩
  | 56 => ⟨S8x2048x1024, .f32⟩
  | 57 => ⟨S1x1x1024, .f32⟩
  | 58 => ⟨S8x2048x1024, .f32⟩
  | 59 => ⟨S8x2048x1024, .f32⟩
  | 60 => ⟨S1024x3072, .f32⟩
  | 61 => ⟨S8x2048x3072, .f32⟩
  | 62 => ⟨S8x2048x512, .f32⟩
  | 63 => ⟨S8x2048x512, .f32⟩
  | 64 => ⟨S8x2048x512, .f32⟩
  | 65 => ⟨S8x2048x256, .f32⟩
  | 66 => ⟨S8x2048x256, .f32⟩
  | 67 => ⟨S8x2048x1024, .f32⟩
  | 68 => ⟨S8x2048x8x64, .f32⟩
  | 69 => ⟨S8x8x2048x64, .f32⟩
  | 70 => ⟨S2048, .f32⟩
  | 71 => ⟨S2048x1, .f32⟩
  | 72 => ⟨S1x8, .f32⟩
  | 73 => ⟨S2048x8, .f32⟩
  | 74 => ⟨S2048x8, .f32⟩
  | 75 => ⟨S2048x8, .f32⟩
  | 76 => ⟨S2048x8, .f32⟩
  | 77 => ⟨S2048x8, .f32⟩
  | 78 => ⟨S8x8x2048x8, .f32⟩
  | 79 => ⟨S8x8x2048x8, .f32⟩
  | 80 => ⟨S1x1x2048x8, .f32⟩
  | 81 => ⟨S8x8x2048x8, .f32⟩
  | 82 => ⟨S8x8x2048x8, .f32⟩
  | 83 => ⟨S1x1x2048x8, .f32⟩
  | 84 => ⟨S8x8x2048x8, .f32⟩
  | 85 => ⟨S8x8x2048x8, .f32⟩
  | 86 => ⟨S8x8x2048x8, .f32⟩
  | 87 => ⟨S1x1x2048x8, .f32⟩
  | 88 => ⟨S8x8x2048x8, .f32⟩
  | 89 => ⟨S8x8x2048x8, .f32⟩
  | 90 => ⟨S1x1x2048x8, .f32⟩
  | 91 => ⟨S8x8x2048x8, .f32⟩
  | 92 => ⟨S8x8x2048x8, .f32⟩
  | 93 => ⟨S8x8x2048x8, .f32⟩
  | 94 => ⟨S8x8x2048x16, .f32⟩
  | 95 => ⟨S8x8x2048x48, .f32⟩
  | 96 => ⟨S8x8x2048x64, .f32⟩
  | 97 => ⟨S8x2048x8x64, .f32⟩
  | 98 => ⟨S8x8x2048x64, .f32⟩
  | 99 => ⟨S2048, .f32⟩
  | 100 => ⟨S2048x1, .f32⟩
  | 101 => ⟨S1x8, .f32⟩
  | 102 => ⟨S2048x8, .f32⟩
  | 103 => ⟨S2048x8, .f32⟩
  | 104 => ⟨S2048x8, .f32⟩
  | 105 => ⟨S2048x8, .f32⟩
  | 106 => ⟨S2048x8, .f32⟩
  | 107 => ⟨S8x8x2048x8, .f32⟩
  | 108 => ⟨S8x8x2048x8, .f32⟩
  | 109 => ⟨S1x1x2048x8, .f32⟩
  | 110 => ⟨S8x8x2048x8, .f32⟩
  | 111 => ⟨S8x8x2048x8, .f32⟩
  | 112 => ⟨S1x1x2048x8, .f32⟩
  | 113 => ⟨S8x8x2048x8, .f32⟩
  | 114 => ⟨S8x8x2048x8, .f32⟩
  | 115 => ⟨S8x8x2048x8, .f32⟩
  | 116 => ⟨S1x1x2048x8, .f32⟩
  | 117 => ⟨S8x8x2048x8, .f32⟩
  | 118 => ⟨S8x8x2048x8, .f32⟩
  | 119 => ⟨S1x1x2048x8, .f32⟩
  | 120 => ⟨S8x8x2048x8, .f32⟩
  | 121 => ⟨S8x8x2048x8, .f32⟩
  | 122 => ⟨S8x8x2048x8, .f32⟩
  | 123 => ⟨S8x8x2048x16, .f32⟩
  | 124 => ⟨S8x8x2048x48, .f32⟩
  | 125 => ⟨S8x8x2048x64, .f32⟩
  | 126 => ⟨S8x8x8x256x64, .f32⟩
  | 127 => ⟨S_, .f32⟩
  | _ => ⟨S8x2048x1024, .f32⟩

abbrev hbmTy0_1 (i : Nat) : BufTy := match i % 128 with
  | 0 => ⟨S8x8x8x64, .f32⟩
  | 1 => ⟨S_, .f32⟩
  | 2 => ⟨S8x8x8x64, .f32⟩
  | 3 => ⟨S8x8x8x64, .f32⟩
  | 4 => ⟨S8x8x8x64, .f32⟩
  | 5 => ⟨S64x1x512, .f32⟩
  | 6 => ⟨S8x2048x4x64, .f32⟩
  | 7 => ⟨S8x4x2048x64, .f32⟩
  | 8 => ⟨S2048, .f32⟩
  | 9 => ⟨S2048x1, .f32⟩
  | 10 => ⟨S1x32, .f32⟩
  | 11 => ⟨S2048x32, .f32⟩
  | 12 => ⟨S2048x32, .f32⟩
  | 13 => ⟨S2048x32, .f32⟩
  | 14 => ⟨S2048x32, .f32⟩
  | 15 => ⟨S2048x32, .f32⟩
  | 16 => ⟨S8x4x2048x32, .f32⟩
  | 17 => ⟨S8x4x2048x32, .f32⟩
  | 18 => ⟨S1x1x2048x32, .f32⟩
  | 19 => ⟨S8x4x2048x32, .f32⟩
  | 20 => ⟨S8x4x2048x32, .f32⟩
  | 21 => ⟨S1x1x2048x32, .f32⟩
  | 22 => ⟨S8x4x2048x32, .f32⟩
  | 23 => ⟨S8x4x2048x32, .f32⟩
  | 24 => ⟨S8x4x2048x32, .f32⟩
  | 25 => ⟨S1x1x2048x32, .f32⟩
  | 26 => ⟨S8x4x2048x32, .f32⟩
  | 27 => ⟨S8x4x2048x32, .f32⟩
  | 28 => ⟨S1x1x2048x32, .f32⟩
  | 29 => ⟨S8x4x2048x32, .f32⟩
  | 30 => ⟨S8x4x2048x32, .f32⟩
  | 31 => ⟨S8x4x2048x32, .f32⟩
  | 32 => ⟨S8x4x2048x64, .f32⟩
  | 33 => ⟨S8x2048x4x64, .f32⟩
  | 34 => ⟨S8x4x2048x64, .f32⟩
  | 35 => ⟨S2048, .f32⟩
  | 36 => ⟨S2048x1, .f32⟩
  | 37 => ⟨S1x32, .f32⟩
  | 38 => ⟨S2048x32, .f32⟩
  | 39 => ⟨S2048x32, .f32⟩
  | 40 => ⟨S2048x32, .f32⟩
  | 41 => ⟨S2048x32, .f32⟩
  | 42 => ⟨S2048x32, .f32⟩
  | 43 => ⟨S8x4x2048x32, .f32⟩
  | 44 => ⟨S8x4x2048x32, .f32⟩
  | 45 => ⟨S1x1x2048x32, .f32⟩
  | 46 => ⟨S8x4x2048x32, .f32⟩
  | 47 => ⟨S8x4x2048x32, .f32⟩
  | 48 => ⟨S1x1x2048x32, .f32⟩
  | 49 => ⟨S8x4x2048x32, .f32⟩
  | 50 => ⟨S8x4x2048x32, .f32⟩
  | 51 => ⟨S8x4x2048x32, .f32⟩
  | 52 => ⟨S1x1x2048x32, .f32⟩
  | 53 => ⟨S8x4x2048x32, .f32⟩
  | 54 => ⟨S8x4x2048x32, .f32⟩
  | 55 => ⟨S1x1x2048x32, .f32⟩
  | 56 => ⟨S8x4x2048x32, .f32⟩
  | 57 => ⟨S8x4x2048x32, .f32⟩
  | 58 => ⟨S8x4x2048x32, .f32⟩
  | 59 => ⟨S8x4x2048x64, .f32⟩
  | 60 => ⟨S_, .f32⟩
  | 61 => ⟨S8x4x2048x64, .f32⟩
  | 62 => ⟨S8x4x2048x64, .f32⟩
  | 63 => ⟨S_, .f32⟩
  | 64 => ⟨S8x8x2048x64, .f32⟩
  | 65 => ⟨S8x8x2048x64, .f32⟩
  | 66 => ⟨S_, .f32⟩
  | 67 => ⟨S_, .f32⟩
  | 68 => ⟨S_, .f32⟩
  | 69 => ⟨S8x8x2048x64, .f32⟩
  | 70 => ⟨S8x8x2048x64, .f32⟩
  | 71 => ⟨S8x2048x8x64, .f32⟩
  | 72 => ⟨S8x2048x512, .f32⟩
  | 73 => ⟨S8x2048x8x64, .f32⟩
  | 74 => ⟨S8x2048x512, .f32⟩
  | 75 => ⟨S8x2048x4x64, .f32⟩
  | 76 => ⟨S8x2048x256, .f32⟩
  | 77 => ⟨S8x2048x4x64, .f32⟩
  | 78 => ⟨S8x2048x256, .f32⟩
  | 79 => ⟨S8x2048x3072, .f32⟩
  | 80 => ⟨S8x2048x3072, .bf16⟩
  | 81 => ⟨S16384x3072, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_cst_3 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_cst : Ref sig .tc := ⟨.hbm, 19, rfl⟩
abbrev main_call0_v3 : Ref sig .tc := ⟨.hbm, 20, rfl⟩
abbrev main_call0_v4 : Ref sig .tc := ⟨.hbm, 21, rfl⟩
abbrev main_call0_cst_0 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_cst_1 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_v15 : Ref sig .tc := ⟨.hbm, 34, rfl⟩
abbrev main_call0_v16 : Ref sig .tc := ⟨.hbm, 35, rfl⟩
abbrev main_v8 : Ref sig .tc := ⟨.hbm, 36, rfl⟩
abbrev main_cst_4 : Ref sig .tc := ⟨.hbm, 37, rfl⟩
abbrev main_v9 : Ref sig .tc := ⟨.hbm, 38, rfl⟩
abbrev main_v10 : Ref sig .tc := ⟨.hbm, 39, rfl⟩
abbrev main_cst_5 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_6 : Ref sig .tc := ⟨.hbm, 45, rfl⟩
abbrev main_v15 : Ref sig .tc := ⟨.hbm, 46, rfl⟩
abbrev main_v16 : Ref sig .tc := ⟨.hbm, 47, rfl⟩
abbrev main_cst_7 : Ref sig .tc := ⟨.hbm, 48, rfl⟩
abbrev main_v17 : Ref sig .tc := ⟨.hbm, 49, rfl⟩
abbrev main_v18 : Ref sig .tc := ⟨.hbm, 50, rfl⟩
abbrev main_cst_8 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_9 : Ref sig .tc := ⟨.hbm, 127, rfl⟩
abbrev main_v94 : Ref sig .tc := ⟨.hbm, 128, rfl⟩
abbrev main_cst_10 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_cst_11 : Ref sig .tc := ⟨.hbm, 188, rfl⟩
abbrev main_v153 : Ref sig .tc := ⟨.hbm, 189, rfl⟩
abbrev main_v154 : Ref sig .tc := ⟨.hbm, 190, rfl⟩
abbrev main_cst_12 : Ref sig .tc := ⟨.hbm, 191, rfl⟩
abbrev main_v155 : Ref sig .tc := ⟨.hbm, 192, rfl⟩
abbrev main_v156 : Ref sig .tc := ⟨.hbm, 193, rfl⟩
abbrev main_cst_13 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩

abbrev nD : Nat := 1
abbrev τ : Topo := Topo.v7x

variable {F : FTy → Type} [FloatOps F]
-- ==== Proof.L.Rows.lean ====
/-
  The mathematics of one row of the layer over the extended reals: the root-mean-square norm, the sigmoid gate in its two
  spellings, and what is needed of finite values. Nothing here names a program.
-/
module

public import Idealize.ShloMosaic.Lib.Pointwise
public import Idealize.ShloMosaic.Lib.IdealHost

@[expose] public section

set_option maxRecDepth 16384

noncomputable section

namespace Cert.Layer

open Idealize.ShloMosaic

/-! ### Finite values -/

/-- A finite extended real. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

/-- A sum of finite values is the sum of the reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) (f : ι → EReal) (h : ∀ i, IsReal (f i)) : IsReal (∑ i ∈ s, f i) := by
  choose g hg using h
  refine ⟨∑ i ∈ s, g i, ?_⟩
  rw [coe_sum]
  exact Finset.sum_congr rfl fun i _ => hg i

theorem isReal_of_bounds {x : EReal} (h1 : x ≠ ⊥) (h2 : x ≠ ⊤) : IsReal x :=
  ⟨x.toReal, (EReal.coe_toReal h2 h1).symm⟩

theorem mul_self_nonneg (x : EReal) : 0 ≤ x * x := by
  induction x with
  | bot => simp
  | top => simp
  | coe r => rw [← EReal.coe_mul]; exact EReal.coe_nonneg.mpr (_root_.mul_self_nonneg r)

/-- Below the absolute value's bound `⊤`, a value is finite. -/
theorem isReal_of_abs_lt {x : EReal} (h : max x (-x) < ⊤) : IsReal x := by
  refine isReal_of_bounds ?_ ?_
  · rintro rfl
    simp at h
  · rintro rfl
    simp at h

/-! ### Constants -/

/-- The norm's small constant. -/
def eps : ℝ := 8796093 * (2 : ℝ) ^ (-43 : Int)

theorem eps_pos : 0 < eps := by unfold eps; positivity

theorem ofBits_eps : Ideal.ofBits .f32 897988541#32 = ((eps : ℝ) : EReal) := by
  unfold eps
  simp [Ideal.ofBits, Ideal.ieee, -EReal.coe_mul]

theorem ofBits_1024 : Ideal.ofBits .f32 1149239296#32 = ((1024 : ℝ) : EReal) := by
  simp [Ideal.ofBits, Ideal.ieee, -EReal.coe_mul]; norm_num

theorem ofBits_128 : Ideal.ofBits .f32 1124073472#32 = ((128 : ℝ) : EReal) := by
  simp [Ideal.ofBits, Ideal.ieee, -EReal.coe_mul]; norm_num

theorem ofBits_half : Ideal.ofBits .f32 1056964608#32 = ((1 / 2 : ℝ) : EReal) := by
  simp [Ideal.ofBits, Ideal.ieee, -EReal.coe_mul]; norm_num

theorem ofBits_sixteenth : Ideal.ofBits .f32 1031798784#32 = ((1 / 16 : ℝ) : EReal) := by
  simp [Ideal.ofBits, Ideal.ieee, -EReal.coe_mul]; norm_num

theorem ofBits_top : Ideal.ofBits .f32 2139095040#32 = (⊤ : EReal) := by
  simp [Ideal.ofBits, Ideal.ieee]

theorem ofBits_bot : Ideal.ofBits .f32 4286578688#32 = (⊥ : EReal) := by
  simp [Ideal.ofBits, Ideal.ieee]

/-! ### The root-mean-square norm -/

/-- The reciprocal root of the mean square of `n` values plus the small constant. -/
def rmsInv {n : ℕ} (d : ℝ) (x : Fin n → EReal) : EReal :=
  Ideal.rsqrt (Ideal.div (∑ k, x k * x k) (d : EReal) + (eps : EReal))

/-- The norm of 1024 values with its gain. -/
def rms (x g : Fin 1024 → EReal) (i : Fin 1024) : EReal := x i * rmsInv 1024 x * g i

theorem sumSq_nonneg {n : ℕ} (x : Fin n → EReal) : 0 ≤ ∑ k, x k * x k :=
  Finset.sum_nonneg fun k _ => mul_self_nonneg (x k)

/-- Whatever the values, a value times the reciprocal root mean square is finite. -/
theorem isReal_mul_rmsInv {n : ℕ} (d : ℝ) (hd : 0 < d) (x : Fin n → EReal) (i : Fin n) : IsReal (x i * rmsInv d x) := by
  unfold rmsInv
  have h0 := sumSq_nonneg x
  have hle : x i * x i ≤ ∑ k, x k * x k :=
    Finset.single_le_sum (f := fun k => x k * x k) (fun k _ => mul_self_nonneg (x k)) (Finset.mem_univ i)
  generalize (∑ k, x k * x k) = S at h0 hle
  rw [Ideal.div_coe (ne_of_gt hd)]
  induction S with
  | bot => simp at h0
  | top =>
    rw [EReal.top_mul_coe_of_pos (by positivity), EReal.top_add_coe]
    have ht : Ideal.rsqrt ⊤ = 0 := rfl
    rw [ht, mul_zero]
    exact isReal_zero
  | coe s =>
    have hs : 0 ≤ s := EReal.coe_nonneg.mp h0
    have hx : IsReal (x i) := by
      refine isReal_of_bounds ?_ ?_
      · intro h; rw [h] at hle; simp at hle
      · intro h; rw [h] at hle; simp at hle
    refine hx.mul ?_
    rw [← EReal.coe_mul, ← EReal.coe_add]
    have hp : 0 < s * (1 / d) + eps := add_pos_of_nonneg_of_pos (by positivity) eps_pos
    refine ⟨(Real.sqrt (s * (1 / d) + eps))⁻¹, ?_⟩
    show (if s * (1 / d) + eps < 0 then (⊥ : EReal) else if s * (1 / d) + eps = 0 then ⊤ else _) = _
    rw [if_neg (not_lt.mpr hp.le), if_neg hp.ne']

theorem isReal_rms (x g : Fin 1024 → EReal) (hg : ∀ i, IsReal (g i)) (i : Fin 1024) : IsReal (rms x g i) :=
  (isReal_mul_rmsInv 1024 (by norm_num) x i).mul (hg i)

/-! ### The gate -/

/-- The gate as `a / (1 + exp (-a))`. -/
def silu (a : EReal) : EReal := a * Ideal.div 1 (1 + Ideal.exp (-a))

/-- The gate by the hyperbolic tangent of half the value. -/
def siluTanh (a : EReal) : EReal :=
  ((1 / 2 : ℝ) : EReal) * a + ((1 / 2 : ℝ) : EReal) * a * Ideal.tanh (((1 / 2 : ℝ) : EReal) * a)

theorem silu_coe (a : ℝ) : silu (a : EReal) = ((a * (1 + Real.exp (-a))⁻¹ : ℝ) : EReal) := by
  unfold silu
  rw [← EReal.coe_neg]
  have he : Ideal.exp ((-a : ℝ) : EReal) = ((Real.exp (-a) : ℝ) : EReal) := rfl
  have hp : (1 + Real.exp (-a)) ≠ 0 := by positivity
  rw [he, show (1 : EReal) = ((1 : ℝ) : EReal) from rfl, ← EReal.coe_add, Ideal.div_coe hp, ← EReal.coe_mul,
    ← EReal.coe_mul]
  norm_num

/-- Of a finite value, the two spellings of the gate are one value. -/
theorem siluTanh_eq {a : EReal} (ha : IsReal a) : siluTanh a = silu a := by
  obtain ⟨r, rfl⟩ := ha
  rw [silu_coe]
  unfold siluTanh
  rw [← EReal.coe_mul]
  have ht : Ideal.tanh ((1 / 2 * r : ℝ) : EReal) = ((Real.tanh (1 / 2 * r) : ℝ) : EReal) := rfl
  rw [ht, ← EReal.coe_mul, ← EReal.coe_add]
  congr 1
  rw [Real.tanh_eq_sinh_div_cosh, Real.sinh_eq, Real.cosh_eq]
  have h1 : Real.exp (-r) = Real.exp (-(1 / 2 * r)) * Real.exp (-(1 / 2 * r)) := by rw [← Real.exp_add]; ring_nf
  have h2 : Real.exp (1 / 2 * r) * Real.exp (-(1 / 2 * r)) = 1 := by rw [← Real.exp_add]; simp
  rw [h1]
  set p := Real.exp (1 / 2 * r) with hp
  set q := Real.exp (-(1 / 2 * r)) with hq
  have p0 : 0 < p := Real.exp_pos _
  have q0 : 0 < q := Real.exp_pos _
  have e : p = 1 / q := by field_simp; linarith
  rw [e]
  field_simp
  ring

theorem IsReal.silu {a : EReal} (ha : IsReal a) : IsReal (silu a) := by
  obtain ⟨r, rfl⟩ := ha
  exact ⟨_, silu_coe r⟩

/-- An element that passes the test `|x| < ⊤` of a precondition is a real. -/
theorem isReal_of_test {s u : Shape} (x : Vec Ideal s .f32) (dims : Fin u.rank → Fin s.rank) (h : u.BroadcastsInDim s dims) (i : s.Idx)
    (e : cmpf (F := Ideal) (φ := .f32) .olt (Host.absf x) (broadcastInDim s dims h (constant u .f32 2139095040#32)) i = 1#1) : IsReal (x i) := by
  refine isReal_of_abs_lt ?_
  have e' : Ideal.cmp .olt (max (x i) (-(x i))) (FloatOps.ofBits (F := Ideal) .f32 2139095040#32) = 1#1 := e
  rw [show FloatOps.ofBits (F := Ideal) .f32 2139095040#32 = (⊤ : EReal) from ofBits_top] at e'
  by_contra hn
  simp [Ideal.cmp, hn] at e'

end Cert.Layer

end
-- ==== Proof.L.FfnRow.lean ====
/-
  One row of the feed-forward block over the extended reals: the reference's form, and the kernel's, which spells the gate by
  the hyperbolic tangent and takes the hidden units in two parts.
-/
module

public import proofs.«01_k».proof.Proof.L.Rows

@[expose] public section

set_option maxRecDepth 16384

noncomputable section

namespace Cert.Layer

open Idealize.ShloMosaic

/-- The product of a normed row with column `j` of the gate and up weights. -/
def gu (h : Fin 1024 → EReal) (w : Fin 1024 → Fin 5632 → EReal) (j : Fin 5632) : EReal := ∑ k, h k * w k j

theorem isReal_gu (h : Fin 1024 → EReal) (w : Fin 1024 → Fin 5632 → EReal) (j : Fin 5632) (hh : ∀ k, IsReal (h k))
    (hw : ∀ k, IsReal (w k j)) : IsReal (gu h w j) :=
  IsReal.sum _ _ fun i => (hh i).mul (hw i)

/-- The hidden unit `k`: the gated product of columns `k` and `2816 + k`, the gate spelt by `s`. -/
def hid (s : EReal → EReal) (h : Fin 1024 → EReal) (w : Fin 1024 → Fin 5632 → EReal) (k : Fin 2816) : EReal :=
  s (gu h w ⟨k.val, by omega⟩) * gu h w ⟨2816 + k.val, by omega⟩

/-- The reference's row. -/
def ffnRow (x g : Fin 1024 → EReal) (w : Fin 1024 → Fin 5632 → EReal) (wd : Fin 2816 → Fin 1024 → EReal)
    (g' : Fin 1024 → EReal) (j : Fin 1024) : EReal :=
  x j + rms (fun j => ∑ k : Fin 2816, hid silu (rms x g) w k * wd k j) g' j

/-- The down product in two parts of the hidden units. -/
def downSplit (h : Fin 1024 → EReal) (w : Fin 1024 → Fin 5632 → EReal) (wd : Fin 2816 → Fin 1024 → EReal) (j : Fin 1024) : EReal :=
  (∑ k : Fin 1536, hid siluTanh h w ⟨k.val, by omega⟩ * wd ⟨k.val, by omega⟩ j)
    + ∑ k : Fin 1280, hid siluTanh h w ⟨1536 + k.val, by omega⟩ * wd ⟨1536 + k.val, by omega⟩ j

/-- The kernel's row. -/
def ffnRowSplit (x g : Fin 1024 → EReal) (w : Fin 1024 → Fin 5632 → EReal) (wd : Fin 2816 → Fin 1024 → EReal)
    (g' : Fin 1024 → EReal) (j : Fin 1024) : EReal :=
  x j + rms (downSplit (rms x g) w wd) g' j

theorem downSplit_eq (h : Fin 1024 → EReal) (w : Fin 1024 → Fin 5632 → EReal) (wd : Fin 2816 → Fin 1024 → EReal)
    (hh : ∀ k, IsReal (h k)) (hw : ∀ k (j : Fin 2816), IsReal (w k ⟨j.val, by omega⟩)) (j : Fin 1024) :
    downSplit h w wd j = ∑ k : Fin 2816, hid silu h w k * wd k j := by
  have hs : ∀ k, hid siluTanh h w k = hid silu h w k := fun k => by
    unfold hid
    rw [siluTanh_eq (isReal_gu h w _ hh fun i => hw i k)]
  unfold downSplit
  simp only [hs]
  exact (Fin.sum_univ_add (fun k : Fin (1536 + 1280) => hid silu h w k * wd k j)).symm

/-- With a finite gain and finite gate weights, the kernel's row is the reference's. -/
theorem ffnRowSplit_eq (x g : Fin 1024 → EReal) (w : Fin 1024 → Fin 5632 → EReal) (wd : Fin 2816 → Fin 1024 → EReal)
    (g' : Fin 1024 → EReal) (hg : ∀ i, IsReal (g i)) (hw : ∀ k (j : Fin 2816), IsReal (w k ⟨j.val, by omega⟩)) (j : Fin 1024) :
    ffnRowSplit x g w wd g' j = ffnRow x g w wd g' j := by
  unfold ffnRowSplit ffnRow
  rw [show downSplit (rms x g) w wd = fun j => ∑ k : Fin 2816, hid silu (rms x g) w k * wd k j from
    funext fun j => downSplit_eq _ w wd (isReal_rms x g hg) hw j]

end Cert.Layer

end
-- ==== Proof.L.FfnBlock.lean ====
/-
  The `ffn` call: what one grid point writes, row by row. The block's four row pieces of 256 are one function.
-/
module

public import proofs.«01_k».proof.Proof.Gen.Kernel2Ideal.Value
public import proofs.«01_k».proof.Proof.L.FfnRow

@[expose] public section

set_option maxRecDepth 16384

noncomputable section

namespace Cert.Kernel2Ideal.Block

open Cert.Kernel2Ideal Cert.Kernel2Ideal.Gen Cert.Layer Idealize.ShloMosaic

/-- Row `r` of the block a grid point writes, of the input block `x`, the weights and the gains. -/
def rowOut (x0 : Vec Ideal S1024x1024 .f32) (x1 : Vec Ideal S1024x5632 .bf16) (x2 : Vec Ideal S2816x1024 .bf16)
    (x3 x4 : Vec Ideal S1x1024 .f32) (r : Fin 1024) (j : Fin 1024) : EReal :=
  ffnRowSplit (fun k => x0 (ix2 r k)) (fun k => x3 (ix2 0 k)) (fun k j => x1 (ix2 k j)) (fun k j => x2 (ix2 k j))
    (fun k => x4 (ix2 0 k)) j

/-- The normed rows of piece 0. -/
theorem norm0 (x0 : Vec Ideal S1024x1024 .f32) (x1 : Vec Ideal S1024x5632 .bf16) (x2 : Vec Ideal S2816x1024 .bf16)
    (x3 x4 : Vec Ideal S1x1024 .f32) (r : Fin 256) (k : Fin 1024) :
    k0_pay29 (F := Ideal) x0 x1 x2 x3 x4 (ix2 r k)
      = rms (fun k => x0 (ix2 ⟨r.val, by omega⟩ k)) (fun k => x3 (ix2 0 k)) k := by
  unfold_payloads
  pointwise [r0_0, r0_4, ofBits_eps, ofBits_1024]
  rfl

/-- The down product of piece 0, of normed rows `X`. -/
theorem down0 (X : FVec Ideal S256x1024 .bf16) (x1 : Vec Ideal S1024x5632 .bf16) (x2 : Vec Ideal S2816x1024 .bf16)
    (r : Fin 256) (j : Fin 1024) :
    k0_pay17 (F := Ideal) X (k0_pay12 (F := Ideal) (k0_pay11 (F := Ideal) X (View.ld x1 r0_5) (View.ld x1 r0_6)) (View.ld x2 r0_7)) (View.ld x1 r0_8) (View.ld x1 r0_9) (View.ld x2 r0_10) (ix2 r j)
      = downSplit (fun k => X (ix2 r k)) (fun k j => x1 (ix2 k j)) (fun k j => x2 (ix2 k j)) j := by
  unfold_payloads
  unfold downSplit hid gu siluTanh
  pointwise [r0_5, r0_6, r0_7, r0_8, r0_9, r0_10, ofBits_half]
  simp only [show ∀ k : ℕ, 2816 + (1536 + k) = 4352 + k from fun k => by omega]

/-- The residual and the norm after it, of piece 0. -/
theorem last0 (X D : FVec Ideal S256x1024 .f32) (x4 : Vec Ideal S1x1024 .f32) (r : Fin 256) (j : Fin 1024) :
    k0_pay25 (F := Ideal) X D (View.ld x4 r0_4) (ix2 r j)
      = X (ix2 r j) + rms (fun j => D (ix2 r j)) (fun k => x4 (ix2 0 k)) j := by
  unfold_payloads
  pointwise [r0_4, ofBits_eps, ofBits_1024]
  rfl

theorem resid0 (x0 : Vec Ideal S1024x1024 .f32) (x1 : Vec Ideal S1024x5632 .bf16) (x2 : Vec Ideal S2816x1024 .bf16)
    (x3 x4 : Vec Ideal S1x1024 .f32) (r : Fin 256) (j : Fin 1024) :
    k0_pay3 (F := Ideal) (View.ld x0 r0_0) (ix2 r j) = x0 (ix2 ⟨r.val, by omega⟩ j) := by
  unfold_payloads
  pointwise [r0_0]

/-- The normed rows of piece 1. -/
theorem norm1 (x0 : Vec Ideal S1024x1024 .f32) (x1 : Vec Ideal S1024x5632 .bf16) (x2 : Vec Ideal S2816x1024 .bf16)
    (x3 x4 : Vec Ideal S1x1024 .f32) (r : Fin 256) (k : Fin 1024) :
    k0_pay30 (F := Ideal) x0 x1 x2 x3 x4 (ix2 r k)
      = rms (fun k => x0 (ix2 ⟨256 + r.val, by omega⟩ k)) (fun k => x3 (ix2 0 k)) k := by
  unfold_payloads
  pointwise [r0_1, r0_4, ofBits_eps, ofBits_1024]
  rfl

/-- The down product of piece 1, of normed rows `X`. -/
theorem down1 (X : FVec Ideal S256x1024 .bf16) (x1 : Vec Ideal S1024x5632 .bf16) (x2 : Vec Ideal S2816x1024 .bf16)
    (r : Fin 256) (j : Fin 1024) :
    k0_pay20 (F := Ideal) (k0_pay13 (F := Ideal) X (View.ld x1 r0_5) (View.ld x1 r0_6) (View.ld x2 r0_7)) (k0_pay18 (F := Ideal) X (View.ld x1 r0_8)) (k0_pay19 (F := Ideal) X (View.ld x1 r0_9)) (View.ld x2 r0_10) (ix2 r j)
      = downSplit (fun k => X (ix2 r k)) (fun k j => x1 (ix2 k j)) (fun k j => x2 (ix2 k j)) j := by
  unfold_payloads
  unfold downSplit hid gu siluTanh
  pointwise [r0_5, r0_6, r0_7, r0_8, r0_9, r0_10, ofBits_half]
  simp only [show ∀ k : ℕ, 2816 + (1536 + k) = 4352 + k from fun k => by omega]

/-- The residual and the norm after it, of piece 1. -/
theorem last1 (X D : FVec Ideal S256x1024 .f32) (x4 : Vec Ideal S1x1024 .f32) (r : Fin 256) (j : Fin 1024) :
    k0_pay26 (F := Ideal) X D (View.ld x4 r0_4) (ix2 r j)
      = X (ix2 r j) + rms (fun j => D (ix2 r j)) (fun k => x4 (ix2 0 k)) j := by
  unfold_payloads
  pointwise [r0_4, ofBits_eps, ofBits_1024]
  rfl

theorem resid1 (x0 : Vec Ideal S1024x1024 .f32) (x1 : Vec Ideal S1024x5632 .bf16) (x2 : Vec Ideal S2816x1024 .bf16)
    (x3 x4 : Vec Ideal S1x1024 .f32) (r : Fin 256) (j : Fin 1024) :
    k0_pay4 (F := Ideal) (View.ld x0 r0_1) (ix2 r j) = x0 (ix2 ⟨256 + r.val, by omega⟩ j) := by
  unfold_payloads
  pointwise [r0_1]

/-- The normed rows of piece 2. -/
theorem norm2 (x0 : Vec Ideal S1024x1024 .f32) (x1 : Vec Ideal S1024x5632 .bf16) (x2 : Vec Ideal S2816x1024 .bf16)
    (x3 x4 : Vec Ideal S1x1024 .f32) (r : Fin 256) (k : Fin 1024) :
    k0_pay31 (F := Ideal) x0 x1 x2 x3 x4 (ix2 r k)
      = rms (fun k => x0 (ix2 ⟨512 + r.val, by omega⟩ k)) (fun k => x3 (ix2 0 k)) k := by
  unfold_payloads
  pointwise [r0_2, r0_4, ofBits_eps, ofBits_1024]
  rfl

/-- The down product of piece 2, of normed rows `X`. -/
theorem down2 (X : FVec Ideal S256x1024 .bf16) (x1 : Vec Ideal S1024x5632 .bf16) (x2 : Vec Ideal S2816x1024 .bf16)
    (r : Fin 256) (j : Fin 1024) :
    k0_pay21 (F := Ideal) X (k0_pay14 (F := Ideal) X (View.ld x1 r0_5) (View.ld x1 r0_6) (View.ld x2 r0_7)) (View.ld x1 r0_8) (View.ld x1 r0_9) (View.ld x2 r0_10) (ix2 r j)
      = downSplit (fun k => X (ix2 r k)) (fun k j => x1 (ix2 k j)) (fun k j => x2 (ix2 k j)) j := by
  unfold_payloads
  unfold downSplit hid gu siluTanh
  pointwise [r0_5, r0_6, r0_7, r0_8, r0_9, r0_10, ofBits_half]
  simp only [show ∀ k : ℕ, 2816 + (1536 + k) = 4352 + k from fun k => by omega]

/-- The residual and the norm after it, of piece 2. -/
theorem last2 (X D : FVec Ideal S256x1024 .f32) (x4 : Vec Ideal S1x1024 .f32) (r : Fin 256) (j : Fin 1024) :
    k0_pay1 (F := Ideal) X D (View.ld x4 r0_4) (ix2 r j)
      = X (ix2 r j) + rms (fun j => D (ix2 r j)) (fun k => x4 (ix2 0 k)) j := by
  unfold_payloads
  pointwise [r0_4, ofBits_eps, ofBits_1024]
  rfl

theorem resid2 (x0 : Vec Ideal S1024x1024 .f32) (x1 : Vec Ideal S1024x5632 .bf16) (x2 : Vec Ideal S2816x1024 .bf16)
    (x3 x4 : Vec Ideal S1x1024 .f32) (r : Fin 256) (j : Fin 1024) :
    k0_pay27 (F := Ideal) x0 x1 x2 x3 x4 (ix2 r j) = x0 (ix2 ⟨512 + r.val, by omega⟩ j) := by
  unfold_payloads
  pointwise [r0_2]

/-- The normed rows of piece 3. -/
theorem norm3 (x0 : Vec Ideal S1024x1024 .f32) (x1 : Vec Ideal S1024x5632 .bf16) (x2 : Vec Ideal S2816x1024 .bf16)
    (x3 x4 : Vec Ideal S1x1024 .f32) (r : Fin 256) (k : Fin 1024) :
    k0_pay32 (F := Ideal) x0 x1 x2 x3 x4 (ix2 r k)
      = rms (fun k => x0 (ix2 ⟨768 + r.val, by omega⟩ k)) (fun k => x3 (ix2 0 k)) k := by
  unfold_payloads
  pointwise [r0_3, r0_4, ofBits_eps, ofBits_1024]
  rfl

/-- The down product of piece 3, of normed rows `X`. -/
theorem down3 (X : FVec Ideal S256x1024 .bf16) (x1 : Vec Ideal S1024x5632 .bf16) (x2 : Vec Ideal S2816x1024 .bf16)
    (r : Fin 256) (j : Fin 1024) :
    k0_pay24 (F := Ideal) (k0_pay16 (F := Ideal) X (k0_pay15 (F := Ideal) (View.ld x1 r0_5)) (constant S256x1536 .f32 0x00000000#32) (View.ld x1 r0_6) (View.ld x2 r0_7)) (k0_pay22 (F := Ideal) X (View.ld x1 r0_9)) (k0_pay23 (F := Ideal) X (View.ld x1 r0_8)) (View.ld x2 r0_10) (ix2 r j)
      = downSplit (fun k => X (ix2 r k)) (fun k j => x1 (ix2 k j)) (fun k j => x2 (ix2 k j)) j := by
  unfold_payloads
  unfold downSplit hid gu siluTanh
  pointwise [r0_5, r0_6, r0_7, r0_8, r0_9, r0_10, ofBits_half]
  simp only [show ∀ k : ℕ, 2816 + (1536 + k) = 4352 + k from fun k => by omega]

/-- The residual and the norm after it, of piece 3. -/
theorem last3 (X D : FVec Ideal S256x1024 .f32) (x4 : Vec Ideal S1x1024 .f32) (r : Fin 256) (j : Fin 1024) :
    k0_pay2 (F := Ideal) X D (View.ld x4 r0_4) (ix2 r j)
      = X (ix2 r j) + rms (fun j => D (ix2 r j)) (fun k => x4 (ix2 0 k)) j := by
  unfold_payloads
  pointwise [r0_4, ofBits_eps, ofBits_1024]
  rfl

theorem resid3 (x0 : Vec Ideal S1024x1024 .f32) (x1 : Vec Ideal S1024x5632 .bf16) (x2 : Vec Ideal S2816x1024 .bf16)
    (x3 x4 : Vec Ideal S1x1024 .f32) (r : Fin 256) (j : Fin 1024) :
    k0_pay28 (F := Ideal) x0 x1 x2 x3 x4 (ix2 r j) = x0 (ix2 ⟨768 + r.val, by omega⟩ j) := by
  unfold_payloads
  pointwise [r0_3]

/-- Piece 0 is rows `0 …` of the row function. -/
theorem piece0 (x0 : Vec Ideal S1024x1024 .f32) (x1 : Vec Ideal S1024x5632 .bf16) (x2 : Vec Ideal S2816x1024 .bf16)
    (x3 x4 : Vec Ideal S1x1024 .f32) (r : Fin 256) (j : Fin 1024) :
    k0_pay25 (F := Ideal) (k0_pay3 (F := Ideal) (View.ld x0 r0_0)) (k0_pay17 (F := Ideal) (k0_pay29 (F := Ideal) x0 x1 x2 x3 x4) (k0_pay12 (F := Ideal) (k0_pay11 (F := Ideal) (k0_pay29 (F := Ideal) x0 x1 x2 x3 x4) (View.ld x1 r0_5) (View.ld x1 r0_6)) (View.ld x2 r0_7)) (View.ld x1 r0_8) (View.ld x1 r0_9) (View.ld x2 r0_10)) (View.ld x4 r0_4) (ix2 r j)
      = rowOut x0 x1 x2 x3 x4 ⟨r.val, by omega⟩ j := by
  rw [last0, resid0 x0 x1 x2 x3 x4]
  simp only [down0, norm0]
  rfl

/-- Piece 1 is rows `256 …` of the row function. -/
theorem piece1 (x0 : Vec Ideal S1024x1024 .f32) (x1 : Vec Ideal S1024x5632 .bf16) (x2 : Vec Ideal S2816x1024 .bf16)
    (x3 x4 : Vec Ideal S1x1024 .f32) (r : Fin 256) (j : Fin 1024) :
    k0_pay26 (F := Ideal) (k0_pay4 (F := Ideal) (View.ld x0 r0_1)) (k0_pay20 (F := Ideal) (k0_pay13 (F := Ideal) (k0_pay30 (F := Ideal) x0 x1 x2 x3 x4) (View.ld x1 r0_5) (View.ld x1 r0_6) (View.ld x2 r0_7)) (k0_pay18 (F := Ideal) (k0_pay30 (F := Ideal) x0 x1 x2 x3 x4) (View.ld x1 r0_8)) (k0_pay19 (F := Ideal) (k0_pay30 (F := Ideal) x0 x1 x2 x3 x4) (View.ld x1 r0_9)) (View.ld x2 r0_10)) (View.ld x4 r0_4) (ix2 r j)
      = rowOut x0 x1 x2 x3 x4 ⟨256 + r.val, by omega⟩ j := by
  rw [last1, resid1 x0 x1 x2 x3 x4]
  simp only [down1, norm1]
  rfl

/-- Piece 2 is rows `512 …` of the row function. -/
theorem piece2 (x0 : Vec Ideal S1024x1024 .f32) (x1 : Vec Ideal S1024x5632 .bf16) (x2 : Vec Ideal S2816x1024 .bf16)
    (x3 x4 : Vec Ideal S1x1024 .f32) (r : Fin 256) (j : Fin 1024) :
    k0_pay1 (F := Ideal) (k0_pay27 (F := Ideal) x0 x1 x2 x3 x4) (k0_pay21 (F := Ideal) (k0_pay31 (F := Ideal) x0 x1 x2 x3 x4) (k0_pay14 (F := Ideal) (k0_pay31 (F := Ideal) x0 x1 x2 x3 x4) (View.ld x1 r0_5) (View.ld x1 r0_6) (View.ld x2 r0_7)) (View.ld x1 r0_8) (View.ld x1 r0_9) (View.ld x2 r0_10)) (View.ld x4 r0_4) (ix2 r j)
      = rowOut x0 x1 x2 x3 x4 ⟨512 + r.val, by omega⟩ j := by
  rw [last2, resid2 x0 x1 x2 x3 x4]
  simp only [down2, norm2]
  rfl

/-- Piece 3 is rows `768 …` of the row function. -/
theorem piece3 (x0 : Vec Ideal S1024x1024 .f32) (x1 : Vec Ideal S1024x5632 .bf16) (x2 : Vec Ideal S2816x1024 .bf16)
    (x3 x4 : Vec Ideal S1x1024 .f32) (r : Fin 256) (j : Fin 1024) :
    k0_pay2 (F := Ideal) (k0_pay28 (F := Ideal) x0 x1 x2 x3 x4) (k0_pay24 (F := Ideal) (k0_pay16 (F := Ideal) (k0_pay32 (F := Ideal) x0 x1 x2 x3 x4) (k0_pay15 (F := Ideal) (View.ld x1 r0_5)) (constant S256x1536 .f32 0x00000000#32) (View.ld x1 r0_6) (View.ld x2 r0_7)) (k0_pay22 (F := Ideal) (k0_pay32 (F := Ideal) x0 x1 x2 x3 x4) (View.ld x1 r0_9)) (k0_pay23 (F := Ideal) (k0_pay32 (F := Ideal) x0 x1 x2 x3 x4) (View.ld x1 r0_8)) (View.ld x2 r0_10)) (View.ld x4 r0_4) (ix2 r j)
      = rowOut x0 x1 x2 x3 x4 ⟨768 + r.val, by omega⟩ j := by
  rw [last3, resid3 x0 x1 x2 x3 x4]
  simp only [down3, norm3]
  rfl

/-- What a grid point writes, at row `r` and column `j` of its block. -/
theorem out_at (x0 : Vec Ideal S1024x1024 .f32) (x1 : Vec Ideal S1024x5632 .bf16) (x2 : Vec Ideal S2816x1024 .bf16)
    (x3 x4 : Vec Ideal S1x1024 .f32) (y : S1024x1024.Idx) :
    out0_5 x0 x1 x2 x3 x4 y = rowOut x0 x1 x2 x3 x4 (y 0) (y 1) := by
  unfold out0_5
  refine View.canon_apply_of_pieces (Val := Elt Ideal) (e := .f32) (S := S1024x1024) (fun y => rowOut x0 x1 x2 x3 x4 (y 0) (y 1)) _ ?_ y ?_
  · intro p hp
    simp only [List.mem_cons, List.mem_nil_iff, or_false] at hp
    rcases hp with rfl | rfl | rfl | rfl <;> intro z <;> idx_vars z
    · refine (piece3 x0 x1 x2 x3 x4 _ _).trans ?_
      exact congrArg₂ (rowOut x0 x1 x2 x3 x4) (Fin.ext (show 768 + z0.val = 768 + 1 * z0.val by omega)) (Fin.ext (show z1.val = 0 + 1 * z1.val by omega))
    · refine (piece2 x0 x1 x2 x3 x4 _ _).trans ?_
      exact congrArg₂ (rowOut x0 x1 x2 x3 x4) (Fin.ext (show 512 + z0.val = 512 + 1 * z0.val by omega)) (Fin.ext (show z1.val = 0 + 1 * z1.val by omega))
    · refine (piece1 x0 x1 x2 x3 x4 _ _).trans ?_
      exact congrArg₂ (rowOut x0 x1 x2 x3 x4) (Fin.ext (show 256 + z0.val = 256 + 1 * z0.val by omega)) (Fin.ext (show z1.val = 0 + 1 * z1.val by omega))
    · refine (piece0 x0 x1 x2 x3 x4 _ _).trans ?_
      exact congrArg₂ (rowOut x0 x1 x2 x3 x4) (Fin.ext (show z0.val = 0 + 1 * z0.val by omega)) (Fin.ext (show z1.val = 0 + 1 * z1.val by omega))
  · have h0 : (y 0).val < 1024 := (y 0).isLt
    have h1 : (y 1).val < 1024 := (y 1).isLt
    rcases (by omega : (y 0).val < 256 ∨ (256 ≤ (y 0).val ∧ (y 0).val < 512) ∨ (512 ≤ (y 0).val ∧ (y 0).val < 768) ∨ 768 ≤ (y 0).val) with h | h | h | h
    · refine ⟨_, List.mem_cons_of_mem _ (List.mem_cons_of_mem _ (List.mem_cons_of_mem _ (List.mem_singleton_self _))), ?_⟩
      show y ∈ r0_0.set
      unfold r0_0
      rw [Rect.mem_set_unit]
      exact (Fin.forall_fin_two.mpr ⟨⟨by show 0 ≤ _; omega, by show _ < 0 + 256; omega⟩, ⟨by show 0 ≤ _; omega, by show _ < 0 + 1024; omega⟩⟩)
    · refine ⟨_, List.mem_cons_of_mem _ (List.mem_cons_of_mem _ (List.mem_cons_self ..)), ?_⟩
      show y ∈ r0_1.set
      unfold r0_1
      rw [Rect.mem_set_unit]
      exact (Fin.forall_fin_two.mpr ⟨⟨by show 256 ≤ _; omega, by show _ < 256 + 256; omega⟩, ⟨by show 0 ≤ _; omega, by show _ < 0 + 1024; omega⟩⟩)
    · refine ⟨_, List.mem_cons_of_mem _ (List.mem_cons_self ..), ?_⟩
      show y ∈ r0_2.set
      unfold r0_2
      rw [Rect.mem_set_unit]
      exact (Fin.forall_fin_two.mpr ⟨⟨by show 512 ≤ _; omega, by show _ < 512 + 256; omega⟩, ⟨by show 0 ≤ _; omega, by show _ < 0 + 1024; omega⟩⟩)
    · refine ⟨_, List.mem_cons_self .., ?_⟩
      show y ∈ r0_3.set
      unfold r0_3
      rw [Rect.mem_set_unit]
      exact (Fin.forall_fin_two.mpr ⟨⟨by show 768 ≤ _; omega, by show _ < 768 + 256; omega⟩, ⟨by show 0 ≤ _; omega, by show _ < 0 + 1024; omega⟩⟩)

end Cert.Kernel2Ideal.Block

end
-- ==== Proof.L.FfnArray.lean ====
/-
  The `ffn` call: its result array as one function of the arguments.
-/
module

public import proofs.«01_k».proof.Proof.L.FfnBlock

@[expose] public section

set_option maxRecDepth 16384

noncomputable section

namespace Cert.Kernel2Ideal.Array

open Cert.Kernel2Ideal Cert.Kernel2Ideal.Gen Cert.Layer Idealize.ShloMosaic Idealize.ShloMosaic.TcCoe
open Idealize.ShloMosaic.Pipeline (Dat)

variable (m : (ℓ : Loc nD τ sig) → Buf (Elt Ideal) ℓ)

/-! ## The host's reshapes -/

theorem cast_x (v : Vec Ideal S8x2048x1024 .f32) (i : Fin 16384) (k : Fin 1024) :
    shapeCast S16384x1024 v shapeCasts_S8x2048x1024_S16384x1024 (ix2 i k)
      = v (ix3 ⟨i.val / 2048, by omega⟩ ⟨i.val % 2048, by omega⟩ k) := by
  pointwise

theorem cast_w (v : Vec Ideal S1x1024x5632 .f32) (k : Fin 1024) (j : Fin 5632) :
    shapeCast S1024x5632 v shapeCasts_S1x1024x5632_S1024x5632 (ix2 k j) = v (ix3 0 k j) := by
  pointwise

theorem cast_wd (v : Vec Ideal S1x2816x1024 .f32) (k : Fin 2816) (j : Fin 1024) :
    shapeCast S2816x1024 v shapeCasts_S1x2816x1024_S2816x1024 (ix2 k j) = v (ix3 0 k j) := by
  pointwise

theorem cast_g (v : Vec Ideal S1x1024 .f32) (k : Fin 1024) :
    shapeCast S1x1024 (shapeCast S1024 v shapeCasts_S1x1024_S1024) shapeCasts_S1024_S1x1024 (ix2 0 k) = v (ix2 0 k) := by
  pointwise

/-! ## The arrays the call is given -/

theorem V_x (c : Dev nD) (i : Fin 16384) (k : Fin 1024) :
    V m c main_v0 (ix2 i k)
      = m ((c : Thread nD τ).loc main_arg0) (ix3 ⟨i.val / 2048, by omega⟩ ⟨i.val % 2048, by omega⟩ k) := by
  have h : V m c main_v0 = shapeCast S16384x1024 (m ((c : Thread nD τ).loc main_arg0)) shapeCasts_S8x2048x1024_S16384x1024 := by
    dsimp only [V, hostOps0]
    after_results
    rfl
  rw [h]
  exact cast_x _ i k

theorem V_w (c : Dev nD) (k : Fin 1024) (j : Fin 5632) :
    V m c main_v2 (ix2 k j)
      = m ((c : Thread nD τ).loc main_arg2) (ix3 0 k j) := by
  have h : V m c main_v2 = shapeCast S1024x5632 (m ((c : Thread nD τ).loc main_arg2)) shapeCasts_S1x1024x5632_S1024x5632 := by
    dsimp only [V, hostOps0]
    after_results
    rfl
  rw [h]
  exact cast_w _ k j

theorem V_wd (c : Dev nD) (k : Fin 2816) (j : Fin 1024) :
    V m c main_v4 (ix2 k j)
      = m ((c : Thread nD τ).loc main_arg3) (ix3 0 k j) := by
  have h : V m c main_v4 = shapeCast S2816x1024 (m ((c : Thread nD τ).loc main_arg3)) shapeCasts_S1x2816x1024_S2816x1024 := by
    dsimp only [V, hostOps0]
    after_results
    rfl
  rw [h]
  exact cast_wd _ k j

theorem V_g (c : Dev nD) (k : Fin 1024) :
    V m c main_v6 (ix2 0 k)
      = m ((c : Thread nD τ).loc main_arg1) (ix2 0 k) := by
  have h : V m c main_v6 = shapeCast S1x1024 (shapeCast S1024 (m ((c : Thread nD τ).loc main_arg1)) shapeCasts_S1x1024_S1024) shapeCasts_S1024_S1x1024 := by
    dsimp only [V, hostOps0]
    after_results
    rfl
  rw [h]
  exact cast_g _ k

theorem V_g' (c : Dev nD) (k : Fin 1024) :
    V m c main_v8 (ix2 0 k)
      = m ((c : Thread nD τ).loc main_arg4) (ix2 0 k) := by
  have h : V m c main_v8 = shapeCast S1x1024 (shapeCast S1024 (m ((c : Thread nD τ).loc main_arg4)) shapeCasts_S1x1024_S1024) shapeCasts_S1024_S1x1024 := by
    dsimp only [V, hostOps0]
    after_results
    rfl
  rw [h]
  exact cast_g _ k

/-! ## The blocks a grid point reads -/

theorem fin_N (t : Fin cfg0.N) : t.val < 16 := t.isLt

theorem iblk_x (c : Dev nD) (t : Fin cfg0.N) (r k : Fin 1024) :
    iblk m c 0 t (ix2 r k) = V m c main_v0 (ix2 ⟨t.val * 1024 + r.val, by have := fin_N t; omega⟩ k) := by
  have e : ∀ t : Fin grid0.N, win0_0.index t 0 = t.val ∧ win0_0.index t 1 = 0 := by decide +kernel
  refine congrArg (V m c main_v0) ?_
  funext a
  match a with
  | ⟨0, _⟩ => exact Fin.ext (show win0_0.index t 0 * 1024 + 1 * r.val = t.val * 1024 + r.val by rw [(e t).1]; omega)
  | ⟨1, _⟩ => exact Fin.ext (show win0_0.index t 1 * 1024 + 1 * k.val = k.val by rw [(e t).2]; omega)

theorem iblk_w (c : Dev nD) (t : Fin cfg0.N) (k : Fin 1024) (j : Fin 5632) :
    iblk m c 1 t (ix2 k j) = V m c main_v2 (ix2 k j) := by
  have e : ∀ t : Fin grid0.N, win0_1.index t 0 = 0 ∧ win0_1.index t 1 = 0 := by decide +kernel
  refine congrArg (V m c main_v2) ?_
  funext a
  match a with
  | ⟨0, _⟩ => exact Fin.ext (show win0_1.index t 0 * 1024 + 1 * k.val = k.val by rw [(e t).1]; omega)
  | ⟨1, _⟩ => exact Fin.ext (show win0_1.index t 1 * 5632 + 1 * j.val = j.val by rw [(e t).2]; omega)

theorem iblk_wd (c : Dev nD) (t : Fin cfg0.N) (k : Fin 2816) (j : Fin 1024) :
    iblk m c 2 t (ix2 k j) = V m c main_v4 (ix2 k j) := by
  have e : ∀ t : Fin grid0.N, win0_2.index t 0 = 0 ∧ win0_2.index t 1 = 0 := by decide +kernel
  refine congrArg (V m c main_v4) ?_
  funext a
  match a with
  | ⟨0, _⟩ => exact Fin.ext (show win0_2.index t 0 * 2816 + 1 * k.val = k.val by rw [(e t).1]; omega)
  | ⟨1, _⟩ => exact Fin.ext (show win0_2.index t 1 * 1024 + 1 * j.val = j.val by rw [(e t).2]; omega)

theorem iblk_g (c : Dev nD) (t : Fin cfg0.N) (k : Fin 1024) :
    iblk m c 3 t (ix2 0 k) = V m c main_v6 (ix2 0 k) := by
  have e : ∀ t : Fin grid0.N, win0_3.index t 0 = 0 ∧ win0_3.index t 1 = 0 := by decide +kernel
  refine congrArg (V m c main_v6) ?_
  funext a
  match a with
  | ⟨0, _⟩ => exact Fin.ext (show win0_3.index t 0 * 1 + 1 * 0 = 0 by rw [(e t).1])
  | ⟨1, _⟩ => exact Fin.ext (show win0_3.index t 1 * 1024 + 1 * k.val = k.val by rw [(e t).2]; omega)

theorem iblk_g' (c : Dev nD) (t : Fin cfg0.N) (k : Fin 1024) :
    iblk m c 4 t (ix2 0 k) = V m c main_v8 (ix2 0 k) := by
  have e : ∀ t : Fin grid0.N, win0_4.index t 0 = 0 ∧ win0_4.index t 1 = 0 := by decide +kernel
  refine congrArg (V m c main_v8) ?_
  funext a
  match a with
  | ⟨0, _⟩ => exact Fin.ext (show win0_4.index t 0 * 1 + 1 * 0 = 0 by rw [(e t).1])
  | ⟨1, _⟩ => exact Fin.ext (show win0_4.index t 1 * 1024 + 1 * k.val = k.val by rw [(e t).2]; omega)

/-! ## The result array -/

/-- The result array: row `i` is the kernel's row of token `i`. -/
def G (c : Dev nD) : S16384x1024.Idx → EReal := fun i =>
  ffnRowSplit (fun k => m ((c : Thread nD τ).loc main_arg0) (ix3 ⟨(i 0).val / 2048, by have : (i 0).val < 16384 := (i 0).isLt; omega⟩ ⟨(i 0).val % 2048, by omega⟩ k))
    (fun k => m ((c : Thread nD τ).loc main_arg1) (ix2 0 k)) (fun k j => m ((c : Thread nD τ).loc main_arg2) (ix3 0 k j))
    (fun k j => m ((c : Thread nD τ).loc main_arg3) (ix3 0 k j)) (fun k => m ((c : Thread nD τ).loc main_arg4) (ix2 0 k)) (i 1)

theorem row_congr {x x' g g' h h' : Fin 1024 → EReal} {w w' : Fin 1024 → Fin 5632 → EReal} {d d' : Fin 2816 → Fin 1024 → EReal}
    (hx : ∀ k, x k = x' k) (hg : ∀ k, g k = g' k) (hw : ∀ k j, w k j = w' k j) (hd : ∀ k j, d k j = d' k j) (hh : ∀ k, h k = h' k)
    (j : Fin 1024) : ffnRowSplit x g w d h j = ffnRowSplit x' g' w' d' h' j := by
  obtain rfl : x = x' := funext hx
  obtain rfl : g = g' := funext hg
  obtain rfl : w = w' := funext fun k => funext (hw k)
  obtain rfl : d = d' := funext fun k => funext (hd k)
  obtain rfl : h = h' := funext hh
  rfl

theorem flushed_eq (c : Dev nD) (t : Fin cfg0.N) :
    (dats m 0 c).flushed 5 t = ((cfg0.win 5).blk t).view.read (Elt Ideal) (G m c) := by
  have e : ∀ t : Fin grid0.N, win0_5.index t 0 = t.val ∧ win0_5.index t 1 = 0 := by decide +kernel
  rw [Value.flushed5]
  funext y
  refine (Block.out_at _ _ _ _ _ y).trans ?_
  unfold Block.rowOut
  have h0 : (((cfg0.win 5).blk t).view.emb y 0).val = t.val * 1024 + (y 0).val :=
    show win0_5.index t 0 * 1024 + 1 * (y 0).val = _ by rw [(e t).1]; omega
  have h1 : ((cfg0.win 5).blk t).view.emb y 1 = y 1 :=
    Fin.ext (show win0_5.index t 1 * 1024 + 1 * (y 1).val = (y 1).val by rw [(e t).2]; omega)
  show _ = G m c (((cfg0.win 5).blk t).view.emb y)
  unfold G
  rw [h1]
  refine row_congr (fun k => ?_) (fun k => (iblk_g m c t k).trans (V_g m c k)) (fun k j => (iblk_w m c t k j).trans (V_w m c k j))
    (fun k j => (iblk_wd m c t k j).trans (V_wd m c k j)) (fun k => (iblk_g' m c t k).trans (V_g' m c k)) (y 1)
  refine (iblk_x m c t (y 0) k).trans ((V_x m c _ k).trans ?_)
  simp only [h0]

theorem final (c : Dev nD) : (dats m 0 c).arrAt 5 cfg0.N = G m c := by
  have e : ∀ t : Fin grid0.N, win0_5.index t 0 = t.val ∧ win0_5.index t 1 = 0 := by decide +kernel
  refine (dats m 0 c).arrAt_eq_of_cover 5 (G m c) (fun t _ => flushed_eq m c t) fun i => ?_
  have hi : (i 0).val < 16384 := (i 0).isLt
  have h1 : (i 1).val < 1024 := (i 1).isLt
  refine ⟨⟨(i 0).val / 1024, by show _ < 16; omega⟩, flush0_5 _, ?_⟩
  generalize ht : (⟨(i 0).val / 1024, by show _ < 16; omega⟩ : Fin cfg0.N) = t
  have htv : t.val = (i 0).val / 1024 := by rw [← ht]
  show i ∈ ((View.whole main_v9).slice (win0_5.rect t)).set
  rw [View.set_slice_whole, Rect.mem_set_unit]
  refine Fin.forall_fin_two.mpr ⟨?_, ?_⟩
  · show win0_5.index t 0 * 1024 ≤ (i 0).val ∧ (i 0).val < win0_5.index t 0 * 1024 + 1024
    rw [(e t).1]; omega
  · show win0_5.index t 1 * 1024 ≤ (i 1).val ∧ (i 1).val < win0_5.index t 1 * 1024 + 1024
    rw [(e t).2]; omega

end Cert.Kernel2Ideal.Array

end
-- ==== Proof.L.FfnRef.lean ====
/-
  The feed-forward reference: its result as one function of the arguments.
-/
module

public import proofs.«01_k».proof.Proof.Gen.Reference2Ideal.Read
public import proofs.«01_k».proof.Proof.L.FfnRow

@[expose] public section

set_option maxRecDepth 16384

noncomputable section

namespace Cert.Reference2Ideal.Array

open Cert.Reference2Ideal Cert.Reference2Ideal.Gen Cert.Reference2Ideal.Read Cert.Layer Idealize.ShloMosaic Idealize.ShloMosaic.TcCoe

variable (x0 : Vec Ideal S8x2048x1024 .f32) (x1 : Vec Ideal S1x1024 .f32) (x2 : Vec Ideal S1x1024x5632 .f32)
  (x3 : Vec Ideal S1x2816x1024 .f32) (x4 : Vec Ideal S1x1024 .f32)

theorem norm (b : Fin 8) (s : Fin 2048) (k : Fin 1024) :
    val_main_v13 (F := Ideal) x0 x1 (ix3 b s k) = rms (fun k => x0 (ix3 b s k)) (fun k => x1 (ix2 0 k)) k := by
  unfold val_main_v13 val_main_v12 val_main_v11 val_main_v10 val_main_v9 val_main_v8 val_main_v7 val_main_v6 val_main_v5
    val_main_v4 val_main_v3 val_main_v2 val_main_v1 val_main_v0 val_main_cst val_main_cst_0 val_main_cst_1
  pointwise [ofBits_eps, ofBits_1024]
  rfl

theorem gate (b : Fin 8) (s : Fin 2048) (k : Fin 5632) :
    val_main_v15 (F := Ideal) x0 x1 x2 (ix3 b s k) = gu (rms (fun k => x0 (ix3 b s k)) (fun k => x1 (ix2 0 k))) (fun k j => x2 (ix3 0 k j)) k := by
  unfold val_main_v15 val_main_v14
  pointwise [norm]
  rfl

theorem prod (b : Fin 8) (s : Fin 2048) (k : Fin 2816) :
    val_main_v19 (F := Ideal) x0 x1 x2 (ix3 b s k)
      = hid silu (rms (fun k => x0 (ix3 b s k)) (fun k => x1 (ix2 0 k))) (fun k j => x2 (ix3 0 k j)) k := by
  unfold val_main_v19 val_main_v18 val_main_v17 val_main_call0_v5 val_main_call0_v4 val_main_call0_v3 val_main_call0_v2 val_main_call0_v1 val_main_call0_v0 val_main_call0_cst val_main_call0_cst_0
  pointwise [gate]
  unfold val_main_v16
  pointwise [gate]
  rfl

theorem down (b : Fin 8) (s : Fin 2048) (j : Fin 1024) :
    val_main_v21 (F := Ideal) x0 x1 x2 x3 (ix3 b s j)
      = ∑ k : Fin 2816, hid silu (rms (fun k => x0 (ix3 b s k)) (fun k => x1 (ix2 0 k))) (fun k j => x2 (ix3 0 k j)) k * x3 (ix3 0 k j) := by
  unfold val_main_v21 val_main_v20
  pointwise [prod]

theorem resid (b : Fin 8) (s : Fin 2048) (j : Fin 1024) :
    val_main_v36 (F := Ideal) x0 x1 x2 x3 x4 (ix3 b s j)
      = ffnRow (fun k => x0 (ix3 b s k)) (fun k => x1 (ix2 0 k)) (fun k j => x2 (ix3 0 k j)) (fun k j => x3 (ix3 0 k j)) (fun k => x4 (ix2 0 k)) j := by
  unfold val_main_v36 val_main_v35 val_main_v34 val_main_v33 val_main_v32 val_main_v31 val_main_v30 val_main_v29 val_main_v28
    val_main_v27 val_main_v26 val_main_v25 val_main_v24 val_main_v23 val_main_v22 val_main_cst_2 val_main_cst_3 val_main_cst_4
  pointwise [down, ofBits_eps, ofBits_1024]
  rfl

theorem flat (v : Vec Ideal S8x2048x1024 .f32) (i : Fin 16384) (k : Fin 1024) :
    shapeCast S16384x1024 v shapeCasts_S8x2048x1024_S16384x1024 (ix2 i k)
      = v (ix3 ⟨i.val / 2048, by omega⟩ ⟨i.val % 2048, by omega⟩ k) := by
  pointwise

theorem result (i : Fin 16384) (j : Fin 1024) :
    val_main_v37 (F := Ideal) x0 x1 x2 x3 x4 (ix2 i j)
      = ffnRow (fun k => x0 (ix3 ⟨i.val / 2048, by omega⟩ ⟨i.val % 2048, by omega⟩ k)) (fun k => x1 (ix2 0 k))
          (fun k j => x2 (ix3 0 k j)) (fun k j => x3 (ix3 0 k j)) (fun k => x4 (ix2 0 k)) j :=
  (flat _ i j).trans (resid _ _ _ _ _ _ _ j)

end Cert.Reference2Ideal.Array

end
-- ==== Proof.L.FfnClaim.lean ====
/-
  The `ffn` call against its reference: one row by one row, the kernel's row is the reference's.
-/
module

public import proofs.«01_k».proof.Defs
public import proofs.«01_k».proof.Proof.L.FfnArray
public import proofs.«01_k».proof.Proof.L.FfnRef
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Pre_finite_ffn
public import Idealize.ShloMosaic.Lib.ReduceAll
public import Idealize.ShloMosaic.Lib.Quiescent

@[expose] public section

set_option maxRecDepth 16384

noncomputable section

namespace Cert.Layer.Ffn

open Idealize.ShloMosaic Idealize.ShloMosaic.TcCoe Idealize.SL.Sem Cert.Layer

instance : Subsingleton Pre_finite_ffn.S_.Idx := ⟨fun _ _ => funext fun a => a.elim0⟩

theorem slice_at (x : Vec Ideal Pre_finite_ffn.S1x1024x5632 .f32) (h : Pre_finite_ffn.S1x1024x5632.Slices ![0, 0, 0] Pre_finite_ffn.S1x1024x2816)
    (k : Fin 1024) (j : Fin 2816) :
    extractStridedSlice Pre_finite_ffn.S1x1024x2816 ![0, 0, 0] x h (ix3 0 k j) = x (ix3 0 k ⟨j.val, by omega⟩) := by
  pointwise

/-- What the precondition says: the norm's gain and the gate weights are reals. -/
theorem of_pre (x0 : Vec Ideal Pre_finite_ffn.S8x2048x1024 .f32) (x1 : Vec Ideal Pre_finite_ffn.S1x1024 .f32) (x2 : Vec Ideal Pre_finite_ffn.S1x1024x5632 .f32)
    (x3 : Vec Ideal Pre_finite_ffn.S1x2816x1024 .f32) (x4 : Vec Ideal Pre_finite_ffn.S1x1024 .f32)
    (h : letI := Pre_finite_ffn.Gen.facts; Pre_finite_ffn.fn (F := Ideal) x0 x1 x2 x3 x4 = fun _ => 1#1) :
    (∀ i, IsReal (x1 i)) ∧ ∀ k (j : Fin 2816), IsReal (x2 (ix3 0 k ⟨j.val, by omega⟩)) := by
  letI := Pre_finite_ffn.Gen.facts
  have h0 := congrFun h fun a => a.elim0
  obtain ⟨h1, h2⟩ := IntOp.andi_eq_one.mp h0
  refine ⟨fun i => isReal_of_test x1 _ _ i (Host.reduce_andi_all _ _ _ _ _ h1 i), fun k j => ?_⟩
  have h3 := Host.reduce_andi_all _ _ _ _ _ h2 (ix3 0 k j)
  have h4 := isReal_of_test (extractStridedSlice Pre_finite_ffn.S1x1024x2816 ![0, 0, 0] x2 Pre_finite_ffn.Facts.slices_S1x1024x5632_S1x1024x2816_0_0_0) _ _ (ix3 0 k j) h3
  rwa [slice_at] at h4

theorem frame : Cert.quiescent_Kernel2 (hKernel2 := Cert.Kernel2.Gen.facts) := fun m ρ _ => Cert.Kernel2.Gen.frame m ρ

theorem frame_ideal : Cert.quiescent_Kernel2Ideal (hKernel2Ideal := Cert.Kernel2Ideal.Gen.facts) := fun m ρ _ => Cert.Kernel2Ideal.Gen.frame m ρ

theorem frame_ref : Cert.quiescent_Reference2Ideal (hReference2Ideal := Cert.Reference2Ideal.Gen.facts) := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem frame_ref_pre : Cert.quiescent_Reference2Ideal_pre_finite_ffn (hReference2Ideal := Cert.Reference2Ideal.Gen.facts)
    (hPre_finite_ffn := Cert.Pre_finite_ffn.Gen.facts) := fun m ρ _ => frame_ref m ρ trivial

theorem frame_ideal_pre : Cert.quiescent_Kernel2Ideal_pre_finite_ffn (hKernel2Ideal := Cert.Kernel2Ideal.Gen.facts) (hPre_finite_ffn := Cert.Pre_finite_ffn.Gen.facts) :=
  fun m ρ _ => Cert.Kernel2Ideal.Gen.frame m ρ

theorem algebraic : Cert.algebraic_Kernel2Ideal_Reference2Ideal_pre_finite_ffn (hKernel2Ideal := Cert.Kernel2Ideal.Gen.facts)
    (hReference2Ideal := Cert.Reference2Ideal.Gen.facts) (hPre_finite_ffn := Cert.Pre_finite_ffn.Gen.facts) := by
  intro m ρ m' ρ' hpre hagree
  refine ⟨fun c => Cert.Kernel2Ideal.Array.G m c, ?_, ?_⟩
  · exact (θ_run Cert.Kernel2Ideal.defs _ _).mono (fun _ h c => ⟨(h c).1.trans (Cert.Kernel2Ideal.Array.final m c), (h c).2⟩)
      (Cert.Kernel2Ideal.Value.run_blocks (F := Ideal) m ρ)
  refine (θ_run Cert.Reference2Ideal.defs _ _).mono (fun _ h c => ⟨(h c).1.trans ?_, (h c).2⟩)
    (Cert.Reference2Ideal.Value.run (F := Ideal) m' ρ')
  obtain ⟨e0, e1, e2, e3, e4⟩ := hagree c
  obtain ⟨hg, hw⟩ := of_pre _ _ _ _ _ (hpre c)
  rw [Cert.Reference2Ideal.Read.val_main_v37_eq, e0, e1, e2, e3, e4]
  funext i
  obtain ⟨i, j, rfl⟩ : ∃ (i0 : Fin 16384) (j : Fin 1024), i = ix2 i0 j := ⟨i 0, i 1, by funext a; match a with | ⟨0, _⟩ => rfl | ⟨1, _⟩ => rfl⟩
  refine (Cert.Reference2Ideal.Array.result _ _ _ _ _ i j).trans ?_
  exact (ffnRowSplit_eq _ _ _ _ _ (fun k => hg (ix2 0 k)) hw j).symm

end Cert.Layer.Ffn

end
-- ==== Proof.L.Decay.lean ====
/-
  Retention by chunks: the chunked recurrence, for any chunk length, is the decayed sum over all earlier keys.
-/
module

public import proofs.«01_k».proof.Proof.L.Rows

@[expose] public section

noncomputable section

namespace Cert.Layer

open Finset

/-- The sum a query at position `s` retains: every key up to `s`, decayed by its distance. -/
def decayed (g : ℝ) (q : Fin 64 → ℝ) (k : ℕ → Fin 64 → ℝ) (v : ℕ → ℝ) (s : ℕ) : ℝ :=
  ∑ t ∈ range (s + 1), g ^ (s - t) * (∑ d, q d * k t d) * v t

/-- One entry of the recurrent state after the first `n` positions. -/
def stateSum (g : ℝ) (k v : ℕ → ℝ) (n : ℕ) : ℝ := ∑ t ∈ range n, g ^ (n - 1 - t) * k t * v t

theorem stateSum_zero (g : ℝ) (k v : ℕ → ℝ) : stateSum g k v 0 = 0 := by
  unfold stateSum
  simp

/-- A chunk of `c` positions on: the state decays by the whole chunk and takes the chunk's keys in. -/
theorem stateSum_chunk (g : ℝ) (k v : ℕ → ℝ) (n c : ℕ) :
    stateSum g k v n * g ^ c + ∑ j ∈ range c, k (n + j) * g ^ (c - 1 - j) * v (n + j) = stateSum g k v (n + c) := by
  unfold stateSum
  rw [sum_range_add (fun t => g ^ (n + c - 1 - t) * k t * v t) n c, sum_mul]
  congr 1
  · refine sum_congr rfl fun t ht => ?_
    have ht' := mem_range.1 ht
    rw [show n + c - 1 - t = (n - 1 - t) + c by omega, pow_add]
    ring
  · refine sum_congr rfl fun j hj => ?_
    have hj' := mem_range.1 hj
    rw [show n + c - 1 - (n + j) = c - 1 - j by omega]
    ring

/-- Inside a chunk: the chunk's own keys up to the query, and the state the chunk started from. -/
theorem decayed_chunk (g : ℝ) (q : Fin 64 → ℝ) (k : ℕ → Fin 64 → ℝ) (v : ℕ → ℝ) (n c i : ℕ) (hi : i < c) :
    ∑ j ∈ range c, (∑ d, q d * k (n + j) d) * (if j ≤ i then g ^ (i - j) else 0) * v (n + j)
      + (∑ d, q d * stateSum g (fun t => k t d) v n) * g ^ (i + 1) = decayed g q k v (n + i) := by
  unfold decayed stateSum
  rw [show n + i + 1 = n + (i + 1) by omega,
    sum_range_add (fun t => g ^ (n + i - t) * (∑ d, q d * k t d) * v t) n (i + 1), add_comm]
  congr 1
  · simp only [mul_sum, sum_mul]
    rw [sum_comm]
    refine sum_congr rfl fun t ht => ?_
    have ht' := mem_range.1 ht
    refine sum_congr rfl fun d _ => ?_
    rw [show n + i - t = (n - 1 - t) + (i + 1) by omega, pow_add]
    ring
  · rw [show c = (i + 1) + (c - (i + 1)) by omega, sum_range_add]
    rw [sum_eq_zero (s := range (c - (i + 1)))
      (fun j hj => by rw [if_neg (by omega)]; ring), add_zero]
    refine sum_congr rfl fun j hj => ?_
    have hj' := mem_range.1 hj
    rw [if_pos (by omega), show n + i - (n + j) = i - j by omega]
    ring

/-- The same with the query's decay applied to the query itself. -/
theorem decayed_chunk' (g : ℝ) (q : Fin 64 → ℝ) (k : ℕ → Fin 64 → ℝ) (v : ℕ → ℝ) (n c i : ℕ) (hi : i < c) :
    ∑ j ∈ range c, (∑ d, q d * k (n + j) d) * (if j ≤ i then g ^ (i - j) else 0) * v (n + j)
      + ∑ d, q d * g ^ (i + 1) * stateSum g (fun t => k t d) v n = decayed g q k v (n + i) := by
  rw [← decayed_chunk g q k v n c i hi, sum_mul]
  congr 1
  exact sum_congr rfl fun d _ => by ring

/-! ### The decays as powers -/

/-- What is left of a head's memory from one position to the next: 1 - 2^(-5-h). -/
def ratio : Fin 4 → ℝ := ![31 / 32, 63 / 64, 127 / 128, 255 / 256]

theorem ratio_pos (h : Fin 4) : 0 < ratio h := by
  fin_cases h <;> simp [ratio]

open Idealize.ShloMosaic in
theorem exp_log_mul (r : ℝ) (hr : 0 < r) (m : ℕ) (x : EReal) (hx : x = ((m : ℝ) : EReal)) :
    Ideal.exp (((Real.log r : ℝ) : EReal) * x) = ((r ^ m : ℝ) : EReal) := by
  rw [hx, ← EReal.coe_mul]
  show ((Real.exp (Real.log r * (m : ℝ)) : ℝ) : EReal) = _
  rw [← Real.rpow_def_of_pos hr, Real.rpow_natCast]

open Idealize.ShloMosaic in
/-- The decay between two positions of a chunk: a power of their distance, and nothing for a later key. -/
theorem exp_log_diff (r : ℝ) (hr : 0 < r) (i j : ℕ) (x : EReal) (hx : x = (((i : ℝ) - (j : ℝ) : ℝ) : EReal)) :
    (0 ≤ x → Ideal.exp (((Real.log r : ℝ) : EReal) * max x 0) = (((if j ≤ i then r ^ (i - j) else 0 : ℝ)) : EReal))
      ∧ (¬ 0 ≤ x → (0 : EReal) = (((if j ≤ i then r ^ (i - j) else 0 : ℝ)) : EReal)) := by
  subst hx
  rw [EReal.coe_nonneg]
  constructor
  · intro h
    have hij : j ≤ i := by
      have : (j : ℝ) ≤ (i : ℝ) := by linarith
      exact_mod_cast this
    rw [if_pos hij, max_eq_left (by exact_mod_cast h)]
    exact exp_log_mul r hr _ _ (by rw [Nat.cast_sub hij])
  · intro h
    have hij : ¬ j ≤ i := fun hij => h (by
      have : (j : ℝ) ≤ (i : ℝ) := by exact_mod_cast hij
      linarith)
    rw [if_neg hij]
    rfl

theorem toInt_small (i : ℕ) (hi : i < 4096) : (BitVec.ofNat 32 i).toInt = (i : Int) := by
  have h : (BitVec.ofNat 32 i).toNat = i := by
    rw [BitVec.toNat_ofNat]
    exact Nat.mod_eq_of_lt (by omega)
  rw [BitVec.toInt_eq_toNat_of_lt (by rw [h]; omega), h]

open Idealize.ShloMosaic in
theorem sitofp_nat (i : ℕ) (hi : i < 4096) :
    FloatOps.sitofp (F := Ideal) FTy.f32 (BitVec.ofNat 32 i) = ((i : ℝ) : EReal) := by
  show (((BitVec.ofNat 32 i).toInt : ℝ) : EReal) = _
  rw [toInt_small i hi]
  rfl

open Idealize.ShloMosaic in
theorem sitofp_sub (i j : ℕ) (hi : i < 4096) (hj : j < 4096) :
    FloatOps.sitofp (F := Ideal) FTy.f32 (IntOp.subi (BitVec.ofNat 32 i) (BitVec.ofNat 32 j)) = (((i : ℝ) - (j : ℝ) : ℝ) : EReal) := by
  show (((BitVec.ofNat 32 i - BitVec.ofNat 32 j).toInt : ℝ) : EReal) = _
  rw [BitVec.toInt_sub, toInt_small i hi, toInt_small j hj, Int.bmod_eq_of_le (by omega) (by omega)]
  push_cast
  rfl

/-- A sum over 128 lanes that only the 64 lanes of one half enter. -/
theorem sum_half (f : Fin 128 → EReal) (o : Fin 2) :
    ∑ l : Fin 128, (if l.val / 64 = o.val then f l else 0) = ∑ d : Fin 64, f ⟨o.val * 64 + d.val, by omega⟩ := by
  rw [show (∑ l : Fin 128, (if l.val / 64 = o.val then f l else 0)) = ∑ l : Fin (64 + 64), (if l.val / 64 = o.val then f l else 0) from rfl,
    Fin.sum_univ_add]
  match o with
  | ⟨0, _⟩ =>
    refine (congrArg₂ (· + ·) (Finset.sum_congr rfl fun d _ => if_pos ?_) (Finset.sum_eq_zero fun d _ => if_neg ?_)).trans ?_
    · show d.val / 64 = 0
      omega
    · show ¬ (64 + d.val) / 64 = 0
      omega
    · rw [add_zero]
      exact Finset.sum_congr rfl fun d _ => congrArg f (Fin.ext (show d.val = 0 * 64 + d.val by omega))
  | ⟨1, _⟩ =>
    refine (congrArg₂ (· + ·) (Finset.sum_eq_zero fun d _ => if_neg ?_) (Finset.sum_congr rfl fun d _ => if_pos ?_)).trans ?_
    · show ¬ d.val / 64 = 1
      omega
    · show (64 + d.val) / 64 = 1
      omega
    · rw [zero_add]
      exact Finset.sum_congr rfl fun d _ => congrArg f (Fin.ext (show 64 + d.val = 1 * 64 + d.val by omega))

/-! ### The recurrence over the extended reals -/

/-- What a query retains of one head, of real projections. -/
def retained (P : ℕ → ℕ → ℝ) (h : Fin 4) (s : ℕ) (e : ℕ) : ℝ :=
  decayed (ratio h) (fun d => P s (1536 + (h.val * 64 + d.val))) (fun t d => P t (1792 + (h.val * 64 + d.val)))
    (fun t => P t (2048 + (h.val * 128 + e))) s

/-- The retention's output: the gate of the row's own projection times the normed retained sum. -/
def retOut (gate : EReal → EReal) (P : ℕ → ℕ → ℝ) (h : Fin 4) (s : ℕ) (e : Fin 128) : EReal :=
  gate (P s (2560 + (h.val * 128 + e.val)) : ℝ)
    * (((retained P h s e.val : ℝ) : EReal) * rmsInv 128 (fun e : Fin 128 => ((retained P h s e.val : ℝ) : EReal)))

/-- One entry of a head's state after `n` positions. -/
def heldAt (P : ℕ → ℕ → ℝ) (h : Fin 4) (n d e : ℕ) : ℝ :=
  stateSum (ratio h) (fun t => P t (1792 + (h.val * 64 + d))) (fun t => P t (2048 + (h.val * 128 + e))) n

/-- The state's step over a chunk of `c` positions. -/
theorem heldAt_next (P : ℕ → ℕ → ℝ) (h : Fin 4) (n c d e : ℕ) :
    ((heldAt P h n d e : ℝ) : EReal) * ((ratio h ^ c : ℝ) : EReal)
      + ∑ x : Fin c, ((P (n + x.val) (1792 + (h.val * 64 + d)) : ℝ) : EReal) * ((ratio h ^ (c - 1 - x.val) : ℝ) : EReal)
          * ((P (n + x.val) (2048 + (h.val * 128 + e)) : ℝ) : EReal)
      = ((heldAt P h (n + c) d e : ℝ) : EReal) := by
  simp only [← EReal.coe_mul, ← coe_sum, ← EReal.coe_add]
  unfold heldAt
  rw [← stateSum_chunk, Finset.sum_range]

/-- A row of a chunk: the chunk's own keys and the state before it. -/
theorem retained_chunk (P : ℕ → ℕ → ℝ) (h : Fin 4) (n c : ℕ) (i : Fin c) (e : ℕ) :
    ∑ x : Fin c, (∑ d : Fin 64, ((P (n + i.val) (1536 + (h.val * 64 + d.val)) : ℝ) : EReal) * ((P (n + x.val) (1792 + (h.val * 64 + d.val)) : ℝ) : EReal))
          * (((if x.val ≤ i.val then ratio h ^ (i.val - x.val) else 0 : ℝ)) : EReal) * ((P (n + x.val) (2048 + (h.val * 128 + e)) : ℝ) : EReal)
      + (∑ d : Fin 64, ((P (n + i.val) (1536 + (h.val * 64 + d.val)) : ℝ) : EReal) * ((heldAt P h n d.val e : ℝ) : EReal))
          * ((ratio h ^ (i.val + 1) : ℝ) : EReal)
      = ((retained P h (n + i.val) e : ℝ) : EReal) := by
  simp only [← EReal.coe_mul, ← coe_sum, ← EReal.coe_add]
  unfold heldAt retained
  rw [← decayed_chunk (ratio h) _ _ _ n c i.val i.isLt, Finset.sum_range]

/-- The same where the query's decay enters the products one by one. -/
theorem retained_chunk' (P : ℕ → ℕ → ℝ) (h : Fin 4) (n c : ℕ) (i : Fin c) (e : ℕ) :
    ∑ x : Fin c, (∑ d : Fin 64, ((P (n + i.val) (1536 + (h.val * 64 + d.val)) : ℝ) : EReal) * ((P (n + x.val) (1792 + (h.val * 64 + d.val)) : ℝ) : EReal))
          * (((if x.val ≤ i.val then ratio h ^ (i.val - x.val) else 0 : ℝ)) : EReal) * ((P (n + x.val) (2048 + (h.val * 128 + e)) : ℝ) : EReal)
      + ∑ d : Fin 64, ((P (n + i.val) (1536 + (h.val * 64 + d.val)) : ℝ) : EReal) * ((ratio h ^ (i.val + 1) : ℝ) : EReal)
          * ((heldAt P h n d.val e : ℝ) : EReal)
      = ((retained P h (n + i.val) e : ℝ) : EReal) := by
  simp only [← EReal.coe_mul, ← coe_sum, ← EReal.coe_add]
  unfold heldAt retained
  rw [← decayed_chunk' (ratio h) _ _ _ n c i.val i.isLt, Finset.sum_range]

/-- Row `s`, column `c` of a batch's output. -/
def batchOut (gate : EReal → EReal) (P : ℕ → ℕ → ℝ) (s : ℕ) (c : Fin 512) : EReal :=
  retOut gate P (⟨c.val / 128, by omega⟩ : Fin 4) s (⟨c.val % 128, by omega⟩ : Fin 128)

theorem batchOut_eq (gate : EReal → EReal) (P : ℕ → ℕ → ℝ) (h : Fin 4) (s s' : ℕ) (e : Fin 128) (c : Fin 512) (hs : s = s') (hc : c.val = h.val * 128 + e.val) :
    retOut gate P h s e = batchOut gate P s' c := by
  subst hs
  unfold batchOut
  rw [show (⟨c.val / 128, by omega⟩ : Fin 4) = h from Fin.ext (show c.val / 128 = h.val by omega),
    show (⟨c.val % 128, by omega⟩ : Fin 128) = e from Fin.ext (show c.val % 128 = e.val by omega)]

theorem batchOut_gate (P : ℕ → ℕ → ℝ) (s : ℕ) (c : Fin 512) : batchOut siluTanh P s c = batchOut silu P s c := by
  unfold batchOut retOut
  rw [siluTanh_eq (isReal_coe _)]

/-- Batch `b` of the projections, as reals. -/
def projOf (x : Fin 16384 → Fin 3072 → EReal) (b s c : ℕ) : ℝ :=
  if h : b * 2048 + s < 16384 ∧ c < 3072 then (x ⟨b * 2048 + s, h.1⟩ ⟨c, h.2⟩).toReal else 0

theorem projOf_eq (x : Fin 16384 → Fin 3072 → EReal) (hx : ∀ i k, 1536 ≤ k.val → IsReal (x i k)) (b s c : ℕ) (i : Fin 16384) (k : Fin 3072)
    (hi : i.val = b * 2048 + s) (hk : k.val = c) (hc : 1536 ≤ c := by omega) : x i k = ((projOf x b s c : ℝ) : EReal) := by
  subst hk
  unfold projOf
  rw [dif_pos ⟨hi ▸ i.isLt, k.isLt⟩]
  have e : x ⟨b * 2048 + s, hi ▸ i.isLt⟩ ⟨k.val, k.isLt⟩ = x i k := congrArg (fun i => x i k) (Fin.ext hi.symm)
  rw [e]
  obtain ⟨r, hr⟩ := hx i k hc
  rw [hr]
  rfl

/-- One entry of the memory's keys and values: the normed memory row times a column of the weights. -/
def kvRow (x g : Fin 1024 → EReal) (w : Fin 1024 → Fin 2048 → EReal) (j : Fin 2048) : EReal := ∑ k, rms x g k * w k j

theorem kvRow_congr {x x' g g' : Fin 1024 → EReal} {w w' : Fin 1024 → Fin 2048 → EReal} {j j' : Fin 2048} (hx : ∀ k, x k = x' k)
    (hg : ∀ k, g k = g' k) (hw : ∀ k j, w k j = w' k j) (hj : j = j') : kvRow x g w j = kvRow x' g' w' j' := by
  obtain rfl : x = x' := funext hx
  obtain rfl : g = g' := funext hg
  obtain rfl : w = w' := funext fun k => funext (hw k)
  subst hj
  rfl

end Cert.Layer

end
-- ==== Proof.L.RetChunk.lean ====
/-
  The `retention` call, one chunk of one head: the state's step, the mixing of the chunk's rows, their norm and gate.
-/
module

public import proofs.«01_k».proof.Proof.Gen.KernelIdeal.Value
public import proofs.«01_k».proof.Proof.L.Decay

@[expose] public section

set_option maxRecDepth 16384

noncomputable section

namespace Cert.KernelIdeal.Block

open Cert.KernelIdeal Cert.KernelIdeal.Gen Cert.Layer Idealize.ShloMosaic

/-- The state after a chunk: decayed by the chunk, with the chunk's decayed keys times its values. -/
def updOf (cd : Ideal .f32) (st : FVec Ideal S128x128 .f32) (kd : FVec Ideal S256x128 .f32) (k v : FVec Ideal S256x128 .bf16) :
    FVec Ideal S128x128 .f32 :=
  have kk : FVec Ideal S256x128 .bf16 := truncf .bf16 (mulf (extf .f32 k bitsLt_bf16_f32) kd) bitsLt_bf16_f32
  have z : FVec Ideal S128x128 .f32 := constant S128x128 .f32 0x00000000#32
  have u : FVec Ideal S128x128 .f32 := matmul dot_S256x128_S256x128_S128x128_0_0_1_1_n_n none kk v z
  addf (mulf st (broadcast S128x128 cd)) u

theorem updOf_at (cd : Ideal .f32) (st : FVec Ideal S128x128 .f32) (kd : FVec Ideal S256x128 .f32) (k v : FVec Ideal S256x128 .bf16)
    (i : Fin 128) (j : Fin 128) :
    updOf cd st kd k v (ix2 i j) = st (ix2 i j) * cd + ∑ x : Fin 256, k (ix2 x i) * kd (ix2 x i) * v (ix2 x j) := by
  unfold updOf
  pointwise

/-- The chunk's rows: the queries' products with the chunk's keys, decayed and masked, times the values, and the
    queries' products with the state, decayed. -/
def mixOf (inn : FVec Ideal S256x256 .f32) (qd : FVec Ideal S256x128 .f32) (mine : IVec S256x128 1) (st : FVec Ideal S128x128 .f32)
    (q k v : FVec Ideal S256x128 .bf16) : FVec Ideal S256x128 .f32 :=
  have qc : FVec Ideal S256x128 .bf16 := select mine q (broadcast S256x128 (Scalar.ofBits .bf16 0x0000#16 : Ideal .bf16))
  have z : FVec Ideal S256x256 .f32 := constant S256x256 .f32 0x00000000#32
  have a : FVec Ideal S256x256 .f32 := matmul dot_S256x128_S256x128_S256x256_1_1_0_0_n_n none qc k z
  have ab : FVec Ideal S256x256 .bf16 := truncf .bf16 (mulf a inn) bitsLt_bf16_f32
  have z' : FVec Ideal S256x128 .f32 := constant S256x128 .f32 0x00000000#32
  have o : FVec Ideal S256x128 .f32 := matmul dot_S256x256_S256x128_S256x128_1_0_0_1_n_n none ab v z'
  have sb : FVec Ideal S128x128 .bf16 := truncf .bf16 st bitsLt_bf16_f32
  have z'' : FVec Ideal S256x128 .f32 := constant S256x128 .f32 0x00000000#32
  have p : FVec Ideal S256x128 .f32 := matmul dot_S256x128_S128x128_S256x128_1_0_0_1_n_n none qc sb z''
  addf o (mulf p qd)

theorem mixOf_at (inn : FVec Ideal S256x256 .f32) (qd : FVec Ideal S256x128 .f32) (mine : IVec S256x128 1) (st : FVec Ideal S128x128 .f32)
    (q k v : FVec Ideal S256x128 .bf16) (i : Fin 256) (j : Fin 128) :
    mixOf inn qd mine st q k v (ix2 i j)
      = ∑ x : Fin 256, (∑ l : Fin 128, Scalar.select (mine (ix2 i l)) (q (ix2 i l) * k (ix2 x l)) 0) * inn (ix2 i x) * v (ix2 x j)
        + (∑ l : Fin 128, Scalar.select (mine (ix2 i l)) (q (ix2 i l) * st (ix2 l j)) 0) * qd (ix2 i j) := by
  unfold mixOf
  pointwise

/-- The group norm. -/
def normOf (o : FVec Ideal S256x128 .f32) : FVec Ideal S256x128 .f32 :=
  have s : FVec Ideal S256 .f32 := multiReduction .add [1] S256 (mulf o o) 0x00000000#32 reduces_S256x128_S256 (.inl rfl) rfl
  have a : FVec Ideal S256x1 .f32 := shapeCast S256x1 s shapeCasts_S256_S256x1
  have r : FVec Ideal S256x1 .f32 := rsqrt (addf (divf a (broadcast S256x1 (Scalar.ofBits .f32 0x43000000#32 : Ideal .f32))) (broadcast S256x1 (Scalar.ofBits .f32 0x358637BD#32 : Ideal .f32)))
  mulf o (broadcastTo S256x128 r broadcasts_S256x1_S256x128)

/-- The gate. -/
def gateOf (o : FVec Ideal S256x128 .f32) (g : FVec Ideal S256x128 .bf16) : FVec Ideal S256x128 .bf16 :=
  have e : FVec Ideal S256x128 .f32 := extf .f32 g bitsLt_bf16_f32
  have h : FVec Ideal S256x128 .f32 := mulf (broadcast S256x128 (Scalar.ofBits .f32 0x3F000000#32 : Ideal .f32)) e
  truncf .bf16 (mulf (addf h (mulf h (tanh h))) o) bitsLt_bf16_f32

theorem gateOf_at (o : FVec Ideal S256x128 .f32) (g : FVec Ideal S256x128 .bf16) (i : Fin 256) (j : Fin 128) :
    gateOf (normOf o) g (ix2 i j) = siluTanh (g (ix2 i j)) * (o (ix2 i j) * rmsInv 128 (fun j => o (ix2 i j))) := by
  unfold gateOf normOf
  pointwise [ofBits_half, ofBits_eps, ofBits_128]
  rfl

/-- Half `o` of pair `p` is head `h`. -/
def Half (h : Fin 4) (p o : Fin 2) : Prop := h.val = 2 * p.val + o.val

/-- A state's rows of its own half hold the head's state after `n` positions. -/
def Holds (P : ℕ → ℕ → ℝ) (h : Fin 4) (o : Fin 2) (n : ℕ) (st : FVec Ideal S128x128 .f32) : Prop :=
  ∀ (d : Fin 64) (e : Fin 128), st (ix2 (⟨o.val * 64 + d.val, by omega⟩ : Fin 128) e) = ((heldAt P h n d.val e.val : ℝ) : EReal)

/-- A chunk's columns, from column `c` of the projections on. -/
def Reads (P : ℕ → ℕ → ℝ) (n c : ℕ) (x : FVec Ideal S256x128 .bf16) : Prop :=
  ∀ (i : Fin 256) (l : Fin 128), x (ix2 i l) = ((P (n + i.val) (c + l.val) : ℝ) : EReal)

/-- The decays of a head's tables. -/
def IsInner (h : Fin 4) (x : FVec Ideal S256x256 .f32) : Prop :=
  ∀ i j : Fin 256, x (ix2 i j) = (((if j.val ≤ i.val then ratio h ^ (i.val - j.val) else 0 : ℝ)) : EReal)

def IsQdec (h : Fin 4) (x : FVec Ideal S256x128 .f32) : Prop :=
  ∀ (i : Fin 256) (l : Fin 128), x (ix2 i l) = ((ratio h ^ (i.val + 1) : ℝ) : EReal)

def IsKdec (h : Fin 4) (o : Fin 2) (x : FVec Ideal S256x128 .f32) : Prop :=
  ∀ (i : Fin 256) (d : Fin 64), x (ix2 i (⟨o.val * 64 + d.val, by omega⟩ : Fin 128)) = ((ratio h ^ (256 - 1 - i.val) : ℝ) : EReal)

def IsMine (o : Fin 2) (x : IVec S256x128 1) : Prop :=
  ∀ (i : Fin 256) (l : Fin 128), x (ix2 i l) = if l.val / 64 = o.val then 1#1 else 0#1

theorem select_if (p : Prop) [Decidable p] (a b : EReal) :
    Scalar.select (if p then 1#1 else 0#1) a b = if p then a else b := by
  split_ifs <;> rfl

theorem Holds.next {P : ℕ → ℕ → ℝ} {h : Fin 4} {p o : Fin 2} (hh : Half h p o) {n : ℕ} {cd : Ideal .f32}
    {st : FVec Ideal S128x128 .f32} {kd : FVec Ideal S256x128 .f32} {k v : FVec Ideal S256x128 .bf16}
    (hcd : cd = ((ratio h ^ 256 : ℝ) : EReal)) (hst : Holds P h o n st) (hkd : IsKdec h o kd)
    (hk : Reads P n (1792 + p.val * 128) k) (hv : Reads P n (2048 + h.val * 128) v) : Holds P h o (n + 256) (updOf cd st kd k v) := by
  intro d e
  rw [updOf_at, hst d e, hcd, ← heldAt_next]
  congr 1
  refine Finset.sum_congr rfl fun x _ => ?_
  rw [hk, hv, hkd]
  unfold Half at hh
  rw [show 1792 + p.val * 128 + (o.val * 64 + d.val) = 1792 + (h.val * 64 + d.val) by omega,
    show 2048 + h.val * 128 + e.val = 2048 + (h.val * 128 + e.val) by omega]

theorem mixOf_eq {P : ℕ → ℕ → ℝ} {h : Fin 4} {p o : Fin 2} (hh : Half h p o) {n : ℕ} {inn : FVec Ideal S256x256 .f32}
    {qd : FVec Ideal S256x128 .f32} {mine : IVec S256x128 1} {st : FVec Ideal S128x128 .f32} {q k v : FVec Ideal S256x128 .bf16}
    (hin : IsInner h inn) (hqd : IsQdec h qd) (hm : IsMine o mine) (hst : Holds P h o n st)
    (hq : Reads P n (1536 + p.val * 128) q) (hk : Reads P n (1792 + p.val * 128) k) (hv : Reads P n (2048 + h.val * 128) v)
    (i : Fin 256) (e : Fin 128) : mixOf inn qd mine st q k v (ix2 i e) = ((retained P h (n + i.val) e.val : ℝ) : EReal) := by
  unfold Half at hh
  rw [mixOf_at, ← retained_chunk P h n 256 i e.val]
  simp only [hm i _, select_if]
  congr 1
  · refine Finset.sum_congr rfl fun x _ => ?_
    rw [sum_half (fun l => q (ix2 i l) * k (ix2 x l)) o, hin, hv,
      show 2048 + h.val * 128 + e.val = 2048 + (h.val * 128 + e.val) by omega]
    congr 2
    refine Finset.sum_congr rfl fun d _ => ?_
    rw [hq, hk, show 1792 + p.val * 128 + (o.val * 64 + d.val) = 1792 + (h.val * 64 + d.val) by omega,
      show 1536 + p.val * 128 + (o.val * 64 + d.val) = 1536 + (h.val * 64 + d.val) by omega]
  · rw [sum_half (fun l => q (ix2 i l) * st (ix2 l e)) o, hqd]
    congr 1
    refine Finset.sum_congr rfl fun d _ => ?_
    rw [hq, hst, show 1536 + p.val * 128 + (o.val * 64 + d.val) = 1536 + (h.val * 64 + d.val) by omega]

/-- What a chunk's piece of a head holds. -/
theorem piece {P : ℕ → ℕ → ℝ} {h : Fin 4} {p o : Fin 2} (hh : Half h p o) {n : ℕ} {inn : FVec Ideal S256x256 .f32}
    {qd : FVec Ideal S256x128 .f32} {mine : IVec S256x128 1} {st : FVec Ideal S128x128 .f32} {q k v g : FVec Ideal S256x128 .bf16}
    (hin : IsInner h inn) (hqd : IsQdec h qd) (hm : IsMine o mine) (hst : Holds P h o n st)
    (hq : Reads P n (1536 + p.val * 128) q) (hk : Reads P n (1792 + p.val * 128) k) (hv : Reads P n (2048 + h.val * 128) v)
    (hg : Reads P n (2560 + h.val * 128) g)
    (i : Fin 256) (e : Fin 128) :
    gateOf (normOf (mixOf inn qd mine st q k v)) g (ix2 i e) = retOut siluTanh P h (n + i.val) e := by
  rw [gateOf_at, hg, show 2560 + h.val * 128 + e.val = 2560 + (h.val * 128 + e.val) by omega]
  unfold retOut
  simp only [mixOf_eq hh hin hqd hm hst hq hk hv]

end Cert.KernelIdeal.Block

end
-- ==== Proof.L.RetTables.lean ====
/-
  The tables the `retention` call builds once: each head's decays inside a chunk, of the queries, of the keys, and the
  lanes of each half.
-/
module

public import proofs.«01_k».proof.Proof.L.RetChunk

@[expose] public section

set_option maxRecDepth 16384

noncomputable section

namespace Cert.KernelIdeal.Block

open Cert.KernelIdeal Cert.KernelIdeal.Gen Cert.Layer Idealize.ShloMosaic

theorem ofBits_255 : Ideal.ofBits .f32 1132396544#32 = ((255 : ℝ) : EReal) := by
  simp [Ideal.ofBits, Ideal.ieee, -EReal.coe_mul]; norm_num

/-- The logarithm of a head's decay, and a whole chunk's decay, as the kernel names them. -/
def logDecay : Fin 4 → Ideal .f32 := fun h => ((Real.log (ratio h) : ℝ) : EReal)

def chunkDecay : Fin 4 → Ideal .f32 := fun h => ((ratio h ^ 256 : ℝ) : EReal)

theorem log_decay0 : (Named.named κ "log_decay0" 0xBD020AEC#32 : Ideal .f32) = logDecay 0 := by
  unfold logDecay
  rw [show ratio 0 = 31 / 32 from rfl]
  rfl

theorem chunk_decay0 : (Named.named κ "chunk_decay0" 0x399ACCA1#32 : Ideal .f32) = chunkDecay 0 := by
  unfold chunkDecay
  rw [show ratio 0 = 31 / 32 from rfl]
  show ((_ : ℝ) : EReal) = _
  norm_num

theorem log_decay1 : (Named.named κ "log_decay1" 0xBC8102B3#32 : Ideal .f32) = logDecay 1 := by
  unfold logDecay
  rw [show ratio 1 = 63 / 64 from rfl]
  rfl

theorem chunk_decay1 : (Named.named κ "chunk_decay1" 0x3C9160A5#32 : Ideal .f32) = chunkDecay 1 := by
  unfold chunkDecay
  rw [show ratio 1 = 63 / 64 from rfl]
  show ((_ : ℝ) : EReal) = _
  norm_num

theorem log_decay2 : (Named.named κ "log_decay2" 0xBC0080AC#32 : Ideal .f32) = logDecay 2 := by
  unfold logDecay
  rw [show ratio 2 = 127 / 128 from rfl]
  rfl

theorem chunk_decay2 : (Named.named κ "chunk_decay2" 0x3E097FCE#32 : Ideal .f32) = chunkDecay 2 := by
  unfold chunkDecay
  rw [show ratio 2 = 127 / 128 from rfl]
  show ((_ : ℝ) : EReal) = _
  norm_num

theorem log_decay3 : (Named.named κ "log_decay3" 0xBB80402B#32 : Ideal .f32) = logDecay 3 := by
  unfold logDecay
  rw [show ratio 3 = 255 / 256 from rfl]
  rfl

theorem chunk_decay3 : (Named.named κ "chunk_decay3" 0x3EBBFC5D#32 : Ideal .f32) = chunkDecay 3 := by
  unfold chunkDecay
  rw [show ratio 3 = 255 / 256 from rfl]
  show ((_ : ℝ) : EReal) = _
  norm_num

/-- The decays inside a chunk. -/
def innerOf (lg : Ideal .f32) : FVec Ideal S256x256 .f32 :=
  have z : FVec Ideal S256x256 .f32 := broadcast S256x256 (Scalar.ofBits .f32 0x00000000#32 : Ideal .f32)
  have m : FVec Ideal S256x256 .f32 := maximumf (k0_pay3 (F := Ideal)) (broadcast S256x256 (Scalar.ofBits .f32 0x00000000#32 : Ideal .f32))
  have e : FVec Ideal S256x256 .f32 := exp (mulf (broadcast S256x256 lg) m)
  select (cmpf .oge (k0_pay3 (F := Ideal)) z) e (broadcast S256x256 (Scalar.ofBits .f32 0x00000000#32 : Ideal .f32))

theorem innerOf_at (lg : Ideal .f32) (i j : Fin 256) :
    innerOf lg (ix2 i j) = if (0 : EReal) ≤ FloatOps.sitofp (F := Ideal) FTy.f32 (IntOp.subi (BitVec.ofNat 32 i.val) (BitVec.ofNat 32 j.val)) then
      Ideal.exp (lg * max (FloatOps.sitofp (F := Ideal) FTy.f32 (IntOp.subi (BitVec.ofNat 32 i.val) (BitVec.ofNat 32 j.val)) : EReal) 0) else 0 := by
  unfold innerOf k0_pay3
  pointwise

theorem innerOf_isInner (h : Fin 4) (x : Ideal .f32) (hx : x = logDecay h) : IsInner h (innerOf x) := by
  intro i j
  subst hx
  rw [innerOf_at]
  have hs := exp_log_diff (ratio h) (ratio_pos h) i.val j.val _ (sitofp_sub i.val j.val (by omega) (by omega))
  by_cases hc : (0 : EReal) ≤ FloatOps.sitofp (F := Ideal) FTy.f32 (IntOp.subi (BitVec.ofNat 32 i.val) (BitVec.ofNat 32 j.val))
  · rw [if_pos hc]
    exact hs.1 hc
  · rw [if_neg hc]
    exact hs.2 hc

/-- The decays of the queries. -/
def qdecOf (lg : Ideal .f32) : FVec Ideal S256x128 .f32 :=
  have o : FVec Ideal S256x128 .f32 := addf (k0_pay2 (F := Ideal)) (broadcast S256x128 (Scalar.ofBits .f32 0x3F800000#32 : Ideal .f32))
  exp (mulf (broadcast S256x128 lg) o)

theorem qdecOf_at (lg : Ideal .f32) (i : Fin 256) (j : Fin 128) :
    qdecOf lg (ix2 i j) = Ideal.exp (lg * ((FloatOps.sitofp (F := Ideal) FTy.f32 (BitVec.ofNat 32 i.val) : EReal) + 1)) := by
  unfold qdecOf k0_pay2
  pointwise

theorem qdecOf_isQdec (h : Fin 4) (x : Ideal .f32) (hx : x = logDecay h) : IsQdec h (qdecOf x) := by
  intro i j
  subst hx
  rw [qdecOf_at]
  refine exp_log_mul (ratio h) (ratio_pos h) (i.val + 1) _ ?_
  rw [sitofp_nat i.val (by omega)]
  push_cast
  rfl

/-- The decays of the keys, one head's in the first half of the lanes and another's in the second. -/
def kdecOf (a b : Ideal .f32) : FVec Ideal S256x128 .f32 :=
  have c : IVec S256x128 1 := cmpi .slt (iota .tc S256x128 32 [1] iota_S256x128_d1_w32) (broadcast S256x128 64#32)
  have s : FVec Ideal S256x128 .f32 := select c (broadcast S256x128 a) (broadcast S256x128 b)
  have t : FVec Ideal S256x128 .f32 := subf (broadcast S256x128 (Scalar.ofBits .f32 0x437F0000#32 : Ideal .f32)) (k0_pay2 (F := Ideal))
  exp (mulf s t)

theorem kdecOf_at (a b : Ideal .f32) (i : Fin 256) (j : Fin 128) :
    kdecOf a b (ix2 i j) = Ideal.exp (Scalar.select (IntOp.cmpi CmpIPredicate.slt (BitVec.ofNat 32 j.val) 64#32) a b
      * (Ideal.ofBits .f32 1132396544#32 - (FloatOps.sitofp (F := Ideal) FTy.f32 (BitVec.ofNat 32 i.val) : EReal))) := by
  unfold kdecOf k0_pay2
  pointwise

theorem lane_lt (j : Fin 128) : IntOp.cmpi CmpIPredicate.slt (BitVec.ofNat 32 j.val) 64#32 = if j.val / 64 = 0 then 1#1 else 0#1 := by
  revert j
  decide +kernel

theorem lane_first (j : Fin 128) : IntOp.andi (IntOp.cmpi CmpIPredicate.sge (BitVec.ofNat 32 j.val) 0#32)
    (IntOp.cmpi CmpIPredicate.slt (BitVec.ofNat 32 j.val) 64#32) = if j.val / 64 = 0 then 1#1 else 0#1 := by
  revert j
  decide +kernel

theorem lane_second (j : Fin 128) : IntOp.andi (IntOp.cmpi CmpIPredicate.sge (BitVec.ofNat 32 j.val) 64#32)
    (IntOp.cmpi CmpIPredicate.slt (BitVec.ofNat 32 j.val) 128#32) = if j.val / 64 = 1 then 1#1 else 0#1 := by
  revert j
  decide +kernel

theorem kdecOf_isKdec (h h' : Fin 4) (x x' : Ideal .f32) (hx : x = logDecay h) (hx' : x' = logDecay h') :
    IsKdec h 0 (kdecOf x x') ∧ IsKdec h' 1 (kdecOf x x') := by
  subst hx hx'
  have hv (i : Fin 256) : (Ideal.ofBits .f32 1132396544#32 - (FloatOps.sitofp (F := Ideal) FTy.f32 (BitVec.ofNat 32 i.val) : EReal))
      = (((256 - 1 - i.val : ℕ) : ℝ) : EReal) := by
    rw [ofBits_255, sitofp_nat i.val (by omega), ← EReal.coe_sub, Nat.cast_sub (by omega)]
    norm_num
  constructor
  · intro i d
    rw [kdecOf_at, lane_lt, if_pos (by show ((0 : Fin 2).val * 64 + d.val) / 64 = 0; simp)]
    exact exp_log_mul (ratio h) (ratio_pos h) _ _ (hv i)
  · intro i d
    rw [kdecOf_at, lane_lt, if_neg (by show ¬ ((1 : Fin 2).val * 64 + d.val) / 64 = 0; simp)]
    exact exp_log_mul (ratio h') (ratio_pos h') _ _ (hv i)

/-- The lanes of a half. -/
def mineOf (a b : BitVec 32) : IVec S256x128 1 :=
  andi (cmpi .sge (iota .tc S256x128 32 [1] iota_S256x128_d1_w32) (broadcast S256x128 a))
    (cmpi .slt (iota .tc S256x128 32 [1] iota_S256x128_d1_w32) (broadcast S256x128 b))

theorem mineOf_at (a b : BitVec 32) (i : Fin 256) (j : Fin 128) :
    mineOf a b (ix2 i j) = IntOp.andi (IntOp.cmpi CmpIPredicate.sge (BitVec.ofNat 32 j.val) a) (IntOp.cmpi CmpIPredicate.slt (BitVec.ofNat 32 j.val) b) := by
  unfold mineOf
  pointwise

theorem mineOf_first : IsMine 0 (mineOf 0#32 64#32) := fun i l => by
  rw [mineOf_at, lane_first]
  rfl

theorem mineOf_second : IsMine 1 (mineOf 64#32 128#32) := fun i l => by
  rw [mineOf_at, lane_second]
  rfl

/-- The state before the first chunk. -/
def noState : FVec Ideal S128x128 .f32 := broadcast S128x128 (Scalar.ofBits .f32 0x00000000#32 : Ideal .f32)

theorem noState_at (i j : Fin 128) : noState (ix2 i j) = 0 := by
  unfold noState
  pointwise

theorem noState_holds (P : ℕ → ℕ → ℝ) (h : Fin 4) (o : Fin 2) : Holds P h o 0 noState := fun d e => by
  rw [noState_at]
  unfold heldAt
  rw [stateSum_zero]
  rfl

section

variable (x0 x1 : Vec Ideal S2048x256 .bf16) (x2 x3 : Vec Ideal S2048x512 .bf16) (x4 : Vec Ideal S256x1024 .f32) (x5 : Vec Ideal S1x1024 .f32) (x6 : Vec Ideal S1024x2048 .bf16)

theorem inner0 : IsInner 0 (k0_pay160 x0 x1 x2 x3 x4 x5 x6) :=
  show IsInner 0 (innerOf (Named.named κ "log_decay0" 0xBD020AEC#32)) from innerOf_isInner 0 _ log_decay0

theorem qdec0 : IsQdec 0 (k0_pay161 x0 x1 x2 x3 x4 x5 x6) :=
  show IsQdec 0 (qdecOf (Named.named κ "log_decay0" 0xBD020AEC#32)) from qdecOf_isQdec 0 _ log_decay0

theorem mine0 : IsMine 0 (k0_pay162 x0 x1 x2 x3 x4 x5 x6) :=
  show IsMine 0 (mineOf 0#32 64#32) from mineOf_first

theorem none0 (P : ℕ → ℕ → ℝ) : Holds P 0 0 0 (k0_pay163 x0 x1 x2 x3 x4 x5 x6) :=
  show Holds P 0 0 0 noState from noState_holds P 0 0

theorem kdec0 : IsKdec 0 0 (k0_pay176 x0 x1 x2 x3 x4 x5 x6) :=
  show IsKdec 0 0 (kdecOf (Named.named κ "log_decay0" 0xBD020AEC#32) (Named.named κ "log_decay1" 0xBC8102B3#32)) from
    (kdecOf_isKdec 0 1 _ _ log_decay0 log_decay1).1

theorem inner1 : IsInner 1 (k0_pay164 x0 x1 x2 x3 x4 x5 x6) :=
  show IsInner 1 (innerOf (Named.named κ "log_decay1" 0xBC8102B3#32)) from innerOf_isInner 1 _ log_decay1

theorem qdec1 : IsQdec 1 (k0_pay165 x0 x1 x2 x3 x4 x5 x6) :=
  show IsQdec 1 (qdecOf (Named.named κ "log_decay1" 0xBC8102B3#32)) from qdecOf_isQdec 1 _ log_decay1

theorem mine1 : IsMine 1 (k0_pay166 x0 x1 x2 x3 x4 x5 x6) :=
  show IsMine 1 (mineOf 64#32 128#32) from mineOf_second

theorem none1 (P : ℕ → ℕ → ℝ) : Holds P 1 1 0 (k0_pay167 x0 x1 x2 x3 x4 x5 x6) :=
  show Holds P 1 1 0 noState from noState_holds P 1 1

theorem kdec1 : IsKdec 1 1 (k0_pay176 x0 x1 x2 x3 x4 x5 x6) :=
  show IsKdec 1 1 (kdecOf (Named.named κ "log_decay0" 0xBD020AEC#32) (Named.named κ "log_decay1" 0xBC8102B3#32)) from
    (kdecOf_isKdec 0 1 _ _ log_decay0 log_decay1).2

theorem inner2 : IsInner 2 (k0_pay168 x0 x1 x2 x3 x4 x5 x6) :=
  show IsInner 2 (innerOf (Named.named κ "log_decay2" 0xBC0080AC#32)) from innerOf_isInner 2 _ log_decay2

theorem qdec2 : IsQdec 2 (k0_pay169 x0 x1 x2 x3 x4 x5 x6) :=
  show IsQdec 2 (qdecOf (Named.named κ "log_decay2" 0xBC0080AC#32)) from qdecOf_isQdec 2 _ log_decay2

theorem mine2 : IsMine 0 (k0_pay170 x0 x1 x2 x3 x4 x5 x6) :=
  show IsMine 0 (mineOf 0#32 64#32) from mineOf_first

theorem none2 (P : ℕ → ℕ → ℝ) : Holds P 2 0 0 (k0_pay171 x0 x1 x2 x3 x4 x5 x6) :=
  show Holds P 2 0 0 noState from noState_holds P 2 0

theorem kdec2 : IsKdec 2 0 (k0_pay178 x0 x1 x2 x3 x4 x5 x6) :=
  show IsKdec 2 0 (kdecOf (Named.named κ "log_decay2" 0xBC0080AC#32) (Named.named κ "log_decay3" 0xBB80402B#32)) from
    (kdecOf_isKdec 2 3 _ _ log_decay2 log_decay3).1

theorem inner3 : IsInner 3 (k0_pay172 x0 x1 x2 x3 x4 x5 x6) :=
  show IsInner 3 (innerOf (Named.named κ "log_decay3" 0xBB80402B#32)) from innerOf_isInner 3 _ log_decay3

theorem qdec3 : IsQdec 3 (k0_pay173 x0 x1 x2 x3 x4 x5 x6) :=
  show IsQdec 3 (qdecOf (Named.named κ "log_decay3" 0xBB80402B#32)) from qdecOf_isQdec 3 _ log_decay3

theorem mine3 : IsMine 1 (k0_pay174 x0 x1 x2 x3 x4 x5 x6) :=
  show IsMine 1 (mineOf 64#32 128#32) from mineOf_second

theorem none3 (P : ℕ → ℕ → ℝ) : Holds P 3 1 0 (k0_pay175 x0 x1 x2 x3 x4 x5 x6) :=
  show Holds P 3 1 0 noState from noState_holds P 3 1

theorem kdec3 : IsKdec 3 1 (k0_pay178 x0 x1 x2 x3 x4 x5 x6) :=
  show IsKdec 3 1 (kdecOf (Named.named κ "log_decay2" 0xBC0080AC#32) (Named.named κ "log_decay3" 0xBB80402B#32)) from
    (kdecOf_isKdec 2 3 _ _ log_decay2 log_decay3).2

end

end Cert.KernelIdeal.Block

end
-- ==== Proof.L.RetBlock.lean ====
/-
  What one grid point of the `retention` call writes: the gated retention of its batch.
-/
module

public import proofs.«01_k».proof.Proof.L.RetTables

@[expose] public section

set_option maxRecDepth 16384

noncomputable section

namespace Cert.KernelIdeal.Block

open Cert.KernelIdeal Cert.KernelIdeal.Gen Cert.Layer Idealize.ShloMosaic

/-- What the four blocks of the projections hold: row `s`, column `c` of `P`. -/
structure Holding (P : ℕ → ℕ → ℝ) (x0 x1 : Vec Ideal S2048x256 .bf16) (x2 x3 : Vec Ideal S2048x512 .bf16) : Prop where
  q : ∀ (s : Fin 2048) (c : Fin 256), x0 (ix2 s c) = ((P s.val (1536 + c.val) : ℝ) : EReal)
  k : ∀ (s : Fin 2048) (c : Fin 256), x1 (ix2 s c) = ((P s.val (1792 + c.val) : ℝ) : EReal)
  v : ∀ (s : Fin 2048) (c : Fin 512), x2 (ix2 s c) = ((P s.val (2048 + c.val) : ℝ) : EReal)
  g : ∀ (s : Fin 2048) (c : Fin 512), x3 (ix2 s c) = ((P s.val (2560 + c.val) : ℝ) : EReal)

section

variable {P : ℕ → ℕ → ℝ} {x0 x1 : Vec Ideal S2048x256 .bf16} {x2 x3 : Vec Ideal S2048x512 .bf16}

theorem half0 : Half 0 0 0 := rfl
theorem half1 : Half 1 0 1 := rfl
theorem half2 : Half 2 1 0 := rfl
theorem half3 : Half 3 1 1 := rfl

theorem reads_x0_r0_4 (H : Holding P x0 x1 x2 x3) : Reads P 0 (1536 + 0) (View.ld x0 r0_4) := fun i l => by
  have e : View.ld x0 r0_4 (ix2 i l) = x0 (ix2 (⟨0 + i.val, by omega⟩ : Fin 2048) (⟨0 + l.val, by omega⟩ : Fin 256)) := by
    pointwise [r0_4]
    first | done | rfl | exact congrArg x0 (congrArg₂ ix2 (Fin.ext (by simp)) (Fin.ext (by simp)))
  rw [e, H.q, Nat.add_assoc]

theorem reads_x1_r0_4 (H : Holding P x0 x1 x2 x3) : Reads P 0 (1792 + 0) (View.ld x1 r0_4) := fun i l => by
  have e : View.ld x1 r0_4 (ix2 i l) = x1 (ix2 (⟨0 + i.val, by omega⟩ : Fin 2048) (⟨0 + l.val, by omega⟩ : Fin 256)) := by
    pointwise [r0_4]
    first | done | rfl | exact congrArg x1 (congrArg₂ ix2 (Fin.ext (by simp)) (Fin.ext (by simp)))
  rw [e, H.k, Nat.add_assoc]

theorem reads_x0_r0_5 (H : Holding P x0 x1 x2 x3) : Reads P 0 (1536 + 128) (View.ld x0 r0_5) := fun i l => by
  have e : View.ld x0 r0_5 (ix2 i l) = x0 (ix2 (⟨0 + i.val, by omega⟩ : Fin 2048) (⟨128 + l.val, by omega⟩ : Fin 256)) := by
    pointwise [r0_5]
    first | done | rfl | exact congrArg x0 (congrArg₂ ix2 (Fin.ext (by simp)) (Fin.ext (by simp)))
  rw [e, H.q, Nat.add_assoc]

theorem reads_x1_r0_5 (H : Holding P x0 x1 x2 x3) : Reads P 0 (1792 + 128) (View.ld x1 r0_5) := fun i l => by
  have e : View.ld x1 r0_5 (ix2 i l) = x1 (ix2 (⟨0 + i.val, by omega⟩ : Fin 2048) (⟨128 + l.val, by omega⟩ : Fin 256)) := by
    pointwise [r0_5]
    first | done | rfl | exact congrArg x1 (congrArg₂ ix2 (Fin.ext (by simp)) (Fin.ext (by simp)))
  rw [e, H.k, Nat.add_assoc]

theorem reads_x2_r0_6 (H : Holding P x0 x1 x2 x3) : Reads P 0 (2048 + 0) (View.ld x2 r0_6) := fun i l => by
  have e : View.ld x2 r0_6 (ix2 i l) = x2 (ix2 (⟨0 + i.val, by omega⟩ : Fin 2048) (⟨0 + l.val, by omega⟩ : Fin 512)) := by
    pointwise [r0_6]
    first | done | rfl | exact congrArg x2 (congrArg₂ ix2 (Fin.ext (by simp)) (Fin.ext (by simp)))
  rw [e, H.v, Nat.add_assoc]

theorem reads_x3_r0_6 (H : Holding P x0 x1 x2 x3) : Reads P 0 (2560 + 0) (View.ld x3 r0_6) := fun i l => by
  have e : View.ld x3 r0_6 (ix2 i l) = x3 (ix2 (⟨0 + i.val, by omega⟩ : Fin 2048) (⟨0 + l.val, by omega⟩ : Fin 512)) := by
    pointwise [r0_6]
    first | done | rfl | exact congrArg x3 (congrArg₂ ix2 (Fin.ext (by simp)) (Fin.ext (by simp)))
  rw [e, H.g, Nat.add_assoc]

theorem reads_x2_r0_7 (H : Holding P x0 x1 x2 x3) : Reads P 0 (2048 + 128) (View.ld x2 r0_7) := fun i l => by
  have e : View.ld x2 r0_7 (ix2 i l) = x2 (ix2 (⟨0 + i.val, by omega⟩ : Fin 2048) (⟨128 + l.val, by omega⟩ : Fin 512)) := by
    pointwise [r0_7]
    first | done | rfl | exact congrArg x2 (congrArg₂ ix2 (Fin.ext (by simp)) (Fin.ext (by simp)))
  rw [e, H.v, Nat.add_assoc]

theorem reads_x3_r0_7 (H : Holding P x0 x1 x2 x3) : Reads P 0 (2560 + 128) (View.ld x3 r0_7) := fun i l => by
  have e : View.ld x3 r0_7 (ix2 i l) = x3 (ix2 (⟨0 + i.val, by omega⟩ : Fin 2048) (⟨128 + l.val, by omega⟩ : Fin 512)) := by
    pointwise [r0_7]
    first | done | rfl | exact congrArg x3 (congrArg₂ ix2 (Fin.ext (by simp)) (Fin.ext (by simp)))
  rw [e, H.g, Nat.add_assoc]

theorem reads_x2_r0_8 (H : Holding P x0 x1 x2 x3) : Reads P 0 (2048 + 256) (View.ld x2 r0_8) := fun i l => by
  have e : View.ld x2 r0_8 (ix2 i l) = x2 (ix2 (⟨0 + i.val, by omega⟩ : Fin 2048) (⟨256 + l.val, by omega⟩ : Fin 512)) := by
    pointwise [r0_8]
    first | done | rfl | exact congrArg x2 (congrArg₂ ix2 (Fin.ext (by simp)) (Fin.ext (by simp)))
  rw [e, H.v, Nat.add_assoc]

theorem reads_x3_r0_8 (H : Holding P x0 x1 x2 x3) : Reads P 0 (2560 + 256) (View.ld x3 r0_8) := fun i l => by
  have e : View.ld x3 r0_8 (ix2 i l) = x3 (ix2 (⟨0 + i.val, by omega⟩ : Fin 2048) (⟨256 + l.val, by omega⟩ : Fin 512)) := by
    pointwise [r0_8]
    first | done | rfl | exact congrArg x3 (congrArg₂ ix2 (Fin.ext (by simp)) (Fin.ext (by simp)))
  rw [e, H.g, Nat.add_assoc]

theorem reads_x2_r0_9 (H : Holding P x0 x1 x2 x3) : Reads P 0 (2048 + 384) (View.ld x2 r0_9) := fun i l => by
  have e : View.ld x2 r0_9 (ix2 i l) = x2 (ix2 (⟨0 + i.val, by omega⟩ : Fin 2048) (⟨384 + l.val, by omega⟩ : Fin 512)) := by
    pointwise [r0_9]
    first | done | rfl | exact congrArg x2 (congrArg₂ ix2 (Fin.ext (by simp)) (Fin.ext (by simp)))
  rw [e, H.v, Nat.add_assoc]

theorem reads_x3_r0_9 (H : Holding P x0 x1 x2 x3) : Reads P 0 (2560 + 384) (View.ld x3 r0_9) := fun i l => by
  have e : View.ld x3 r0_9 (ix2 i l) = x3 (ix2 (⟨0 + i.val, by omega⟩ : Fin 2048) (⟨384 + l.val, by omega⟩ : Fin 512)) := by
    pointwise [r0_9]
    first | done | rfl | exact congrArg x3 (congrArg₂ ix2 (Fin.ext (by simp)) (Fin.ext (by simp)))
  rw [e, H.g, Nat.add_assoc]

theorem reads_x0_r0_10 (H : Holding P x0 x1 x2 x3) : Reads P 256 (1536 + 0) (View.ld x0 r0_10) := fun i l => by
  have e : View.ld x0 r0_10 (ix2 i l) = x0 (ix2 (⟨256 + i.val, by omega⟩ : Fin 2048) (⟨0 + l.val, by omega⟩ : Fin 256)) := by
    pointwise [r0_10]
    first | done | rfl | exact congrArg x0 (congrArg₂ ix2 (Fin.ext (by simp)) (Fin.ext (by simp)))
  rw [e, H.q, Nat.add_assoc]

theorem reads_x1_r0_10 (H : Holding P x0 x1 x2 x3) : Reads P 256 (1792 + 0) (View.ld x1 r0_10) := fun i l => by
  have e : View.ld x1 r0_10 (ix2 i l) = x1 (ix2 (⟨256 + i.val, by omega⟩ : Fin 2048) (⟨0 + l.val, by omega⟩ : Fin 256)) := by
    pointwise [r0_10]
    first | done | rfl | exact congrArg x1 (congrArg₂ ix2 (Fin.ext (by simp)) (Fin.ext (by simp)))
  rw [e, H.k, Nat.add_assoc]

theorem reads_x0_r0_11 (H : Holding P x0 x1 x2 x3) : Reads P 256 (1536 + 128) (View.ld x0 r0_11) := fun i l => by
  have e : View.ld x0 r0_11 (ix2 i l) = x0 (ix2 (⟨256 + i.val, by omega⟩ : Fin 2048) (⟨128 + l.val, by omega⟩ : Fin 256)) := by
    pointwise [r0_11]
    first | done | rfl | exact congrArg x0 (congrArg₂ ix2 (Fin.ext (by simp)) (Fin.ext (by simp)))
  rw [e, H.q, Nat.add_assoc]

theorem reads_x1_r0_11 (H : Holding P x0 x1 x2 x3) : Reads P 256 (1792 + 128) (View.ld x1 r0_11) := fun i l => by
  have e : View.ld x1 r0_11 (ix2 i l) = x1 (ix2 (⟨256 + i.val, by omega⟩ : Fin 2048) (⟨128 + l.val, by omega⟩ : Fin 256)) := by
    pointwise [r0_11]
    first | done | rfl | exact congrArg x1 (congrArg₂ ix2 (Fin.ext (by simp)) (Fin.ext (by simp)))
  rw [e, H.k, Nat.add_assoc]

theorem reads_x2_r0_12 (H : Holding P x0 x1 x2 x3) : Reads P 256 (2048 + 0) (View.ld x2 r0_12) := fun i l => by
  have e : View.ld x2 r0_12 (ix2 i l) = x2 (ix2 (⟨256 + i.val, by omega⟩ : Fin 2048) (⟨0 + l.val, by omega⟩ : Fin 512)) := by
    pointwise [r0_12]
    first | done | rfl | exact congrArg x2 (congrArg₂ ix2 (Fin.ext (by simp)) (Fin.ext (by simp)))
  rw [e, H.v, Nat.add_assoc]

theorem reads_x3_r0_12 (H : Holding P x0 x1 x2 x3) : Reads P 256 (2560 + 0) (View.ld x3 r0_12) := fun i l => by
  have e : View.ld x3 r0_12 (ix2 i l) = x3 (ix2 (⟨256 + i.val, by omega⟩ : Fin 2048) (⟨0 + l.val, by omega⟩ : Fin 512)) := by
    pointwise [r0_12]
    first | done | rfl | exact congrArg x3 (congrArg₂ ix2 (Fin.ext (by simp)) (Fin.ext (by simp)))
  rw [e, H.g, Nat.add_assoc]

theorem reads_x2_r0_13 (H : Holding P x0 x1 x2 x3) : Reads P 256 (2048 + 128) (View.ld x2 r0_13) := fun i l => by
  have e : View.ld x2 r0_13 (ix2 i l) = x2 (ix2 (⟨256 + i.val, by omega⟩ : Fin 2048) (⟨128 + l.val, by omega⟩ : Fin 512)) := by
    pointwise [r0_13]
    first | done | rfl | exact congrArg x2 (congrArg₂ ix2 (Fin.ext (by simp)) (Fin.ext (by simp)))
  rw [e, H.v, Nat.add_assoc]

theorem reads_x3_r0_13 (H : Holding P x0 x1 x2 x3) : Reads P 256 (2560 + 128) (View.ld x3 r0_13) := fun i l => by
  have e : View.ld x3 r0_13 (ix2 i l) = x3 (ix2 (⟨256 + i.val, by omega⟩ : Fin 2048) (⟨128 + l.val, by omega⟩ : Fin 512)) := by
    pointwise [r0_13]
    first | done | rfl | exact congrArg x3 (congrArg₂ ix2 (Fin.ext (by simp)) (Fin.ext (by simp)))
  rw [e, H.g, Nat.add_assoc]

theorem reads_x2_r0_14 (H : Holding P x0 x1 x2 x3) : Reads P 256 (2048 + 256) (View.ld x2 r0_14) := fun i l => by
  have e : View.ld x2 r0_14 (ix2 i l) = x2 (ix2 (⟨256 + i.val, by omega⟩ : Fin 2048) (⟨256 + l.val, by omega⟩ : Fin 512)) := by
    pointwise [r0_14]
    first | done | rfl | exact congrArg x2 (congrArg₂ ix2 (Fin.ext (by simp)) (Fin.ext (by simp)))
  rw [e, H.v, Nat.add_assoc]

theorem reads_x3_r0_14 (H : Holding P x0 x1 x2 x3) : Reads P 256 (2560 + 256) (View.ld x3 r0_14) := fun i l => by
  have e : View.ld x3 r0_14 (ix2 i l) = x3 (ix2 (⟨256 + i.val, by omega⟩ : Fin 2048) (⟨256 + l.val, by omega⟩ : Fin 512)) := by
    pointwise [r0_14]
    first | done | rfl | exact congrArg x3 (congrArg₂ ix2 (Fin.ext (by simp)) (Fin.ext (by simp)))
  rw [e, H.g, Nat.add_assoc]

theorem reads_x2_r0_15 (H : Holding P x0 x1 x2 x3) : Reads P 256 (2048 + 384) (View.ld x2 r0_15) := fun i l => by
  have e : View.ld x2 r0_15 (ix2 i l) = x2 (ix2 (⟨256 + i.val, by omega⟩ : Fin 2048) (⟨384 + l.val, by omega⟩ : Fin 512)) := by
    pointwise [r0_15]
    first | done | rfl | exact congrArg x2 (congrArg₂ ix2 (Fin.ext (by simp)) (Fin.ext (by simp)))
  rw [e, H.v, Nat.add_assoc]

theorem reads_x3_r0_15 (H : Holding P x0 x1 x2 x3) : Reads P 256 (2560 + 384) (View.ld x3 r0_15) := fun i l => by
  have e : View.ld x3 r0_15 (ix2 i l) = x3 (ix2 (⟨256 + i.val, by omega⟩ : Fin 2048) (⟨384 + l.val, by omega⟩ : Fin 512)) := by
    pointwise [r0_15]
    first | done | rfl | exact congrArg x3 (congrArg₂ ix2 (Fin.ext (by simp)) (Fin.ext (by simp)))
  rw [e, H.g, Nat.add_assoc]

theorem reads_x0_r0_16 (H : Holding P x0 x1 x2 x3) : Reads P 512 (1536 + 0) (View.ld x0 r0_16) := fun i l => by
  have e : View.ld x0 r0_16 (ix2 i l) = x0 (ix2 (⟨512 + i.val, by omega⟩ : Fin 2048) (⟨0 + l.val, by omega⟩ : Fin 256)) := by
    pointwise [r0_16]
    first | done | rfl | exact congrArg x0 (congrArg₂ ix2 (Fin.ext (by simp)) (Fin.ext (by simp)))
  rw [e, H.q, Nat.add_assoc]

theorem reads_x1_r0_16 (H : Holding P x0 x1 x2 x3) : Reads P 512 (1792 + 0) (View.ld x1 r0_16) := fun i l => by
  have e : View.ld x1 r0_16 (ix2 i l) = x1 (ix2 (⟨512 + i.val, by omega⟩ : Fin 2048) (⟨0 + l.val, by omega⟩ : Fin 256)) := by
    pointwise [r0_16]
    first | done | rfl | exact congrArg x1 (congrArg₂ ix2 (Fin.ext (by simp)) (Fin.ext (by simp)))
  rw [e, H.k, Nat.add_assoc]

theorem reads_x0_r0_17 (H : Holding P x0 x1 x2 x3) : Reads P 512 (1536 + 128) (View.ld x0 r0_17) := fun i l => by
  have e : View.ld x0 r0_17 (ix2 i l) = x0 (ix2 (⟨512 + i.val, by omega⟩ : Fin 2048) (⟨128 + l.val, by omega⟩ : Fin 256)) := by
    pointwise [r0_17]
    first | done | rfl | exact congrArg x0 (congrArg₂ ix2 (Fin.ext (by simp)) (Fin.ext (by simp)))
  rw [e, H.q, Nat.add_assoc]

theorem reads_x1_r0_17 (H : Holding P x0 x1 x2 x3) : Reads P 512 (1792 + 128) (View.ld x1 r0_17) := fun i l => by
  have e : View.ld x1 r0_17 (ix2 i l) = x1 (ix2 (⟨512 + i.val, by omega⟩ : Fin 2048) (⟨128 + l.val, by omega⟩ : Fin 256)) := by
    pointwise [r0_17]
    first | done | rfl | exact congrArg x1 (congrArg₂ ix2 (Fin.ext (by simp)) (Fin.ext (by simp)))
  rw [e, H.k, Nat.add_assoc]

theorem reads_x2_r0_18 (H : Holding P x0 x1 x2 x3) : Reads P 512 (2048 + 0) (View.ld x2 r0_18) := fun i l => by
  have e : View.ld x2 r0_18 (ix2 i l) = x2 (ix2 (⟨512 + i.val, by omega⟩ : Fin 2048) (⟨0 + l.val, by omega⟩ : Fin 512)) := by
    pointwise [r0_18]
    first | done | rfl | exact congrArg x2 (congrArg₂ ix2 (Fin.ext (by simp)) (Fin.ext (by simp)))
  rw [e, H.v, Nat.add_assoc]

theorem reads_x3_r0_18 (H : Holding P x0 x1 x2 x3) : Reads P 512 (2560 + 0) (View.ld x3 r0_18) := fun i l => by
  have e : View.ld x3 r0_18 (ix2 i l) = x3 (ix2 (⟨512 + i.val, by omega⟩ : Fin 2048) (⟨0 + l.val, by omega⟩ : Fin 512)) := by
    pointwise [r0_18]
    first | done | rfl | exact congrArg x3 (congrArg₂ ix2 (Fin.ext (by simp)) (Fin.ext (by simp)))
  rw [e, H.g, Nat.add_assoc]

theorem reads_x2_r0_19 (H : Holding P x0 x1 x2 x3) : Reads P 512 (2048 + 128) (View.ld x2 r0_19) := fun i l => by
  have e : View.ld x2 r0_19 (ix2 i l) = x2 (ix2 (⟨512 + i.val, by omega⟩ : Fin 2048) (⟨128 + l.val, by omega⟩ : Fin 512)) := by
    pointwise [r0_19]
    first | done | rfl | exact congrArg x2 (congrArg₂ ix2 (Fin.ext (by simp)) (Fin.ext (by simp)))
  rw [e, H.v, Nat.add_assoc]

theorem reads_x3_r0_19 (H : Holding P x0 x1 x2 x3) : Reads P 512 (2560 + 128) (View.ld x3 r0_19) := fun i l => by
  have e : View.ld x3 r0_19 (ix2 i l) = x3 (ix2 (⟨512 + i.val, by omega⟩ : Fin 2048) (⟨128 + l.val, by omega⟩ : Fin 512)) := by
    pointwise [r0_19]
    first | done | rfl | exact congrArg x3 (congrArg₂ ix2 (Fin.ext (by simp)) (Fin.ext (by simp)))
  rw [e, H.g, Nat.add_assoc]

theorem reads_x2_r0_20 (H : Holding P x0 x1 x2 x3) : Reads P 512 (2048 + 256) (View.ld x2 r0_20) := fun i l => by
  have e : View.ld x2 r0_20 (ix2 i l) = x2 (ix2 (⟨512 + i.val, by omega⟩ : Fin 2048) (⟨256 + l.val, by omega⟩ : Fin 512)) := by
    pointwise [r0_20]
    first | done | rfl | exact congrArg x2 (congrArg₂ ix2 (Fin.ext (by simp)) (Fin.ext (by simp)))
  rw [e, H.v, Nat.add_assoc]

theorem reads_x3_r0_20 (H : Holding P x0 x1 x2 x3) : Reads P 512 (2560 + 256) (View.ld x3 r0_20) := fun i l => by
  have e : View.ld x3 r0_20 (ix2 i l) = x3 (ix2 (⟨512 + i.val, by omega⟩ : Fin 2048) (⟨256 + l.val, by omega⟩ : Fin 512)) := by
    pointwise [r0_20]
    first | done | rfl | exact congrArg x3 (congrArg₂ ix2 (Fin.ext (by simp)) (Fin.ext (by simp)))
  rw [e, H.g, Nat.add_assoc]

theorem reads_x2_r0_21 (H : Holding P x0 x1 x2 x3) : Reads P 512 (2048 + 384) (View.ld x2 r0_21) := fun i l => by
  have e : View.ld x2 r0_21 (ix2 i l) = x2 (ix2 (⟨512 + i.val, by omega⟩ : Fin 2048) (⟨384 + l.val, by omega⟩ : Fin 512)) := by
    pointwise [r0_21]
    first | done | rfl | exact congrArg x2 (congrArg₂ ix2 (Fin.ext (by simp)) (Fin.ext (by simp)))
  rw [e, H.v, Nat.add_assoc]

theorem reads_x3_r0_21 (H : Holding P x0 x1 x2 x3) : Reads P 512 (2560 + 384) (View.ld x3 r0_21) := fun i l => by
  have e : View.ld x3 r0_21 (ix2 i l) = x3 (ix2 (⟨512 + i.val, by omega⟩ : Fin 2048) (⟨384 + l.val, by omega⟩ : Fin 512)) := by
    pointwise [r0_21]
    first | done | rfl | exact congrArg x3 (congrArg₂ ix2 (Fin.ext (by simp)) (Fin.ext (by simp)))
  rw [e, H.g, Nat.add_assoc]

theorem reads_x0_r0_22 (H : Holding P x0 x1 x2 x3) : Reads P 768 (1536 + 0) (View.ld x0 r0_22) := fun i l => by
  have e : View.ld x0 r0_22 (ix2 i l) = x0 (ix2 (⟨768 + i.val, by omega⟩ : Fin 2048) (⟨0 + l.val, by omega⟩ : Fin 256)) := by
    pointwise [r0_22]
    first | done | rfl | exact congrArg x0 (congrArg₂ ix2 (Fin.ext (by simp)) (Fin.ext (by simp)))
  rw [e, H.q, Nat.add_assoc]

theorem reads_x1_r0_22 (H : Holding P x0 x1 x2 x3) : Reads P 768 (1792 + 0) (View.ld x1 r0_22) := fun i l => by
  have e : View.ld x1 r0_22 (ix2 i l) = x1 (ix2 (⟨768 + i.val, by omega⟩ : Fin 2048) (⟨0 + l.val, by omega⟩ : Fin 256)) := by
    pointwise [r0_22]
    first | done | rfl | exact congrArg x1 (congrArg₂ ix2 (Fin.ext (by simp)) (Fin.ext (by simp)))
  rw [e, H.k, Nat.add_assoc]

theorem reads_x0_r0_23 (H : Holding P x0 x1 x2 x3) : Reads P 768 (1536 + 128) (View.ld x0 r0_23) := fun i l => by
  have e : View.ld x0 r0_23 (ix2 i l) = x0 (ix2 (⟨768 + i.val, by omega⟩ : Fin 2048) (⟨128 + l.val, by omega⟩ : Fin 256)) := by
    pointwise [r0_23]
    first | done | rfl | exact congrArg x0 (congrArg₂ ix2 (Fin.ext (by simp)) (Fin.ext (by simp)))
  rw [e, H.q, Nat.add_assoc]

theorem reads_x1_r0_23 (H : Holding P x0 x1 x2 x3) : Reads P 768 (1792 + 128) (View.ld x1 r0_23) := fun i l => by
  have e : View.ld x1 r0_23 (ix2 i l) = x1 (ix2 (⟨768 + i.val, by omega⟩ : Fin 2048) (⟨128 + l.val, by omega⟩ : Fin 256)) := by
    pointwise [r0_23]
    first | done | rfl | exact congrArg x1 (congrArg₂ ix2 (Fin.ext (by simp)) (Fin.ext (by simp)))
  rw [e, H.k, Nat.add_assoc]

theorem reads_x2_r0_24 (H : Holding P x0 x1 x2 x3) : Reads P 768 (2048 + 0) (View.ld x2 r0_24) := fun i l => by
  have e : View.ld x2 r0_24 (ix2 i l) = x2 (ix2 (⟨768 + i.val, by omega⟩ : Fin 2048) (⟨0 + l.val, by omega⟩ : Fin 512)) := by
    pointwise [r0_24]
    first | done | rfl | exact congrArg x2 (congrArg₂ ix2 (Fin.ext (by simp)) (Fin.ext (by simp)))
  rw [e, H.v, Nat.add_assoc]

theorem reads_x3_r0_24 (H : Holding P x0 x1 x2 x3) : Reads P 768 (2560 + 0) (View.ld x3 r0_24) := fun i l => by
  have e : View.ld x3 r0_24 (ix2 i l) = x3 (ix2 (⟨768 + i.val, by omega⟩ : Fin 2048) (⟨0 + l.val, by omega⟩ : Fin 512)) := by
    pointwise [r0_24]
    first | done | rfl | exact congrArg x3 (congrArg₂ ix2 (Fin.ext (by simp)) (Fin.ext (by simp)))
  rw [e, H.g, Nat.add_assoc]

theorem reads_x2_r0_25 (H : Holding P x0 x1 x2 x3) : Reads P 768 (2048 + 128) (View.ld x2 r0_25) := fun i l => by
  have e : View.ld x2 r0_25 (ix2 i l) = x2 (ix2 (⟨768 + i.val, by omega⟩ : Fin 2048) (⟨128 + l.val, by omega⟩ : Fin 512)) := by
    pointwise [r0_25]
    first | done | rfl | exact congrArg x2 (congrArg₂ ix2 (Fin.ext (by simp)) (Fin.ext (by simp)))
  rw [e, H.v, Nat.add_assoc]

theorem reads_x3_r0_25 (H : Holding P x0 x1 x2 x3) : Reads P 768 (2560 + 128) (View.ld x3 r0_25) := fun i l => by
  have e : View.ld x3 r0_25 (ix2 i l) = x3 (ix2 (⟨768 + i.val, by omega⟩ : Fin 2048) (⟨128 + l.val, by omega⟩ : Fin 512)) := by
    pointwise [r0_25]
    first | done | rfl | exact congrArg x3 (congrArg₂ ix2 (Fin.ext (by simp)) (Fin.ext (by simp)))
  rw [e, H.g, Nat.add_assoc]

theorem reads_x2_r0_26 (H : Holding P x0 x1 x2 x3) : Reads P 768 (2048 + 256) (View.ld x2 r0_26) := fun i l => by
  have e : View.ld x2 r0_26 (ix2 i l) = x2 (ix2 (⟨768 + i.val, by omega⟩ : Fin 2048) (⟨256 + l.val, by omega⟩ : Fin 512)) := by
    pointwise [r0_26]
    first | done | rfl | exact congrArg x2 (congrArg₂ ix2 (Fin.ext (by simp)) (Fin.ext (by simp)))
  rw [e, H.v, Nat.add_assoc]

theorem reads_x3_r0_26 (H : Holding P x0 x1 x2 x3) : Reads P 768 (2560 + 256) (View.ld x3 r0_26) := fun i l => by
  have e : View.ld x3 r0_26 (ix2 i l) = x3 (ix2 (⟨768 + i.val, by omega⟩ : Fin 2048) (⟨256 + l.val, by omega⟩ : Fin 512)) := by
    pointwise [r0_26]
    first | done | rfl | exact congrArg x3 (congrArg₂ ix2 (Fin.ext (by simp)) (Fin.ext (by simp)))
  rw [e, H.g, Nat.add_assoc]

theorem reads_x2_r0_27 (H : Holding P x0 x1 x2 x3) : Reads P 768 (2048 + 384) (View.ld x2 r0_27) := fun i l => by
  have e : View.ld x2 r0_27 (ix2 i l) = x2 (ix2 (⟨768 + i.val, by omega⟩ : Fin 2048) (⟨384 + l.val, by omega⟩ : Fin 512)) := by
    pointwise [r0_27]
    first | done | rfl | exact congrArg x2 (congrArg₂ ix2 (Fin.ext (by simp)) (Fin.ext (by simp)))
  rw [e, H.v, Nat.add_assoc]

theorem reads_x3_r0_27 (H : Holding P x0 x1 x2 x3) : Reads P 768 (2560 + 384) (View.ld x3 r0_27) := fun i l => by
  have e : View.ld x3 r0_27 (ix2 i l) = x3 (ix2 (⟨768 + i.val, by omega⟩ : Fin 2048) (⟨384 + l.val, by omega⟩ : Fin 512)) := by
    pointwise [r0_27]
    first | done | rfl | exact congrArg x3 (congrArg₂ ix2 (Fin.ext (by simp)) (Fin.ext (by simp)))
  rw [e, H.g, Nat.add_assoc]

theorem reads_x0_r0_28 (H : Holding P x0 x1 x2 x3) : Reads P 1024 (1536 + 0) (View.ld x0 r0_28) := fun i l => by
  have e : View.ld x0 r0_28 (ix2 i l) = x0 (ix2 (⟨1024 + i.val, by omega⟩ : Fin 2048) (⟨0 + l.val, by omega⟩ : Fin 256)) := by
    pointwise [r0_28]
    first | done | rfl | exact congrArg x0 (congrArg₂ ix2 (Fin.ext (by simp)) (Fin.ext (by simp)))
  rw [e, H.q, Nat.add_assoc]

theorem reads_x1_r0_28 (H : Holding P x0 x1 x2 x3) : Reads P 1024 (1792 + 0) (View.ld x1 r0_28) := fun i l => by
  have e : View.ld x1 r0_28 (ix2 i l) = x1 (ix2 (⟨1024 + i.val, by omega⟩ : Fin 2048) (⟨0 + l.val, by omega⟩ : Fin 256)) := by
    pointwise [r0_28]
    first | done | rfl | exact congrArg x1 (congrArg₂ ix2 (Fin.ext (by simp)) (Fin.ext (by simp)))
  rw [e, H.k, Nat.add_assoc]

theorem reads_x0_r0_29 (H : Holding P x0 x1 x2 x3) : Reads P 1024 (1536 + 128) (View.ld x0 r0_29) := fun i l => by
  have e : View.ld x0 r0_29 (ix2 i l) = x0 (ix2 (⟨1024 + i.val, by omega⟩ : Fin 2048) (⟨128 + l.val, by omega⟩ : Fin 256)) := by
    pointwise [r0_29]
    first | done | rfl | exact congrArg x0 (congrArg₂ ix2 (Fin.ext (by simp)) (Fin.ext (by simp)))
  rw [e, H.q, Nat.add_assoc]

theorem reads_x1_r0_29 (H : Holding P x0 x1 x2 x3) : Reads P 1024 (1792 + 128) (View.ld x1 r0_29) := fun i l => by
  have e : View.ld x1 r0_29 (ix2 i l) = x1 (ix2 (⟨1024 + i.val, by omega⟩ : Fin 2048) (⟨128 + l.val, by omega⟩ : Fin 256)) := by
    pointwise [r0_29]
    first | done | rfl | exact congrArg x1 (congrArg₂ ix2 (Fin.ext (by simp)) (Fin.ext (by simp)))
  rw [e, H.k, Nat.add_assoc]

theorem reads_x2_r0_30 (H : Holding P x0 x1 x2 x3) : Reads P 1024 (2048 + 0) (View.ld x2 r0_30) := fun i l => by
  have e : View.ld x2 r0_30 (ix2 i l) = x2 (ix2 (⟨1024 + i.val, by omega⟩ : Fin 2048) (⟨0 + l.val, by omega⟩ : Fin 512)) := by
    pointwise [r0_30]
    first | done | rfl | exact congrArg x2 (congrArg₂ ix2 (Fin.ext (by simp)) (Fin.ext (by simp)))
  rw [e, H.v, Nat.add_assoc]

theorem reads_x3_r0_30 (H : Holding P x0 x1 x2 x3) : Reads P 1024 (2560 + 0) (View.ld x3 r0_30) := fun i l => by
  have e : View.ld x3 r0_30 (ix2 i l) = x3 (ix2 (⟨1024 + i.val, by omega⟩ : Fin 2048) (⟨0 + l.val, by omega⟩ : Fin 512)) := by
    pointwise [r0_30]
    first | done | rfl | exact congrArg x3 (congrArg₂ ix2 (Fin.ext (by simp)) (Fin.ext (by simp)))
  rw [e, H.g, Nat.add_assoc]

theorem reads_x2_r0_31 (H : Holding P x0 x1 x2 x3) : Reads P 1024 (2048 + 128) (View.ld x2 r0_31) := fun i l => by
  have e : View.ld x2 r0_31 (ix2 i l) = x2 (ix2 (⟨1024 + i.val, by omega⟩ : Fin 2048) (⟨128 + l.val, by omega⟩ : Fin 512)) := by
    pointwise [r0_31]
    first | done | rfl | exact congrArg x2 (congrArg₂ ix2 (Fin.ext (by simp)) (Fin.ext (by simp)))
  rw [e, H.v, Nat.add_assoc]

theorem reads_x3_r0_31 (H : Holding P x0 x1 x2 x3) : Reads P 1024 (2560 + 128) (View.ld x3 r0_31) := fun i l => by
  have e : View.ld x3 r0_31 (ix2 i l) = x3 (ix2 (⟨1024 + i.val, by omega⟩ : Fin 2048) (⟨128 + l.val, by omega⟩ : Fin 512)) := by
    pointwise [r0_31]
    first | done | rfl | exact congrArg x3 (congrArg₂ ix2 (Fin.ext (by simp)) (Fin.ext (by simp)))
  rw [e, H.g, Nat.add_assoc]

theorem reads_x2_r0_32 (H : Holding P x0 x1 x2 x3) : Reads P 1024 (2048 + 256) (View.ld x2 r0_32) := fun i l => by
  have e : View.ld x2 r0_32 (ix2 i l) = x2 (ix2 (⟨1024 + i.val, by omega⟩ : Fin 2048) (⟨256 + l.val, by omega⟩ : Fin 512)) := by
    pointwise [r0_32]
    first | done | rfl | exact congrArg x2 (congrArg₂ ix2 (Fin.ext (by simp)) (Fin.ext (by simp)))
  rw [e, H.v, Nat.add_assoc]

theorem reads_x3_r0_32 (H : Holding P x0 x1 x2 x3) : Reads P 1024 (2560 + 256) (View.ld x3 r0_32) := fun i l => by
  have e : View.ld x3 r0_32 (ix2 i l) = x3 (ix2 (⟨1024 + i.val, by omega⟩ : Fin 2048) (⟨256 + l.val, by omega⟩ : Fin 512)) := by
    pointwise [r0_32]
    first | done | rfl | exact congrArg x3 (congrArg₂ ix2 (Fin.ext (by simp)) (Fin.ext (by simp)))
  rw [e, H.g, Nat.add_assoc]

theorem reads_x2_r0_33 (H : Holding P x0 x1 x2 x3) : Reads P 1024 (2048 + 384) (View.ld x2 r0_33) := fun i l => by
  have e : View.ld x2 r0_33 (ix2 i l) = x2 (ix2 (⟨1024 + i.val, by omega⟩ : Fin 2048) (⟨384 + l.val, by omega⟩ : Fin 512)) := by
    pointwise [r0_33]
    first | done | rfl | exact congrArg x2 (congrArg₂ ix2 (Fin.ext (by simp)) (Fin.ext (by simp)))
  rw [e, H.v, Nat.add_assoc]

theorem reads_x3_r0_33 (H : Holding P x0 x1 x2 x3) : Reads P 1024 (2560 + 384) (View.ld x3 r0_33) := fun i l => by
  have e : View.ld x3 r0_33 (ix2 i l) = x3 (ix2 (⟨1024 + i.val, by omega⟩ : Fin 2048) (⟨384 + l.val, by omega⟩ : Fin 512)) := by
    pointwise [r0_33]
    first | done | rfl | exact congrArg x3 (congrArg₂ ix2 (Fin.ext (by simp)) (Fin.ext (by simp)))
  rw [e, H.g, Nat.add_assoc]

theorem reads_x0_r0_34 (H : Holding P x0 x1 x2 x3) : Reads P 1280 (1536 + 0) (View.ld x0 r0_34) := fun i l => by
  have e : View.ld x0 r0_34 (ix2 i l) = x0 (ix2 (⟨1280 + i.val, by omega⟩ : Fin 2048) (⟨0 + l.val, by omega⟩ : Fin 256)) := by
    pointwise [r0_34]
    first | done | rfl | exact congrArg x0 (congrArg₂ ix2 (Fin.ext (by simp)) (Fin.ext (by simp)))
  rw [e, H.q, Nat.add_assoc]

theorem reads_x1_r0_34 (H : Holding P x0 x1 x2 x3) : Reads P 1280 (1792 + 0) (View.ld x1 r0_34) := fun i l => by
  have e : View.ld x1 r0_34 (ix2 i l) = x1 (ix2 (⟨1280 + i.val, by omega⟩ : Fin 2048) (⟨0 + l.val, by omega⟩ : Fin 256)) := by
    pointwise [r0_34]
    first | done | rfl | exact congrArg x1 (congrArg₂ ix2 (Fin.ext (by simp)) (Fin.ext (by simp)))
  rw [e, H.k, Nat.add_assoc]

theorem reads_x0_r0_35 (H : Holding P x0 x1 x2 x3) : Reads P 1280 (1536 + 128) (View.ld x0 r0_35) := fun i l => by
  have e : View.ld x0 r0_35 (ix2 i l) = x0 (ix2 (⟨1280 + i.val, by omega⟩ : Fin 2048) (⟨128 + l.val, by omega⟩ : Fin 256)) := by
    pointwise [r0_35]
    first | done | rfl | exact congrArg x0 (congrArg₂ ix2 (Fin.ext (by simp)) (Fin.ext (by simp)))
  rw [e, H.q, Nat.add_assoc]

theorem reads_x1_r0_35 (H : Holding P x0 x1 x2 x3) : Reads P 1280 (1792 + 128) (View.ld x1 r0_35) := fun i l => by
  have e : View.ld x1 r0_35 (ix2 i l) = x1 (ix2 (⟨1280 + i.val, by omega⟩ : Fin 2048) (⟨128 + l.val, by omega⟩ : Fin 256)) := by
    pointwise [r0_35]
    first | done | rfl | exact congrArg x1 (congrArg₂ ix2 (Fin.ext (by simp)) (Fin.ext (by simp)))
  rw [e, H.k, Nat.add_assoc]

theorem reads_x2_r0_36 (H : Holding P x0 x1 x2 x3) : Reads P 1280 (2048 + 0) (View.ld x2 r0_36) := fun i l => by
  have e : View.ld x2 r0_36 (ix2 i l) = x2 (ix2 (⟨1280 + i.val, by omega⟩ : Fin 2048) (⟨0 + l.val, by omega⟩ : Fin 512)) := by
    pointwise [r0_36]
    first | done | rfl | exact congrArg x2 (congrArg₂ ix2 (Fin.ext (by simp)) (Fin.ext (by simp)))
  rw [e, H.v, Nat.add_assoc]

theorem reads_x3_r0_36 (H : Holding P x0 x1 x2 x3) : Reads P 1280 (2560 + 0) (View.ld x3 r0_36) := fun i l => by
  have e : View.ld x3 r0_36 (ix2 i l) = x3 (ix2 (⟨1280 + i.val, by omega⟩ : Fin 2048) (⟨0 + l.val, by omega⟩ : Fin 512)) := by
    pointwise [r0_36]
    first | done | rfl | exact congrArg x3 (congrArg₂ ix2 (Fin.ext (by simp)) (Fin.ext (by simp)))
  rw [e, H.g, Nat.add_assoc]

theorem reads_x2_r0_37 (H : Holding P x0 x1 x2 x3) : Reads P 1280 (2048 + 128) (View.ld x2 r0_37) := fun i l => by
  have e : View.ld x2 r0_37 (ix2 i l) = x2 (ix2 (⟨1280 + i.val, by omega⟩ : Fin 2048) (⟨128 + l.val, by omega⟩ : Fin 512)) := by
    pointwise [r0_37]
    first | done | rfl | exact congrArg x2 (congrArg₂ ix2 (Fin.ext (by simp)) (Fin.ext (by simp)))
  rw [e, H.v, Nat.add_assoc]

theorem reads_x3_r0_37 (H : Holding P x0 x1 x2 x3) : Reads P 1280 (2560 + 128) (View.ld x3 r0_37) := fun i l => by
  have e : View.ld x3 r0_37 (ix2 i l) = x3 (ix2 (⟨1280 + i.val, by omega⟩ : Fin 2048) (⟨128 + l.val, by omega⟩ : Fin 512)) := by
    pointwise [r0_37]
    first | done | rfl | exact congrArg x3 (congrArg₂ ix2 (Fin.ext (by simp)) (Fin.ext (by simp)))
  rw [e, H.g, Nat.add_assoc]

theorem reads_x2_r0_38 (H : Holding P x0 x1 x2 x3) : Reads P 1280 (2048 + 256) (View.ld x2 r0_38) := fun i l => by
  have e : View.ld x2 r0_38 (ix2 i l) = x2 (ix2 (⟨1280 + i.val, by omega⟩ : Fin 2048) (⟨256 + l.val, by omega⟩ : Fin 512)) := by
    pointwise [r0_38]
    first | done | rfl | exact congrArg x2 (congrArg₂ ix2 (Fin.ext (by simp)) (Fin.ext (by simp)))
  rw [e, H.v, Nat.add_assoc]

theorem reads_x3_r0_38 (H : Holding P x0 x1 x2 x3) : Reads P 1280 (2560 + 256) (View.ld x3 r0_38) := fun i l => by
  have e : View.ld x3 r0_38 (ix2 i l) = x3 (ix2 (⟨1280 + i.val, by omega⟩ : Fin 2048) (⟨256 + l.val, by omega⟩ : Fin 512)) := by
    pointwise [r0_38]
    first | done | rfl | exact congrArg x3 (congrArg₂ ix2 (Fin.ext (by simp)) (Fin.ext (by simp)))
  rw [e, H.g, Nat.add_assoc]

theorem reads_x2_r0_39 (H : Holding P x0 x1 x2 x3) : Reads P 1280 (2048 + 384) (View.ld x2 r0_39) := fun i l => by
  have e : View.ld x2 r0_39 (ix2 i l) = x2 (ix2 (⟨1280 + i.val, by omega⟩ : Fin 2048) (⟨384 + l.val, by omega⟩ : Fin 512)) := by
    pointwise [r0_39]
    first | done | rfl | exact congrArg x2 (congrArg₂ ix2 (Fin.ext (by simp)) (Fin.ext (by simp)))
  rw [e, H.v, Nat.add_assoc]

theorem reads_x3_r0_39 (H : Holding P x0 x1 x2 x3) : Reads P 1280 (2560 + 384) (View.ld x3 r0_39) := fun i l => by
  have e : View.ld x3 r0_39 (ix2 i l) = x3 (ix2 (⟨1280 + i.val, by omega⟩ : Fin 2048) (⟨384 + l.val, by omega⟩ : Fin 512)) := by
    pointwise [r0_39]
    first | done | rfl | exact congrArg x3 (congrArg₂ ix2 (Fin.ext (by simp)) (Fin.ext (by simp)))
  rw [e, H.g, Nat.add_assoc]

theorem reads_x0_r0_40 (H : Holding P x0 x1 x2 x3) : Reads P 1536 (1536 + 0) (View.ld x0 r0_40) := fun i l => by
  have e : View.ld x0 r0_40 (ix2 i l) = x0 (ix2 (⟨1536 + i.val, by omega⟩ : Fin 2048) (⟨0 + l.val, by omega⟩ : Fin 256)) := by
    pointwise [r0_40]
    first | done | rfl | exact congrArg x0 (congrArg₂ ix2 (Fin.ext (by simp)) (Fin.ext (by simp)))
  rw [e, H.q, Nat.add_assoc]

theorem reads_x1_r0_40 (H : Holding P x0 x1 x2 x3) : Reads P 1536 (1792 + 0) (View.ld x1 r0_40) := fun i l => by
  have e : View.ld x1 r0_40 (ix2 i l) = x1 (ix2 (⟨1536 + i.val, by omega⟩ : Fin 2048) (⟨0 + l.val, by omega⟩ : Fin 256)) := by
    pointwise [r0_40]
    first | done | rfl | exact congrArg x1 (congrArg₂ ix2 (Fin.ext (by simp)) (Fin.ext (by simp)))
  rw [e, H.k, Nat.add_assoc]

theorem reads_x0_r0_41 (H : Holding P x0 x1 x2 x3) : Reads P 1536 (1536 + 128) (View.ld x0 r0_41) := fun i l => by
  have e : View.ld x0 r0_41 (ix2 i l) = x0 (ix2 (⟨1536 + i.val, by omega⟩ : Fin 2048) (⟨128 + l.val, by omega⟩ : Fin 256)) := by
    pointwise [r0_41]
    first | done | rfl | exact congrArg x0 (congrArg₂ ix2 (Fin.ext (by simp)) (Fin.ext (by simp)))
  rw [e, H.q, Nat.add_assoc]

theorem reads_x1_r0_41 (H : Holding P x0 x1 x2 x3) : Reads P 1536 (1792 + 128) (View.ld x1 r0_41) := fun i l => by
  have e : View.ld x1 r0_41 (ix2 i l) = x1 (ix2 (⟨1536 + i.val, by omega⟩ : Fin 2048) (⟨128 + l.val, by omega⟩ : Fin 256)) := by
    pointwise [r0_41]
    first | done | rfl | exact congrArg x1 (congrArg₂ ix2 (Fin.ext (by simp)) (Fin.ext (by simp)))
  rw [e, H.k, Nat.add_assoc]

theorem reads_x2_r0_42 (H : Holding P x0 x1 x2 x3) : Reads P 1536 (2048 + 0) (View.ld x2 r0_42) := fun i l => by
  have e : View.ld x2 r0_42 (ix2 i l) = x2 (ix2 (⟨1536 + i.val, by omega⟩ : Fin 2048) (⟨0 + l.val, by omega⟩ : Fin 512)) := by
    pointwise [r0_42]
    first | done | rfl | exact congrArg x2 (congrArg₂ ix2 (Fin.ext (by simp)) (Fin.ext (by simp)))
  rw [e, H.v, Nat.add_assoc]

theorem reads_x3_r0_42 (H : Holding P x0 x1 x2 x3) : Reads P 1536 (2560 + 0) (View.ld x3 r0_42) := fun i l => by
  have e : View.ld x3 r0_42 (ix2 i l) = x3 (ix2 (⟨1536 + i.val, by omega⟩ : Fin 2048) (⟨0 + l.val, by omega⟩ : Fin 512)) := by
    pointwise [r0_42]
    first | done | rfl | exact congrArg x3 (congrArg₂ ix2 (Fin.ext (by simp)) (Fin.ext (by simp)))
  rw [e, H.g, Nat.add_assoc]

theorem reads_x2_r0_43 (H : Holding P x0 x1 x2 x3) : Reads P 1536 (2048 + 128) (View.ld x2 r0_43) := fun i l => by
  have e : View.ld x2 r0_43 (ix2 i l) = x2 (ix2 (⟨1536 + i.val, by omega⟩ : Fin 2048) (⟨128 + l.val, by omega⟩ : Fin 512)) := by
    pointwise [r0_43]
    first | done | rfl | exact congrArg x2 (congrArg₂ ix2 (Fin.ext (by simp)) (Fin.ext (by simp)))
  rw [e, H.v, Nat.add_assoc]

theorem reads_x3_r0_43 (H : Holding P x0 x1 x2 x3) : Reads P 1536 (2560 + 128) (View.ld x3 r0_43) := fun i l => by
  have e : View.ld x3 r0_43 (ix2 i l) = x3 (ix2 (⟨1536 + i.val, by omega⟩ : Fin 2048) (⟨128 + l.val, by omega⟩ : Fin 512)) := by
    pointwise [r0_43]
    first | done | rfl | exact congrArg x3 (congrArg₂ ix2 (Fin.ext (by simp)) (Fin.ext (by simp)))
  rw [e, H.g, Nat.add_assoc]

theorem reads_x2_r0_44 (H : Holding P x0 x1 x2 x3) : Reads P 1536 (2048 + 256) (View.ld x2 r0_44) := fun i l => by
  have e : View.ld x2 r0_44 (ix2 i l) = x2 (ix2 (⟨1536 + i.val, by omega⟩ : Fin 2048) (⟨256 + l.val, by omega⟩ : Fin 512)) := by
    pointwise [r0_44]
    first | done | rfl | exact congrArg x2 (congrArg₂ ix2 (Fin.ext (by simp)) (Fin.ext (by simp)))
  rw [e, H.v, Nat.add_assoc]

theorem reads_x3_r0_44 (H : Holding P x0 x1 x2 x3) : Reads P 1536 (2560 + 256) (View.ld x3 r0_44) := fun i l => by
  have e : View.ld x3 r0_44 (ix2 i l) = x3 (ix2 (⟨1536 + i.val, by omega⟩ : Fin 2048) (⟨256 + l.val, by omega⟩ : Fin 512)) := by
    pointwise [r0_44]
    first | done | rfl | exact congrArg x3 (congrArg₂ ix2 (Fin.ext (by simp)) (Fin.ext (by simp)))
  rw [e, H.g, Nat.add_assoc]

theorem reads_x2_r0_45 (H : Holding P x0 x1 x2 x3) : Reads P 1536 (2048 + 384) (View.ld x2 r0_45) := fun i l => by
  have e : View.ld x2 r0_45 (ix2 i l) = x2 (ix2 (⟨1536 + i.val, by omega⟩ : Fin 2048) (⟨384 + l.val, by omega⟩ : Fin 512)) := by
    pointwise [r0_45]
    first | done | rfl | exact congrArg x2 (congrArg₂ ix2 (Fin.ext (by simp)) (Fin.ext (by simp)))
  rw [e, H.v, Nat.add_assoc]

theorem reads_x3_r0_45 (H : Holding P x0 x1 x2 x3) : Reads P 1536 (2560 + 384) (View.ld x3 r0_45) := fun i l => by
  have e : View.ld x3 r0_45 (ix2 i l) = x3 (ix2 (⟨1536 + i.val, by omega⟩ : Fin 2048) (⟨384 + l.val, by omega⟩ : Fin 512)) := by
    pointwise [r0_45]
    first | done | rfl | exact congrArg x3 (congrArg₂ ix2 (Fin.ext (by simp)) (Fin.ext (by simp)))
  rw [e, H.g, Nat.add_assoc]

theorem reads_x0_r0_46 (H : Holding P x0 x1 x2 x3) : Reads P 1792 (1536 + 0) (View.ld x0 r0_46) := fun i l => by
  have e : View.ld x0 r0_46 (ix2 i l) = x0 (ix2 (⟨1792 + i.val, by omega⟩ : Fin 2048) (⟨0 + l.val, by omega⟩ : Fin 256)) := by
    pointwise [r0_46]
    first | done | rfl | exact congrArg x0 (congrArg₂ ix2 (Fin.ext (by simp)) (Fin.ext (by simp)))
  rw [e, H.q, Nat.add_assoc]

theorem reads_x1_r0_46 (H : Holding P x0 x1 x2 x3) : Reads P 1792 (1792 + 0) (View.ld x1 r0_46) := fun i l => by
  have e : View.ld x1 r0_46 (ix2 i l) = x1 (ix2 (⟨1792 + i.val, by omega⟩ : Fin 2048) (⟨0 + l.val, by omega⟩ : Fin 256)) := by
    pointwise [r0_46]
    first | done | rfl | exact congrArg x1 (congrArg₂ ix2 (Fin.ext (by simp)) (Fin.ext (by simp)))
  rw [e, H.k, Nat.add_assoc]

theorem reads_x2_r0_47 (H : Holding P x0 x1 x2 x3) : Reads P 1792 (2048 + 0) (View.ld x2 r0_47) := fun i l => by
  have e : View.ld x2 r0_47 (ix2 i l) = x2 (ix2 (⟨1792 + i.val, by omega⟩ : Fin 2048) (⟨0 + l.val, by omega⟩ : Fin 512)) := by
    pointwise [r0_47]
    first | done | rfl | exact congrArg x2 (congrArg₂ ix2 (Fin.ext (by simp)) (Fin.ext (by simp)))
  rw [e, H.v, Nat.add_assoc]

theorem reads_x3_r0_47 (H : Holding P x0 x1 x2 x3) : Reads P 1792 (2560 + 0) (View.ld x3 r0_47) := fun i l => by
  have e : View.ld x3 r0_47 (ix2 i l) = x3 (ix2 (⟨1792 + i.val, by omega⟩ : Fin 2048) (⟨0 + l.val, by omega⟩ : Fin 512)) := by
    pointwise [r0_47]
    first | done | rfl | exact congrArg x3 (congrArg₂ ix2 (Fin.ext (by simp)) (Fin.ext (by simp)))
  rw [e, H.g, Nat.add_assoc]

theorem reads_x2_r0_48 (H : Holding P x0 x1 x2 x3) : Reads P 1792 (2048 + 128) (View.ld x2 r0_48) := fun i l => by
  have e : View.ld x2 r0_48 (ix2 i l) = x2 (ix2 (⟨1792 + i.val, by omega⟩ : Fin 2048) (⟨128 + l.val, by omega⟩ : Fin 512)) := by
    pointwise [r0_48]
    first | done | rfl | exact congrArg x2 (congrArg₂ ix2 (Fin.ext (by simp)) (Fin.ext (by simp)))
  rw [e, H.v, Nat.add_assoc]

theorem reads_x3_r0_48 (H : Holding P x0 x1 x2 x3) : Reads P 1792 (2560 + 128) (View.ld x3 r0_48) := fun i l => by
  have e : View.ld x3 r0_48 (ix2 i l) = x3 (ix2 (⟨1792 + i.val, by omega⟩ : Fin 2048) (⟨128 + l.val, by omega⟩ : Fin 512)) := by
    pointwise [r0_48]
    first | done | rfl | exact congrArg x3 (congrArg₂ ix2 (Fin.ext (by simp)) (Fin.ext (by simp)))
  rw [e, H.g, Nat.add_assoc]

theorem reads_x0_r0_49 (H : Holding P x0 x1 x2 x3) : Reads P 1792 (1536 + 128) (View.ld x0 r0_49) := fun i l => by
  have e : View.ld x0 r0_49 (ix2 i l) = x0 (ix2 (⟨1792 + i.val, by omega⟩ : Fin 2048) (⟨128 + l.val, by omega⟩ : Fin 256)) := by
    pointwise [r0_49]
    first | done | rfl | exact congrArg x0 (congrArg₂ ix2 (Fin.ext (by simp)) (Fin.ext (by simp)))
  rw [e, H.q, Nat.add_assoc]

theorem reads_x1_r0_49 (H : Holding P x0 x1 x2 x3) : Reads P 1792 (1792 + 128) (View.ld x1 r0_49) := fun i l => by
  have e : View.ld x1 r0_49 (ix2 i l) = x1 (ix2 (⟨1792 + i.val, by omega⟩ : Fin 2048) (⟨128 + l.val, by omega⟩ : Fin 256)) := by
    pointwise [r0_49]
    first | done | rfl | exact congrArg x1 (congrArg₂ ix2 (Fin.ext (by simp)) (Fin.ext (by simp)))
  rw [e, H.k, Nat.add_assoc]

theorem reads_x2_r0_50 (H : Holding P x0 x1 x2 x3) : Reads P 1792 (2048 + 256) (View.ld x2 r0_50) := fun i l => by
  have e : View.ld x2 r0_50 (ix2 i l) = x2 (ix2 (⟨1792 + i.val, by omega⟩ : Fin 2048) (⟨256 + l.val, by omega⟩ : Fin 512)) := by
    pointwise [r0_50]
    first | done | rfl | exact congrArg x2 (congrArg₂ ix2 (Fin.ext (by simp)) (Fin.ext (by simp)))
  rw [e, H.v, Nat.add_assoc]

theorem reads_x3_r0_50 (H : Holding P x0 x1 x2 x3) : Reads P 1792 (2560 + 256) (View.ld x3 r0_50) := fun i l => by
  have e : View.ld x3 r0_50 (ix2 i l) = x3 (ix2 (⟨1792 + i.val, by omega⟩ : Fin 2048) (⟨256 + l.val, by omega⟩ : Fin 512)) := by
    pointwise [r0_50]
    first | done | rfl | exact congrArg x3 (congrArg₂ ix2 (Fin.ext (by simp)) (Fin.ext (by simp)))
  rw [e, H.g, Nat.add_assoc]

theorem reads_x2_r0_51 (H : Holding P x0 x1 x2 x3) : Reads P 1792 (2048 + 384) (View.ld x2 r0_51) := fun i l => by
  have e : View.ld x2 r0_51 (ix2 i l) = x2 (ix2 (⟨1792 + i.val, by omega⟩ : Fin 2048) (⟨384 + l.val, by omega⟩ : Fin 512)) := by
    pointwise [r0_51]
    first | done | rfl | exact congrArg x2 (congrArg₂ ix2 (Fin.ext (by simp)) (Fin.ext (by simp)))
  rw [e, H.v, Nat.add_assoc]

theorem reads_x3_r0_51 (H : Holding P x0 x1 x2 x3) : Reads P 1792 (2560 + 384) (View.ld x3 r0_51) := fun i l => by
  have e : View.ld x3 r0_51 (ix2 i l) = x3 (ix2 (⟨1792 + i.val, by omega⟩ : Fin 2048) (⟨384 + l.val, by omega⟩ : Fin 512)) := by
    pointwise [r0_51]
    first | done | rfl | exact congrArg x3 (congrArg₂ ix2 (Fin.ext (by simp)) (Fin.ext (by simp)))
  rw [e, H.g, Nat.add_assoc]

end

section

variable (x0 x1 : Vec Ideal S2048x256 .bf16) (x2 x3 : Vec Ideal S2048x512 .bf16) (x4 : Vec Ideal S256x1024 .f32) (x5 : Vec Ideal S1x1024 .f32)
  (x6 : Vec Ideal S1024x2048 .bf16) {P : ℕ → ℕ → ℝ}

theorem state0_0 (H : Holding P x0 x1 x2 x3) : Holds P 0 0 256 (k0_pay180 x0 x1 x2 x3 x4 x5 x6) :=
  show Holds P 0 0 (0 + 256) (updOf (Named.named κ "chunk_decay0" 0x399ACCA1#32) (k0_pay163 x0 x1 x2 x3 x4 x5 x6) (k0_pay176 x0 x1 x2 x3 x4 x5 x6) (View.ld x1 r0_4) (View.ld x2 r0_6)) from
    Holds.next (p := 0) half0 chunk_decay0 (none0 x0 x1 x2 x3 x4 x5 x6 P) (kdec0 x0 x1 x2 x3 x4 x5 x6) (reads_x1_r0_4 H) (reads_x2_r0_6 H)

theorem state0_1 (H : Holding P x0 x1 x2 x3) : Holds P 1 1 256 (k0_pay181 x0 x1 x2 x3 x4 x5 x6) :=
  show Holds P 1 1 (0 + 256) (updOf (Named.named κ "chunk_decay1" 0x3C9160A5#32) (k0_pay167 x0 x1 x2 x3 x4 x5 x6) (k0_pay176 x0 x1 x2 x3 x4 x5 x6) (View.ld x1 r0_4) (View.ld x2 r0_7)) from
    Holds.next (p := 0) half1 chunk_decay1 (none1 x0 x1 x2 x3 x4 x5 x6 P) (kdec1 x0 x1 x2 x3 x4 x5 x6) (reads_x1_r0_4 H) (reads_x2_r0_7 H)

theorem state0_2 (H : Holding P x0 x1 x2 x3) : Holds P 2 0 256 (k0_pay182 x0 x1 x2 x3 x4 x5 x6) :=
  show Holds P 2 0 (0 + 256) (updOf (Named.named κ "chunk_decay2" 0x3E097FCE#32) (k0_pay171 x0 x1 x2 x3 x4 x5 x6) (k0_pay178 x0 x1 x2 x3 x4 x5 x6) (View.ld x1 r0_5) (View.ld x2 r0_8)) from
    Holds.next (p := 1) half2 chunk_decay2 (none2 x0 x1 x2 x3 x4 x5 x6 P) (kdec2 x0 x1 x2 x3 x4 x5 x6) (reads_x1_r0_5 H) (reads_x2_r0_8 H)

theorem state0_3 (H : Holding P x0 x1 x2 x3) : Holds P 3 1 256 (k0_pay183 x0 x1 x2 x3 x4 x5 x6) :=
  show Holds P 3 1 (0 + 256) (updOf (Named.named κ "chunk_decay3" 0x3EBBFC5D#32) (k0_pay175 x0 x1 x2 x3 x4 x5 x6) (k0_pay178 x0 x1 x2 x3 x4 x5 x6) (View.ld x1 r0_5) (View.ld x2 r0_9)) from
    Holds.next (p := 1) half3 chunk_decay3 (none3 x0 x1 x2 x3 x4 x5 x6 P) (kdec3 x0 x1 x2 x3 x4 x5 x6) (reads_x1_r0_5 H) (reads_x2_r0_9 H)

theorem state1_0 (H : Holding P x0 x1 x2 x3) : Holds P 0 0 512 (k0_pay185 x0 x1 x2 x3 x4 x5 x6) :=
  show Holds P 0 0 (256 + 256) (updOf (Named.named κ "chunk_decay0" 0x399ACCA1#32) (k0_pay180 x0 x1 x2 x3 x4 x5 x6) (k0_pay176 x0 x1 x2 x3 x4 x5 x6) (View.ld x1 r0_10) (View.ld x2 r0_12)) from
    Holds.next (p := 0) half0 chunk_decay0 (state0_0 x0 x1 x2 x3 x4 x5 x6 H) (kdec0 x0 x1 x2 x3 x4 x5 x6) (reads_x1_r0_10 H) (reads_x2_r0_12 H)

theorem state1_1 (H : Holding P x0 x1 x2 x3) : Holds P 1 1 512 (k0_pay186 x0 x1 x2 x3 x4 x5 x6) :=
  show Holds P 1 1 (256 + 256) (updOf (Named.named κ "chunk_decay1" 0x3C9160A5#32) (k0_pay181 x0 x1 x2 x3 x4 x5 x6) (k0_pay176 x0 x1 x2 x3 x4 x5 x6) (View.ld x1 r0_10) (View.ld x2 r0_13)) from
    Holds.next (p := 0) half1 chunk_decay1 (state0_1 x0 x1 x2 x3 x4 x5 x6 H) (kdec1 x0 x1 x2 x3 x4 x5 x6) (reads_x1_r0_10 H) (reads_x2_r0_13 H)

theorem state1_2 (H : Holding P x0 x1 x2 x3) : Holds P 2 0 512 (k0_pay187 x0 x1 x2 x3 x4 x5 x6) :=
  show Holds P 2 0 (256 + 256) (updOf (Named.named κ "chunk_decay2" 0x3E097FCE#32) (k0_pay182 x0 x1 x2 x3 x4 x5 x6) (k0_pay178 x0 x1 x2 x3 x4 x5 x6) (View.ld x1 r0_11) (View.ld x2 r0_14)) from
    Holds.next (p := 1) half2 chunk_decay2 (state0_2 x0 x1 x2 x3 x4 x5 x6 H) (kdec2 x0 x1 x2 x3 x4 x5 x6) (reads_x1_r0_11 H) (reads_x2_r0_14 H)

theorem state1_3 (H : Holding P x0 x1 x2 x3) : Holds P 3 1 512 (k0_pay188 x0 x1 x2 x3 x4 x5 x6) :=
  show Holds P 3 1 (256 + 256) (updOf (Named.named κ "chunk_decay3" 0x3EBBFC5D#32) (k0_pay183 x0 x1 x2 x3 x4 x5 x6) (k0_pay178 x0 x1 x2 x3 x4 x5 x6) (View.ld x1 r0_11) (View.ld x2 r0_15)) from
    Holds.next (p := 1) half3 chunk_decay3 (state0_3 x0 x1 x2 x3 x4 x5 x6 H) (kdec3 x0 x1 x2 x3 x4 x5 x6) (reads_x1_r0_11 H) (reads_x2_r0_15 H)

theorem state2_0 (H : Holding P x0 x1 x2 x3) : Holds P 0 0 768 (k0_pay190 x0 x1 x2 x3 x4 x5 x6) :=
  show Holds P 0 0 (512 + 256) (updOf (Named.named κ "chunk_decay0" 0x399ACCA1#32) (k0_pay185 x0 x1 x2 x3 x4 x5 x6) (k0_pay176 x0 x1 x2 x3 x4 x5 x6) (View.ld x1 r0_16) (View.ld x2 r0_18)) from
    Holds.next (p := 0) half0 chunk_decay0 (state1_0 x0 x1 x2 x3 x4 x5 x6 H) (kdec0 x0 x1 x2 x3 x4 x5 x6) (reads_x1_r0_16 H) (reads_x2_r0_18 H)

theorem state2_1 (H : Holding P x0 x1 x2 x3) : Holds P 1 1 768 (k0_pay191 x0 x1 x2 x3 x4 x5 x6) :=
  show Holds P 1 1 (512 + 256) (updOf (Named.named κ "chunk_decay1" 0x3C9160A5#32) (k0_pay186 x0 x1 x2 x3 x4 x5 x6) (k0_pay176 x0 x1 x2 x3 x4 x5 x6) (View.ld x1 r0_16) (View.ld x2 r0_19)) from
    Holds.next (p := 0) half1 chunk_decay1 (state1_1 x0 x1 x2 x3 x4 x5 x6 H) (kdec1 x0 x1 x2 x3 x4 x5 x6) (reads_x1_r0_16 H) (reads_x2_r0_19 H)

theorem state2_2 (H : Holding P x0 x1 x2 x3) : Holds P 2 0 768 (k0_pay192 x0 x1 x2 x3 x4 x5 x6) :=
  show Holds P 2 0 (512 + 256) (updOf (Named.named κ "chunk_decay2" 0x3E097FCE#32) (k0_pay187 x0 x1 x2 x3 x4 x5 x6) (k0_pay178 x0 x1 x2 x3 x4 x5 x6) (View.ld x1 r0_17) (View.ld x2 r0_20)) from
    Holds.next (p := 1) half2 chunk_decay2 (state1_2 x0 x1 x2 x3 x4 x5 x6 H) (kdec2 x0 x1 x2 x3 x4 x5 x6) (reads_x1_r0_17 H) (reads_x2_r0_20 H)

theorem state2_3 (H : Holding P x0 x1 x2 x3) : Holds P 3 1 768 (k0_pay193 x0 x1 x2 x3 x4 x5 x6) :=
  show Holds P 3 1 (512 + 256) (updOf (Named.named κ "chunk_decay3" 0x3EBBFC5D#32) (k0_pay188 x0 x1 x2 x3 x4 x5 x6) (k0_pay178 x0 x1 x2 x3 x4 x5 x6) (View.ld x1 r0_17) (View.ld x2 r0_21)) from
    Holds.next (p := 1) half3 chunk_decay3 (state1_3 x0 x1 x2 x3 x4 x5 x6 H) (kdec3 x0 x1 x2 x3 x4 x5 x6) (reads_x1_r0_17 H) (reads_x2_r0_21 H)

theorem state3_0 (H : Holding P x0 x1 x2 x3) : Holds P 0 0 1024 (k0_pay195 x0 x1 x2 x3 x4 x5 x6) :=
  show Holds P 0 0 (768 + 256) (updOf (Named.named κ "chunk_decay0" 0x399ACCA1#32) (k0_pay190 x0 x1 x2 x3 x4 x5 x6) (k0_pay176 x0 x1 x2 x3 x4 x5 x6) (View.ld x1 r0_22) (View.ld x2 r0_24)) from
    Holds.next (p := 0) half0 chunk_decay0 (state2_0 x0 x1 x2 x3 x4 x5 x6 H) (kdec0 x0 x1 x2 x3 x4 x5 x6) (reads_x1_r0_22 H) (reads_x2_r0_24 H)

theorem state3_1 (H : Holding P x0 x1 x2 x3) : Holds P 1 1 1024 (k0_pay196 x0 x1 x2 x3 x4 x5 x6) :=
  show Holds P 1 1 (768 + 256) (updOf (Named.named κ "chunk_decay1" 0x3C9160A5#32) (k0_pay191 x0 x1 x2 x3 x4 x5 x6) (k0_pay176 x0 x1 x2 x3 x4 x5 x6) (View.ld x1 r0_22) (View.ld x2 r0_25)) from
    Holds.next (p := 0) half1 chunk_decay1 (state2_1 x0 x1 x2 x3 x4 x5 x6 H) (kdec1 x0 x1 x2 x3 x4 x5 x6) (reads_x1_r0_22 H) (reads_x2_r0_25 H)

theorem state3_2 (H : Holding P x0 x1 x2 x3) : Holds P 2 0 1024 (k0_pay197 x0 x1 x2 x3 x4 x5 x6) :=
  show Holds P 2 0 (768 + 256) (updOf (Named.named κ "chunk_decay2" 0x3E097FCE#32) (k0_pay192 x0 x1 x2 x3 x4 x5 x6) (k0_pay178 x0 x1 x2 x3 x4 x5 x6) (View.ld x1 r0_23) (View.ld x2 r0_26)) from
    Holds.next (p := 1) half2 chunk_decay2 (state2_2 x0 x1 x2 x3 x4 x5 x6 H) (kdec2 x0 x1 x2 x3 x4 x5 x6) (reads_x1_r0_23 H) (reads_x2_r0_26 H)

theorem state3_3 (H : Holding P x0 x1 x2 x3) : Holds P 3 1 1024 (k0_pay198 x0 x1 x2 x3 x4 x5 x6) :=
  show Holds P 3 1 (768 + 256) (updOf (Named.named κ "chunk_decay3" 0x3EBBFC5D#32) (k0_pay193 x0 x1 x2 x3 x4 x5 x6) (k0_pay178 x0 x1 x2 x3 x4 x5 x6) (View.ld x1 r0_23) (View.ld x2 r0_27)) from
    Holds.next (p := 1) half3 chunk_decay3 (state2_3 x0 x1 x2 x3 x4 x5 x6 H) (kdec3 x0 x1 x2 x3 x4 x5 x6) (reads_x1_r0_23 H) (reads_x2_r0_27 H)

theorem state4_0 (H : Holding P x0 x1 x2 x3) : Holds P 0 0 1280 (k0_pay201 x0 x1 x2 x3 x4 x5 x6) :=
  show Holds P 0 0 (1024 + 256) (updOf (Named.named κ "chunk_decay0" 0x399ACCA1#32) (k0_pay195 x0 x1 x2 x3 x4 x5 x6) (k0_pay176 x0 x1 x2 x3 x4 x5 x6) (View.ld x1 r0_28) (View.ld x2 r0_30)) from
    Holds.next (p := 0) half0 chunk_decay0 (state3_0 x0 x1 x2 x3 x4 x5 x6 H) (kdec0 x0 x1 x2 x3 x4 x5 x6) (reads_x1_r0_28 H) (reads_x2_r0_30 H)

theorem state4_1 (H : Holding P x0 x1 x2 x3) : Holds P 1 1 1280 (k0_pay202 x0 x1 x2 x3 x4 x5 x6) :=
  show Holds P 1 1 (1024 + 256) (updOf (Named.named κ "chunk_decay1" 0x3C9160A5#32) (k0_pay196 x0 x1 x2 x3 x4 x5 x6) (k0_pay176 x0 x1 x2 x3 x4 x5 x6) (View.ld x1 r0_28) (View.ld x2 r0_31)) from
    Holds.next (p := 0) half1 chunk_decay1 (state3_1 x0 x1 x2 x3 x4 x5 x6 H) (kdec1 x0 x1 x2 x3 x4 x5 x6) (reads_x1_r0_28 H) (reads_x2_r0_31 H)

theorem state4_2 (H : Holding P x0 x1 x2 x3) : Holds P 2 0 1280 (k0_pay203 x0 x1 x2 x3 x4 x5 x6) :=
  show Holds P 2 0 (1024 + 256) (updOf (Named.named κ "chunk_decay2" 0x3E097FCE#32) (k0_pay197 x0 x1 x2 x3 x4 x5 x6) (k0_pay178 x0 x1 x2 x3 x4 x5 x6) (View.ld x1 r0_29) (View.ld x2 r0_32)) from
    Holds.next (p := 1) half2 chunk_decay2 (state3_2 x0 x1 x2 x3 x4 x5 x6 H) (kdec2 x0 x1 x2 x3 x4 x5 x6) (reads_x1_r0_29 H) (reads_x2_r0_32 H)

theorem state4_3 (H : Holding P x0 x1 x2 x3) : Holds P 3 1 1280 (k0_pay204 x0 x1 x2 x3 x4 x5 x6) :=
  show Holds P 3 1 (1024 + 256) (updOf (Named.named κ "chunk_decay3" 0x3EBBFC5D#32) (k0_pay198 x0 x1 x2 x3 x4 x5 x6) (k0_pay178 x0 x1 x2 x3 x4 x5 x6) (View.ld x1 r0_29) (View.ld x2 r0_33)) from
    Holds.next (p := 1) half3 chunk_decay3 (state3_3 x0 x1 x2 x3 x4 x5 x6 H) (kdec3 x0 x1 x2 x3 x4 x5 x6) (reads_x1_r0_29 H) (reads_x2_r0_33 H)

theorem state5_0 (H : Holding P x0 x1 x2 x3) : Holds P 0 0 1536 (k0_pay207 x0 x1 x2 x3 x4 x5 x6) :=
  show Holds P 0 0 (1280 + 256) (updOf (Named.named κ "chunk_decay0" 0x399ACCA1#32) (k0_pay201 x0 x1 x2 x3 x4 x5 x6) (k0_pay176 x0 x1 x2 x3 x4 x5 x6) (View.ld x1 r0_34) (View.ld x2 r0_36)) from
    Holds.next (p := 0) half0 chunk_decay0 (state4_0 x0 x1 x2 x3 x4 x5 x6 H) (kdec0 x0 x1 x2 x3 x4 x5 x6) (reads_x1_r0_34 H) (reads_x2_r0_36 H)

theorem state5_1 (H : Holding P x0 x1 x2 x3) : Holds P 1 1 1536 (k0_pay208 x0 x1 x2 x3 x4 x5 x6) :=
  show Holds P 1 1 (1280 + 256) (updOf (Named.named κ "chunk_decay1" 0x3C9160A5#32) (k0_pay202 x0 x1 x2 x3 x4 x5 x6) (k0_pay176 x0 x1 x2 x3 x4 x5 x6) (View.ld x1 r0_34) (View.ld x2 r0_37)) from
    Holds.next (p := 0) half1 chunk_decay1 (state4_1 x0 x1 x2 x3 x4 x5 x6 H) (kdec1 x0 x1 x2 x3 x4 x5 x6) (reads_x1_r0_34 H) (reads_x2_r0_37 H)

theorem state5_2 (H : Holding P x0 x1 x2 x3) : Holds P 2 0 1536 (k0_pay209 x0 x1 x2 x3 x4 x5 x6) :=
  show Holds P 2 0 (1280 + 256) (updOf (Named.named κ "chunk_decay2" 0x3E097FCE#32) (k0_pay203 x0 x1 x2 x3 x4 x5 x6) (k0_pay178 x0 x1 x2 x3 x4 x5 x6) (View.ld x1 r0_35) (View.ld x2 r0_38)) from
    Holds.next (p := 1) half2 chunk_decay2 (state4_2 x0 x1 x2 x3 x4 x5 x6 H) (kdec2 x0 x1 x2 x3 x4 x5 x6) (reads_x1_r0_35 H) (reads_x2_r0_38 H)

theorem state5_3 (H : Holding P x0 x1 x2 x3) : Holds P 3 1 1536 (k0_pay210 x0 x1 x2 x3 x4 x5 x6) :=
  show Holds P 3 1 (1280 + 256) (updOf (Named.named κ "chunk_decay3" 0x3EBBFC5D#32) (k0_pay204 x0 x1 x2 x3 x4 x5 x6) (k0_pay178 x0 x1 x2 x3 x4 x5 x6) (View.ld x1 r0_35) (View.ld x2 r0_39)) from
    Holds.next (p := 1) half3 chunk_decay3 (state4_3 x0 x1 x2 x3 x4 x5 x6 H) (kdec3 x0 x1 x2 x3 x4 x5 x6) (reads_x1_r0_35 H) (reads_x2_r0_39 H)

theorem state6_0 (H : Holding P x0 x1 x2 x3) : Holds P 0 0 1792 (k0_pay213 x0 x1 x2 x3 x4 x5 x6) :=
  show Holds P 0 0 (1536 + 256) (updOf (Named.named κ "chunk_decay0" 0x399ACCA1#32) (k0_pay207 x0 x1 x2 x3 x4 x5 x6) (k0_pay176 x0 x1 x2 x3 x4 x5 x6) (View.ld x1 r0_40) (View.ld x2 r0_42)) from
    Holds.next (p := 0) half0 chunk_decay0 (state5_0 x0 x1 x2 x3 x4 x5 x6 H) (kdec0 x0 x1 x2 x3 x4 x5 x6) (reads_x1_r0_40 H) (reads_x2_r0_42 H)

theorem state6_1 (H : Holding P x0 x1 x2 x3) : Holds P 1 1 1792 (k0_pay214 x0 x1 x2 x3 x4 x5 x6) :=
  show Holds P 1 1 (1536 + 256) (updOf (Named.named κ "chunk_decay1" 0x3C9160A5#32) (k0_pay208 x0 x1 x2 x3 x4 x5 x6) (k0_pay176 x0 x1 x2 x3 x4 x5 x6) (View.ld x1 r0_40) (View.ld x2 r0_43)) from
    Holds.next (p := 0) half1 chunk_decay1 (state5_1 x0 x1 x2 x3 x4 x5 x6 H) (kdec1 x0 x1 x2 x3 x4 x5 x6) (reads_x1_r0_40 H) (reads_x2_r0_43 H)

theorem state6_2 (H : Holding P x0 x1 x2 x3) : Holds P 2 0 1792 (k0_pay141 (k0_pay209 x0 x1 x2 x3 x4 x5 x6) (k0_pay212 x0 x1 x2 x3 x4 x5 x6) (View.ld x2 r0_44)) :=
  show Holds P 2 0 (1536 + 256) (updOf (Named.named κ "chunk_decay2" 0x3E097FCE#32) (k0_pay209 x0 x1 x2 x3 x4 x5 x6) (k0_pay178 x0 x1 x2 x3 x4 x5 x6) (View.ld x1 r0_41) (View.ld x2 r0_44)) from
    Holds.next (p := 1) half2 chunk_decay2 (state5_2 x0 x1 x2 x3 x4 x5 x6 H) (kdec2 x0 x1 x2 x3 x4 x5 x6) (reads_x1_r0_41 H) (reads_x2_r0_44 H)

theorem state6_3 (H : Holding P x0 x1 x2 x3) : Holds P 3 1 1792 (k0_pay145 (k0_pay210 x0 x1 x2 x3 x4 x5 x6) (k0_pay212 x0 x1 x2 x3 x4 x5 x6) (View.ld x2 r0_45) (k0_pay144 (F := Ideal))) :=
  show Holds P 3 1 (1536 + 256) (updOf (Named.named κ "chunk_decay3" 0x3EBBFC5D#32) (k0_pay210 x0 x1 x2 x3 x4 x5 x6) (k0_pay178 x0 x1 x2 x3 x4 x5 x6) (View.ld x1 r0_41) (View.ld x2 r0_45)) from
    Holds.next (p := 1) half3 chunk_decay3 (state5_3 x0 x1 x2 x3 x4 x5 x6 H) (kdec3 x0 x1 x2 x3 x4 x5 x6) (reads_x1_r0_41 H) (reads_x2_r0_45 H)

theorem piece0_0 (H : Holding P x0 x1 x2 x3) (i : Fin 256) (e : Fin 128) :
    k0_pay29 (k0_pay28 (k0_pay160 x0 x1 x2 x3 x4 x5 x6) (k0_pay161 x0 x1 x2 x3 x4 x5 x6) (k0_pay162 x0 x1 x2 x3 x4 x5 x6) (k0_pay163 x0 x1 x2 x3 x4 x5 x6) (View.ld x0 r0_4) (View.ld x1 r0_4) (View.ld x2 r0_6)) (View.ld x3 r0_6) (ix2 i e)
      = retOut siluTanh P 0 (0 + i.val) e :=
  show gateOf (normOf (mixOf (k0_pay160 x0 x1 x2 x3 x4 x5 x6) (k0_pay161 x0 x1 x2 x3 x4 x5 x6) (k0_pay162 x0 x1 x2 x3 x4 x5 x6) (k0_pay163 x0 x1 x2 x3 x4 x5 x6) (View.ld x0 r0_4) (View.ld x1 r0_4) (View.ld x2 r0_6))) (View.ld x3 r0_6) (ix2 i e) = _ from
    piece (p := 0) (o := 0) half0 (inner0 x0 x1 x2 x3 x4 x5 x6) (qdec0 x0 x1 x2 x3 x4 x5 x6) (mine0 x0 x1 x2 x3 x4 x5 x6) (none0 x0 x1 x2 x3 x4 x5 x6 P) (reads_x0_r0_4 H) (reads_x1_r0_4 H) (reads_x2_r0_6 H) (reads_x3_r0_6 H) i e

theorem piece0_1 (H : Holding P x0 x1 x2 x3) (i : Fin 256) (e : Fin 128) :
    k0_pay32 (k0_pay31 (k0_pay164 x0 x1 x2 x3 x4 x5 x6) (k0_pay165 x0 x1 x2 x3 x4 x5 x6) (k0_pay166 x0 x1 x2 x3 x4 x5 x6) (k0_pay167 x0 x1 x2 x3 x4 x5 x6) (View.ld x0 r0_4) (View.ld x1 r0_4) (View.ld x2 r0_7)) (View.ld x3 r0_7) (ix2 i e)
      = retOut siluTanh P 1 (0 + i.val) e :=
  show gateOf (normOf (mixOf (k0_pay164 x0 x1 x2 x3 x4 x5 x6) (k0_pay165 x0 x1 x2 x3 x4 x5 x6) (k0_pay166 x0 x1 x2 x3 x4 x5 x6) (k0_pay167 x0 x1 x2 x3 x4 x5 x6) (View.ld x0 r0_4) (View.ld x1 r0_4) (View.ld x2 r0_7))) (View.ld x3 r0_7) (ix2 i e) = _ from
    piece (p := 0) (o := 1) half1 (inner1 x0 x1 x2 x3 x4 x5 x6) (qdec1 x0 x1 x2 x3 x4 x5 x6) (mine1 x0 x1 x2 x3 x4 x5 x6) (none1 x0 x1 x2 x3 x4 x5 x6 P) (reads_x0_r0_4 H) (reads_x1_r0_4 H) (reads_x2_r0_7 H) (reads_x3_r0_7 H) i e

theorem piece0_2 (H : Holding P x0 x1 x2 x3) (i : Fin 256) (e : Fin 128) :
    k0_pay36 (k0_pay34 (k0_pay168 x0 x1 x2 x3 x4 x5 x6) (k0_pay169 x0 x1 x2 x3 x4 x5 x6) (k0_pay170 x0 x1 x2 x3 x4 x5 x6) (k0_pay171 x0 x1 x2 x3 x4 x5 x6) (View.ld x0 r0_5) (View.ld x1 r0_5) (View.ld x2 r0_8)) (k0_pay35 (View.ld x3 r0_8)) (Scalar.ofBits .f32 0x3F000000#32 : Ideal .f32) (ix2 i e)
      = retOut siluTanh P 2 (0 + i.val) e :=
  show gateOf (normOf (mixOf (k0_pay168 x0 x1 x2 x3 x4 x5 x6) (k0_pay169 x0 x1 x2 x3 x4 x5 x6) (k0_pay170 x0 x1 x2 x3 x4 x5 x6) (k0_pay171 x0 x1 x2 x3 x4 x5 x6) (View.ld x0 r0_5) (View.ld x1 r0_5) (View.ld x2 r0_8))) (View.ld x3 r0_8) (ix2 i e) = _ from
    piece (p := 1) (o := 0) half2 (inner2 x0 x1 x2 x3 x4 x5 x6) (qdec2 x0 x1 x2 x3 x4 x5 x6) (mine2 x0 x1 x2 x3 x4 x5 x6) (none2 x0 x1 x2 x3 x4 x5 x6 P) (reads_x0_r0_5 H) (reads_x1_r0_5 H) (reads_x2_r0_8 H) (reads_x3_r0_8 H) i e

theorem piece0_3 (H : Holding P x0 x1 x2 x3) (i : Fin 256) (e : Fin 128) :
    k0_pay40 (k0_pay38 (k0_pay172 x0 x1 x2 x3 x4 x5 x6) (k0_pay173 x0 x1 x2 x3 x4 x5 x6) (k0_pay174 x0 x1 x2 x3 x4 x5 x6) (k0_pay175 x0 x1 x2 x3 x4 x5 x6) (View.ld x0 r0_5) (View.ld x1 r0_5) (View.ld x2 r0_9)) (k0_pay39 (View.ld x3 r0_9)) (ix2 i e)
      = retOut siluTanh P 3 (0 + i.val) e :=
  show gateOf (normOf (mixOf (k0_pay172 x0 x1 x2 x3 x4 x5 x6) (k0_pay173 x0 x1 x2 x3 x4 x5 x6) (k0_pay174 x0 x1 x2 x3 x4 x5 x6) (k0_pay175 x0 x1 x2 x3 x4 x5 x6) (View.ld x0 r0_5) (View.ld x1 r0_5) (View.ld x2 r0_9))) (View.ld x3 r0_9) (ix2 i e) = _ from
    piece (p := 1) (o := 1) half3 (inner3 x0 x1 x2 x3 x4 x5 x6) (qdec3 x0 x1 x2 x3 x4 x5 x6) (mine3 x0 x1 x2 x3 x4 x5 x6) (none3 x0 x1 x2 x3 x4 x5 x6 P) (reads_x0_r0_5 H) (reads_x1_r0_5 H) (reads_x2_r0_9 H) (reads_x3_r0_9 H) i e

theorem piece1_0 (H : Holding P x0 x1 x2 x3) (i : Fin 256) (e : Fin 128) :
    k0_pay46 (k0_pay43 (k0_pay160 x0 x1 x2 x3 x4 x5 x6) (k0_pay161 x0 x1 x2 x3 x4 x5 x6) (k0_pay162 x0 x1 x2 x3 x4 x5 x6) (k0_pay180 x0 x1 x2 x3 x4 x5 x6) (View.ld x0 r0_10) (View.ld x1 r0_10) (View.ld x2 r0_12)) (k0_pay45 (k0_pay160 x0 x1 x2 x3 x4 x5 x6) (k0_pay161 x0 x1 x2 x3 x4 x5 x6) (k0_pay162 x0 x1 x2 x3 x4 x5 x6) (k0_pay180 x0 x1 x2 x3 x4 x5 x6) (View.ld x0 r0_10) (View.ld x1 r0_10) (View.ld x2 r0_12)) (View.ld x3 r0_12) (ix2 i e)
      = retOut siluTanh P 0 (256 + i.val) e :=
  show gateOf (normOf (mixOf (k0_pay160 x0 x1 x2 x3 x4 x5 x6) (k0_pay161 x0 x1 x2 x3 x4 x5 x6) (k0_pay162 x0 x1 x2 x3 x4 x5 x6) (k0_pay180 x0 x1 x2 x3 x4 x5 x6) (View.ld x0 r0_10) (View.ld x1 r0_10) (View.ld x2 r0_12))) (View.ld x3 r0_12) (ix2 i e) = _ from
    piece (p := 0) (o := 0) half0 (inner0 x0 x1 x2 x3 x4 x5 x6) (qdec0 x0 x1 x2 x3 x4 x5 x6) (mine0 x0 x1 x2 x3 x4 x5 x6) (state0_0 x0 x1 x2 x3 x4 x5 x6 H) (reads_x0_r0_10 H) (reads_x1_r0_10 H) (reads_x2_r0_12 H) (reads_x3_r0_12 H) i e

theorem piece1_1 (H : Holding P x0 x1 x2 x3) (i : Fin 256) (e : Fin 128) :
    k0_pay50 (k0_pay47 (k0_pay164 x0 x1 x2 x3 x4 x5 x6) (k0_pay165 x0 x1 x2 x3 x4 x5 x6) (k0_pay166 x0 x1 x2 x3 x4 x5 x6) (k0_pay181 x0 x1 x2 x3 x4 x5 x6) (View.ld x0 r0_10) (View.ld x1 r0_10) (View.ld x2 r0_13)) (k0_pay49 (k0_pay164 x0 x1 x2 x3 x4 x5 x6) (k0_pay165 x0 x1 x2 x3 x4 x5 x6) (k0_pay166 x0 x1 x2 x3 x4 x5 x6) (k0_pay181 x0 x1 x2 x3 x4 x5 x6) (View.ld x0 r0_10) (View.ld x1 r0_10) (View.ld x2 r0_13)) (View.ld x3 r0_13) (ix2 i e)
      = retOut siluTanh P 1 (256 + i.val) e :=
  show gateOf (normOf (mixOf (k0_pay164 x0 x1 x2 x3 x4 x5 x6) (k0_pay165 x0 x1 x2 x3 x4 x5 x6) (k0_pay166 x0 x1 x2 x3 x4 x5 x6) (k0_pay181 x0 x1 x2 x3 x4 x5 x6) (View.ld x0 r0_10) (View.ld x1 r0_10) (View.ld x2 r0_13))) (View.ld x3 r0_13) (ix2 i e) = _ from
    piece (p := 0) (o := 1) half1 (inner1 x0 x1 x2 x3 x4 x5 x6) (qdec1 x0 x1 x2 x3 x4 x5 x6) (mine1 x0 x1 x2 x3 x4 x5 x6) (state0_1 x0 x1 x2 x3 x4 x5 x6 H) (reads_x0_r0_10 H) (reads_x1_r0_10 H) (reads_x2_r0_13 H) (reads_x3_r0_13 H) i e

theorem piece1_2 (H : Holding P x0 x1 x2 x3) (i : Fin 256) (e : Fin 128) :
    k0_pay53 (k0_pay52 (k0_pay168 x0 x1 x2 x3 x4 x5 x6) (k0_pay169 x0 x1 x2 x3 x4 x5 x6) (k0_pay170 x0 x1 x2 x3 x4 x5 x6) (k0_pay182 x0 x1 x2 x3 x4 x5 x6) (View.ld x0 r0_11) (View.ld x1 r0_11) (View.ld x2 r0_14)) (View.ld x3 r0_14) (ix2 i e)
      = retOut siluTanh P 2 (256 + i.val) e :=
  show gateOf (normOf (mixOf (k0_pay168 x0 x1 x2 x3 x4 x5 x6) (k0_pay169 x0 x1 x2 x3 x4 x5 x6) (k0_pay170 x0 x1 x2 x3 x4 x5 x6) (k0_pay182 x0 x1 x2 x3 x4 x5 x6) (View.ld x0 r0_11) (View.ld x1 r0_11) (View.ld x2 r0_14))) (View.ld x3 r0_14) (ix2 i e) = _ from
    piece (p := 1) (o := 0) half2 (inner2 x0 x1 x2 x3 x4 x5 x6) (qdec2 x0 x1 x2 x3 x4 x5 x6) (mine2 x0 x1 x2 x3 x4 x5 x6) (state0_2 x0 x1 x2 x3 x4 x5 x6 H) (reads_x0_r0_11 H) (reads_x1_r0_11 H) (reads_x2_r0_14 H) (reads_x3_r0_14 H) i e

theorem piece1_3 (H : Holding P x0 x1 x2 x3) (i : Fin 256) (e : Fin 128) :
    k0_pay56 (k0_pay55 (k0_pay172 x0 x1 x2 x3 x4 x5 x6) (k0_pay173 x0 x1 x2 x3 x4 x5 x6) (k0_pay174 x0 x1 x2 x3 x4 x5 x6) (k0_pay183 x0 x1 x2 x3 x4 x5 x6) (View.ld x0 r0_11) (View.ld x1 r0_11) (View.ld x2 r0_15)) (View.ld x3 r0_15) (ix2 i e)
      = retOut siluTanh P 3 (256 + i.val) e :=
  show gateOf (normOf (mixOf (k0_pay172 x0 x1 x2 x3 x4 x5 x6) (k0_pay173 x0 x1 x2 x3 x4 x5 x6) (k0_pay174 x0 x1 x2 x3 x4 x5 x6) (k0_pay183 x0 x1 x2 x3 x4 x5 x6) (View.ld x0 r0_11) (View.ld x1 r0_11) (View.ld x2 r0_15))) (View.ld x3 r0_15) (ix2 i e) = _ from
    piece (p := 1) (o := 1) half3 (inner3 x0 x1 x2 x3 x4 x5 x6) (qdec3 x0 x1 x2 x3 x4 x5 x6) (mine3 x0 x1 x2 x3 x4 x5 x6) (state0_3 x0 x1 x2 x3 x4 x5 x6 H) (reads_x0_r0_11 H) (reads_x1_r0_11 H) (reads_x2_r0_15 H) (reads_x3_r0_15 H) i e

theorem piece2_0 (H : Holding P x0 x1 x2 x3) (i : Fin 256) (e : Fin 128) :
    k0_pay63 (k0_pay59 (k0_pay160 x0 x1 x2 x3 x4 x5 x6) (k0_pay161 x0 x1 x2 x3 x4 x5 x6) (k0_pay162 x0 x1 x2 x3 x4 x5 x6) (k0_pay185 x0 x1 x2 x3 x4 x5 x6) (View.ld x0 r0_16) (View.ld x1 r0_16) (View.ld x2 r0_18)) (k0_pay61 (k0_pay160 x0 x1 x2 x3 x4 x5 x6) (k0_pay161 x0 x1 x2 x3 x4 x5 x6) (k0_pay162 x0 x1 x2 x3 x4 x5 x6) (k0_pay185 x0 x1 x2 x3 x4 x5 x6) (View.ld x0 r0_16) (View.ld x1 r0_16) (View.ld x2 r0_18)) (k0_pay62 (F := Ideal)) (View.ld x3 r0_18) (ix2 i e)
      = retOut siluTanh P 0 (512 + i.val) e :=
  show gateOf (normOf (mixOf (k0_pay160 x0 x1 x2 x3 x4 x5 x6) (k0_pay161 x0 x1 x2 x3 x4 x5 x6) (k0_pay162 x0 x1 x2 x3 x4 x5 x6) (k0_pay185 x0 x1 x2 x3 x4 x5 x6) (View.ld x0 r0_16) (View.ld x1 r0_16) (View.ld x2 r0_18))) (View.ld x3 r0_18) (ix2 i e) = _ from
    piece (p := 0) (o := 0) half0 (inner0 x0 x1 x2 x3 x4 x5 x6) (qdec0 x0 x1 x2 x3 x4 x5 x6) (mine0 x0 x1 x2 x3 x4 x5 x6) (state1_0 x0 x1 x2 x3 x4 x5 x6 H) (reads_x0_r0_16 H) (reads_x1_r0_16 H) (reads_x2_r0_18 H) (reads_x3_r0_18 H) i e

theorem piece2_1 (H : Holding P x0 x1 x2 x3) (i : Fin 256) (e : Fin 128) :
    k0_pay67 (k0_pay64 (k0_pay164 x0 x1 x2 x3 x4 x5 x6) (k0_pay165 x0 x1 x2 x3 x4 x5 x6) (k0_pay166 x0 x1 x2 x3 x4 x5 x6) (k0_pay186 x0 x1 x2 x3 x4 x5 x6) (View.ld x0 r0_16) (View.ld x1 r0_16) (View.ld x2 r0_19)) (k0_pay66 (k0_pay164 x0 x1 x2 x3 x4 x5 x6) (k0_pay165 x0 x1 x2 x3 x4 x5 x6) (k0_pay166 x0 x1 x2 x3 x4 x5 x6) (k0_pay186 x0 x1 x2 x3 x4 x5 x6) (View.ld x0 r0_16) (View.ld x1 r0_16) (View.ld x2 r0_19)) (Scalar.ofBits .f32 0x358637BD#32 : Ideal .f32) (View.ld x3 r0_19) (ix2 i e)
      = retOut siluTanh P 1 (512 + i.val) e :=
  show gateOf (normOf (mixOf (k0_pay164 x0 x1 x2 x3 x4 x5 x6) (k0_pay165 x0 x1 x2 x3 x4 x5 x6) (k0_pay166 x0 x1 x2 x3 x4 x5 x6) (k0_pay186 x0 x1 x2 x3 x4 x5 x6) (View.ld x0 r0_16) (View.ld x1 r0_16) (View.ld x2 r0_19))) (View.ld x3 r0_19) (ix2 i e) = _ from
    piece (p := 0) (o := 1) half1 (inner1 x0 x1 x2 x3 x4 x5 x6) (qdec1 x0 x1 x2 x3 x4 x5 x6) (mine1 x0 x1 x2 x3 x4 x5 x6) (state1_1 x0 x1 x2 x3 x4 x5 x6 H) (reads_x0_r0_16 H) (reads_x1_r0_16 H) (reads_x2_r0_19 H) (reads_x3_r0_19 H) i e

theorem piece2_2 (H : Holding P x0 x1 x2 x3) (i : Fin 256) (e : Fin 128) :
    k0_pay71 (k0_pay68 (k0_pay168 x0 x1 x2 x3 x4 x5 x6) (k0_pay169 x0 x1 x2 x3 x4 x5 x6) (k0_pay170 x0 x1 x2 x3 x4 x5 x6) (k0_pay187 x0 x1 x2 x3 x4 x5 x6) (View.ld x0 r0_17) (View.ld x1 r0_17) (View.ld x2 r0_20)) (k0_pay70 (k0_pay168 x0 x1 x2 x3 x4 x5 x6) (k0_pay169 x0 x1 x2 x3 x4 x5 x6) (k0_pay170 x0 x1 x2 x3 x4 x5 x6) (k0_pay187 x0 x1 x2 x3 x4 x5 x6) (View.ld x0 r0_17) (View.ld x1 r0_17) (View.ld x2 r0_20)) (View.ld x3 r0_20) (ix2 i e)
      = retOut siluTanh P 2 (512 + i.val) e :=
  show gateOf (normOf (mixOf (k0_pay168 x0 x1 x2 x3 x4 x5 x6) (k0_pay169 x0 x1 x2 x3 x4 x5 x6) (k0_pay170 x0 x1 x2 x3 x4 x5 x6) (k0_pay187 x0 x1 x2 x3 x4 x5 x6) (View.ld x0 r0_17) (View.ld x1 r0_17) (View.ld x2 r0_20))) (View.ld x3 r0_20) (ix2 i e) = _ from
    piece (p := 1) (o := 0) half2 (inner2 x0 x1 x2 x3 x4 x5 x6) (qdec2 x0 x1 x2 x3 x4 x5 x6) (mine2 x0 x1 x2 x3 x4 x5 x6) (state1_2 x0 x1 x2 x3 x4 x5 x6 H) (reads_x0_r0_17 H) (reads_x1_r0_17 H) (reads_x2_r0_20 H) (reads_x3_r0_20 H) i e

theorem piece2_3 (H : Holding P x0 x1 x2 x3) (i : Fin 256) (e : Fin 128) :
    k0_pay75 (k0_pay72 (k0_pay172 x0 x1 x2 x3 x4 x5 x6) (k0_pay173 x0 x1 x2 x3 x4 x5 x6) (k0_pay174 x0 x1 x2 x3 x4 x5 x6) (k0_pay188 x0 x1 x2 x3 x4 x5 x6) (View.ld x0 r0_17) (View.ld x1 r0_17) (View.ld x2 r0_21)) (k0_pay74 (k0_pay172 x0 x1 x2 x3 x4 x5 x6) (k0_pay173 x0 x1 x2 x3 x4 x5 x6) (k0_pay174 x0 x1 x2 x3 x4 x5 x6) (k0_pay188 x0 x1 x2 x3 x4 x5 x6) (View.ld x0 r0_17) (View.ld x1 r0_17) (View.ld x2 r0_21)) (View.ld x3 r0_21) (ix2 i e)
      = retOut siluTanh P 3 (512 + i.val) e :=
  show gateOf (normOf (mixOf (k0_pay172 x0 x1 x2 x3 x4 x5 x6) (k0_pay173 x0 x1 x2 x3 x4 x5 x6) (k0_pay174 x0 x1 x2 x3 x4 x5 x6) (k0_pay188 x0 x1 x2 x3 x4 x5 x6) (View.ld x0 r0_17) (View.ld x1 r0_17) (View.ld x2 r0_21))) (View.ld x3 r0_21) (ix2 i e) = _ from
    piece (p := 1) (o := 1) half3 (inner3 x0 x1 x2 x3 x4 x5 x6) (qdec3 x0 x1 x2 x3 x4 x5 x6) (mine3 x0 x1 x2 x3 x4 x5 x6) (state1_3 x0 x1 x2 x3 x4 x5 x6 H) (reads_x0_r0_17 H) (reads_x1_r0_17 H) (reads_x2_r0_21 H) (reads_x3_r0_21 H) i e

theorem piece3_0 (H : Holding P x0 x1 x2 x3) (i : Fin 256) (e : Fin 128) :
    k0_pay81 (k0_pay78 (k0_pay160 x0 x1 x2 x3 x4 x5 x6) (k0_pay161 x0 x1 x2 x3 x4 x5 x6) (k0_pay162 x0 x1 x2 x3 x4 x5 x6) (k0_pay190 x0 x1 x2 x3 x4 x5 x6) (View.ld x0 r0_22) (View.ld x1 r0_22) (View.ld x2 r0_24)) (k0_pay80 (k0_pay160 x0 x1 x2 x3 x4 x5 x6) (k0_pay161 x0 x1 x2 x3 x4 x5 x6) (k0_pay162 x0 x1 x2 x3 x4 x5 x6) (k0_pay190 x0 x1 x2 x3 x4 x5 x6) (View.ld x0 r0_22) (View.ld x1 r0_22) (View.ld x2 r0_24)) (View.ld x3 r0_24) (ix2 i e)
      = retOut siluTanh P 0 (768 + i.val) e :=
  show gateOf (normOf (mixOf (k0_pay160 x0 x1 x2 x3 x4 x5 x6) (k0_pay161 x0 x1 x2 x3 x4 x5 x6) (k0_pay162 x0 x1 x2 x3 x4 x5 x6) (k0_pay190 x0 x1 x2 x3 x4 x5 x6) (View.ld x0 r0_22) (View.ld x1 r0_22) (View.ld x2 r0_24))) (View.ld x3 r0_24) (ix2 i e) = _ from
    piece (p := 0) (o := 0) half0 (inner0 x0 x1 x2 x3 x4 x5 x6) (qdec0 x0 x1 x2 x3 x4 x5 x6) (mine0 x0 x1 x2 x3 x4 x5 x6) (state2_0 x0 x1 x2 x3 x4 x5 x6 H) (reads_x0_r0_22 H) (reads_x1_r0_22 H) (reads_x2_r0_24 H) (reads_x3_r0_24 H) i e

theorem piece3_1 (H : Holding P x0 x1 x2 x3) (i : Fin 256) (e : Fin 128) :
    k0_pay85 (k0_pay82 (k0_pay164 x0 x1 x2 x3 x4 x5 x6) (k0_pay165 x0 x1 x2 x3 x4 x5 x6) (k0_pay166 x0 x1 x2 x3 x4 x5 x6) (k0_pay191 x0 x1 x2 x3 x4 x5 x6) (View.ld x0 r0_22) (View.ld x1 r0_22) (View.ld x2 r0_25)) (k0_pay84 (k0_pay164 x0 x1 x2 x3 x4 x5 x6) (k0_pay165 x0 x1 x2 x3 x4 x5 x6) (k0_pay166 x0 x1 x2 x3 x4 x5 x6) (k0_pay191 x0 x1 x2 x3 x4 x5 x6) (View.ld x0 r0_22) (View.ld x1 r0_22) (View.ld x2 r0_25)) (View.ld x3 r0_25) (ix2 i e)
      = retOut siluTanh P 1 (768 + i.val) e :=
  show gateOf (normOf (mixOf (k0_pay164 x0 x1 x2 x3 x4 x5 x6) (k0_pay165 x0 x1 x2 x3 x4 x5 x6) (k0_pay166 x0 x1 x2 x3 x4 x5 x6) (k0_pay191 x0 x1 x2 x3 x4 x5 x6) (View.ld x0 r0_22) (View.ld x1 r0_22) (View.ld x2 r0_25))) (View.ld x3 r0_25) (ix2 i e) = _ from
    piece (p := 0) (o := 1) half1 (inner1 x0 x1 x2 x3 x4 x5 x6) (qdec1 x0 x1 x2 x3 x4 x5 x6) (mine1 x0 x1 x2 x3 x4 x5 x6) (state2_1 x0 x1 x2 x3 x4 x5 x6 H) (reads_x0_r0_22 H) (reads_x1_r0_22 H) (reads_x2_r0_25 H) (reads_x3_r0_25 H) i e

theorem piece3_2 (H : Holding P x0 x1 x2 x3) (i : Fin 256) (e : Fin 128) :
    k0_pay90 (k0_pay86 (k0_pay168 x0 x1 x2 x3 x4 x5 x6) (k0_pay169 x0 x1 x2 x3 x4 x5 x6) (k0_pay170 x0 x1 x2 x3 x4 x5 x6) (k0_pay192 x0 x1 x2 x3 x4 x5 x6) (View.ld x0 r0_23) (View.ld x1 r0_23) (View.ld x2 r0_26)) (k0_pay88 (k0_pay168 x0 x1 x2 x3 x4 x5 x6) (k0_pay169 x0 x1 x2 x3 x4 x5 x6) (k0_pay170 x0 x1 x2 x3 x4 x5 x6) (k0_pay192 x0 x1 x2 x3 x4 x5 x6) (View.ld x0 r0_23) (View.ld x1 r0_23) (View.ld x2 r0_26)) (k0_pay89 (F := Ideal)) (View.ld x3 r0_26) (ix2 i e)
      = retOut siluTanh P 2 (768 + i.val) e :=
  show gateOf (normOf (mixOf (k0_pay168 x0 x1 x2 x3 x4 x5 x6) (k0_pay169 x0 x1 x2 x3 x4 x5 x6) (k0_pay170 x0 x1 x2 x3 x4 x5 x6) (k0_pay192 x0 x1 x2 x3 x4 x5 x6) (View.ld x0 r0_23) (View.ld x1 r0_23) (View.ld x2 r0_26))) (View.ld x3 r0_26) (ix2 i e) = _ from
    piece (p := 1) (o := 0) half2 (inner2 x0 x1 x2 x3 x4 x5 x6) (qdec2 x0 x1 x2 x3 x4 x5 x6) (mine2 x0 x1 x2 x3 x4 x5 x6) (state2_2 x0 x1 x2 x3 x4 x5 x6 H) (reads_x0_r0_23 H) (reads_x1_r0_23 H) (reads_x2_r0_26 H) (reads_x3_r0_26 H) i e

theorem piece3_3 (H : Holding P x0 x1 x2 x3) (i : Fin 256) (e : Fin 128) :
    k0_pay94 (k0_pay91 (k0_pay172 x0 x1 x2 x3 x4 x5 x6) (k0_pay173 x0 x1 x2 x3 x4 x5 x6) (k0_pay174 x0 x1 x2 x3 x4 x5 x6) (k0_pay193 x0 x1 x2 x3 x4 x5 x6) (View.ld x0 r0_23) (View.ld x1 r0_23) (View.ld x2 r0_27)) (k0_pay93 (k0_pay172 x0 x1 x2 x3 x4 x5 x6) (k0_pay173 x0 x1 x2 x3 x4 x5 x6) (k0_pay174 x0 x1 x2 x3 x4 x5 x6) (k0_pay193 x0 x1 x2 x3 x4 x5 x6) (View.ld x0 r0_23) (View.ld x1 r0_23) (View.ld x2 r0_27)) (Scalar.ofBits .f32 0x358637BD#32 : Ideal .f32) (View.ld x3 r0_27) (ix2 i e)
      = retOut siluTanh P 3 (768 + i.val) e :=
  show gateOf (normOf (mixOf (k0_pay172 x0 x1 x2 x3 x4 x5 x6) (k0_pay173 x0 x1 x2 x3 x4 x5 x6) (k0_pay174 x0 x1 x2 x3 x4 x5 x6) (k0_pay193 x0 x1 x2 x3 x4 x5 x6) (View.ld x0 r0_23) (View.ld x1 r0_23) (View.ld x2 r0_27))) (View.ld x3 r0_27) (ix2 i e) = _ from
    piece (p := 1) (o := 1) half3 (inner3 x0 x1 x2 x3 x4 x5 x6) (qdec3 x0 x1 x2 x3 x4 x5 x6) (mine3 x0 x1 x2 x3 x4 x5 x6) (state2_3 x0 x1 x2 x3 x4 x5 x6 H) (reads_x0_r0_23 H) (reads_x1_r0_23 H) (reads_x2_r0_27 H) (reads_x3_r0_27 H) i e

theorem piece4_0 (H : Holding P x0 x1 x2 x3) (i : Fin 256) (e : Fin 128) :
    k0_pay100 (k0_pay97 (k0_pay160 x0 x1 x2 x3 x4 x5 x6) (k0_pay161 x0 x1 x2 x3 x4 x5 x6) (k0_pay162 x0 x1 x2 x3 x4 x5 x6) (k0_pay195 x0 x1 x2 x3 x4 x5 x6) (View.ld x0 r0_28) (View.ld x1 r0_28) (View.ld x2 r0_30)) (View.ld x3 r0_30) (ix2 i e)
      = retOut siluTanh P 0 (1024 + i.val) e :=
  show gateOf (normOf (mixOf (k0_pay160 x0 x1 x2 x3 x4 x5 x6) (k0_pay161 x0 x1 x2 x3 x4 x5 x6) (k0_pay162 x0 x1 x2 x3 x4 x5 x6) (k0_pay195 x0 x1 x2 x3 x4 x5 x6) (View.ld x0 r0_28) (View.ld x1 r0_28) (View.ld x2 r0_30))) (View.ld x3 r0_30) (ix2 i e) = _ from
    piece (p := 0) (o := 0) half0 (inner0 x0 x1 x2 x3 x4 x5 x6) (qdec0 x0 x1 x2 x3 x4 x5 x6) (mine0 x0 x1 x2 x3 x4 x5 x6) (state3_0 x0 x1 x2 x3 x4 x5 x6 H) (reads_x0_r0_28 H) (reads_x1_r0_28 H) (reads_x2_r0_30 H) (reads_x3_r0_30 H) i e

theorem piece4_1 (H : Holding P x0 x1 x2 x3) (i : Fin 256) (e : Fin 128) :
    k0_pay103 (k0_pay101 (k0_pay164 x0 x1 x2 x3 x4 x5 x6) (k0_pay165 x0 x1 x2 x3 x4 x5 x6) (k0_pay166 x0 x1 x2 x3 x4 x5 x6) (k0_pay196 x0 x1 x2 x3 x4 x5 x6) (View.ld x0 r0_28) (View.ld x1 r0_28) (View.ld x2 r0_31)) (View.ld x3 r0_31) (ix2 i e)
      = retOut siluTanh P 1 (1024 + i.val) e :=
  show gateOf (normOf (mixOf (k0_pay164 x0 x1 x2 x3 x4 x5 x6) (k0_pay165 x0 x1 x2 x3 x4 x5 x6) (k0_pay166 x0 x1 x2 x3 x4 x5 x6) (k0_pay196 x0 x1 x2 x3 x4 x5 x6) (View.ld x0 r0_28) (View.ld x1 r0_28) (View.ld x2 r0_31))) (View.ld x3 r0_31) (ix2 i e) = _ from
    piece (p := 0) (o := 1) half1 (inner1 x0 x1 x2 x3 x4 x5 x6) (qdec1 x0 x1 x2 x3 x4 x5 x6) (mine1 x0 x1 x2 x3 x4 x5 x6) (state3_1 x0 x1 x2 x3 x4 x5 x6 H) (reads_x0_r0_28 H) (reads_x1_r0_28 H) (reads_x2_r0_31 H) (reads_x3_r0_31 H) i e

theorem piece4_2 (H : Holding P x0 x1 x2 x3) (i : Fin 256) (e : Fin 128) :
    k0_pay107 (k0_pay104 (k0_pay168 x0 x1 x2 x3 x4 x5 x6) (k0_pay169 x0 x1 x2 x3 x4 x5 x6) (k0_pay170 x0 x1 x2 x3 x4 x5 x6) (k0_pay197 x0 x1 x2 x3 x4 x5 x6) (View.ld x0 r0_29) (View.ld x1 r0_29) (View.ld x2 r0_32)) (k0_pay106 (k0_pay168 x0 x1 x2 x3 x4 x5 x6) (k0_pay169 x0 x1 x2 x3 x4 x5 x6) (k0_pay170 x0 x1 x2 x3 x4 x5 x6) (k0_pay197 x0 x1 x2 x3 x4 x5 x6) (View.ld x0 r0_29) (View.ld x1 r0_29) (View.ld x2 r0_32)) (View.ld x3 r0_32) (ix2 i e)
      = retOut siluTanh P 2 (1024 + i.val) e :=
  show gateOf (normOf (mixOf (k0_pay168 x0 x1 x2 x3 x4 x5 x6) (k0_pay169 x0 x1 x2 x3 x4 x5 x6) (k0_pay170 x0 x1 x2 x3 x4 x5 x6) (k0_pay197 x0 x1 x2 x3 x4 x5 x6) (View.ld x0 r0_29) (View.ld x1 r0_29) (View.ld x2 r0_32))) (View.ld x3 r0_32) (ix2 i e) = _ from
    piece (p := 1) (o := 0) half2 (inner2 x0 x1 x2 x3 x4 x5 x6) (qdec2 x0 x1 x2 x3 x4 x5 x6) (mine2 x0 x1 x2 x3 x4 x5 x6) (state3_2 x0 x1 x2 x3 x4 x5 x6 H) (reads_x0_r0_29 H) (reads_x1_r0_29 H) (reads_x2_r0_32 H) (reads_x3_r0_32 H) i e

theorem piece4_3 (H : Holding P x0 x1 x2 x3) (i : Fin 256) (e : Fin 128) :
    k0_pay111 (k0_pay108 (k0_pay172 x0 x1 x2 x3 x4 x5 x6) (k0_pay173 x0 x1 x2 x3 x4 x5 x6) (k0_pay174 x0 x1 x2 x3 x4 x5 x6) (k0_pay198 x0 x1 x2 x3 x4 x5 x6) (View.ld x0 r0_29) (View.ld x1 r0_29) (View.ld x2 r0_33)) (k0_pay110 (k0_pay172 x0 x1 x2 x3 x4 x5 x6) (k0_pay173 x0 x1 x2 x3 x4 x5 x6) (k0_pay174 x0 x1 x2 x3 x4 x5 x6) (k0_pay198 x0 x1 x2 x3 x4 x5 x6) (View.ld x0 r0_29) (View.ld x1 r0_29) (View.ld x2 r0_33)) (View.ld x3 r0_33) (ix2 i e)
      = retOut siluTanh P 3 (1024 + i.val) e :=
  show gateOf (normOf (mixOf (k0_pay172 x0 x1 x2 x3 x4 x5 x6) (k0_pay173 x0 x1 x2 x3 x4 x5 x6) (k0_pay174 x0 x1 x2 x3 x4 x5 x6) (k0_pay198 x0 x1 x2 x3 x4 x5 x6) (View.ld x0 r0_29) (View.ld x1 r0_29) (View.ld x2 r0_33))) (View.ld x3 r0_33) (ix2 i e) = _ from
    piece (p := 1) (o := 1) half3 (inner3 x0 x1 x2 x3 x4 x5 x6) (qdec3 x0 x1 x2 x3 x4 x5 x6) (mine3 x0 x1 x2 x3 x4 x5 x6) (state3_3 x0 x1 x2 x3 x4 x5 x6 H) (reads_x0_r0_29 H) (reads_x1_r0_29 H) (reads_x2_r0_33 H) (reads_x3_r0_33 H) i e

theorem piece5_0 (H : Holding P x0 x1 x2 x3) (i : Fin 256) (e : Fin 128) :
    k0_pay116 (k0_pay114 (k0_pay160 x0 x1 x2 x3 x4 x5 x6) (k0_pay161 x0 x1 x2 x3 x4 x5 x6) (k0_pay162 x0 x1 x2 x3 x4 x5 x6) (k0_pay201 x0 x1 x2 x3 x4 x5 x6) (View.ld x0 r0_34) (View.ld x1 r0_34) (View.ld x2 r0_36)) (View.ld x3 r0_36) (ix2 i e)
      = retOut siluTanh P 0 (1280 + i.val) e :=
  show gateOf (normOf (mixOf (k0_pay160 x0 x1 x2 x3 x4 x5 x6) (k0_pay161 x0 x1 x2 x3 x4 x5 x6) (k0_pay162 x0 x1 x2 x3 x4 x5 x6) (k0_pay201 x0 x1 x2 x3 x4 x5 x6) (View.ld x0 r0_34) (View.ld x1 r0_34) (View.ld x2 r0_36))) (View.ld x3 r0_36) (ix2 i e) = _ from
    piece (p := 0) (o := 0) half0 (inner0 x0 x1 x2 x3 x4 x5 x6) (qdec0 x0 x1 x2 x3 x4 x5 x6) (mine0 x0 x1 x2 x3 x4 x5 x6) (state4_0 x0 x1 x2 x3 x4 x5 x6 H) (reads_x0_r0_34 H) (reads_x1_r0_34 H) (reads_x2_r0_36 H) (reads_x3_r0_36 H) i e

theorem piece5_1 (H : Holding P x0 x1 x2 x3) (i : Fin 256) (e : Fin 128) :
    k0_pay120 (k0_pay117 (k0_pay164 x0 x1 x2 x3 x4 x5 x6) (k0_pay165 x0 x1 x2 x3 x4 x5 x6) (k0_pay166 x0 x1 x2 x3 x4 x5 x6) (k0_pay202 x0 x1 x2 x3 x4 x5 x6) (View.ld x0 r0_34) (View.ld x1 r0_34) (View.ld x2 r0_37)) (View.ld x3 r0_37) (ix2 i e)
      = retOut siluTanh P 1 (1280 + i.val) e :=
  show gateOf (normOf (mixOf (k0_pay164 x0 x1 x2 x3 x4 x5 x6) (k0_pay165 x0 x1 x2 x3 x4 x5 x6) (k0_pay166 x0 x1 x2 x3 x4 x5 x6) (k0_pay202 x0 x1 x2 x3 x4 x5 x6) (View.ld x0 r0_34) (View.ld x1 r0_34) (View.ld x2 r0_37))) (View.ld x3 r0_37) (ix2 i e) = _ from
    piece (p := 0) (o := 1) half1 (inner1 x0 x1 x2 x3 x4 x5 x6) (qdec1 x0 x1 x2 x3 x4 x5 x6) (mine1 x0 x1 x2 x3 x4 x5 x6) (state4_1 x0 x1 x2 x3 x4 x5 x6 H) (reads_x0_r0_34 H) (reads_x1_r0_34 H) (reads_x2_r0_37 H) (reads_x3_r0_37 H) i e

theorem piece5_2 (H : Holding P x0 x1 x2 x3) (i : Fin 256) (e : Fin 128) :
    k0_pay124 (k0_pay121 (k0_pay168 x0 x1 x2 x3 x4 x5 x6) (k0_pay169 x0 x1 x2 x3 x4 x5 x6) (k0_pay170 x0 x1 x2 x3 x4 x5 x6) (k0_pay203 x0 x1 x2 x3 x4 x5 x6) (View.ld x0 r0_35) (View.ld x1 r0_35) (View.ld x2 r0_38)) (View.ld x3 r0_38) (ix2 i e)
      = retOut siluTanh P 2 (1280 + i.val) e :=
  show gateOf (normOf (mixOf (k0_pay168 x0 x1 x2 x3 x4 x5 x6) (k0_pay169 x0 x1 x2 x3 x4 x5 x6) (k0_pay170 x0 x1 x2 x3 x4 x5 x6) (k0_pay203 x0 x1 x2 x3 x4 x5 x6) (View.ld x0 r0_35) (View.ld x1 r0_35) (View.ld x2 r0_38))) (View.ld x3 r0_38) (ix2 i e) = _ from
    piece (p := 1) (o := 0) half2 (inner2 x0 x1 x2 x3 x4 x5 x6) (qdec2 x0 x1 x2 x3 x4 x5 x6) (mine2 x0 x1 x2 x3 x4 x5 x6) (state4_2 x0 x1 x2 x3 x4 x5 x6 H) (reads_x0_r0_35 H) (reads_x1_r0_35 H) (reads_x2_r0_38 H) (reads_x3_r0_38 H) i e

theorem piece5_3 (H : Holding P x0 x1 x2 x3) (i : Fin 256) (e : Fin 128) :
    k0_pay127 (k0_pay125 (k0_pay172 x0 x1 x2 x3 x4 x5 x6) (k0_pay173 x0 x1 x2 x3 x4 x5 x6) (k0_pay174 x0 x1 x2 x3 x4 x5 x6) (k0_pay204 x0 x1 x2 x3 x4 x5 x6) (View.ld x0 r0_35) (View.ld x1 r0_35) (View.ld x2 r0_39)) (View.ld x3 r0_39) (ix2 i e)
      = retOut siluTanh P 3 (1280 + i.val) e :=
  show gateOf (normOf (mixOf (k0_pay172 x0 x1 x2 x3 x4 x5 x6) (k0_pay173 x0 x1 x2 x3 x4 x5 x6) (k0_pay174 x0 x1 x2 x3 x4 x5 x6) (k0_pay204 x0 x1 x2 x3 x4 x5 x6) (View.ld x0 r0_35) (View.ld x1 r0_35) (View.ld x2 r0_39))) (View.ld x3 r0_39) (ix2 i e) = _ from
    piece (p := 1) (o := 1) half3 (inner3 x0 x1 x2 x3 x4 x5 x6) (qdec3 x0 x1 x2 x3 x4 x5 x6) (mine3 x0 x1 x2 x3 x4 x5 x6) (state4_3 x0 x1 x2 x3 x4 x5 x6 H) (reads_x0_r0_35 H) (reads_x1_r0_35 H) (reads_x2_r0_39 H) (reads_x3_r0_39 H) i e

theorem piece6_0 (H : Holding P x0 x1 x2 x3) (i : Fin 256) (e : Fin 128) :
    k0_pay134 (k0_pay161 x0 x1 x2 x3 x4 x5 x6) (k0_pay130 (k0_pay162 x0 x1 x2 x3 x4 x5 x6) (View.ld x0 r0_40)) (k0_pay131 (k0_pay160 x0 x1 x2 x3 x4 x5 x6) (k0_pay162 x0 x1 x2 x3 x4 x5 x6) (View.ld x0 r0_40) (View.ld x1 r0_40) (View.ld x2 r0_42)) (k0_pay132 (k0_pay207 x0 x1 x2 x3 x4 x5 x6)) (View.ld x3 r0_42) (ix2 i e)
      = retOut siluTanh P 0 (1536 + i.val) e :=
  show gateOf (normOf (mixOf (k0_pay160 x0 x1 x2 x3 x4 x5 x6) (k0_pay161 x0 x1 x2 x3 x4 x5 x6) (k0_pay162 x0 x1 x2 x3 x4 x5 x6) (k0_pay207 x0 x1 x2 x3 x4 x5 x6) (View.ld x0 r0_40) (View.ld x1 r0_40) (View.ld x2 r0_42))) (View.ld x3 r0_42) (ix2 i e) = _ from
    piece (p := 0) (o := 0) half0 (inner0 x0 x1 x2 x3 x4 x5 x6) (qdec0 x0 x1 x2 x3 x4 x5 x6) (mine0 x0 x1 x2 x3 x4 x5 x6) (state5_0 x0 x1 x2 x3 x4 x5 x6 H) (reads_x0_r0_40 H) (reads_x1_r0_40 H) (reads_x2_r0_42 H) (reads_x3_r0_42 H) i e

theorem piece6_1 (H : Holding P x0 x1 x2 x3) (i : Fin 256) (e : Fin 128) :
    k0_pay139 (k0_pay165 x0 x1 x2 x3 x4 x5 x6) (k0_pay136 (k0_pay164 x0 x1 x2 x3 x4 x5 x6) (k0_pay166 x0 x1 x2 x3 x4 x5 x6) (View.ld x0 r0_40) (View.ld x1 r0_40) (View.ld x2 r0_43)) (k0_pay137 (k0_pay166 x0 x1 x2 x3 x4 x5 x6) (k0_pay208 x0 x1 x2 x3 x4 x5 x6) (View.ld x0 r0_40)) (View.ld x3 r0_43) (ix2 i e)
      = retOut siluTanh P 1 (1536 + i.val) e :=
  show gateOf (normOf (mixOf (k0_pay164 x0 x1 x2 x3 x4 x5 x6) (k0_pay165 x0 x1 x2 x3 x4 x5 x6) (k0_pay166 x0 x1 x2 x3 x4 x5 x6) (k0_pay208 x0 x1 x2 x3 x4 x5 x6) (View.ld x0 r0_40) (View.ld x1 r0_40) (View.ld x2 r0_43))) (View.ld x3 r0_43) (ix2 i e) = _ from
    piece (p := 0) (o := 1) half1 (inner1 x0 x1 x2 x3 x4 x5 x6) (qdec1 x0 x1 x2 x3 x4 x5 x6) (mine1 x0 x1 x2 x3 x4 x5 x6) (state5_1 x0 x1 x2 x3 x4 x5 x6 H) (reads_x0_r0_40 H) (reads_x1_r0_40 H) (reads_x2_r0_43 H) (reads_x3_r0_43 H) i e

theorem piece6_2 (H : Holding P x0 x1 x2 x3) (i : Fin 256) (e : Fin 128) :
    k0_pay142 (k0_pay140 (k0_pay168 x0 x1 x2 x3 x4 x5 x6) (k0_pay169 x0 x1 x2 x3 x4 x5 x6) (k0_pay170 x0 x1 x2 x3 x4 x5 x6) (k0_pay209 x0 x1 x2 x3 x4 x5 x6) (View.ld x0 r0_41) (View.ld x1 r0_41) (View.ld x2 r0_44)) (View.ld x3 r0_44) (ix2 i e)
      = retOut siluTanh P 2 (1536 + i.val) e :=
  show gateOf (normOf (mixOf (k0_pay168 x0 x1 x2 x3 x4 x5 x6) (k0_pay169 x0 x1 x2 x3 x4 x5 x6) (k0_pay170 x0 x1 x2 x3 x4 x5 x6) (k0_pay209 x0 x1 x2 x3 x4 x5 x6) (View.ld x0 r0_41) (View.ld x1 r0_41) (View.ld x2 r0_44))) (View.ld x3 r0_44) (ix2 i e) = _ from
    piece (p := 1) (o := 0) half2 (inner2 x0 x1 x2 x3 x4 x5 x6) (qdec2 x0 x1 x2 x3 x4 x5 x6) (mine2 x0 x1 x2 x3 x4 x5 x6) (state5_2 x0 x1 x2 x3 x4 x5 x6 H) (reads_x0_r0_41 H) (reads_x1_r0_41 H) (reads_x2_r0_44 H) (reads_x3_r0_44 H) i e

theorem piece6_3 (H : Holding P x0 x1 x2 x3) (i : Fin 256) (e : Fin 128) :
    k0_pay146 (k0_pay143 (k0_pay172 x0 x1 x2 x3 x4 x5 x6) (k0_pay173 x0 x1 x2 x3 x4 x5 x6) (k0_pay174 x0 x1 x2 x3 x4 x5 x6) (k0_pay210 x0 x1 x2 x3 x4 x5 x6) (View.ld x0 r0_41) (View.ld x1 r0_41) (View.ld x2 r0_45)) (View.ld x3 r0_45) (ix2 i e)
      = retOut siluTanh P 3 (1536 + i.val) e :=
  show gateOf (normOf (mixOf (k0_pay172 x0 x1 x2 x3 x4 x5 x6) (k0_pay173 x0 x1 x2 x3 x4 x5 x6) (k0_pay174 x0 x1 x2 x3 x4 x5 x6) (k0_pay210 x0 x1 x2 x3 x4 x5 x6) (View.ld x0 r0_41) (View.ld x1 r0_41) (View.ld x2 r0_45))) (View.ld x3 r0_45) (ix2 i e) = _ from
    piece (p := 1) (o := 1) half3 (inner3 x0 x1 x2 x3 x4 x5 x6) (qdec3 x0 x1 x2 x3 x4 x5 x6) (mine3 x0 x1 x2 x3 x4 x5 x6) (state5_3 x0 x1 x2 x3 x4 x5 x6 H) (reads_x0_r0_41 H) (reads_x1_r0_41 H) (reads_x2_r0_45 H) (reads_x3_r0_45 H) i e

theorem piece7_0 (H : Holding P x0 x1 x2 x3) (i : Fin 256) (e : Fin 128) :
    k0_pay149 (k0_pay147 (k0_pay160 x0 x1 x2 x3 x4 x5 x6) (k0_pay161 x0 x1 x2 x3 x4 x5 x6) (k0_pay162 x0 x1 x2 x3 x4 x5 x6) (k0_pay213 x0 x1 x2 x3 x4 x5 x6) (View.ld x0 r0_46) (View.ld x1 r0_46) (View.ld x2 r0_47)) (k0_pay148 (k0_pay160 x0 x1 x2 x3 x4 x5 x6) (k0_pay161 x0 x1 x2 x3 x4 x5 x6) (k0_pay162 x0 x1 x2 x3 x4 x5 x6) (k0_pay213 x0 x1 x2 x3 x4 x5 x6) (View.ld x0 r0_46) (View.ld x1 r0_46) (View.ld x2 r0_47)) (View.ld x3 r0_47) (ix2 i e)
      = retOut siluTanh P 0 (1792 + i.val) e :=
  show gateOf (normOf (mixOf (k0_pay160 x0 x1 x2 x3 x4 x5 x6) (k0_pay161 x0 x1 x2 x3 x4 x5 x6) (k0_pay162 x0 x1 x2 x3 x4 x5 x6) (k0_pay213 x0 x1 x2 x3 x4 x5 x6) (View.ld x0 r0_46) (View.ld x1 r0_46) (View.ld x2 r0_47))) (View.ld x3 r0_47) (ix2 i e) = _ from
    piece (p := 0) (o := 0) half0 (inner0 x0 x1 x2 x3 x4 x5 x6) (qdec0 x0 x1 x2 x3 x4 x5 x6) (mine0 x0 x1 x2 x3 x4 x5 x6) (state6_0 x0 x1 x2 x3 x4 x5 x6 H) (reads_x0_r0_46 H) (reads_x1_r0_46 H) (reads_x2_r0_47 H) (reads_x3_r0_47 H) i e

theorem piece7_1 (H : Holding P x0 x1 x2 x3) (i : Fin 256) (e : Fin 128) :
    k0_pay152 (k0_pay150 (k0_pay164 x0 x1 x2 x3 x4 x5 x6) (k0_pay165 x0 x1 x2 x3 x4 x5 x6) (k0_pay166 x0 x1 x2 x3 x4 x5 x6) (k0_pay214 x0 x1 x2 x3 x4 x5 x6) (View.ld x0 r0_46) (View.ld x1 r0_46) (View.ld x2 r0_48)) (k0_pay151 (k0_pay164 x0 x1 x2 x3 x4 x5 x6) (k0_pay165 x0 x1 x2 x3 x4 x5 x6) (k0_pay166 x0 x1 x2 x3 x4 x5 x6) (k0_pay214 x0 x1 x2 x3 x4 x5 x6) (View.ld x0 r0_46) (View.ld x1 r0_46) (View.ld x2 r0_48)) (View.ld x3 r0_48) (ix2 i e)
      = retOut siluTanh P 1 (1792 + i.val) e :=
  show gateOf (normOf (mixOf (k0_pay164 x0 x1 x2 x3 x4 x5 x6) (k0_pay165 x0 x1 x2 x3 x4 x5 x6) (k0_pay166 x0 x1 x2 x3 x4 x5 x6) (k0_pay214 x0 x1 x2 x3 x4 x5 x6) (View.ld x0 r0_46) (View.ld x1 r0_46) (View.ld x2 r0_48))) (View.ld x3 r0_48) (ix2 i e) = _ from
    piece (p := 0) (o := 1) half1 (inner1 x0 x1 x2 x3 x4 x5 x6) (qdec1 x0 x1 x2 x3 x4 x5 x6) (mine1 x0 x1 x2 x3 x4 x5 x6) (state6_1 x0 x1 x2 x3 x4 x5 x6 H) (reads_x0_r0_46 H) (reads_x1_r0_46 H) (reads_x2_r0_48 H) (reads_x3_r0_48 H) i e

theorem piece7_2 (H : Holding P x0 x1 x2 x3) (i : Fin 256) (e : Fin 128) :
    k0_pay155 (k0_pay153 (k0_pay168 x0 x1 x2 x3 x4 x5 x6) (k0_pay169 x0 x1 x2 x3 x4 x5 x6) (k0_pay170 x0 x1 x2 x3 x4 x5 x6) (k0_pay141 (k0_pay209 x0 x1 x2 x3 x4 x5 x6) (k0_pay212 x0 x1 x2 x3 x4 x5 x6) (View.ld x2 r0_44)) (View.ld x0 r0_49) (View.ld x1 r0_49) (View.ld x2 r0_50)) (k0_pay154 (View.ld x3 r0_50)) (ix2 i e)
      = retOut siluTanh P 2 (1792 + i.val) e :=
  show gateOf (normOf (mixOf (k0_pay168 x0 x1 x2 x3 x4 x5 x6) (k0_pay169 x0 x1 x2 x3 x4 x5 x6) (k0_pay170 x0 x1 x2 x3 x4 x5 x6) (k0_pay141 (k0_pay209 x0 x1 x2 x3 x4 x5 x6) (k0_pay212 x0 x1 x2 x3 x4 x5 x6) (View.ld x2 r0_44)) (View.ld x0 r0_49) (View.ld x1 r0_49) (View.ld x2 r0_50))) (View.ld x3 r0_50) (ix2 i e) = _ from
    piece (p := 1) (o := 0) half2 (inner2 x0 x1 x2 x3 x4 x5 x6) (qdec2 x0 x1 x2 x3 x4 x5 x6) (mine2 x0 x1 x2 x3 x4 x5 x6) (state6_2 x0 x1 x2 x3 x4 x5 x6 H) (reads_x0_r0_49 H) (reads_x1_r0_49 H) (reads_x2_r0_50 H) (reads_x3_r0_50 H) i e

theorem piece7_3 (H : Holding P x0 x1 x2 x3) (i : Fin 256) (e : Fin 128) :
    k0_pay156 (k0_pay172 x0 x1 x2 x3 x4 x5 x6) (k0_pay173 x0 x1 x2 x3 x4 x5 x6) (k0_pay174 x0 x1 x2 x3 x4 x5 x6) (k0_pay145 (k0_pay210 x0 x1 x2 x3 x4 x5 x6) (k0_pay212 x0 x1 x2 x3 x4 x5 x6) (View.ld x2 r0_45) (k0_pay144 (F := Ideal))) (View.ld x0 r0_49) (View.ld x1 r0_49) (View.ld x2 r0_51) (View.ld x3 r0_51) (ix2 i e)
      = retOut siluTanh P 3 (1792 + i.val) e :=
  show gateOf (normOf (mixOf (k0_pay172 x0 x1 x2 x3 x4 x5 x6) (k0_pay173 x0 x1 x2 x3 x4 x5 x6) (k0_pay174 x0 x1 x2 x3 x4 x5 x6) (k0_pay145 (k0_pay210 x0 x1 x2 x3 x4 x5 x6) (k0_pay212 x0 x1 x2 x3 x4 x5 x6) (View.ld x2 r0_45) (k0_pay144 (F := Ideal))) (View.ld x0 r0_49) (View.ld x1 r0_49) (View.ld x2 r0_51))) (View.ld x3 r0_51) (ix2 i e) = _ from
    piece (p := 1) (o := 1) half3 (inner3 x0 x1 x2 x3 x4 x5 x6) (qdec3 x0 x1 x2 x3 x4 x5 x6) (mine3 x0 x1 x2 x3 x4 x5 x6) (state6_3 x0 x1 x2 x3 x4 x5 x6 H) (reads_x0_r0_49 H) (reads_x1_r0_49 H) (reads_x2_r0_51 H) (reads_x3_r0_51 H) i e

/-- What a grid point writes, at row `s` and column `c`. -/
theorem out7_at (H : Holding P x0 x1 x2 x3) (y : S2048x512.Idx) :
    out0_7 x0 x1 x2 x3 x4 x5 x6 y = batchOut siluTanh P (y 0).val (y 1) := by
  unfold out0_7
  refine View.canon_apply_of_pieces (Val := Elt Ideal) (e := .bf16) (S := S2048x512) (fun y => batchOut siluTanh P (y 0).val (y 1)) _ ?_ y ?_
  · intro p hp
    simp only [List.mem_cons, List.mem_nil_iff, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;> intro z <;> idx_vars z
    · refine (piece7_3 x0 x1 x2 x3 x4 x5 x6 H _ _).trans ?_
      exact batchOut_eq siluTanh P 3 _ _ _ _ (show 1792 + z0.val = 1792 + 1 * z0.val by omega) (show 384 + 1 * z1.val = 3 * 128 + z1.val by omega)
    · refine (piece7_2 x0 x1 x2 x3 x4 x5 x6 H _ _).trans ?_
      exact batchOut_eq siluTanh P 2 _ _ _ _ (show 1792 + z0.val = 1792 + 1 * z0.val by omega) (show 256 + 1 * z1.val = 2 * 128 + z1.val by omega)
    · refine (piece7_1 x0 x1 x2 x3 x4 x5 x6 H _ _).trans ?_
      exact batchOut_eq siluTanh P 1 _ _ _ _ (show 1792 + z0.val = 1792 + 1 * z0.val by omega) (show 128 + 1 * z1.val = 1 * 128 + z1.val by omega)
    · refine (piece7_0 x0 x1 x2 x3 x4 x5 x6 H _ _).trans ?_
      exact batchOut_eq siluTanh P 0 _ _ _ _ (show 1792 + z0.val = 1792 + 1 * z0.val by omega) (show 0 + 1 * z1.val = 0 * 128 + z1.val by omega)
    · refine (piece6_3 x0 x1 x2 x3 x4 x5 x6 H _ _).trans ?_
      exact batchOut_eq siluTanh P 3 _ _ _ _ (show 1536 + z0.val = 1536 + 1 * z0.val by omega) (show 384 + 1 * z1.val = 3 * 128 + z1.val by omega)
    · refine (piece6_2 x0 x1 x2 x3 x4 x5 x6 H _ _).trans ?_
      exact batchOut_eq siluTanh P 2 _ _ _ _ (show 1536 + z0.val = 1536 + 1 * z0.val by omega) (show 256 + 1 * z1.val = 2 * 128 + z1.val by omega)
    · refine (piece6_1 x0 x1 x2 x3 x4 x5 x6 H _ _).trans ?_
      exact batchOut_eq siluTanh P 1 _ _ _ _ (show 1536 + z0.val = 1536 + 1 * z0.val by omega) (show 128 + 1 * z1.val = 1 * 128 + z1.val by omega)
    · refine (piece6_0 x0 x1 x2 x3 x4 x5 x6 H _ _).trans ?_
      exact batchOut_eq siluTanh P 0 _ _ _ _ (show 1536 + z0.val = 1536 + 1 * z0.val by omega) (show 0 + 1 * z1.val = 0 * 128 + z1.val by omega)
    · refine (piece5_3 x0 x1 x2 x3 x4 x5 x6 H _ _).trans ?_
      exact batchOut_eq siluTanh P 3 _ _ _ _ (show 1280 + z0.val = 1280 + 1 * z0.val by omega) (show 384 + 1 * z1.val = 3 * 128 + z1.val by omega)
    · refine (piece5_2 x0 x1 x2 x3 x4 x5 x6 H _ _).trans ?_
      exact batchOut_eq siluTanh P 2 _ _ _ _ (show 1280 + z0.val = 1280 + 1 * z0.val by omega) (show 256 + 1 * z1.val = 2 * 128 + z1.val by omega)
    · refine (piece5_1 x0 x1 x2 x3 x4 x5 x6 H _ _).trans ?_
      exact batchOut_eq siluTanh P 1 _ _ _ _ (show 1280 + z0.val = 1280 + 1 * z0.val by omega) (show 128 + 1 * z1.val = 1 * 128 + z1.val by omega)
    · refine (piece5_0 x0 x1 x2 x3 x4 x5 x6 H _ _).trans ?_
      exact batchOut_eq siluTanh P 0 _ _ _ _ (show 1280 + z0.val = 1280 + 1 * z0.val by omega) (show 0 + 1 * z1.val = 0 * 128 + z1.val by omega)
    · refine (piece4_3 x0 x1 x2 x3 x4 x5 x6 H _ _).trans ?_
      exact batchOut_eq siluTanh P 3 _ _ _ _ (show 1024 + z0.val = 1024 + 1 * z0.val by omega) (show 384 + 1 * z1.val = 3 * 128 + z1.val by omega)
    · refine (piece4_2 x0 x1 x2 x3 x4 x5 x6 H _ _).trans ?_
      exact batchOut_eq siluTanh P 2 _ _ _ _ (show 1024 + z0.val = 1024 + 1 * z0.val by omega) (show 256 + 1 * z1.val = 2 * 128 + z1.val by omega)
    · refine (piece4_1 x0 x1 x2 x3 x4 x5 x6 H _ _).trans ?_
      exact batchOut_eq siluTanh P 1 _ _ _ _ (show 1024 + z0.val = 1024 + 1 * z0.val by omega) (show 128 + 1 * z1.val = 1 * 128 + z1.val by omega)
    · refine (piece4_0 x0 x1 x2 x3 x4 x5 x6 H _ _).trans ?_
      exact batchOut_eq siluTanh P 0 _ _ _ _ (show 1024 + z0.val = 1024 + 1 * z0.val by omega) (show 0 + 1 * z1.val = 0 * 128 + z1.val by omega)
    · refine (piece3_3 x0 x1 x2 x3 x4 x5 x6 H _ _).trans ?_
      exact batchOut_eq siluTanh P 3 _ _ _ _ (show 768 + z0.val = 768 + 1 * z0.val by omega) (show 384 + 1 * z1.val = 3 * 128 + z1.val by omega)
    · refine (piece3_2 x0 x1 x2 x3 x4 x5 x6 H _ _).trans ?_
      exact batchOut_eq siluTanh P 2 _ _ _ _ (show 768 + z0.val = 768 + 1 * z0.val by omega) (show 256 + 1 * z1.val = 2 * 128 + z1.val by omega)
    · refine (piece3_1 x0 x1 x2 x3 x4 x5 x6 H _ _).trans ?_
      exact batchOut_eq siluTanh P 1 _ _ _ _ (show 768 + z0.val = 768 + 1 * z0.val by omega) (show 128 + 1 * z1.val = 1 * 128 + z1.val by omega)
    · refine (piece3_0 x0 x1 x2 x3 x4 x5 x6 H _ _).trans ?_
      exact batchOut_eq siluTanh P 0 _ _ _ _ (show 768 + z0.val = 768 + 1 * z0.val by omega) (show 0 + 1 * z1.val = 0 * 128 + z1.val by omega)
    · refine (piece2_3 x0 x1 x2 x3 x4 x5 x6 H _ _).trans ?_
      exact batchOut_eq siluTanh P 3 _ _ _ _ (show 512 + z0.val = 512 + 1 * z0.val by omega) (show 384 + 1 * z1.val = 3 * 128 + z1.val by omega)
    · refine (piece2_2 x0 x1 x2 x3 x4 x5 x6 H _ _).trans ?_
      exact batchOut_eq siluTanh P 2 _ _ _ _ (show 512 + z0.val = 512 + 1 * z0.val by omega) (show 256 + 1 * z1.val = 2 * 128 + z1.val by omega)
    · refine (piece2_1 x0 x1 x2 x3 x4 x5 x6 H _ _).trans ?_
      exact batchOut_eq siluTanh P 1 _ _ _ _ (show 512 + z0.val = 512 + 1 * z0.val by omega) (show 128 + 1 * z1.val = 1 * 128 + z1.val by omega)
    · refine (piece2_0 x0 x1 x2 x3 x4 x5 x6 H _ _).trans ?_
      exact batchOut_eq siluTanh P 0 _ _ _ _ (show 512 + z0.val = 512 + 1 * z0.val by omega) (show 0 + 1 * z1.val = 0 * 128 + z1.val by omega)
    · refine (piece1_3 x0 x1 x2 x3 x4 x5 x6 H _ _).trans ?_
      exact batchOut_eq siluTanh P 3 _ _ _ _ (show 256 + z0.val = 256 + 1 * z0.val by omega) (show 384 + 1 * z1.val = 3 * 128 + z1.val by omega)
    · refine (piece1_2 x0 x1 x2 x3 x4 x5 x6 H _ _).trans ?_
      exact batchOut_eq siluTanh P 2 _ _ _ _ (show 256 + z0.val = 256 + 1 * z0.val by omega) (show 256 + 1 * z1.val = 2 * 128 + z1.val by omega)
    · refine (piece1_1 x0 x1 x2 x3 x4 x5 x6 H _ _).trans ?_
      exact batchOut_eq siluTanh P 1 _ _ _ _ (show 256 + z0.val = 256 + 1 * z0.val by omega) (show 128 + 1 * z1.val = 1 * 128 + z1.val by omega)
    · refine (piece1_0 x0 x1 x2 x3 x4 x5 x6 H _ _).trans ?_
      exact batchOut_eq siluTanh P 0 _ _ _ _ (show 256 + z0.val = 256 + 1 * z0.val by omega) (show 0 + 1 * z1.val = 0 * 128 + z1.val by omega)
    · refine (piece0_3 x0 x1 x2 x3 x4 x5 x6 H _ _).trans ?_
      exact batchOut_eq siluTanh P 3 _ _ _ _ (show 0 + z0.val = 0 + 1 * z0.val by omega) (show 384 + 1 * z1.val = 3 * 128 + z1.val by omega)
    · refine (piece0_2 x0 x1 x2 x3 x4 x5 x6 H _ _).trans ?_
      exact batchOut_eq siluTanh P 2 _ _ _ _ (show 0 + z0.val = 0 + 1 * z0.val by omega) (show 256 + 1 * z1.val = 2 * 128 + z1.val by omega)
    · refine (piece0_1 x0 x1 x2 x3 x4 x5 x6 H _ _).trans ?_
      exact batchOut_eq siluTanh P 1 _ _ _ _ (show 0 + z0.val = 0 + 1 * z0.val by omega) (show 128 + 1 * z1.val = 1 * 128 + z1.val by omega)
    · refine (piece0_0 x0 x1 x2 x3 x4 x5 x6 H _ _).trans ?_
      exact batchOut_eq siluTanh P 0 _ _ _ _ (show 0 + z0.val = 0 + 1 * z0.val by omega) (show 0 + 1 * z1.val = 0 * 128 + z1.val by omega)
  · exact cover0_7 _ _ _ _ _ _ _ _ _ _ _ _ _ _ _ _ _ _ _ _ _ _ _ _ _ _ _ _ _ _ _ _ y

theorem kv_at (x4 : Vec Ideal S256x1024 .f32) (x5 : Vec Ideal S1x1024 .f32) (x6 : Vec Ideal S1024x2048 .bf16) (i : Fin 256) (j : Fin 2048) :
    k0_pay1 x4 x5 x6 (ix2 i j) = kvRow (fun k => x4 (ix2 i k)) (fun k => x5 (ix2 0 k)) (fun k j => x6 (ix2 k j)) j := by
  unfold k0_pay1
  pointwise [ofBits_eps, ofBits_1024]
  rfl

theorem ld_r0_0 (i : Fin 256) (k : Fin 1024) : View.ld x4 r0_0 (ix2 i k) = x4 (ix2 i k) := by
  pointwise [r0_0]
  try exact congrArg x4 (congrArg₂ ix2 (Fin.ext (by simp)) (Fin.ext (by simp)))

theorem ld_r0_1 (k : Fin 1024) : View.ld x5 r0_1 (ix2 0 k) = x5 (ix2 0 k) := by
  pointwise [r0_1]
  try exact congrArg x5 (congrArg₂ ix2 (Fin.ext (by simp)) (Fin.ext (by simp)))

theorem ld_r0_2 (k : Fin 1024) (j : Fin 2048) : View.ld x6 r0_2 (ix2 k j) = x6 (ix2 k j) := by
  pointwise [r0_2]
  try exact congrArg x6 (congrArg₂ ix2 (Fin.ext (by simp)) (Fin.ext (by simp)))

/-- What a grid point writes of the memory's keys and values. -/
theorem out8_at (y : S256x2048.Idx) :
    out0_8 x0 x1 x2 x3 x4 x5 x6 y = kvRow (fun k => x4 (ix2 (y 0) k)) (fun k => x5 (ix2 0 k)) (fun k j => x6 (ix2 k j)) (y 1) := by
  unfold out0_8
  refine View.canon_apply_of_pieces (Val := Elt Ideal) (e := .bf16) (S := S256x2048)
    (fun y => kvRow (fun k => x4 (ix2 (y 0) k)) (fun k => x5 (ix2 0 k)) (fun k j => x6 (ix2 k j)) (y 1)) _ ?_ y ?_
  · intro p hp
    simp only [List.mem_cons, List.mem_nil_iff, or_false] at hp
    subst hp
    intro z
    idx_vars z
    refine (kv_at _ _ _ z0 z1).trans ?_
    have h0 : r0_3.emb (ix2 z0 z1) 0 = z0 := Fin.ext (show 0 + 1 * z0.val = z0.val by omega)
    have h1 : r0_3.emb (ix2 z0 z1) 1 = z1 := Fin.ext (show 0 + 1 * z1.val = z1.val by omega)
    exact kvRow_congr (fun k => (ld_r0_0 x4 z0 k).trans (congrArg (fun i => x4 (ix2 i k)) h0.symm)) (fun k => ld_r0_1 x5 k) (fun k j => ld_r0_2 x6 k j) h1.symm
  · refine ⟨_, List.mem_singleton_self _, ?_⟩
    show y ∈ r0_3.set
    unfold r0_3
    rw [Rect.mem_set_unit]
    have h0 : (y 0).val < 256 := (y 0).isLt
    have h1 : (y 1).val < 2048 := (y 1).isLt
    exact (Fin.forall_fin_two.mpr ⟨⟨by show 0 ≤ _; omega, by show _ < 0 + 256; omega⟩, ⟨by show 0 ≤ _; omega, by show _ < 0 + 2048; omega⟩⟩)

end

end Cert.KernelIdeal.Block

end
-- ==== Proof.L.RetArray.lean ====
/-
  The `retention` call: its two result arrays as functions of the arguments.
-/
module

public import proofs.«01_k».proof.Proof.L.RetBlock

@[expose] public section

set_option maxRecDepth 16384

noncomputable section

namespace Cert.KernelIdeal.Array

open Cert.KernelIdeal Cert.KernelIdeal.Gen Cert.Layer Idealize.ShloMosaic Idealize.ShloMosaic.TcCoe
open Idealize.ShloMosaic.Pipeline (Dat)

variable (m : (ℓ : Loc nD τ sig) → Buf (Elt Ideal) ℓ)

/-! ## The host's reshapes -/

theorem cast_mem (v : Vec Ideal S8x256x1024 .f32) (i : Fin 2048) (k : Fin 1024) :
    shapeCast S2048x1024 v shapeCasts_S8x256x1024_S2048x1024 (ix2 i k) = v (ix3 ⟨i.val / 256, by omega⟩ ⟨i.val % 256, by omega⟩ k) := by
  pointwise

theorem cast_w (v : Vec Ideal S1x1024x2048 .f32) (k : Fin 1024) (j : Fin 2048) :
    shapeCast S1024x2048 v shapeCasts_S1x1024x2048_S1024x2048 (ix2 k j) = v (ix3 0 k j) := by
  pointwise

theorem cast_g (v : Vec Ideal S1x1024 .f32) (k : Fin 1024) :
    shapeCast S1x1024 (shapeCast S1024 v shapeCasts_S1x1024_S1024) shapeCasts_S1024_S1x1024 (ix2 0 k) = v (ix2 0 k) := by
  pointwise

/-! ## The arrays the call is given -/

theorem V_mem (c : Dev nD) (i : Fin 2048) (k : Fin 1024) :
    V m c main_v0 (ix2 i k) = m ((c : Thread nD τ).loc main_arg1) (ix3 ⟨i.val / 256, by omega⟩ ⟨i.val % 256, by omega⟩ k) := by
  have h : V m c main_v0 = shapeCast S2048x1024 (m ((c : Thread nD τ).loc main_arg1)) shapeCasts_S8x256x1024_S2048x1024 := by
    dsimp only [V, hostOps0]
    after_results
    rfl
  rw [h]
  exact cast_mem _ i k

theorem V_w (c : Dev nD) (k : Fin 1024) (j : Fin 2048) :
    V m c main_v4 (ix2 k j) = m ((c : Thread nD τ).loc main_arg3) (ix3 0 k j) := by
  have h : V m c main_v4 = shapeCast S1024x2048 (m ((c : Thread nD τ).loc main_arg3)) shapeCasts_S1x1024x2048_S1024x2048 := by
    dsimp only [V, hostOps0]
    after_results
    rfl
  rw [h]
  exact cast_w _ k j

theorem V_g (c : Dev nD) (k : Fin 1024) :
    V m c main_v2 (ix2 0 k) = m ((c : Thread nD τ).loc main_arg2) (ix2 0 k) := by
  have h : V m c main_v2 = shapeCast S1x1024 (shapeCast S1024 (m ((c : Thread nD τ).loc main_arg2)) shapeCasts_S1x1024_S1024) shapeCasts_S1024_S1x1024 := by
    dsimp only [V, hostOps0]
    after_results
    rfl
  rw [h]
  exact cast_g _ k

/-! ## The blocks a grid point reads -/

theorem fin_N (t : Fin cfg0.N) : t.val < 8 := t.isLt

theorem iblk_q (c : Dev nD) (t : Fin cfg0.N) (r : Fin 2048) (k : Fin 256) :
    iblk m c 0 t (ix2 r k) = m ((c : Thread nD τ).loc main_arg0) (ix2 ⟨t.val * 2048 + r.val, by have := fin_N t; omega⟩ ⟨1536 + k.val, by omega⟩) := by
  have e : ∀ t : Fin grid0.N, win0_0.index t 0 = t.val ∧ win0_0.index t 1 = 6 := by decide +kernel
  refine Eq.trans ?_ (congrFun (V_main_arg0 m c) _)
  refine congrArg (V m c main_arg0) ?_
  funext a
  match a with
  | ⟨0, _⟩ => exact Fin.ext (show win0_0.index t 0 * 2048 + 1 * r.val = t.val * 2048 + r.val by rw [(e t).1]; omega)
  | ⟨1, _⟩ => exact Fin.ext (show win0_0.index t 1 * 256 + 1 * k.val = 1536 + k.val by rw [(e t).2]; omega)

theorem iblk_k (c : Dev nD) (t : Fin cfg0.N) (r : Fin 2048) (k : Fin 256) :
    iblk m c 1 t (ix2 r k) = m ((c : Thread nD τ).loc main_arg0) (ix2 ⟨t.val * 2048 + r.val, by have := fin_N t; omega⟩ ⟨1792 + k.val, by omega⟩) := by
  have e : ∀ t : Fin grid0.N, win0_1.index t 0 = t.val ∧ win0_1.index t 1 = 7 := by decide +kernel
  refine Eq.trans ?_ (congrFun (V_main_arg0 m c) _)
  refine congrArg (V m c main_arg0) ?_
  funext a
  match a with
  | ⟨0, _⟩ => exact Fin.ext (show win0_1.index t 0 * 2048 + 1 * r.val = t.val * 2048 + r.val by rw [(e t).1]; omega)
  | ⟨1, _⟩ => exact Fin.ext (show win0_1.index t 1 * 256 + 1 * k.val = 1792 + k.val by rw [(e t).2]; omega)

theorem iblk_v (c : Dev nD) (t : Fin cfg0.N) (r : Fin 2048) (k : Fin 512) :
    iblk m c 2 t (ix2 r k) = m ((c : Thread nD τ).loc main_arg0) (ix2 ⟨t.val * 2048 + r.val, by have := fin_N t; omega⟩ ⟨2048 + k.val, by omega⟩) := by
  have e : ∀ t : Fin grid0.N, win0_2.index t 0 = t.val ∧ win0_2.index t 1 = 4 := by decide +kernel
  refine Eq.trans ?_ (congrFun (V_main_arg0 m c) _)
  refine congrArg (V m c main_arg0) ?_
  funext a
  match a with
  | ⟨0, _⟩ => exact Fin.ext (show win0_2.index t 0 * 2048 + 1 * r.val = t.val * 2048 + r.val by rw [(e t).1]; omega)
  | ⟨1, _⟩ => exact Fin.ext (show win0_2.index t 1 * 512 + 1 * k.val = 2048 + k.val by rw [(e t).2]; omega)

theorem iblk_gate (c : Dev nD) (t : Fin cfg0.N) (r : Fin 2048) (k : Fin 512) :
    iblk m c 3 t (ix2 r k) = m ((c : Thread nD τ).loc main_arg0) (ix2 ⟨t.val * 2048 + r.val, by have := fin_N t; omega⟩ ⟨2560 + k.val, by omega⟩) := by
  have e : ∀ t : Fin grid0.N, win0_3.index t 0 = t.val ∧ win0_3.index t 1 = 5 := by decide +kernel
  refine Eq.trans ?_ (congrFun (V_main_arg0 m c) _)
  refine congrArg (V m c main_arg0) ?_
  funext a
  match a with
  | ⟨0, _⟩ => exact Fin.ext (show win0_3.index t 0 * 2048 + 1 * r.val = t.val * 2048 + r.val by rw [(e t).1]; omega)
  | ⟨1, _⟩ => exact Fin.ext (show win0_3.index t 1 * 512 + 1 * k.val = 2560 + k.val by rw [(e t).2]; omega)

theorem iblk_mem (c : Dev nD) (t : Fin cfg0.N) (r : Fin 256) (k : Fin 1024) :
    iblk m c 4 t (ix2 r k) = V m c main_v0 (ix2 ⟨t.val * 256 + r.val, by have := fin_N t; omega⟩ k) := by
  have e : ∀ t : Fin grid0.N, win0_4.index t 0 = t.val ∧ win0_4.index t 1 = 0 := by decide +kernel
  refine congrArg (V m c main_v0) ?_
  funext a
  match a with
  | ⟨0, _⟩ => exact Fin.ext (show win0_4.index t 0 * 256 + 1 * r.val = t.val * 256 + r.val by rw [(e t).1]; omega)
  | ⟨1, _⟩ => exact Fin.ext (show win0_4.index t 1 * 1024 + 1 * k.val = k.val by rw [(e t).2]; omega)

theorem iblk_g (c : Dev nD) (t : Fin cfg0.N) (k : Fin 1024) :
    iblk m c 5 t (ix2 0 k) = V m c main_v2 (ix2 0 k) := by
  have e : ∀ t : Fin grid0.N, win0_5.index t 0 = 0 ∧ win0_5.index t 1 = 0 := by decide +kernel
  refine congrArg (V m c main_v2) ?_
  funext a
  match a with
  | ⟨0, _⟩ => exact Fin.ext (show win0_5.index t 0 * 1 + 1 * 0 = 0 by rw [(e t).1])
  | ⟨1, _⟩ => exact Fin.ext (show win0_5.index t 1 * 1024 + 1 * k.val = k.val by rw [(e t).2]; omega)

theorem iblk_w (c : Dev nD) (t : Fin cfg0.N) (k : Fin 1024) (j : Fin 2048) :
    iblk m c 6 t (ix2 k j) = V m c main_v4 (ix2 k j) := by
  have e : ∀ t : Fin grid0.N, win0_6.index t 0 = 0 ∧ win0_6.index t 1 = 0 := by decide +kernel
  refine congrArg (V m c main_v4) ?_
  funext a
  match a with
  | ⟨0, _⟩ => exact Fin.ext (show win0_6.index t 0 * 1024 + 1 * k.val = k.val by rw [(e t).1]; omega)
  | ⟨1, _⟩ => exact Fin.ext (show win0_6.index t 1 * 2048 + 1 * j.val = j.val by rw [(e t).2]; omega)

/-! ## The result arrays -/

/-- The projections, row by column. -/
def proj (c : Dev nD) : Fin 16384 → Fin 3072 → EReal := fun i k => m ((c : Thread nD τ).loc main_arg0) (ix2 i k)

/-- The gated retention. -/
def G (c : Dev nD) : S16384x512.Idx → EReal := fun i =>
  batchOut siluTanh (projOf (proj m c) ((i 0).val / 2048)) ((i 0).val % 2048) (i 1)

/-- The memory's keys and values. -/
def K (c : Dev nD) : S2048x2048.Idx → EReal := fun i =>
  kvRow (fun k => m ((c : Thread nD τ).loc main_arg1) (ix3 ⟨(i 0).val / 256, by have : (i 0).val < 2048 := (i 0).isLt; omega⟩ ⟨(i 0).val % 256, by omega⟩ k))
    (fun k => m ((c : Thread nD τ).loc main_arg2) (ix2 0 k)) (fun k j => m ((c : Thread nD τ).loc main_arg3) (ix3 0 k j)) (i 1)

theorem holding (c : Dev nD) (hp : ∀ i k, 1536 ≤ k.val → IsReal (proj m c i k)) (t : Fin cfg0.N) :
    Block.Holding (projOf (proj m c) t.val) (iblk m c 0 t) (iblk m c 1 t) (iblk m c 2 t) (iblk m c 3 t) where
  q := fun s k => (iblk_q m c t s k).trans (projOf_eq (proj m c) hp t.val s.val (1536 + k.val) _ _ rfl rfl)
  k := fun s k => (iblk_k m c t s k).trans (projOf_eq (proj m c) hp t.val s.val (1792 + k.val) _ _ rfl rfl)
  v := fun s k => (iblk_v m c t s k).trans (projOf_eq (proj m c) hp t.val s.val (2048 + k.val) _ _ rfl rfl)
  g := fun s k => (iblk_gate m c t s k).trans (projOf_eq (proj m c) hp t.val s.val (2560 + k.val) _ _ rfl rfl)

theorem flushed7_eq (c : Dev nD) (hp : ∀ i k, 1536 ≤ k.val → IsReal (proj m c i k)) (t : Fin cfg0.N) :
    (dats m 0 c).flushed 7 t = ((cfg0.win 7).blk t).view.read (Elt Ideal) (G m c) := by
  have e : ∀ t : Fin grid0.N, win0_7.index t 0 = t.val ∧ win0_7.index t 1 = 0 := by decide +kernel
  rw [Value.flushed7]
  funext y
  refine (Block.out7_at _ _ _ _ _ _ _ (holding m c hp t) y).trans ?_
  have hy : (y 0).val < 2048 := (y 0).isLt
  have h0 : (((cfg0.win 7).blk t).view.emb y 0).val = t.val * 2048 + (y 0).val :=
    show win0_7.index t 0 * 2048 + 1 * (y 0).val = _ by rw [(e t).1]; omega
  have h1 : ((cfg0.win 7).blk t).view.emb y 1 = y 1 :=
    Fin.ext (show win0_7.index t 1 * 512 + 1 * (y 1).val = (y 1).val by rw [(e t).2]; omega)
  show _ = G m c (((cfg0.win 7).blk t).view.emb y)
  unfold G
  rw [h1, h0, show (t.val * 2048 + (y 0).val) / 2048 = t.val by omega, show (t.val * 2048 + (y 0).val) % 2048 = (y 0).val by omega]

theorem flushed8_eq (c : Dev nD) (t : Fin cfg0.N) :
    (dats m 0 c).flushed 8 t = ((cfg0.win 8).blk t).view.read (Elt Ideal) (K m c) := by
  have e : ∀ t : Fin grid0.N, win0_8.index t 0 = t.val ∧ win0_8.index t 1 = 0 := by decide +kernel
  rw [Value.flushed8]
  funext y
  refine (Block.out8_at _ _ _ _ _ _ _ y).trans ?_
  have h0 : (((cfg0.win 8).blk t).view.emb y 0).val = t.val * 256 + (y 0).val :=
    show win0_8.index t 0 * 256 + 1 * (y 0).val = _ by rw [(e t).1]; omega
  have h1 : ((cfg0.win 8).blk t).view.emb y 1 = y 1 :=
    Fin.ext (show win0_8.index t 1 * 2048 + 1 * (y 1).val = (y 1).val by rw [(e t).2]; omega)
  show _ = K m c (((cfg0.win 8).blk t).view.emb y)
  unfold K
  refine kvRow_congr (fun k => ?_) (fun k => (iblk_g m c t k).trans (V_g m c k)) (fun k j => (iblk_w m c t k j).trans (V_w m c k j)) h1.symm
  refine (iblk_mem m c t (y 0) k).trans ((V_mem m c _ k).trans ?_)
  simp only [h0]

theorem final7 (c : Dev nD) (hp : ∀ i k, 1536 ≤ k.val → IsReal (proj m c i k)) : (dats m 0 c).arrAt 7 cfg0.N = G m c := by
  have e : ∀ t : Fin grid0.N, win0_7.index t 0 = t.val ∧ win0_7.index t 1 = 0 := by decide +kernel
  refine (dats m 0 c).arrAt_eq_of_cover 7 (G m c) (fun t _ => flushed7_eq m c hp t) fun i => ?_
  have hi : (i 0).val < 16384 := (i 0).isLt
  have h1 : (i 1).val < 512 := (i 1).isLt
  refine ⟨⟨(i 0).val / 2048, by show _ < 8; omega⟩, flush0_7 _, ?_⟩
  generalize ht : (⟨(i 0).val / 2048, by show _ < 8; omega⟩ : Fin cfg0.N) = t
  have htv : t.val = (i 0).val / 2048 := by rw [← ht]
  show i ∈ ((View.whole main_v5_0).slice (win0_7.rect t)).set
  rw [View.set_slice_whole, Rect.mem_set_unit]
  refine Fin.forall_fin_two.mpr ⟨?_, ?_⟩
  · show win0_7.index t 0 * 2048 ≤ (i 0).val ∧ (i 0).val < win0_7.index t 0 * 2048 + 2048
    rw [(e t).1]; omega
  · show win0_7.index t 1 * 512 ≤ (i 1).val ∧ (i 1).val < win0_7.index t 1 * 512 + 512
    rw [(e t).2]; omega

theorem final8 (c : Dev nD) : (dats m 0 c).arrAt 8 cfg0.N = K m c := by
  have e : ∀ t : Fin grid0.N, win0_8.index t 0 = t.val ∧ win0_8.index t 1 = 0 := by decide +kernel
  refine (dats m 0 c).arrAt_eq_of_cover 8 (K m c) (fun t _ => flushed8_eq m c t) fun i => ?_
  have hi : (i 0).val < 2048 := (i 0).isLt
  have h1 : (i 1).val < 2048 := (i 1).isLt
  refine ⟨⟨(i 0).val / 256, by show _ < 8; omega⟩, flush0_8 _, ?_⟩
  generalize ht : (⟨(i 0).val / 256, by show _ < 8; omega⟩ : Fin cfg0.N) = t
  have htv : t.val = (i 0).val / 256 := by rw [← ht]
  show i ∈ ((View.whole main_v5_1).slice (win0_8.rect t)).set
  rw [View.set_slice_whole, Rect.mem_set_unit]
  refine Fin.forall_fin_two.mpr ⟨?_, ?_⟩
  · show win0_8.index t 0 * 256 ≤ (i 0).val ∧ (i 0).val < win0_8.index t 0 * 256 + 256
    rw [(e t).1]; omega
  · show win0_8.index t 1 * 2048 ≤ (i 1).val ∧ (i 1).val < win0_8.index t 1 * 2048 + 2048
    rw [(e t).2]; omega

end Cert.KernelIdeal.Array

end
-- ==== Proof.L.RetStep.lean ====
/-
  The retention reference's scan, trip by trip: what the loop's buffers hold before each trip, and the run's
  two results as functions of the scan's last state.
-/
module

public import proofs.«01_k».proof.Proof.Gen.ReferenceIdeal.Run
public import proofs.«01_k».proof.Proof.Gen.ReferenceIdeal.Step

@[expose] public section

noncomputable section

namespace Cert.ReferenceIdeal.Scan

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step

variable {F : FTy → Type} [FloatOps F]

/-- Before trip `n` the loop's buffers hold the state `s`, the decay tables and the trip's number. -/
structure At (W : Valuation τ sig (Elt F)) (s : State F) (n : ℕ) : Prop where
  state : W (Proc.devRef .tc main_v66_8) = s.main_v66_8
  outs : W (Proc.devRef .tc main_v66_9) = s.main_v66_9
  qs : W (Proc.devRef .tc main_v66_0) = s.main_v66_0
  ks : W (Proc.devRef .tc main_v66_1) = s.main_v66_1
  vs : W (Proc.devRef .tc main_v66_2) = s.main_v66_2
  trip : W (Proc.devRef .tc main_v66_7) = constantI S_ 32 (BitVec.ofNat 32 n)
  inner : W (Proc.devRef .tc main_v66_3) = K_main_v35 (F := F)
  qdec : W (Proc.devRef .tc main_v66_4) = K_main_v44 (F := F)
  cdec : W (Proc.devRef .tc main_v66_5) = K_main_v57 (F := F)
  kdec : W (Proc.devRef .tc main_v66_6) = K_main_v53 (F := F)

variable {W : Valuation τ sig (Elt F)} {s : State F} {n : ℕ}

set_option maxRecDepth 8192 in
theorem chunk_q (h : At W s n) : res_main_while0b_v106 W = b5 n s := by
  unfold res_main_while0b_v106 b5 b4 b0 b1 b2 b3
  rw [h.qs, h.trip]
  rfl

set_option maxRecDepth 8192 in
theorem chunk_k (h : At W s n) : res_main_while0b_v107 W = b11 n s := by
  unfold res_main_while0b_v107 b11 b10 b6 b7 b8 b9
  rw [h.ks, h.trip]
  rfl

set_option maxRecDepth 8192 in
theorem chunk_v (h : At W s n) : res_main_while0b_v108 W = b17 n s := by
  unfold res_main_while0b_v108 b17 b16 b12 b13 b14 b15
  rw [h.vs, h.trip]
  rfl

set_option maxRecDepth 8192 in
theorem next_state (h : At W s n) : Value.step_main_v66_8 W = (step n s).main_v66_8 := by
  unfold Value.step_main_v66_8
  rw [chunk_k h, chunk_v h, h.state, h.cdec, h.kdec]
  rfl

set_option maxRecDepth 8192 in
theorem next_outs (h : At W s n) : Value.step_main_v66_9 W = (step n s).main_v66_9 := by
  unfold Value.step_main_v66_9
  rw [chunk_q h, chunk_k h, chunk_v h, h.inner, h.qdec, h.state, h.outs, h.trip]
  rfl

theorem next_trip (h : At W s n) : step_main_v66_7 W = constantI S_ 32 (BitVec.ofNat 32 (n + 1)) := by
  unfold step_main_v66_7
  rw [h.trip]
  funext i
  show BitVec.ofNat 32 n + 1#32 = BitVec.ofNat 32 (n + 1)
  simp only [BitVec.ofNat_add]

/-- One trip. -/
theorem At.next (h : At W s n) : At (STEP W) (step n s) (n + 1) :=
  ⟨(STEP_main_v66_8 W).trans (next_state h), (STEP_main_v66_9 W).trans (next_outs h), (STEP_main_v66_0 W).trans h.qs,
    (STEP_main_v66_1 W).trans h.ks, (STEP_main_v66_2 W).trans h.vs, (STEP_main_v66_7 W).trans (next_trip h),
    (STEP_main_v66_3 W).trans h.inner, (STEP_main_v66_4 W).trans h.qdec, (STEP_main_v66_5 W).trans h.cdec,
    (STEP_main_v66_6 W).trans h.kdec⟩

/-- The scan's state before trip `n`, from the projections `p`. -/
def stateAt (p : (⟨S16384x3072, .bf16⟩ : BufTy).Contents (Elt F)) : ℕ → State F
  | 0 => init p
  | k + 1 => step k (stateAt p k)

variable (m : (ℓ : Loc nD τ sig) → Buf (Elt F) ℓ) (c : Dev nD)

set_option maxRecDepth 65536 in
set_option maxHeartbeats 500000 in
theorem At.first : At (entryContents preI m c) (stateAt (m ((c.tc : Thread nD τ).loc main_arg0)) 0) 0 := by
  constructor <;> (simp only [entryContents, afterL_cons, afterL_nil]; after_reads_simp) <;> rfl

theorem At.trips : ∀ k, At (STEP^[k] (entryContents preI m c)) (stateAt (m ((c.tc : Thread nD τ).loc main_arg0)) k) k
  | 0 => At.first m c
  | k + 1 => by
    rw [Function.iterate_succ_apply']
    exact (At.trips k).next

set_option maxRecDepth 8192 in
theorem result_ret (h : At W s n) : out_main_v103 W = R_main_v103 s (W (Proc.devRef .tc main_arg0)) := by
  unfold out_main_v103
  rw [h.outs]
  rfl

set_option maxRecDepth 8192 in
theorem result_kv : out_main_v105 W = R_main_v105 s (W (Proc.devRef .tc main_arg1)) (W (Proc.devRef .tc main_arg2))
    (W (Proc.devRef .tc main_arg3)) := rfl

/-- Both results of the reference's run, at the state after sixteen trips. -/
theorem run (ρ : Dev nD → PrngReg) :
    θ_run (defs (F := F)) (onTc (τ := τ) (main (F := F))) ⟨m, fun _ => 0, ρ⟩ fun r => ∀ c : Dev nD,
      (r.2.mem ((c.tc : Thread nD τ).loc main_v103)
          = R_main_v103 (stateAt (m ((c.tc : Thread nD τ).loc main_arg0)) 16) (m ((c.tc : Thread nD τ).loc main_arg0))
        ∧ r.2.mem ((c.tc : Thread nD τ).loc main_v105)
          = R_main_v105 (stateAt (m ((c.tc : Thread nD τ).loc main_arg0)) 16) (m ((c.tc : Thread nD τ).loc main_arg1))
            (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    have hk := At.trips m c 16
    refine ⟨⟨(h c).1.trans ((result_ret hk).trans ?_), (h c).2.1.trans ((result_kv (s := stateAt (m ((c.tc : Thread nD τ).loc main_arg0)) 16)).trans ?_)⟩, (h c).2.2⟩
    · exact congrArg _ (iter_main_arg0 m c 16)
    · rw [iter_main_arg1 m c 16, iter_main_arg2 m c 16, iter_main_arg3 m c 16]) (Value.run m ρ)

end Cert.ReferenceIdeal.Scan

end
-- ==== Proof.L.RetRef.lean ====
/-
  The retention reference: the scan's tables and what one trip makes of the state.
-/
module

public import proofs.«01_k».proof.Proof.L.RetStep
public import proofs.«01_k».proof.Proof.L.Decay
public import Idealize.ShloMosaic.Lib.DynamicIndex

@[expose] public section

set_option maxRecDepth 16384

noncomputable section

namespace Cert.ReferenceIdeal.Scan

open Cert.ReferenceIdeal Cert.ReferenceIdeal.Gen Cert.ReferenceIdeal.Step Cert.Layer Idealize.ShloMosaic

/-! ## The tables -/

theorem ofBits_two : Ideal.ofBits .f32 1073741824#32 = ((2 : ℝ) : EReal) := by
  simp [Ideal.ofBits, Ideal.ieee, -EReal.coe_mul]; norm_num

theorem ofBits_neg_five : Ideal.ofBits .f32 3231711232#32 = ((-5 : ℝ) : EReal) := by
  simp [Ideal.ofBits, Ideal.ieee, -EReal.coe_mul]; norm_num

theorem ofBits_127 : Ideal.ofBits .f32 1123942400#32 = ((127 : ℝ) : EReal) := by
  simp [Ideal.ofBits, Ideal.ieee, -EReal.coe_mul]; norm_num

theorem ratio_pow (h : Fin 4) : 1 - Real.rpow 2 (-5 - (h.val : ℝ)) = ratio h := by
  have e (k : ℤ) : Real.rpow 2 ((k : ℤ) : ℝ) = (2 : ℝ) ^ k := Real.rpow_intCast 2 k
  rw [show (-5 - (h.val : ℝ)) = ((-5 - (h.val : ℤ) : ℤ) : ℝ) by push_cast; ring, e]
  match h with
  | ⟨0, _⟩ => exact (show 1 - (2 : ℝ) ^ (-5 : ℤ) = 31 / 32 by norm_num)
  | ⟨1, _⟩ => exact (show 1 - (2 : ℝ) ^ (-6 : ℤ) = 63 / 64 by norm_num)
  | ⟨2, _⟩ => exact (show 1 - (2 : ℝ) ^ (-7 : ℤ) = 127 / 128 by norm_num)
  | ⟨3, _⟩ => exact (show 1 - (2 : ℝ) ^ (-8 : ℤ) = 255 / 256 by norm_num)

theorem log_coe (r : ℝ) (hr : 0 < r) : Ideal.log (r : EReal) = ((Real.log r : ℝ) : EReal) := by
  show (if r ≤ 0 then (⊥ : EReal) else ((Real.log r : ℝ) : EReal)) = _
  rw [if_neg (not_le.mpr hr)]

theorem log_decay_at (h : Fin 4) : K_main_v18 (F := Ideal) (ix1 h) = ((Real.log (ratio h) : ℝ) : EReal) := by
  unfold K_main_v18 K_main_v17 K_main_v16 K_main_cst_1 K_main_v15 K_main_v14 K_main_cst_0 K_main_v13 K_main_v12 K_main_cst K_main_v11
  pointwise [ofBits_two, ofBits_neg_five]
  rw [sitofp_nat h.val (by omega), ← EReal.coe_sub,
    show Ideal.pow ((2 : ℝ) : EReal) ((-5 - (h.val : ℝ) : ℝ) : EReal) = ((Real.rpow 2 (-5 - (h.val : ℝ)) : ℝ) : EReal) from rfl,
    ← EReal.coe_one, ← EReal.coe_sub, ratio_pow]
  exact log_coe _ (ratio_pos h)

theorem inner_at (h : Fin 4) (i j : Fin 128) :
    K_main_v35 (F := Ideal) (ix3 h i j) = (((if j.val ≤ i.val then ratio h ^ (i.val - j.val) else 0 : ℝ)) : EReal) := by
  unfold K_main_v35 K_main_call0_v1 K_main_call0_v2 K_main_call0_v0 K_main_cst_4 K_main_v34 K_main_v33 K_main_v32 K_main_v31 K_main_v30 K_main_v29 K_main_v28
    K_main_cst_3 K_main_v27 K_main_v26 K_main_v25 K_main_cst_2 K_main_v24 K_main_v23 K_main_v22 K_main_v21 K_main_v20 K_main_v19
  pointwise [log_decay_at]
  have hs := exp_log_diff (ratio h) (ratio_pos h) i.val j.val
    ((FloatOps.sitofp (F := Ideal) FTy.f32 (BitVec.ofNat 32 i.val) : EReal) - (FloatOps.sitofp (F := Ideal) FTy.f32 (BitVec.ofNat 32 j.val) : EReal))
    (by rw [sitofp_nat i.val (by omega), sitofp_nat j.val (by omega), ← EReal.coe_sub])
  by_cases hc : (0 : EReal) ≤ (FloatOps.sitofp (F := Ideal) FTy.f32 (BitVec.ofNat 32 i.val) : EReal) - (FloatOps.sitofp (F := Ideal) FTy.f32 (BitVec.ofNat 32 j.val) : EReal)
  · rw [if_pos hc]
    exact hs.1 hc
  · rw [if_neg hc]
    refine Eq.trans ?_ (hs.2 hc)
    unfold id
    pointwise

theorem qdec_at (h : Fin 4) (i : Fin 128) :
    K_main_v44 (F := Ideal) (ix4 0 h i 0) = ((ratio h ^ (i.val + 1) : ℝ) : EReal) := by
  unfold K_main_v44 K_main_v43 K_main_v42 K_main_v41 K_main_v40 K_main_v39 K_main_v38 K_main_v37 K_main_cst_5 K_main_v36 K_main_v19
  pointwise [log_decay_at]
  refine exp_log_mul (ratio h) (ratio_pos h) (i.val + 1) _ ?_
  rw [sitofp_nat i.val (by omega)]
  push_cast
  rfl

theorem kdec_at (h : Fin 4) (i : Fin 128) :
    K_main_v53 (F := Ideal) (ix4 0 h i 0) = ((ratio h ^ (128 - 1 - i.val) : ℝ) : EReal) := by
  unfold K_main_v53 K_main_v52 K_main_v51 K_main_v50 K_main_v49 K_main_v48 K_main_v47 K_main_v46 K_main_cst_6 K_main_v45 K_main_v19
  pointwise [log_decay_at, ofBits_127]
  refine exp_log_mul (ratio h) (ratio_pos h) (127 - i.val) _ ?_
  rw [sitofp_nat i.val (by omega), ← EReal.coe_sub, Nat.cast_sub (by omega)]
  norm_num

theorem cdec_at (h : Fin 4) :
    K_main_v57 (F := Ideal) (ix4 0 h 0 0) = ((ratio h ^ 128 : ℝ) : EReal) := by
  unfold K_main_v57 K_main_v56 K_main_v55 K_main_v54 K_main_cst_7
  pointwise [log_decay_at, ofBits_128]
  refine exp_log_mul (ratio h) (ratio_pos h) 128 _ ?_
  norm_num

/-! ## The chunks -/

variable (p : Vec Ideal S16384x3072 .bf16)

theorem q_at (n : Fin 16) (b : Fin 8) (h : Fin 4) (i : Fin 128) (d : Fin 64) :
    A_main_v60 (F := Ideal) p (ix5 n b h i d) = p (ix2 ⟨b.val * 2048 + (n.val * 128 + i.val), by omega⟩ ⟨1536 + (h.val * 64 + d.val), by omega⟩) := by
  unfold A_main_v60 A_main_v59 A_main_v6 A_main_v5 A_main_v2 A_main_v1 A_main_v0
  pointwise

theorem k_at (n : Fin 16) (b : Fin 8) (h : Fin 4) (i : Fin 128) (d : Fin 64) :
    A_main_v62 (F := Ideal) p (ix5 n b h i d) = p (ix2 ⟨b.val * 2048 + (n.val * 128 + i.val), by omega⟩ ⟨1792 + (h.val * 64 + d.val), by omega⟩) := by
  unfold A_main_v62 A_main_v61 A_main_v8 A_main_v7 A_main_v3 A_main_v1 A_main_v0
  pointwise

theorem v_at (n : Fin 16) (b : Fin 8) (h : Fin 4) (i : Fin 128) (d : Fin 128) :
    A_main_v64 (F := Ideal) p (ix5 n b h i d) = p (ix2 ⟨b.val * 2048 + (n.val * 128 + i.val), by omega⟩ ⟨2048 + (h.val * 128 + d.val), by omega⟩) := by
  unfold A_main_v64 A_main_v63 A_main_v10 A_main_v9 A_main_v4 A_main_v1 A_main_v0
  pointwise

/-! ## One trip -/

variable (s : State Ideal) (n : Fin 16)

theorem slice_qk (x : S16x8x4x128x64.Idx → EReal) (start : Fin S16x8x4x128x64.rank → Int) (hf : S16x8x4x128x64.Slices (fun _ => 0) S1x8x4x128x64)
    (h0 : start 0 = (n.val : Int)) (h1 : start 1 = 0) (h2 : start 2 = 0) (h3 : start 3 = 0) (h4 : start 4 = 0)
    (b : Fin 8) (g : Fin 4) (i : Fin 128) (d : Fin 64) :
    Host.dynamicSlice S1x8x4x128x64 x start hf (ix5 0 b g i d) = x (ix5 n b g i d) := by
  rw [Host.dynamicSlice_eq_extractStridedSlice S1x8x4x128x64 x start ![n.val, 0, 0, 0, 0] hf
    ⟨rfl, fun a => by
      match a with
      | ⟨0, _⟩ => exact (show n.val + 1 ≤ 16 by omega)
      | ⟨1, _⟩ => exact (show 0 + 8 ≤ 8 by omega)
      | ⟨2, _⟩ => exact (show 0 + 4 ≤ 4 by omega)
      | ⟨3, _⟩ => exact (show 0 + 128 ≤ 128 by omega)
      | ⟨4, _⟩ => exact (show 0 + 64 ≤ 64 by omega)⟩
    (fun a => match a with | ⟨0, _⟩ => h0 | ⟨1, _⟩ => h1 | ⟨2, _⟩ => h2 | ⟨3, _⟩ => h3 | ⟨4, _⟩ => h4)]
  refine congrArg x ?_
  funext a
  match a with
  | ⟨0, _⟩ => exact Fin.ext (show n.val + 0 = n.val by omega)
  | ⟨1, _⟩ => exact Fin.ext (show 0 + b.val = b.val by omega)
  | ⟨2, _⟩ => exact Fin.ext (show 0 + g.val = g.val by omega)
  | ⟨3, _⟩ => exact Fin.ext (show 0 + i.val = i.val by omega)
  | ⟨4, _⟩ => exact Fin.ext (show 0 + d.val = d.val by omega)

theorem slice_v (x : S16x8x4x128x128.Idx → EReal) (start : Fin S16x8x4x128x128.rank → Int) (hf : S16x8x4x128x128.Slices (fun _ => 0) S1x8x4x128x128)
    (h0 : start 0 = (n.val : Int)) (h1 : start 1 = 0) (h2 : start 2 = 0) (h3 : start 3 = 0) (h4 : start 4 = 0)
    (b : Fin 8) (g : Fin 4) (i : Fin 128) (d : Fin 128) :
    Host.dynamicSlice S1x8x4x128x128 x start hf (ix5 0 b g i d) = x (ix5 n b g i d) := by
  rw [Host.dynamicSlice_eq_extractStridedSlice S1x8x4x128x128 x start ![n.val, 0, 0, 0, 0] hf
    ⟨rfl, fun a => by
      match a with
      | ⟨0, _⟩ => exact (show n.val + 1 ≤ 16 by omega)
      | ⟨1, _⟩ => exact (show 0 + 8 ≤ 8 by omega)
      | ⟨2, _⟩ => exact (show 0 + 4 ≤ 4 by omega)
      | ⟨3, _⟩ => exact (show 0 + 128 ≤ 128 by omega)
      | ⟨4, _⟩ => exact (show 0 + 128 ≤ 128 by omega)⟩
    (fun a => match a with | ⟨0, _⟩ => h0 | ⟨1, _⟩ => h1 | ⟨2, _⟩ => h2 | ⟨3, _⟩ => h3 | ⟨4, _⟩ => h4)]
  refine congrArg x ?_
  funext a
  match a with
  | ⟨0, _⟩ => exact Fin.ext (show n.val + 0 = n.val by omega)
  | ⟨1, _⟩ => exact Fin.ext (show 0 + b.val = b.val by omega)
  | ⟨2, _⟩ => exact Fin.ext (show 0 + g.val = g.val by omega)
  | ⟨3, _⟩ => exact Fin.ext (show 0 + i.val = i.val by omega)
  | ⟨4, _⟩ => exact Fin.ext (show 0 + d.val = d.val by omega)

theorem b5_at (b : Fin 8) (g : Fin 4) (i : Fin 128) (d : Fin 64) : b5 n.val s (ix4 b g i d) = s.main_v66_0 (ix5 n b g i d) := by
  have e : b5 n.val s (ix4 b g i d) = b4 n.val s (ix5 0 b g i d) := by
    unfold b5
    pointwise
  rw [e]
  unfold b4
  exact slice_qk n _ _ _ (toInt_small n.val (by omega)) rfl rfl rfl rfl b g i d

theorem b11_at (b : Fin 8) (g : Fin 4) (i : Fin 128) (d : Fin 64) : b11 n.val s (ix4 b g i d) = s.main_v66_1 (ix5 n b g i d) := by
  have e : b11 n.val s (ix4 b g i d) = b10 n.val s (ix5 0 b g i d) := by
    unfold b11
    pointwise
  rw [e]
  unfold b10
  exact slice_qk n _ _ _ (toInt_small n.val (by omega)) rfl rfl rfl rfl b g i d

theorem b17_at (b : Fin 8) (g : Fin 4) (i : Fin 128) (d : Fin 128) : b17 n.val s (ix4 b g i d) = s.main_v66_2 (ix5 n b g i d) := by
  have e : b17 n.val s (ix4 b g i d) = b16 n.val s (ix5 0 b g i d) := by
    unfold b17
    pointwise
  rw [e]
  unfold b16
  exact slice_v n _ _ _ (toInt_small n.val (by omega)) rfl rfl rfl rfl b g i d

theorem b31_at (b : Fin 8) (g : Fin 4) (d : Fin 64) (e : Fin 128) :
    b31 n.val s (ix4 b g d e) = s.main_v66_8 (ix4 b g d e) * K_main_v57 (F := Ideal) (ix4 0 g 0 0)
      + ∑ x : Fin 128, b11 n.val s (ix4 b g x d) * K_main_v53 (F := Ideal) (ix4 0 g x 0) * b17 n.val s (ix4 b g x e) := by
  unfold b31 b30 b29 b28 b27 b26
  pointwise

theorem b32_at (b : Fin 8) (g : Fin 4) (i : Fin 128) (e : Fin 128) :
    b32 n.val s (ix4 b g i e) = ∑ x : Fin 128, (∑ d : Fin 64, b5 n.val s (ix4 b g i d) * b11 n.val s (ix4 b g x d)) * K_main_v35 (F := Ideal) (ix3 g i x) * b17 n.val s (ix4 b g x e)
      + ∑ d : Fin 64, b5 n.val s (ix4 b g i d) * K_main_v44 (F := Ideal) (ix4 0 g i 0) * s.main_v66_8 (ix4 b g d e) := by
  unfold b32 b25 b24 b23 b22 b21 b20 b19 b18
  pointwise

end Cert.ReferenceIdeal.Scan

end
-- ==== Proof.L.RetOut.lean ====
/-
  The retention reference: its two results as functions of the arguments.
-/
module

public import proofs.«01_k».proof.Proof.L.RetRef

@[expose] public section

set_option maxRecDepth 16384

noncomputable section

namespace Cert.ReferenceIdeal.Scan

open Cert.ReferenceIdeal Cert.ReferenceIdeal.Gen Cert.ReferenceIdeal.Step Cert.Layer Idealize.ShloMosaic

/-! ## The outputs a trip writes -/

theorem update_at (n : Fin 16) (x : S16x8x4x128x128.Idx → EReal) (upd : S1x8x4x128x128.Idx → EReal) (start : Fin S16x8x4x128x128.rank → Int)
    (hf : S16x8x4x128x128.Slices (fun _ => 0) S1x8x4x128x128)
    (h0 : start 0 = (n.val : Int)) (h1 : start 1 = 0) (h2 : start 2 = 0) (h3 : start 3 = 0) (h4 : start 4 = 0)
    (n' : Fin 16) (b : Fin 8) (g : Fin 4) (i e : Fin 128) :
    Host.dynamicUpdateSlice x upd start hf (ix5 n' b g i e) = if n'.val = n.val then upd (ix5 0 b g i e) else x (ix5 n' b g i e) := by
  rw [Host.dynamicUpdateSlice_eq_updateSlice x upd start hf ![n.val, 0, 0, 0, 0]
    (fun a => by
      match a with
      | ⟨0, _⟩ => rw [show start ⟨0, by decide⟩ = (n.val : Int) from h0]; exact (show (min (max (n.val : Int) 0) ((16 - 1 : ℕ) : Int)).toNat = n.val by omega)
      | ⟨1, _⟩ => rw [show start ⟨1, by decide⟩ = 0 from h1]; rfl
      | ⟨2, _⟩ => rw [show start ⟨2, by decide⟩ = 0 from h2]; rfl
      | ⟨3, _⟩ => rw [show start ⟨3, by decide⟩ = 0 from h3]; rfl
      | ⟨4, _⟩ => rw [show start ⟨4, by decide⟩ = 0 from h4]; rfl)
    ⟨rfl, fun a => by
      match a with
      | ⟨0, _⟩ => exact (show n.val + 1 ≤ 16 by omega)
      | ⟨1, _⟩ => exact (show 0 + 8 ≤ 8 by omega)
      | ⟨2, _⟩ => exact (show 0 + 4 ≤ 4 by omega)
      | ⟨3, _⟩ => exact (show 0 + 128 ≤ 128 by omega)
      | ⟨4, _⟩ => exact (show 0 + 128 ≤ 128 by omega)⟩]
  unfold updateSlice
  by_cases hn : n'.val = n.val
  · rw [if_pos hn, dif_pos]
    · refine congrArg upd ?_
      funext a
      match a with
      | ⟨0, _⟩ => exact Fin.ext (show n'.val - n.val = 0 by omega)
      | ⟨1, _⟩ => exact Fin.ext (show b.val - 0 = b.val by omega)
      | ⟨2, _⟩ => exact Fin.ext (show g.val - 0 = g.val by omega)
      | ⟨3, _⟩ => exact Fin.ext (show i.val - 0 = i.val by omega)
      | ⟨4, _⟩ => exact Fin.ext (show e.val - 0 = e.val by omega)
    · intro a
      match a with
      | ⟨0, _⟩ => exact (show n.val ≤ n'.val ∧ n'.val < n.val + 1 by omega)
      | ⟨1, _⟩ => exact (show 0 ≤ b.val ∧ b.val < 0 + 8 by omega)
      | ⟨2, _⟩ => exact (show 0 ≤ g.val ∧ g.val < 0 + 4 by omega)
      | ⟨3, _⟩ => exact (show 0 ≤ i.val ∧ i.val < 0 + 128 by omega)
      | ⟨4, _⟩ => exact (show 0 ≤ e.val ∧ e.val < 0 + 128 by omega)
  · rw [if_neg hn, dif_neg]
    intro hin
    have h := hin ⟨0, by decide⟩
    have h' : n.val ≤ n'.val ∧ n'.val < n.val + 1 := h
    omega

theorem b38_at (s : State Ideal) (n n' : Fin 16) (b : Fin 8) (g : Fin 4) (i e : Fin 128) :
    b38 n.val s (ix5 n' b g i e) = if n'.val = n.val then b32 n.val s (ix4 b g i e) else s.main_v66_9 (ix5 n' b g i e) := by
  have h : b33 n.val s (ix5 0 b g i e) = b32 n.val s (ix4 b g i e) := by
    unfold b33
    pointwise
  rw [← h]
  unfold b38
  exact update_at n _ _ _ _ (toInt_small n.val (by omega)) rfl rfl rfl rfl n' b g i e

/-! ## The state after each trip -/

variable (p : Vec Ideal S16384x3072 .bf16)

/-- The projections, row by column. -/
def proj : Fin 16384 → Fin 3072 → EReal := fun i k => p (ix2 i k)

theorem q_kept (k : ℕ) : (stateAt p k).main_v66_0 = A_main_v60 p := by
  induction k with
  | zero => rfl
  | succ k ih => exact ih

theorem k_kept (k : ℕ) : (stateAt p k).main_v66_1 = A_main_v62 p := by
  induction k with
  | zero => rfl
  | succ k ih => exact ih

theorem v_kept (k : ℕ) : (stateAt p k).main_v66_2 = A_main_v64 p := by
  induction k with
  | zero => rfl
  | succ k ih => exact ih

variable (hp : ∀ i k, 1536 ≤ k.val → IsReal (proj p i k))
include hp

theorem b5_val (n : Fin 16) (b : Fin 8) (h : Fin 4) (i : Fin 128) (d : Fin 64) :
    b5 n.val (stateAt p n.val) (ix4 b h i d) = ((projOf (proj p) b.val (n.val * 128 + i.val) (1536 + (h.val * 64 + d.val)) : ℝ) : EReal) := by
  rw [b5_at, q_kept, q_at]
  exact projOf_eq (proj p) hp _ _ _ _ _ rfl rfl

theorem b11_val (n : Fin 16) (b : Fin 8) (h : Fin 4) (i : Fin 128) (d : Fin 64) :
    b11 n.val (stateAt p n.val) (ix4 b h i d) = ((projOf (proj p) b.val (n.val * 128 + i.val) (1792 + (h.val * 64 + d.val)) : ℝ) : EReal) := by
  rw [b11_at, k_kept, k_at]
  exact projOf_eq (proj p) hp _ _ _ _ _ rfl rfl

theorem b17_val (n : Fin 16) (b : Fin 8) (h : Fin 4) (i : Fin 128) (d : Fin 128) :
    b17 n.val (stateAt p n.val) (ix4 b h i d) = ((projOf (proj p) b.val (n.val * 128 + i.val) (2048 + (h.val * 128 + d.val)) : ℝ) : EReal) := by
  rw [b17_at, v_kept, v_at]
  exact projOf_eq (proj p) hp _ _ _ _ _ rfl rfl

theorem state_at (k : ℕ) (hk : k ≤ 16) (b : Fin 8) (h : Fin 4) (d : Fin 64) (e : Fin 128) :
    (stateAt p k).main_v66_8 (ix4 b h d e) = ((heldAt (projOf (proj p) b.val) h (k * 128) d.val e.val : ℝ) : EReal) := by
  induction k generalizing b h d e with
  | zero =>
    show K_main_v58 (F := Ideal) (ix4 b h d e) = _
    unfold heldAt K_main_v58 K_main_cst_8
    rw [Nat.zero_mul, stateSum_zero]
    pointwise
    rfl
  | succ k ih =>
    show b31 k (stateAt p k) (ix4 b h d e) = _
    refine (b31_at (stateAt p k) ⟨k, by omega⟩ b h d e).trans ?_
    rw [ih (by omega), cdec_at, Nat.succ_mul, ← heldAt_next]
    congr 1
    refine Finset.sum_congr rfl fun x _ => ?_
    rw [b11_val p hp ⟨k, by omega⟩, b17_val p hp ⟨k, by omega⟩, kdec_at]

theorem b32_val (n : Fin 16) (b : Fin 8) (h : Fin 4) (i e : Fin 128) :
    b32 n.val (stateAt p n.val) (ix4 b h i e) = ((retained (projOf (proj p) b.val) h (n.val * 128 + i.val) e.val : ℝ) : EReal) := by
  rw [b32_at, ← retained_chunk' _ h (n.val * 128) 128 i e.val]
  congr 1
  · refine Finset.sum_congr rfl fun x _ => ?_
    rw [inner_at, b17_val p hp]
    congr 2
    refine Finset.sum_congr rfl fun d _ => ?_
    rw [b5_val p hp, b11_val p hp]
  · refine Finset.sum_congr rfl fun d _ => ?_
    rw [b5_val p hp, qdec_at, state_at p hp n.val (by omega)]

theorem outs_at (k : ℕ) (hk : k ≤ 16) (n : Fin 16) (hn : n.val < k) (b : Fin 8) (h : Fin 4) (i e : Fin 128) :
    (stateAt p k).main_v66_9 (ix5 n b h i e) = ((retained (projOf (proj p) b.val) h (n.val * 128 + i.val) e.val : ℝ) : EReal) := by
  induction k with
  | zero => omega
  | succ k ih =>
    show b38 k (stateAt p k) (ix5 n b h i e) = _
    refine (b38_at (stateAt p k) ⟨k, by omega⟩ n b h i e).trans ?_
    by_cases hnk : n.val = k
    · rw [if_pos hnk]
      subst hnk
      exact b32_val p hp n b h i e
    · rw [if_neg hnk]
      exact ih (by omega) (by omega)

omit hp

/-! ## The results -/

theorem ret_at (s : State Ideal) (r : Fin 16384) (c : Fin 512) :
    R_main_v103 s p (ix2 r c)
      = silu (p (ix2 r ⟨2560 + c.val, by omega⟩)) * (s.main_v66_9 (ix5 ⟨r.val % 2048 / 128, by omega⟩ ⟨r.val / 2048, by omega⟩ ⟨c.val / 128, by omega⟩ ⟨r.val % 2048 % 128, by omega⟩ ⟨c.val % 128, by omega⟩)
        * rmsInv 128 (fun e : Fin 128 => s.main_v66_9 (ix5 ⟨r.val % 2048 / 128, by omega⟩ ⟨r.val / 2048, by omega⟩ ⟨c.val / 128, by omega⟩ ⟨r.val % 2048 % 128, by omega⟩ e))) := by
  unfold R_main_v103
  pointwise [ofBits_eps, ofBits_128]
  rfl

theorem kv_at (s : State Ideal) (x1 : Vec Ideal S8x256x1024 .f32) (x2 : Vec Ideal S1x1024 .f32) (x3 : Vec Ideal S1x1024x2048 .f32) (r : Fin 2048) (j : Fin 2048) :
    R_main_v105 s x1 x2 x3 (ix2 r j)
      = kvRow (fun k => x1 (ix3 ⟨r.val / 256, by omega⟩ ⟨r.val % 256, by omega⟩ k)) (fun k => x2 (ix2 0 k)) (fun k j => x3 (ix3 0 k j)) j := by
  unfold R_main_v105
  pointwise [ofBits_eps, ofBits_1024]
  rfl

theorem ret_val (hp : ∀ i k, 1536 ≤ k.val → IsReal (proj p i k)) (r : Fin 16384) (c : Fin 512) :
    R_main_v103 (stateAt p 16) p (ix2 r c) = batchOut silu (projOf (proj p) (r.val / 2048)) (r.val % 2048) c := by
  rw [ret_at]
  have hs : r.val % 2048 / 128 * 128 + r.val % 2048 % 128 = r.val % 2048 := by omega
  have hc : c.val / 128 * 128 + c.val % 128 = c.val := by omega
  have ho : ∀ e : Fin 128, (stateAt p 16).main_v66_9 (ix5 ⟨r.val % 2048 / 128, by omega⟩ ⟨r.val / 2048, by omega⟩ ⟨c.val / 128, by omega⟩ ⟨r.val % 2048 % 128, by omega⟩ e)
      = ((retained (projOf (proj p) (r.val / 2048)) ⟨c.val / 128, by omega⟩ (r.val % 2048) e.val : ℝ) : EReal) := fun e => by
    rw [outs_at p hp 16 (le_refl _) _ (show r.val % 2048 / 128 < 16 by omega)]
    rw [hs]
  simp only [ho]
  refine Eq.trans ?_ (batchOut_eq silu (projOf (proj p) (r.val / 2048)) ⟨c.val / 128, by omega⟩ (r.val % 2048) _ ⟨c.val % 128, by omega⟩ c rfl hc.symm)
  unfold retOut
  rw [show p (ix2 r ⟨2560 + c.val, by omega⟩) = ((projOf (proj p) (r.val / 2048) (r.val % 2048) (2560 + c.val) : ℝ) : EReal) from
    projOf_eq (proj p) hp _ _ _ r ⟨2560 + c.val, by omega⟩ (by omega) rfl]
  rw [show 2560 + ((⟨c.val / 128, by omega⟩ : Fin 4).val * 128 + (⟨c.val % 128, by omega⟩ : Fin 128).val) = 2560 + c.val by
    show 2560 + (c.val / 128 * 128 + c.val % 128) = 2560 + c.val
    omega]

end Cert.ReferenceIdeal.Scan

end
-- ==== Proof.L.RetClaim.lean ====
/-
  The `retention` call against its reference: both results, entry by entry.
-/
module

public import proofs.«01_k».proof.Defs
public import proofs.«01_k».proof.Proof.L.RetArray
public import proofs.«01_k».proof.Proof.L.RetOut
public import proofs.«01_k».proof.Proof.Gen.Kernel.Frame
public import proofs.«01_k».proof.Proof.Gen.KernelIdeal.Value
public import proofs.«01_k».proof.Proof.Gen.Pre_finite_proj
public import Idealize.ShloMosaic.Lib.ReduceAll
public import Idealize.ShloMosaic.Lib.Quiescent

@[expose] public section

set_option maxRecDepth 16384

noncomputable section

namespace Cert.Layer.Ret

open Idealize.ShloMosaic Idealize.ShloMosaic.TcCoe Idealize.SL.Sem Cert.Layer

instance : Subsingleton Pre_finite_proj.S_.Idx := ⟨fun _ _ => funext fun a => a.elim0⟩

theorem slice_at (x : Vec Ideal Pre_finite_proj.S16384x3072 .bf16) (h : Pre_finite_proj.S16384x3072.Slices ![0, 1536] Pre_finite_proj.S16384x1536)
    (i : Fin 16384) (k : Fin 1536) :
    extractStridedSlice Pre_finite_proj.S16384x1536 ![0, 1536] x h (ix2 i k) = x (ix2 i ⟨1536 + k.val, by omega⟩) := by
  pointwise

/-- What the precondition says: the projections' columns the retention reads are reals. -/
theorem of_pre (x0 : Vec Ideal Pre_finite_proj.S16384x3072 .bf16) (x1 : Vec Ideal Pre_finite_proj.S8x256x1024 .f32) (x2 : Vec Ideal Pre_finite_proj.S1x1024 .f32)
    (x3 : Vec Ideal Pre_finite_proj.S1x1024x2048 .f32)
    (h : letI := Pre_finite_proj.Gen.facts; Pre_finite_proj.fn (F := Ideal) x0 x1 x2 x3 = fun _ => 1#1) (i : Fin 16384) (k : Fin 3072) (hk : 1536 ≤ k.val) :
    IsReal (x0 (ix2 i k)) := by
  letI := Pre_finite_proj.Gen.facts
  have h0 := congrFun h fun a => a.elim0
  have hi : k.val - 1536 < 1536 := by omega
  have h1 := Host.reduce_andi_all _ _ _ _ _ h0 (ix2 i (⟨k.val - 1536, hi⟩ : Fin 1536))
  have h2 : IsReal (extractStridedSlice Pre_finite_proj.S16384x1536 ![0, 1536] x0 Pre_finite_proj.Facts.slices_S16384x3072_S16384x1536_0_1536
    (ix2 i ⟨k.val - 1536, hi⟩)) := isReal_of_test _ _ _ _ h1
  rw [slice_at] at h2
  have e : (⟨1536 + (⟨k.val - 1536, hi⟩ : Fin 1536).val, by show 1536 + (k.val - 1536) < 3072; omega⟩ : Fin 3072) = k :=
    Fin.ext (show 1536 + (k.val - 1536) = k.val by omega)
  rwa [e] at h2

theorem frame : Cert.quiescent_Kernel (hKernel := Cert.Kernel.Gen.facts) := fun m ρ _ => Cert.Kernel.Gen.frame m ρ

theorem frame_ideal : Cert.quiescent_KernelIdeal (hKernelIdeal := Cert.KernelIdeal.Gen.facts) := fun m ρ _ => Cert.KernelIdeal.Gen.frame m ρ

theorem frame_ideal_pre : Cert.quiescent_KernelIdeal_pre_finite_proj (hKernelIdeal := Cert.KernelIdeal.Gen.facts) (hPre_finite_proj := Cert.Pre_finite_proj.Gen.facts) :=
  fun m ρ _ => Cert.KernelIdeal.Gen.frame m ρ

theorem frame_ref : Cert.quiescent_ReferenceIdeal (hReferenceIdeal := Cert.ReferenceIdeal.Gen.facts) := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

theorem frame_ref_pre : Cert.quiescent_ReferenceIdeal_pre_finite_proj (hReferenceIdeal := Cert.ReferenceIdeal.Gen.facts)
    (hPre_finite_proj := Cert.Pre_finite_proj.Gen.facts) := fun m ρ _ => frame_ref m ρ trivial

theorem algebraic : Cert.algebraic_KernelIdeal_ReferenceIdeal_pre_finite_proj (hKernelIdeal := Cert.KernelIdeal.Gen.facts)
    (hReferenceIdeal := Cert.ReferenceIdeal.Gen.facts) (hPre_finite_proj := Cert.Pre_finite_proj.Gen.facts) := by
  intro m ρ m' ρ' hpre hagree
  refine ⟨fun c => Cert.KernelIdeal.Array.G m c, fun c => Cert.KernelIdeal.Array.K m c, ?_, ?_⟩
  · exact (θ_run Cert.KernelIdeal.defs _ _).mono
      (fun _ h c => ⟨(h c).1.trans (Cert.KernelIdeal.Array.final7 m c (of_pre _ _ _ _ (hpre c))), (h c).2.1.trans (Cert.KernelIdeal.Array.final8 m c), (h c).2.2⟩)
      (Cert.KernelIdeal.Value.run_blocks (F := Ideal) m ρ)
  refine (θ_run Cert.ReferenceIdeal.defs _ _).mono (fun _ h c => ⟨(h c).1.1.trans ?_, (h c).1.2.trans ?_, (h c).2⟩)
    (Cert.ReferenceIdeal.Scan.run m' ρ')
  · obtain ⟨e0, e1, e2, e3⟩ := hagree c
    rw [e0]
    funext i
    obtain ⟨i, j, rfl⟩ : ∃ (i0 : Fin 16384) (j : Fin 512), i = ix2 i0 j := ⟨i 0, i 1, by funext a; match a with | ⟨0, _⟩ => rfl | ⟨1, _⟩ => rfl⟩
    refine (Cert.ReferenceIdeal.Scan.ret_val _ (of_pre _ _ _ _ (hpre c)) i j).trans ?_
    exact (batchOut_gate _ _ j).symm
  · obtain ⟨e0, e1, e2, e3⟩ := hagree c
    rw [e1, e2, e3]
    funext i
    obtain ⟨i, j, rfl⟩ : ∃ (i0 : Fin 2048) (j : Fin 2048), i = ix2 i0 j := ⟨i 0, i 1, by funext a; match a with | ⟨0, _⟩ => rfl | ⟨1, _⟩ => rfl⟩
    exact Cert.ReferenceIdeal.Scan.kv_at _ _ _ _ i j

end Cert.Layer.Ret

end
-- ==== Proof.L.CrossRow.lean ====
/-
  One row of the output projection and the cross attention over the extended reals: the reference's form, and the kernel's,
  which puts the scores' scale into the norm and divides by the softmax's sum after the mixing.
-/
module

public import proofs.«01_k».proof.Proof.L.Rows

@[expose] public section

set_option maxRecDepth 16384

noncomputable section

namespace Cert.Layer

open Idealize.ShloMosaic

/-! ### The softmax -/

/-- The largest of a row of scores. -/
def rowMax (s : Fin 256 → EReal) : EReal := Finset.fold max ⊥ s Finset.univ

/-- The exponential of a score less the largest. -/
def expo (s : Fin 256 → EReal) (m : Fin 256) : EReal := Ideal.exp (s m - rowMax s)

/-- The values mixed by the exponentials, and divided by their sum after it. -/
def mixLate (s v : Fin 256 → EReal) : EReal := (∑ m, expo s m * v m) * Ideal.div 1 (∑ m, expo s m)

/-- The values mixed by the softmax. -/
def mixSoft (s v : Fin 256 → EReal) : EReal := ∑ m, Ideal.div (expo s m) (∑ m, expo s m) * v m

theorem isReal_rowMax (s : Fin 256 → EReal) (hs : ∀ m, IsReal (s m)) : IsReal (rowMax s) := by
  have hb : ∀ m, s m ≠ ⊥ ∧ s m ≠ ⊤ := fun m => by
    obtain ⟨r, hr⟩ := hs m
    rw [hr]
    exact ⟨EReal.coe_ne_bot r, EReal.coe_ne_top r⟩
  refine isReal_of_bounds ?_ ?_
  · have h0 : s 0 ≤ rowMax s := Finset.le_fold_max (s 0) |>.mpr (Or.inr ⟨0, Finset.mem_univ _, le_refl _⟩)
    intro h
    rw [h] at h0
    exact (hb 0).1 (le_bot_iff.mp h0)
  · refine ne_of_lt ?_
    exact Finset.fold_max_lt ⊤ |>.mpr ⟨bot_lt_top, fun m _ => lt_top_iff_ne_top.mpr (hb m).2⟩

theorem expo_real (s : Fin 256 → EReal) (hs : ∀ m, IsReal (s m)) : ∃ e : Fin 256 → ℝ, (∀ m, 0 < e m) ∧ ∀ m, expo s m = (e m : EReal) := by
  obtain ⟨M, hM⟩ := isReal_rowMax s hs
  choose r hr using hs
  refine ⟨fun m => Real.exp (r m - M), fun m => Real.exp_pos _, fun m => ?_⟩
  unfold expo
  rw [hM, hr m, ← EReal.coe_sub]
  rfl

/-- A product by a positive real goes through any sum. -/
theorem sum_mul_pos {ι : Type} (t : Finset ι) (f : ι → EReal) (c : ℝ) (hc : 0 ≤ c) : (∑ i ∈ t, f i) * (c : EReal) = ∑ i ∈ t, f i * (c : EReal) := by
  classical
  induction t using Finset.induction_on with
  | empty => simp
  | insert a t ha ih =>
    rw [Finset.sum_insert ha, Finset.sum_insert ha, ← ih, EReal.right_distrib_of_nonneg_of_ne_top (EReal.coe_nonneg.mpr hc) (EReal.coe_ne_top c)]

/-- Of finite scores, to divide before the mixing or after it is one value. -/
theorem mixLate_eq (s v : Fin 256 → EReal) (hs : ∀ m, IsReal (s m)) : mixLate s v = mixSoft s v := by
  obtain ⟨e, he, hes⟩ := expo_real s hs
  unfold mixLate mixSoft
  simp only [hes]
  have hp : 0 < ∑ m, e m := Finset.sum_pos (fun m _ => he m) ⟨0, Finset.mem_univ _⟩
  rw [← coe_sum]
  simp only [Ideal.div_coe (ne_of_gt hp), one_mul]
  rw [sum_mul_pos _ _ _ (by positivity)]
  exact Finset.sum_congr rfl fun m _ => mul_right_comm _ _ _

/-! ### The scores -/

/-- A row times a matrix. -/
def rowMul (h : Fin 1024 → EReal) (w : Fin 1024 → Fin 1024 → EReal) (j : Fin 1024) : EReal := ∑ k, h k * w k j

/-- The scores of head `h`, of the row's queries `q` and the memory's keys and values. -/
def scores (q : Fin 1024 → EReal) (kv : Fin 256 → Fin 2048 → EReal) (h : Fin 4) (m : Fin 256) : EReal :=
  ∑ d : Fin 256, q ⟨h.val * 256 + d.val, by omega⟩ * kv m ⟨h.val * 256 + d.val, by omega⟩

/-- Column `d` of the values of head `h`. -/
def valuesOf (kv : Fin 256 → Fin 2048 → EReal) (h : Fin 4) (d m : Fin 256) : EReal := kv m ⟨1024 + h.val * 256 + d.val, by omega⟩

/-- The kernel's head: scores of queries already scaled. -/
def headLate (q : Fin 1024 → EReal) (kv : Fin 256 → Fin 2048 → EReal) (h : Fin 4) (d : Fin 256) : EReal :=
  mixLate (scores q kv h) (valuesOf kv h d)

/-- The reference's head: the scores scaled. -/
def headSoft (q : Fin 1024 → EReal) (kv : Fin 256 → Fin 2048 → EReal) (h : Fin 4) (d : Fin 256) : EReal :=
  mixSoft (fun m => scores q kv h m * ((1 / 16 : ℝ) : EReal)) (valuesOf kv h d)

/-- The norm with the scores' scale in it. -/
def rmsScaled (x g : Fin 1024 → EReal) (i : Fin 1024) : EReal := x i * (rmsInv 1024 x * ((1 / 16 : ℝ) : EReal)) * g i

theorem rmsScaled_eq (x g : Fin 1024 → EReal) (i : Fin 1024) : rmsScaled x g i = rms x g i * ((1 / 16 : ℝ) : EReal) := by
  unfold rmsScaled rms
  rw [← mul_assoc, mul_assoc (x i * rmsInv 1024 x), mul_comm ((1 / 16 : ℝ) : EReal), ← mul_assoc]

/-- The scale taken out of the queries. -/
theorem rowMul_scaled (x g : Fin 1024 → EReal) (w : Fin 1024 → Fin 1024 → EReal) (j : Fin 1024) :
    rowMul (rmsScaled x g) w j = rowMul (rms x g) w j * ((1 / 16 : ℝ) : EReal) := by
  unfold rowMul
  simp only [rmsScaled_eq]
  rw [sum_mul_pos _ _ _ (by norm_num)]
  exact Finset.sum_congr rfl fun m _ => mul_right_comm _ _ _

theorem scores_scaled (q q' : Fin 1024 → EReal) (kv : Fin 256 → Fin 2048 → EReal)
    (hs : ∀ k, q' k = q k * ((1 / 16 : ℝ) : EReal)) (h : Fin 4) (m : Fin 256) :
    scores q' kv h m = scores q kv h m * ((1 / 16 : ℝ) : EReal) := by
  unfold scores
  simp only [hs]
  rw [sum_mul_pos _ _ _ (by norm_num)]
  exact Finset.sum_congr rfl fun m _ => mul_right_comm _ _ _

theorem isReal_rowMul (h : Fin 1024 → EReal) (w : Fin 1024 → Fin 1024 → EReal) (hh : ∀ k, IsReal (h k)) (hw : ∀ k j, IsReal (w k j)) (j : Fin 1024) :
    IsReal (rowMul h w j) :=
  IsReal.sum _ _ fun i => (hh i).mul (hw i _)

theorem isReal_scores (q : Fin 1024 → EReal) (kv : Fin 256 → Fin 2048 → EReal) (hq : ∀ k, IsReal (q k)) (hkv : ∀ m (k : Fin 1024), IsReal (kv m ⟨k.val, by omega⟩)) (h : Fin 4) (m : Fin 256) :
    IsReal (scores q kv h m) :=
  IsReal.sum _ _ fun i => (hq _).mul (hkv m ⟨h.val * 256 + i.val, by omega⟩)

theorem headLate_eq (x g : Fin 1024 → EReal) (w : Fin 1024 → Fin 1024 → EReal) (kv : Fin 256 → Fin 2048 → EReal) (hg : ∀ i, IsReal (g i))
    (hw : ∀ k j, IsReal (w k j)) (hkv : ∀ m (k : Fin 1024), IsReal (kv m ⟨k.val, by omega⟩)) (h : Fin 4) (d : Fin 256) :
    headLate (rowMul (rmsScaled x g) w) kv h d = headSoft (rowMul (rms x g) w) kv h d := by
  have hq := isReal_rowMul (rms x g) w (isReal_rms x g hg) hw
  have hs : scores (rowMul (rmsScaled x g) w) kv h = fun m => scores (rowMul (rms x g) w) kv h m * ((1 / 16 : ℝ) : EReal) :=
    funext fun m => scores_scaled _ _ kv (rowMul_scaled x g w) h m
  unfold headLate headSoft
  rw [hs]
  exact mixLate_eq _ _ (fun m => (isReal_scores _ kv hq hkv h m).mul (isReal_coe _))

/-! ### The row -/

/-- The two mixers' rows side by side. -/
def both (mo ro : Fin 512 → EReal) (k : Fin 1024) : EReal := if h : k.val < 512 then mo ⟨k.val, h⟩ else ro ⟨k.val - 512, by omega⟩

/-- The two mixers' output projections added. -/
def mixSplit (mo ro : Fin 512 → EReal) (w : Fin 1024 → Fin 1024 → EReal) (j : Fin 1024) : EReal :=
  (∑ k : Fin 512, mo k * w ⟨k.val, by omega⟩ j) + ∑ k : Fin 512, ro k * w ⟨512 + k.val, by omega⟩ j

theorem mixSplit_eq (mo ro : Fin 512 → EReal) (w : Fin 1024 → Fin 1024 → EReal) (j : Fin 1024) : mixSplit mo ro w j = rowMul (both mo ro) w j := by
  unfold mixSplit rowMul
  refine Eq.trans ?_ (Fin.sum_univ_add (fun k : Fin (512 + 512) => both mo ro k * w k j)).symm
  congr 1

/-- The stream after the mixers: `m` is the mixers' projection. -/
def stream (x m g : Fin 1024 → EReal) (j : Fin 1024) : EReal := x j + rms m g j

/-- All heads side by side. -/
def heads (f : Fin 4 → Fin 256 → EReal) (k : Fin 1024) : EReal := f ⟨k.val / 256, by omega⟩ ⟨k.val % 256, by omega⟩

/-- The reference's row. -/
def crossRow (mo ro : Fin 512 → EReal) (x : Fin 1024 → EReal) (kv : Fin 256 → Fin 2048 → EReal) (wo : Fin 1024 → Fin 1024 → EReal)
    (gm gp : Fin 1024 → EReal) (wq wc : Fin 1024 → Fin 1024 → EReal) (gc : Fin 1024 → EReal) (j : Fin 1024) : EReal :=
  stream (stream x (rowMul (both mo ro) wo) gm)
    (rowMul (heads (headSoft (rowMul (rms (stream x (rowMul (both mo ro) wo) gm) gp) wq) kv)) wc) gc j

/-- The kernel's row. -/
def crossRowLate (mo ro : Fin 512 → EReal) (x : Fin 1024 → EReal) (kv : Fin 256 → Fin 2048 → EReal) (wo : Fin 1024 → Fin 1024 → EReal)
    (gm gp : Fin 1024 → EReal) (wq wc : Fin 1024 → Fin 1024 → EReal) (gc : Fin 1024 → EReal) (j : Fin 1024) : EReal :=
  stream (stream x (mixSplit mo ro wo) gm)
    (rowMul (heads (headLate (rowMul (rmsScaled (stream x (mixSplit mo ro wo) gm) gp) wq) kv)) wc) gc j

theorem crossRowLate_eq (mo ro : Fin 512 → EReal) (x : Fin 1024 → EReal) (kv : Fin 256 → Fin 2048 → EReal) (wo : Fin 1024 → Fin 1024 → EReal)
    (gm gp : Fin 1024 → EReal) (wq wc : Fin 1024 → Fin 1024 → EReal) (gc : Fin 1024 → EReal) (hg : ∀ i, IsReal (gp i))
    (hw : ∀ k j, IsReal (wq k j)) (hkv : ∀ m (k : Fin 1024), IsReal (kv m ⟨k.val, by omega⟩)) (j : Fin 1024) :
    crossRowLate mo ro x kv wo gm gp wq wc gc j = crossRow mo ro x kv wo gm gp wq wc gc j := by
  unfold crossRowLate crossRow
  rw [show mixSplit mo ro wo = rowMul (both mo ro) wo from funext (mixSplit_eq mo ro wo)]
  rw [show headLate (rowMul (rmsScaled (stream x (rowMul (both mo ro) wo) gm) gp) wq) kv
      = headSoft (rowMul (rms (stream x (rowMul (both mo ro) wo) gm) gp) wq) kv from
    funext fun h => funext fun d => headLate_eq _ gp wq kv hg hw hkv h d]

/-- Four heads' rows side by side, as the kernel lays them. -/
def pick (a b c d : Fin 256 → EReal) (j : Fin 1024) : EReal :=
  if h : j.val < 256 then a ⟨j.val, h⟩
  else if h : j.val - 256 < 256 then b ⟨j.val - 256, h⟩
  else if h : j.val - 256 - 256 < 256 then c ⟨j.val - 256 - 256, h⟩
  else d ⟨j.val - 256 - 256 - 256, by omega⟩

theorem pick_eq (f : Fin 4 → Fin 256 → EReal) (j : Fin 1024) : pick (f 0) (f 1) (f 2) (f 3) j = heads f j := by
  unfold pick heads
  by_cases h0 : j.val < 256
  · rw [dif_pos h0]
    exact congrArg₂ f (Fin.ext (show 0 = j.val / 256 by omega)) (Fin.ext (show j.val = j.val % 256 by omega))
  rw [dif_neg h0]
  by_cases h1 : j.val - 256 < 256
  · rw [dif_pos h1]
    exact congrArg₂ f (Fin.ext (show 1 = j.val / 256 by omega)) (Fin.ext (show j.val - 256 = j.val % 256 by omega))
  rw [dif_neg h1]
  by_cases h2 : j.val - 256 - 256 < 256
  · rw [dif_pos h2]
    exact congrArg₂ f (Fin.ext (show 2 = j.val / 256 by omega)) (Fin.ext (show j.val - 256 - 256 = j.val % 256 by omega))
  rw [dif_neg h2]
  exact congrArg₂ f (Fin.ext (show 3 = j.val / 256 by omega)) (Fin.ext (show j.val - 256 - 256 - 256 = j.val % 256 by omega))

end Cert.Layer

end
-- ==== Proof.L.CrossBlock.lean ====
/-
  The `mix_cross` call: what one grid point writes, row by row. The block's two row pieces of 512 are one function.
-/
module

public import proofs.«01_k».proof.Proof.Gen.Kernel3Ideal.Value
public import proofs.«01_k».proof.Proof.L.CrossRow

@[expose] public section

set_option maxRecDepth 16384

noncomputable section

namespace Cert.Kernel3Ideal.Block

open Cert.Kernel3Ideal Cert.Kernel3Ideal.Gen Cert.Layer Idealize.ShloMosaic

variable (x0 x1 : Vec Ideal S1024x512 .bf16) (x2 : Vec Ideal S1024x1024 .f32) (x3 : Vec Ideal S256x2048 .bf16) (x4 x5 x6 : Vec Ideal S1024x1024 .bf16) (x7 x8 x9 : Vec Ideal S1x1024 .f32)

/-- Row `r` of the stream after the mixers. -/
def streamRow (r : Fin 1024) : Fin 1024 → EReal :=
  stream (fun k => x2 (ix2 r k)) (mixSplit (fun k => x0 (ix2 r k)) (fun k => x1 (ix2 r k)) (fun k j => x4 (ix2 k j))) (fun k => x7 (ix2 0 k))

/-- Row `r` of the block a grid point writes. -/
def rowOut (r : Fin 1024) (j : Fin 1024) : EReal :=
  crossRowLate (fun k => x0 (ix2 r k)) (fun k => x1 (ix2 r k)) (fun k => x2 (ix2 r k)) (fun m k => x3 (ix2 m k)) (fun k j => x4 (ix2 k j))
    (fun k => x7 (ix2 0 k)) (fun k => x8 (ix2 0 k)) (fun k j => x5 (ix2 k j)) (fun k j => x6 (ix2 k j)) (fun k => x9 (ix2 0 k)) j

/-! ## The stream after the mixers -/

theorem stream0 (r : Fin 512) (k : Fin 1024) :
    k0_pay6 (F := Ideal) (k0_pay32 (F := Ideal) x0 x1 x2 x3 x4 x5 x6 x7 x8 x9) (k0_pay33 (F := Ideal) x0 x1 x2 x3 x4 x5 x6 x7 x8 x9) (k0_pay34 (F := Ideal) x0 x1 x2 x3 x4 x5 x6 x7 x8 x9) (ix2 r k)
      = streamRow x0 x1 x2 x4 x7 ⟨r.val, by omega⟩ k := by
  unfold_payloads
  unfold streamRow stream mixSplit rms rmsInv
  pointwise [r0_0, r0_1, r0_2, r0_4, ofBits_eps, ofBits_1024]

theorem stream1 (r : Fin 512) (k : Fin 1024) :
    k0_pay35 (F := Ideal) x0 x1 x2 x3 x4 x5 x6 x7 x8 x9 (ix2 r k) = streamRow x0 x1 x2 x4 x7 ⟨512 + r.val, by omega⟩ k := by
  unfold_payloads
  unfold streamRow stream mixSplit rms rmsInv
  pointwise [r0_1, r0_2, r0_3, r0_4, ofBits_eps, ofBits_1024]

/-! ## The queries -/

theorem norm0 (X : FVec Ideal S512x1024 .f32) (Y : FVec Ideal S1x1024 .f32) (Z : FVec Ideal S512x1024 .f32) (r : Fin 512) (k : Fin 1024) :
    k0_pay8 (F := Ideal) X Y Z (View.ld x8 r0_4) (ix2 r k)
      = rmsScaled (fun k => k0_pay6 (F := Ideal) X Y Z (ix2 r k)) (fun k => x8 (ix2 0 k)) k := by
  unfold k0_pay8
  generalize k0_pay6 (F := Ideal) X Y Z = W
  unfold rmsScaled rmsInv
  pointwise [r0_4, ofBits_eps, ofBits_1024, ofBits_sixteenth]

theorem query0 (H : FVec Ideal S512x1024 .bf16) (r : Fin 512) (j : Fin 1024) :
    k0_pay12 (F := Ideal) H (View.ld x5 r0_5) (ix2 r j) = rowMul (fun k => H (ix2 r k)) (fun k j => x5 (ix2 k j)) j := by
  unfold_payloads
  unfold rowMul
  pointwise [r0_5]

theorem query1 (X : FVec Ideal S512x1024 .f32) (r : Fin 512) (j : Fin 1024) (N : FVec Ideal S512x1 .f32)
    (hN : ∀ r : Fin 512, N (ix2 r 0) = ∑ k : Fin 1024, X (ix2 r k) * X (ix2 r k)) :
    k0_pay13 (F := Ideal) X (k0_pay9 (F := Ideal) (View.ld x8 r0_4)) N (k0_pay11 (F := Ideal)) (View.ld x5 r0_5) (ix2 r j)
      = rowMul (rmsScaled (fun k => X (ix2 r k)) (fun k => x8 (ix2 0 k))) (fun k j => x5 (ix2 k j)) j := by
  unfold_payloads
  unfold rowMul rmsScaled rmsInv
  pointwise [r0_4, r0_5, hN, ofBits_eps, ofBits_1024, ofBits_sixteenth]

theorem sumSq1 (X : FVec Ideal S512x1024 .f32) (v0 : Vec Ideal S512x1024 .f32) (v1 : Vec Ideal S1x1024 .f32) (r : Fin 512) :
    k0_pay10 (F := Ideal) X v0 v1 (ix2 r 0)
      = ∑ k : Fin 1024, k0_pay7 (F := Ideal) X v0 v1 (ix2 r k) * k0_pay7 (F := Ideal) X v0 v1 (ix2 r k) := by
  unfold k0_pay10
  generalize k0_pay7 (F := Ideal) X v0 v1 = W
  pointwise

/-! ## The heads -/

/-- The kernel's head at an offset `o` of its columns. -/
theorem head_of (q : Fin 1024 → EReal) (h : Fin 4) (d : Fin 256) (s v : Fin 256 → EReal)
    (hs : s = scores q (fun m k => x3 (ix2 m k)) h) (hv : v = valuesOf (fun m k => x3 (ix2 m k)) h d) :
    mixLate s v = headLate q (fun m k => x3 (ix2 m k)) h d := by
  subst hs
  subst hv
  rfl

theorem head2 (Q : FVec Ideal S512x1024 .bf16) (r : Fin 512) (d : Fin 256) :
    k0_pay17 (F := Ideal) Q (View.ld x3 r0_10) (View.ld x3 r0_11) (ix2 r d)
      = headLate (fun k => Q (ix2 r k)) (fun m k => x3 (ix2 m k)) 2 d := by
  unfold_payloads
  unfold headLate mixLate expo rowMax scores valuesOf
  pointwise [r0_10, r0_11, ofBits_bot]

theorem head4 (Q : FVec Ideal S512x1024 .bf16) (r : Fin 512) (d : Fin 256) :
    k0_pay20 (F := Ideal) Q (View.ld x3 r0_6) (View.ld x3 r0_7) (ix2 r d)
      = headLate (fun k => Q (ix2 r k)) (fun m k => x3 (ix2 m k)) 0 d := by
  unfold_payloads
  unfold headLate mixLate expo rowMax scores valuesOf
  pointwise [r0_6, r0_7, ofBits_bot]

theorem head5 (Q : FVec Ideal S512x1024 .bf16) (r : Fin 512) (d : Fin 256) :
    k0_pay23 (F := Ideal) (k0_pay21 (F := Ideal) Q (View.ld x3 r0_8)) (k0_pay22 (F := Ideal) Q (View.ld x3 r0_8)) (View.ld x3 r0_9) (constant S512x256 .f32 0x00000000#32) (ix2 r d)
      = headLate (fun k => Q (ix2 r k)) (fun m k => x3 (ix2 m k)) 1 d := by
  unfold_payloads
  unfold headLate mixLate expo rowMax scores valuesOf
  pointwise [r0_8, r0_9, ofBits_bot]

theorem head6 (Q : FVec Ideal S512x1024 .bf16) (r : Fin 512) (d : Fin 256) :
    k0_pay24 (F := Ideal) Q (View.ld x3 r0_10) (View.ld x3 r0_11) (ix2 r d)
      = headLate (fun k => Q (ix2 r k)) (fun m k => x3 (ix2 m k)) 2 d := by
  unfold_payloads
  unfold headLate mixLate expo rowMax scores valuesOf
  pointwise [r0_10, r0_11, ofBits_bot]

theorem head0 (H : FVec Ideal S512x1024 .bf16) (r : Fin 512) (d : Fin 256) :
    k0_pay14 (F := Ideal) H (View.ld x5 r0_5) (View.ld x3 r0_6) (View.ld x3 r0_7) (ix2 r d)
      = headLate (rowMul (fun k => H (ix2 r k)) (fun k j => x5 (ix2 k j))) (fun m k => x3 (ix2 m k)) 0 d := by
  unfold_payloads
  unfold rowMul
  unfold headLate mixLate expo rowMax scores valuesOf
  pointwise [r0_6, r0_7, ofBits_bot]

theorem head1 (H : FVec Ideal S512x1024 .bf16) (r : Fin 512) (d : Fin 256) :
    k0_pay16 (F := Ideal) (k0_pay15 (F := Ideal) H (View.ld x5 r0_5) (View.ld x3 r0_8)) (View.ld x3 r0_9) (ix2 r d)
      = headLate (rowMul (fun k => H (ix2 r k)) (fun k j => x5 (ix2 k j))) (fun m k => x3 (ix2 m k)) 1 d := by
  unfold_payloads
  unfold rowMul
  unfold headLate mixLate expo rowMax scores valuesOf
  pointwise [r0_8, r0_9, ofBits_bot]

/-! ## The last product -/

theorem last0 (X : FVec Ideal S512x1024 .f32) (T : FVec Ideal S512x1024 .bf16) (r : Fin 512) (j : Fin 1024) :
    k0_pay29 (F := Ideal) X T (View.ld x6 r0_5) (View.ld x9 r0_4) (ix2 r j)
      = stream (fun k => X (ix2 r k)) (rowMul (fun k => T (ix2 r k)) (fun k j => x6 (ix2 k j))) (fun k => x9 (ix2 0 k)) j := by
  unfold_payloads
  unfold stream rms rmsInv rowMul
  pointwise [r0_4, r0_5, ofBits_eps, ofBits_1024]

theorem concat0 (Q : FVec Ideal S512x1024 .bf16) (A B C : FVec Ideal S512x256 .bf16) (r : Fin 512) (j : Fin 1024) :
    k0_pay19 (F := Ideal) A B C (k0_pay18 (F := Ideal) Q (View.ld x3 r0_12)) (View.ld x3 r0_13) (ix2 r j)
      = pick (fun d => A (ix2 r d)) (fun d => B (ix2 r d)) (fun d => C (ix2 r d)) (headLate (fun k => Q (ix2 r k)) (fun m k => x3 (ix2 m k)) 3) j := by
  unfold_payloads
  unfold pick headLate mixLate expo rowMax scores valuesOf
  pointwise [r0_12, r0_13, ofBits_bot]

theorem last1 (Q : FVec Ideal S512x1024 .bf16) (A B C : FVec Ideal S512x256 .bf16) (r : Fin 512) (j : Fin 1024) :
    k0_pay30 (F := Ideal) A B C (k0_pay26 (F := Ideal) Q (View.ld x3 r0_12) (View.ld x3 r0_13)) (k0_pay27 (F := Ideal) Q (View.ld x3 r0_12)) (k0_pay28 (F := Ideal))
        (View.ld x6 r0_5) (View.ld x9 r0_4) (ix2 r j)
      = rms (rowMul (pick (fun d => A (ix2 r d)) (fun d => B (ix2 r d)) (fun d => C (ix2 r d)) (headLate (fun k => Q (ix2 r k)) (fun m k => x3 (ix2 m k)) 3))
          (fun k j => x6 (ix2 k j))) (fun k => x9 (ix2 0 k)) j := by
  unfold_payloads
  unfold rms rmsInv rowMul pick headLate mixLate expo rowMax scores valuesOf
  pointwise [r0_4, r0_5, r0_12, r0_13, ofBits_bot, ofBits_eps, ofBits_1024]

/-! ## The two pieces -/

theorem normRow0 (r : Fin 512) (k : Fin 1024) :
    k0_pay36 (F := Ideal) x0 x1 x2 x3 x4 x5 x6 x7 x8 x9 (ix2 r k) = rmsScaled (streamRow x0 x1 x2 x4 x7 ⟨r.val, by omega⟩) (fun k => x8 (ix2 0 k)) k := by
  unfold k0_pay36
  rw [norm0]
  simp only [stream0]

theorem queryRow0 (r : Fin 512) (j : Fin 1024) :
    k0_pay37 (F := Ideal) x0 x1 x2 x3 x4 x5 x6 x7 x8 x9 (ix2 r j) = rowMul (rmsScaled (streamRow x0 x1 x2 x4 x7 ⟨r.val, by omega⟩) (fun k => x8 (ix2 0 k))) (fun k j => x5 (ix2 k j)) j := by
  unfold k0_pay37
  rw [query0]
  simp only [normRow0]

theorem queryRow1 (r : Fin 512) (j : Fin 1024) :
    k0_pay38 (F := Ideal) x0 x1 x2 x3 x4 x5 x6 x7 x8 x9 (ix2 r j) = rowMul (rmsScaled (streamRow x0 x1 x2 x4 x7 ⟨512 + r.val, by omega⟩) (fun k => x8 (ix2 0 k))) (fun k j => x5 (ix2 k j)) j := by
  unfold k0_pay38
  rw [query1 (X := (k0_pay35 (F := Ideal) x0 x1 x2 x3 x4 x5 x6 x7 x8 x9)) (r := r) (j := j) (hN := fun r => sumSq1 _ _ _ r)]
  simp only [stream1]

theorem headsRow0 (r : Fin 512) (j : Fin 1024) :
    (k0_pay19 (F := Ideal) (k0_pay14 (F := Ideal) (k0_pay36 (F := Ideal) x0 x1 x2 x3 x4 x5 x6 x7 x8 x9) (View.ld x5 r0_5) (View.ld x3 r0_6) (View.ld x3 r0_7)) (k0_pay16 (F := Ideal) (k0_pay15 (F := Ideal) (k0_pay36 (F := Ideal) x0 x1 x2 x3 x4 x5 x6 x7 x8 x9) (View.ld x5 r0_5) (View.ld x3 r0_8)) (View.ld x3 r0_9)) (k0_pay17 (F := Ideal) (k0_pay37 (F := Ideal) x0 x1 x2 x3 x4 x5 x6 x7 x8 x9) (View.ld x3 r0_10) (View.ld x3 r0_11)) (k0_pay18 (F := Ideal) (k0_pay37 (F := Ideal) x0 x1 x2 x3 x4 x5 x6 x7 x8 x9) (View.ld x3 r0_12)) (View.ld x3 r0_13)) (ix2 r j)
      = heads (headLate (rowMul (rmsScaled (streamRow x0 x1 x2 x4 x7 ⟨r.val, by omega⟩) (fun k => x8 (ix2 0 k))) (fun k j => x5 (ix2 k j))) (fun m k => x3 (ix2 m k))) j := by
  rw [concat0]
  simp only [head0, head1, head2, normRow0, queryRow0]
  exact pick_eq (headLate (rowMul (rmsScaled (streamRow x0 x1 x2 x4 x7 ⟨r.val, by omega⟩) (fun k => x8 (ix2 0 k))) (fun k j => x5 (ix2 k j))) (fun m k => x3 (ix2 m k))) j

theorem headsRow1 (r : Fin 512) :
    pick (fun d => (k0_pay20 (F := Ideal) (k0_pay38 (F := Ideal) x0 x1 x2 x3 x4 x5 x6 x7 x8 x9) (View.ld x3 r0_6) (View.ld x3 r0_7)) (ix2 r d)) (fun d => (k0_pay23 (F := Ideal) (k0_pay21 (F := Ideal) (k0_pay38 (F := Ideal) x0 x1 x2 x3 x4 x5 x6 x7 x8 x9) (View.ld x3 r0_8)) (k0_pay22 (F := Ideal) (k0_pay38 (F := Ideal) x0 x1 x2 x3 x4 x5 x6 x7 x8 x9) (View.ld x3 r0_8)) (View.ld x3 r0_9) (constant S512x256 .f32 0x00000000#32)) (ix2 r d)) (fun d => (k0_pay24 (F := Ideal) (k0_pay38 (F := Ideal) x0 x1 x2 x3 x4 x5 x6 x7 x8 x9) (View.ld x3 r0_10) (View.ld x3 r0_11)) (ix2 r d))
        (headLate (fun k => (k0_pay38 (F := Ideal) x0 x1 x2 x3 x4 x5 x6 x7 x8 x9) (ix2 r k)) (fun m k => x3 (ix2 m k)) 3)
      = heads (headLate (rowMul (rmsScaled (streamRow x0 x1 x2 x4 x7 ⟨512 + r.val, by omega⟩) (fun k => x8 (ix2 0 k))) (fun k j => x5 (ix2 k j))) (fun m k => x3 (ix2 m k))) := by
  funext j
  simp only [head4, head5, head6, queryRow1]
  exact pick_eq (headLate (rowMul (rmsScaled (streamRow x0 x1 x2 x4 x7 ⟨512 + r.val, by omega⟩) (fun k => x8 (ix2 0 k))) (fun k j => x5 (ix2 k j))) (fun m k => x3 (ix2 m k))) j

/-- Piece 0 is the first 512 rows of the row function. -/
theorem piece0 (r : Fin 512) (j : Fin 1024) :
    k0_pay29 (F := Ideal) (k0_pay6 (F := Ideal) (k0_pay32 (F := Ideal) x0 x1 x2 x3 x4 x5 x6 x7 x8 x9) (k0_pay33 (F := Ideal) x0 x1 x2 x3 x4 x5 x6 x7 x8 x9) (k0_pay34 (F := Ideal) x0 x1 x2 x3 x4 x5 x6 x7 x8 x9)) (k0_pay19 (F := Ideal) (k0_pay14 (F := Ideal) (k0_pay36 (F := Ideal) x0 x1 x2 x3 x4 x5 x6 x7 x8 x9) (View.ld x5 r0_5) (View.ld x3 r0_6) (View.ld x3 r0_7)) (k0_pay16 (F := Ideal) (k0_pay15 (F := Ideal) (k0_pay36 (F := Ideal) x0 x1 x2 x3 x4 x5 x6 x7 x8 x9) (View.ld x5 r0_5) (View.ld x3 r0_8)) (View.ld x3 r0_9)) (k0_pay17 (F := Ideal) (k0_pay37 (F := Ideal) x0 x1 x2 x3 x4 x5 x6 x7 x8 x9) (View.ld x3 r0_10) (View.ld x3 r0_11)) (k0_pay18 (F := Ideal) (k0_pay37 (F := Ideal) x0 x1 x2 x3 x4 x5 x6 x7 x8 x9) (View.ld x3 r0_12)) (View.ld x3 r0_13)) (View.ld x6 r0_5) (View.ld x9 r0_4) (ix2 r j)
      = rowOut x0 x1 x2 x3 x4 x5 x6 x7 x8 x9 ⟨r.val, by omega⟩ j := by
  rw [last0]
  simp only [stream0, headsRow0]
  rfl

theorem add1 (X Y : FVec Ideal S512x1024 .f32) (r : Fin 512) (j : Fin 1024) : k0_pay1 (F := Ideal) X Y (ix2 r j) = X (ix2 r j) + Y (ix2 r j) := by
  unfold k0_pay1
  pointwise

/-- Piece 1 is the last 512 rows of the row function. -/
theorem piece1 (r : Fin 512) (j : Fin 1024) :
    k0_pay1 (F := Ideal) (k0_pay35 (F := Ideal) x0 x1 x2 x3 x4 x5 x6 x7 x8 x9) (k0_pay30 (F := Ideal) (k0_pay20 (F := Ideal) (k0_pay38 (F := Ideal) x0 x1 x2 x3 x4 x5 x6 x7 x8 x9) (View.ld x3 r0_6) (View.ld x3 r0_7)) (k0_pay23 (F := Ideal) (k0_pay21 (F := Ideal) (k0_pay38 (F := Ideal) x0 x1 x2 x3 x4 x5 x6 x7 x8 x9) (View.ld x3 r0_8)) (k0_pay22 (F := Ideal) (k0_pay38 (F := Ideal) x0 x1 x2 x3 x4 x5 x6 x7 x8 x9) (View.ld x3 r0_8)) (View.ld x3 r0_9) (constant S512x256 .f32 0x00000000#32)) (k0_pay24 (F := Ideal) (k0_pay38 (F := Ideal) x0 x1 x2 x3 x4 x5 x6 x7 x8 x9) (View.ld x3 r0_10) (View.ld x3 r0_11)) (k0_pay26 (F := Ideal) (k0_pay38 (F := Ideal) x0 x1 x2 x3 x4 x5 x6 x7 x8 x9) (View.ld x3 r0_12) (View.ld x3 r0_13)) (k0_pay27 (F := Ideal) (k0_pay38 (F := Ideal) x0 x1 x2 x3 x4 x5 x6 x7 x8 x9) (View.ld x3 r0_12)) (k0_pay28 (F := Ideal)) (View.ld x6 r0_5) (View.ld x9 r0_4)) (ix2 r j)
      = rowOut x0 x1 x2 x3 x4 x5 x6 x7 x8 x9 ⟨512 + r.val, by omega⟩ j := by
  rw [add1, last1, stream1, headsRow1]
  rfl

/-- What a grid point writes, at row `r` and column `j` of its block. -/
theorem out_at (y : S1024x1024.Idx) : out0_10 x0 x1 x2 x3 x4 x5 x6 x7 x8 x9 y = rowOut x0 x1 x2 x3 x4 x5 x6 x7 x8 x9 (y 0) (y 1) := by
  unfold out0_10
  refine View.canon_apply_of_pieces (Val := Elt Ideal) (e := .f32) (S := S1024x1024) (fun y => rowOut x0 x1 x2 x3 x4 x5 x6 x7 x8 x9 (y 0) (y 1)) _ ?_ y ?_
  · intro p hp
    simp only [List.mem_cons, List.mem_nil_iff, or_false] at hp
    rcases hp with rfl | rfl <;> intro z <;> idx_vars z
    · refine (piece1 x0 x1 x2 x3 x4 x5 x6 x7 x8 x9 _ _).trans ?_
      exact congrArg₂ (rowOut x0 x1 x2 x3 x4 x5 x6 x7 x8 x9) (Fin.ext (show 512 + z0.val = 512 + 1 * z0.val by omega)) (Fin.ext (show z1.val = 0 + 1 * z1.val by omega))
    · refine (piece0 x0 x1 x2 x3 x4 x5 x6 x7 x8 x9 _ _).trans ?_
      exact congrArg₂ (rowOut x0 x1 x2 x3 x4 x5 x6 x7 x8 x9) (Fin.ext (show z0.val = 0 + 1 * z0.val by omega)) (Fin.ext (show z1.val = 0 + 1 * z1.val by omega))
  · have h0 : (y 0).val < 1024 := (y 0).isLt
    have h1 : (y 1).val < 1024 := (y 1).isLt
    rcases (by omega : (y 0).val < 512 ∨ 512 ≤ (y 0).val) with h | h
    · refine ⟨_, List.mem_cons_of_mem _ (List.mem_singleton_self _), ?_⟩
      show y ∈ r0_1.set
      unfold r0_1
      rw [Rect.mem_set_unit]
      exact (Fin.forall_fin_two.mpr ⟨⟨by show 0 ≤ _; omega, by show _ < 0 + 512; omega⟩, ⟨by show 0 ≤ _; omega, by show _ < 0 + 1024; omega⟩⟩)
    · refine ⟨_, List.mem_cons_self .., ?_⟩
      show y ∈ r0_2.set
      unfold r0_2
      rw [Rect.mem_set_unit]
      exact (Fin.forall_fin_two.mpr ⟨⟨by show 512 ≤ _; omega, by show _ < 512 + 512; omega⟩, ⟨by show 0 ≤ _; omega, by show _ < 0 + 1024; omega⟩⟩)

end Cert.Kernel3Ideal.Block

end
-- ==== Proof.L.CrossArray.lean ====
/-
  The `mix_cross` call: its result array as one function of the arguments.
-/
module

public import proofs.«01_k».proof.Proof.L.CrossBlock

@[expose] public section

set_option maxRecDepth 16384

noncomputable section

namespace Cert.Kernel3Ideal.Array

open Cert.Kernel3Ideal Cert.Kernel3Ideal.Gen Cert.Layer Idealize.ShloMosaic Idealize.ShloMosaic.TcCoe
open Idealize.ShloMosaic.Pipeline (Dat)

variable (m : (ℓ : Loc nD τ sig) → Buf (Elt Ideal) ℓ)

/-! ## The host's reshapes -/

theorem cast_x (v : Vec Ideal S8x2048x1024 .f32) (i : Fin 16384) (k : Fin 1024) :
    shapeCast S16384x1024 v shapeCasts_S8x2048x1024_S16384x1024 (ix2 i k)
      = v (ix3 ⟨i.val / 2048, by omega⟩ ⟨i.val % 2048, by omega⟩ k) := by
  pointwise

theorem cast_w (v : Vec Ideal S1x1024x1024 .f32) (k j : Fin 1024) :
    shapeCast S1024x1024 v shapeCasts_S1x1024x1024_S1024x1024 (ix2 k j) = v (ix3 0 k j) := by
  pointwise

theorem cast_g (v : Vec Ideal S1x1024 .f32) (k : Fin 1024) :
    shapeCast S1x1024 (shapeCast S1024 v shapeCasts_S1x1024_S1024) shapeCasts_S1024_S1x1024 (ix2 0 k) = v (ix2 0 k) := by
  pointwise

/-! ## The arrays the call is given -/

theorem V_x (c : Dev nD) (i : Fin 16384) (k : Fin 1024) :
    V m c main_v0 (ix2 i k)
      = m ((c : Thread nD τ).loc main_arg2) (ix3 ⟨i.val / 2048, by omega⟩ ⟨i.val % 2048, by omega⟩ k) := by
  have h : V m c main_v0 = shapeCast S16384x1024 (m ((c : Thread nD τ).loc main_arg2)) shapeCasts_S8x2048x1024_S16384x1024 := by
    dsimp only [V, hostOps0]
    after_results
    rfl
  rw [h]
  exact cast_x _ i k

theorem V_wo (c : Dev nD) (k j : Fin 1024) :
    V m c main_v2 (ix2 k j) = m ((c : Thread nD τ).loc main_arg4) (ix3 0 k j) := by
  have h : V m c main_v2 = shapeCast S1024x1024 (m ((c : Thread nD τ).loc main_arg4)) shapeCasts_S1x1024x1024_S1024x1024 := by
    dsimp only [V, hostOps0]
    after_results
    rfl
  rw [h]
  exact cast_w _ k j

theorem V_wq (c : Dev nD) (k j : Fin 1024) :
    V m c main_v4 (ix2 k j) = m ((c : Thread nD τ).loc main_arg7) (ix3 0 k j) := by
  have h : V m c main_v4 = shapeCast S1024x1024 (m ((c : Thread nD τ).loc main_arg7)) shapeCasts_S1x1024x1024_S1024x1024 := by
    dsimp only [V, hostOps0]
    after_results
    rfl
  rw [h]
  exact cast_w _ k j

theorem V_wc (c : Dev nD) (k j : Fin 1024) :
    V m c main_v6 (ix2 k j) = m ((c : Thread nD τ).loc main_arg8) (ix3 0 k j) := by
  have h : V m c main_v6 = shapeCast S1024x1024 (m ((c : Thread nD τ).loc main_arg8)) shapeCasts_S1x1024x1024_S1024x1024 := by
    dsimp only [V, hostOps0]
    after_results
    rfl
  rw [h]
  exact cast_w _ k j

theorem V_gm (c : Dev nD) (k : Fin 1024) :
    V m c main_v8 (ix2 0 k) = m ((c : Thread nD τ).loc main_arg5) (ix2 0 k) := by
  have h : V m c main_v8 = shapeCast S1x1024 (shapeCast S1024 (m ((c : Thread nD τ).loc main_arg5)) shapeCasts_S1x1024_S1024) shapeCasts_S1024_S1x1024 := by
    dsimp only [V, hostOps0]
    after_results
    rfl
  rw [h]
  exact cast_g _ k

theorem V_gp (c : Dev nD) (k : Fin 1024) :
    V m c main_v10 (ix2 0 k) = m ((c : Thread nD τ).loc main_arg6) (ix2 0 k) := by
  have h : V m c main_v10 = shapeCast S1x1024 (shapeCast S1024 (m ((c : Thread nD τ).loc main_arg6)) shapeCasts_S1x1024_S1024) shapeCasts_S1024_S1x1024 := by
    dsimp only [V, hostOps0]
    after_results
    rfl
  rw [h]
  exact cast_g _ k

theorem V_gc (c : Dev nD) (k : Fin 1024) :
    V m c main_v12 (ix2 0 k) = m ((c : Thread nD τ).loc main_arg9) (ix2 0 k) := by
  have h : V m c main_v12 = shapeCast S1x1024 (shapeCast S1024 (m ((c : Thread nD τ).loc main_arg9)) shapeCasts_S1x1024_S1024) shapeCasts_S1024_S1x1024 := by
    dsimp only [V, hostOps0]
    after_results
    rfl
  rw [h]
  exact cast_g _ k

/-! ## The blocks a grid point reads -/

theorem fin_N (t : Fin cfg0.N) : t.val < 16 := t.isLt

theorem iblk_mo (c : Dev nD) (t : Fin cfg0.N) (r : Fin 1024) (k : Fin 512) :
    iblk m c 0 t (ix2 r k) = V m c main_arg0 (ix2 ⟨t.val * 1024 + r.val, by have := fin_N t; omega⟩ k) := by
  have e : ∀ t : Fin grid0.N, win0_0.index t 0 = t.val ∧ win0_0.index t 1 = 0 := by decide +kernel
  refine congrArg (V m c main_arg0) ?_
  funext a
  match a with
  | ⟨0, _⟩ => exact Fin.ext (show win0_0.index t 0 * 1024 + 1 * r.val = t.val * 1024 + r.val by rw [(e t).1]; omega)
  | ⟨1, _⟩ => exact Fin.ext (show win0_0.index t 1 * 512 + 1 * k.val = k.val by rw [(e t).2]; omega)

theorem iblk_ro (c : Dev nD) (t : Fin cfg0.N) (r : Fin 1024) (k : Fin 512) :
    iblk m c 1 t (ix2 r k) = V m c main_arg1 (ix2 ⟨t.val * 1024 + r.val, by have := fin_N t; omega⟩ k) := by
  have e : ∀ t : Fin grid0.N, win0_1.index t 0 = t.val ∧ win0_1.index t 1 = 0 := by decide +kernel
  refine congrArg (V m c main_arg1) ?_
  funext a
  match a with
  | ⟨0, _⟩ => exact Fin.ext (show win0_1.index t 0 * 1024 + 1 * r.val = t.val * 1024 + r.val by rw [(e t).1]; omega)
  | ⟨1, _⟩ => exact Fin.ext (show win0_1.index t 1 * 512 + 1 * k.val = k.val by rw [(e t).2]; omega)

theorem iblk_x (c : Dev nD) (t : Fin cfg0.N) (r : Fin 1024) (k : Fin 1024) :
    iblk m c 2 t (ix2 r k) = V m c main_v0 (ix2 ⟨t.val * 1024 + r.val, by have := fin_N t; omega⟩ k) := by
  have e : ∀ t : Fin grid0.N, win0_2.index t 0 = t.val ∧ win0_2.index t 1 = 0 := by decide +kernel
  refine congrArg (V m c main_v0) ?_
  funext a
  match a with
  | ⟨0, _⟩ => exact Fin.ext (show win0_2.index t 0 * 1024 + 1 * r.val = t.val * 1024 + r.val by rw [(e t).1]; omega)
  | ⟨1, _⟩ => exact Fin.ext (show win0_2.index t 1 * 1024 + 1 * k.val = k.val by rw [(e t).2]; omega)

theorem iblk_kv (c : Dev nD) (t : Fin cfg0.N) (r : Fin 256) (k : Fin 2048) :
    iblk m c 3 t (ix2 r k) = V m c main_arg3 (ix2 ⟨t.val / 2 * 256 + r.val, by have := fin_N t; omega⟩ k) := by
  have e : ∀ t : Fin grid0.N, win0_3.index t 0 = t.val / 2 ∧ win0_3.index t 1 = 0 := by decide +kernel
  refine congrArg (V m c main_arg3) ?_
  funext a
  match a with
  | ⟨0, _⟩ => exact Fin.ext (show win0_3.index t 0 * 256 + 1 * r.val = t.val / 2 * 256 + r.val by rw [(e t).1]; omega)
  | ⟨1, _⟩ => exact Fin.ext (show win0_3.index t 1 * 2048 + 1 * k.val = k.val by rw [(e t).2]; omega)

theorem iblk_wo (c : Dev nD) (t : Fin cfg0.N) (k j : Fin 1024) :
    iblk m c 4 t (ix2 k j) = V m c main_v2 (ix2 k j) := by
  have e : ∀ t : Fin grid0.N, win0_4.index t 0 = 0 ∧ win0_4.index t 1 = 0 := by decide +kernel
  refine congrArg (V m c main_v2) ?_
  funext a
  match a with
  | ⟨0, _⟩ => exact Fin.ext (show win0_4.index t 0 * 1024 + 1 * k.val = k.val by rw [(e t).1]; omega)
  | ⟨1, _⟩ => exact Fin.ext (show win0_4.index t 1 * 1024 + 1 * j.val = j.val by rw [(e t).2]; omega)

theorem iblk_wq (c : Dev nD) (t : Fin cfg0.N) (k j : Fin 1024) :
    iblk m c 5 t (ix2 k j) = V m c main_v4 (ix2 k j) := by
  have e : ∀ t : Fin grid0.N, win0_5.index t 0 = 0 ∧ win0_5.index t 1 = 0 := by decide +kernel
  refine congrArg (V m c main_v4) ?_
  funext a
  match a with
  | ⟨0, _⟩ => exact Fin.ext (show win0_5.index t 0 * 1024 + 1 * k.val = k.val by rw [(e t).1]; omega)
  | ⟨1, _⟩ => exact Fin.ext (show win0_5.index t 1 * 1024 + 1 * j.val = j.val by rw [(e t).2]; omega)

theorem iblk_wc (c : Dev nD) (t : Fin cfg0.N) (k j : Fin 1024) :
    iblk m c 6 t (ix2 k j) = V m c main_v6 (ix2 k j) := by
  have e : ∀ t : Fin grid0.N, win0_6.index t 0 = 0 ∧ win0_6.index t 1 = 0 := by decide +kernel
  refine congrArg (V m c main_v6) ?_
  funext a
  match a with
  | ⟨0, _⟩ => exact Fin.ext (show win0_6.index t 0 * 1024 + 1 * k.val = k.val by rw [(e t).1]; omega)
  | ⟨1, _⟩ => exact Fin.ext (show win0_6.index t 1 * 1024 + 1 * j.val = j.val by rw [(e t).2]; omega)

theorem iblk_gm (c : Dev nD) (t : Fin cfg0.N) (k : Fin 1024) :
    iblk m c 7 t (ix2 0 k) = V m c main_v8 (ix2 0 k) := by
  have e : ∀ t : Fin grid0.N, win0_7.index t 0 = 0 ∧ win0_7.index t 1 = 0 := by decide +kernel
  refine congrArg (V m c main_v8) ?_
  funext a
  match a with
  | ⟨0, _⟩ => exact Fin.ext (show win0_7.index t 0 * 1 + 1 * 0 = 0 by rw [(e t).1])
  | ⟨1, _⟩ => exact Fin.ext (show win0_7.index t 1 * 1024 + 1 * k.val = k.val by rw [(e t).2]; omega)

theorem iblk_gp (c : Dev nD) (t : Fin cfg0.N) (k : Fin 1024) :
    iblk m c 8 t (ix2 0 k) = V m c main_v10 (ix2 0 k) := by
  have e : ∀ t : Fin grid0.N, win0_8.index t 0 = 0 ∧ win0_8.index t 1 = 0 := by decide +kernel
  refine congrArg (V m c main_v10) ?_
  funext a
  match a with
  | ⟨0, _⟩ => exact Fin.ext (show win0_8.index t 0 * 1 + 1 * 0 = 0 by rw [(e t).1])
  | ⟨1, _⟩ => exact Fin.ext (show win0_8.index t 1 * 1024 + 1 * k.val = k.val by rw [(e t).2]; omega)

theorem iblk_gc (c : Dev nD) (t : Fin cfg0.N) (k : Fin 1024) :
    iblk m c 9 t (ix2 0 k) = V m c main_v12 (ix2 0 k) := by
  have e : ∀ t : Fin grid0.N, win0_9.index t 0 = 0 ∧ win0_9.index t 1 = 0 := by decide +kernel
  refine congrArg (V m c main_v12) ?_
  funext a
  match a with
  | ⟨0, _⟩ => exact Fin.ext (show win0_9.index t 0 * 1 + 1 * 0 = 0 by rw [(e t).1])
  | ⟨1, _⟩ => exact Fin.ext (show win0_9.index t 1 * 1024 + 1 * k.val = k.val by rw [(e t).2]; omega)

/-! ## The result array -/

/-- The kernel's row of token `i`. -/
def rowAt (c : Dev nD) (i : Fin 16384) (j : Fin 1024) : EReal :=
  crossRowLate (fun k => m ((c : Thread nD τ).loc main_arg0) (ix2 i k)) (fun k => m ((c : Thread nD τ).loc main_arg1) (ix2 i k))
    (fun k => m ((c : Thread nD τ).loc main_arg2) (ix3 ⟨i.val / 2048, by omega⟩ ⟨i.val % 2048, by omega⟩ k))
    (fun s k => m ((c : Thread nD τ).loc main_arg3) (ix2 ⟨i.val / 2048 * 256 + s.val, by omega⟩ k))
    (fun k j => m ((c : Thread nD τ).loc main_arg4) (ix3 0 k j)) (fun k => m ((c : Thread nD τ).loc main_arg5) (ix2 0 k))
    (fun k => m ((c : Thread nD τ).loc main_arg6) (ix2 0 k)) (fun k j => m ((c : Thread nD τ).loc main_arg7) (ix3 0 k j))
    (fun k j => m ((c : Thread nD τ).loc main_arg8) (ix3 0 k j)) (fun k => m ((c : Thread nD τ).loc main_arg9) (ix2 0 k)) j

/-- The result array: row `i` is the kernel's row of token `i`. -/
def G (c : Dev nD) : S16384x1024.Idx → EReal := fun i => rowAt m c (i 0) (i 1)

theorem row_congr {mo mo' ro ro' : Fin 512 → EReal} {x x' gm gm' gp gp' gc gc' : Fin 1024 → EReal} {kv kv' : Fin 256 → Fin 2048 → EReal}
    {wo wo' wq wq' wc wc' : Fin 1024 → Fin 1024 → EReal}
    (h0 : ∀ k, mo k = mo' k) (h1 : ∀ k, ro k = ro' k) (h2 : ∀ k, x k = x' k) (h3 : ∀ s k, kv s k = kv' s k) (h4 : ∀ k j, wo k j = wo' k j)
    (h5 : ∀ k, gm k = gm' k) (h6 : ∀ k, gp k = gp' k) (h7 : ∀ k j, wq k j = wq' k j) (h8 : ∀ k j, wc k j = wc' k j) (h9 : ∀ k, gc k = gc' k)
    (j : Fin 1024) : crossRowLate mo ro x kv wo gm gp wq wc gc j = crossRowLate mo' ro' x' kv' wo' gm' gp' wq' wc' gc' j := by
  obtain rfl : mo = mo' := funext h0
  obtain rfl : ro = ro' := funext h1
  obtain rfl : x = x' := funext h2
  obtain rfl : kv = kv' := funext fun k => funext (h3 k)
  obtain rfl : wo = wo' := funext fun k => funext (h4 k)
  obtain rfl : gm = gm' := funext h5
  obtain rfl : gp = gp' := funext h6
  obtain rfl : wq = wq' := funext fun k => funext (h7 k)
  obtain rfl : wc = wc' := funext fun k => funext (h8 k)
  obtain rfl : gc = gc' := funext h9
  rfl

theorem flushed_eq (c : Dev nD) (t : Fin cfg0.N) :
    (dats m 0 c).flushed 10 t = ((cfg0.win 10).blk t).view.read (Elt Ideal) (G m c) := by
  have e : ∀ t : Fin grid0.N, win0_10.index t 0 = t.val ∧ win0_10.index t 1 = 0 := by decide +kernel
  rw [Value.flushed10]
  funext y
  refine (Block.out_at _ _ _ _ _ _ _ _ _ _ y).trans ?_
  unfold Block.rowOut
  have hy : (y 0).val < 1024 := (y 0).isLt
  have ht := fin_N t
  have h0 : ((cfg0.win 10).blk t).view.emb y 0 = (⟨t.val * 1024 + (y 0).val, by omega⟩ : Fin 16384) :=
    Fin.ext (show win0_10.index t 0 * 1024 + 1 * (y 0).val = t.val * 1024 + (y 0).val by rw [(e t).1]; omega)
  have h1 : ((cfg0.win 10).blk t).view.emb y 1 = y 1 :=
    Fin.ext (show win0_10.index t 1 * 1024 + 1 * (y 1).val = (y 1).val by rw [(e t).2]; omega)
  have hq : (t.val * 1024 + (y 0).val) / 2048 = t.val / 2 := by omega
  show _ = rowAt m c (((cfg0.win 10).blk t).view.emb y 0) (((cfg0.win 10).blk t).view.emb y 1)
  rw [h0, h1]
  unfold rowAt
  refine row_congr (fun k => (iblk_mo m c t (y 0) k).trans ?_) (fun k => (iblk_ro m c t (y 0) k).trans ?_)
    (fun k => (iblk_x m c t (y 0) k).trans (V_x m c _ k)) (fun s k => (iblk_kv m c t s k).trans ?_)
    (fun k j => (iblk_wo m c t k j).trans (V_wo m c k j)) (fun k => (iblk_gm m c t k).trans (V_gm m c k))
    (fun k => (iblk_gp m c t k).trans (V_gp m c k)) (fun k j => (iblk_wq m c t k j).trans (V_wq m c k j))
    (fun k j => (iblk_wc m c t k j).trans (V_wc m c k j)) (fun k => (iblk_gc m c t k).trans (V_gc m c k)) (y 1)
  · exact congrFun (V_main_arg0 m c) _
  · exact congrFun (V_main_arg1 m c) _
  · refine (congrFun (V_main_arg3 m c) _).trans ?_
    exact congrArg (fun q : Fin 2048 => m ((c : Thread nD τ).loc main_arg3) (ix2 q k)) (Fin.ext (show t.val / 2 * 256 + s.val = (t.val * 1024 + (y 0).val) / 2048 * 256 + s.val by rw [hq]))

theorem final (c : Dev nD) : (dats m 0 c).arrAt 10 cfg0.N = G m c := by
  have e : ∀ t : Fin grid0.N, win0_10.index t 0 = t.val ∧ win0_10.index t 1 = 0 := by decide +kernel
  refine (dats m 0 c).arrAt_eq_of_cover 10 (G m c) (fun t _ => flushed_eq m c t) fun i => ?_
  have hi : (i 0).val < 16384 := (i 0).isLt
  have h1 : (i 1).val < 1024 := (i 1).isLt
  refine ⟨⟨(i 0).val / 1024, by show _ < 16; omega⟩, flush0_10 _, ?_⟩
  generalize ht : (⟨(i 0).val / 1024, by show _ < 16; omega⟩ : Fin cfg0.N) = t
  have htv : t.val = (i 0).val / 1024 := by rw [← ht]
  show i ∈ ((View.whole main_v13).slice (win0_10.rect t)).set
  rw [View.set_slice_whole, Rect.mem_set_unit]
  refine Fin.forall_fin_two.mpr ⟨?_, ?_⟩
  · show win0_10.index t 0 * 1024 ≤ (i 0).val ∧ (i 0).val < win0_10.index t 0 * 1024 + 1024
    rw [(e t).1]; omega
  · show win0_10.index t 1 * 1024 ≤ (i 1).val ∧ (i 1).val < win0_10.index t 1 * 1024 + 1024
    rw [(e t).2]; omega

end Cert.Kernel3Ideal.Array

end
-- ==== Proof.L.CrossRef.lean ====
/-
  The mix and cross-attention reference: its result as one function of the arguments.
-/
module

public import proofs.«01_k».proof.Proof.Gen.Reference3Ideal.Read
public import proofs.«01_k».proof.Proof.L.CrossRow

@[expose] public section

set_option maxRecDepth 16384

noncomputable section

namespace Cert.Reference3Ideal.Array

open Cert.Reference3Ideal Cert.Reference3Ideal.Gen Cert.Reference3Ideal.Read Cert.Layer Idealize.ShloMosaic Idealize.ShloMosaic.TcCoe

variable (x0 : Vec Ideal S16384x512 .bf16) (x1 : Vec Ideal S16384x512 .bf16) (x2 : Vec Ideal S8x2048x1024 .f32) (x3 : Vec Ideal S2048x2048 .bf16) (x4 : Vec Ideal S1x1024x1024 .f32) (x5 : Vec Ideal S1x1024 .f32) (x6 : Vec Ideal S1x1024 .f32) (x7 : Vec Ideal S1x1024x1024 .f32) (x8 : Vec Ideal S1x1024x1024 .f32) (x9 : Vec Ideal S1x1024 .f32)

/-! ## The norm and the softmax's exponentials, for any array -/

theorem invGen (O : FVec Ideal S8x2048x1024 .f32) (o : Fin 1024 → EReal) (b : Fin 8) (s : Fin 2048) (hO : ∀ j, O (ix3 b s j) = o j) :
    Host.rsqrt (addf (Host.divf (broadcastInDim S8x2048x1 ![0, 1] bcast_S8x2048_S8x2048x1_0_1
        (Host.reduceAdd (mulf O O) (constant S_ .f32 0x00000000#32) reducesTo_S8x2048x1024_S8x2048_d2 h_S_))
      (broadcastInDim S8x2048x1 ![] bcast_S_S8x2048x1 (constant S_ .f32 0x44800000#32)))
      (broadcastInDim S8x2048x1 ![] bcast_S_S8x2048x1 (constant S_ .f32 0x358637BD#32))) (ix3 b s 0) = rmsInv 1024 o := by
  unfold rmsInv
  pointwise [hO, ofBits_eps, ofBits_1024]

theorem normGen (O : FVec Ideal S8x2048x1024 .f32) (R : FVec Ideal S8x2048x1 .f32) (g : FVec Ideal S1x1024 .f32) (b : Fin 8) (s : Fin 2048) (j : Fin 1024) :
    mulf (mulf O (broadcastInDim S8x2048x1024 ![0, 1, 2] bcast_S8x2048x1_S8x2048x1024_0_1_2 R))
      (broadcastInDim S8x2048x1024 ![0, 1, 2] bcast_S1x1x1024_S8x2048x1024_0_1_2
        (broadcastInDim S1x1x1024 ![2] bcast_S1024_S1x1x1024_2 (shapeCast S1024 g shapeCasts_S1x1024_S1024))) (ix3 b s j)
      = O (ix3 b s j) * R (ix3 b s 0) * g (ix2 0 j) := by
  pointwise

theorem foldGen (S : FVec Ideal S8x4x2048x256 .f32) (c : Fin 256 → EReal) (b : Fin 8) (h : Fin 4) (s : Fin 2048) (hS : ∀ m, S (ix4 b h s m) = c m) :
    Host.reduce FloatOps.maximumf S (constant (F := Ideal) S_ .f32 0xFF800000#32) reducesTo_S8x4x2048x256_S8x4x2048_d3 h_S_ (ix3 b h s) = rowMax c := by
  unfold rowMax
  pointwise [hS, ofBits_bot]

theorem maxGen (R : FVec Ideal S8x4x2048 .f32) (i : S8x4x2048.Idx) :
    maximumf (broadcastInDim S8x4x2048 ![] bcast_S_S8x4x2048 (constant S_ .f32 0xFF800000#32)) R i = R i := by
  show max (Ideal.ofBits FTy.f32 4286578688#32) (R i) = R i
  rw [ofBits_bot]
  exact max_eq_right bot_le

theorem expGen (S : FVec Ideal S8x4x2048x256 .f32) (M : FVec Ideal S8x4x2048 .f32) (b : Fin 8) (h : Fin 4) (s : Fin 2048) (m : Fin 256) :
    Host.exp (subf S (broadcastInDim S8x4x2048x256 ![0, 1, 2, 3] bcast_S8x4x2048x1_S8x4x2048x256_0_1_2_3
      (broadcastInDim S8x4x2048x1 ![0, 1, 2] bcast_S8x4x2048_S8x4x2048x1_0_1_2 M))) (ix4 b h s m)
      = Ideal.exp (S (ix4 b h s m) - M (ix3 b h s)) := by
  pointwise

/-! ## The stages -/

/-- Token `s` of batch `b` among all tokens. -/
def tok (b : Fin 8) (s : Fin 2048) : Fin 16384 := ⟨b.val * 2048 + s.val, by omega⟩

/-- Memory slot `m` of batch `b` among all slots. -/
def mem (b : Fin 8) (m : Fin 256) : Fin 2048 := ⟨b.val * 256 + m.val, by omega⟩

theorem kvOf (b : Fin 8) (m : Fin 256) (k : Fin 2048) : val_main_v5 (F := Ideal) x3 (ix3 b m k) = x3 (ix2 (mem b m) k) := by
  unfold val_main_v5 val_main_v4 mem
  pointwise

theorem moOf (b : Fin 8) (s : Fin 2048) (k : Fin 512) : val_main_v1 (F := Ideal) x0 (ix3 b s k) = x0 (ix2 (tok b s) k) := by
  unfold val_main_v1 val_main_v0 tok
  pointwise

theorem roOf (b : Fin 8) (s : Fin 2048) (k : Fin 512) : val_main_v3 (F := Ideal) x1 (ix3 b s k) = x1 (ix2 (tok b s) k) := by
  unfold val_main_v3 val_main_v2 tok
  pointwise

theorem bothOf (b : Fin 8) (s : Fin 2048) (k : Fin 1024) :
    val_main_v6 (F := Ideal) x0 x1 (ix3 b s k) = both (fun k => x0 (ix2 (tok b s) k)) (fun k => x1 (ix2 (tok b s) k)) k := by
  unfold val_main_v6 both
  pointwise [moOf, roOf]

theorem mixOf (b : Fin 8) (s : Fin 2048) (j : Fin 1024) :
    val_main_v8 (F := Ideal) x0 x1 x4 (ix3 b s j) = rowMul (both (fun k => x0 (ix2 (tok b s) k)) (fun k => x1 (ix2 (tok b s) k))) (fun k j => x4 (ix3 0 k j)) j := by
  unfold val_main_v8 val_main_v7 rowMul
  pointwise [bothOf]

theorem streamOf (b : Fin 8) (s : Fin 2048) (j : Fin 1024) :
    val_main_v23 (F := Ideal) x0 x1 x2 x4 x5 (ix3 b s j) = stream (fun k => x2 (ix3 b s k)) (rowMul (both (fun k => x0 (ix2 (tok b s) k)) (fun k => x1 (ix2 (tok b s) k))) (fun k j => x4 (ix3 0 k j))) (fun k => x5 (ix2 0 k)) j := by
  unfold val_main_v23 val_main_v22 val_main_v21 val_main_v20 val_main_v19 val_main_v18 val_main_v17 val_main_v16 val_main_v15 val_main_v14 val_main_v13 val_main_v12 val_main_v11 val_main_v10 val_main_v9 val_main_cst val_main_cst_0 val_main_cst_1 stream rms rmsInv
  pointwise [mixOf, ofBits_eps, ofBits_1024]

theorem normOf (b : Fin 8) (s : Fin 2048) (j : Fin 1024) :
    val_main_v37 (F := Ideal) x0 x1 x2 x4 x5 x6 (ix3 b s j) = rms (stream (fun k => x2 (ix3 b s k)) (rowMul (both (fun k => x0 (ix2 (tok b s) k)) (fun k => x1 (ix2 (tok b s) k))) (fun k j => x4 (ix3 0 k j))) (fun k => x5 (ix2 0 k))) (fun k => x6 (ix2 0 k)) j := by
  unfold val_main_v37 val_main_v36 val_main_v35 val_main_v34 val_main_v33 val_main_v32 val_main_v31 val_main_v30 val_main_v29 val_main_v28 val_main_v27 val_main_v26 val_main_v25 val_main_v24 val_main_cst_2 val_main_cst_3 val_main_cst_4 rms rmsInv
  pointwise [streamOf, ofBits_eps, ofBits_1024]

theorem queryOf (b : Fin 8) (s : Fin 2048) (j : Fin 1024) :
    val_main_v39 (F := Ideal) x0 x1 x2 x4 x5 x6 x7 (ix3 b s j) = rowMul (rms (stream (fun k => x2 (ix3 b s k)) (rowMul (both (fun k => x0 (ix2 (tok b s) k)) (fun k => x1 (ix2 (tok b s) k))) (fun k j => x4 (ix3 0 k j))) (fun k => x5 (ix2 0 k))) (fun k => x6 (ix2 0 k))) (fun k j => x7 (ix3 0 k j)) j := by
  unfold val_main_v39 val_main_v38
  pointwise [normOf]
  rfl

theorem scoreOf (b : Fin 8) (h : Fin 4) (s : Fin 2048) (m : Fin 256) :
    val_main_v50 (F := Ideal) x0 x1 x2 x3 x4 x5 x6 x7 (ix4 b h s m)
      = scores (rowMul (rms (stream (fun k => x2 (ix3 b s k)) (rowMul (both (fun k => x0 (ix2 (tok b s) k)) (fun k => x1 (ix2 (tok b s) k))) (fun k j => x4 (ix3 0 k j))) (fun k => x5 (ix2 0 k))) (fun k => x6 (ix2 0 k))) (fun k j => x7 (ix3 0 k j))) (fun m k => x3 (ix2 (mem b m) k)) h m * ((1 / 16 : ℝ) : EReal) := by
  unfold val_main_v50 val_main_v49 val_main_v48 val_main_v44 val_main_v43 val_main_v42 val_main_v41 val_main_v40 val_main_cst_5 scores
  pointwise [queryOf, kvOf, ofBits_sixteenth]

theorem valueOf (b : Fin 8) (h : Fin 4) (m d : Fin 256) : val_main_v47 (F := Ideal) x3 (ix4 b h m d) = valuesOf (fun m k => x3 (ix2 (mem b m) k)) h d m := by
  unfold val_main_v47 val_main_v46 val_main_v45 valuesOf
  pointwise [kvOf]
  exact congrArg (fun q => x3 (ix2 (mem b m) q)) (Fin.ext (show 1024 + (h.val * 256 + d.val) = 1024 + h.val * 256 + d.val by omega))

theorem expOf (b : Fin 8) (h : Fin 4) (s : Fin 2048) (m : Fin 256) :
    val_main_v57 (F := Ideal) x0 x1 x2 x3 x4 x5 x6 x7 (ix4 b h s m)
      = expo (fun m => scores (rowMul (rms (stream (fun k => x2 (ix3 b s k)) (rowMul (both (fun k => x0 (ix2 (tok b s) k)) (fun k => x1 (ix2 (tok b s) k))) (fun k j => x4 (ix3 0 k j))) (fun k => x5 (ix2 0 k))) (fun k => x6 (ix2 0 k))) (fun k j => x7 (ix3 0 k j))) (fun m k => x3 (ix2 (mem b m) k)) h m * ((1 / 16 : ℝ) : EReal)) m := by
  have hS := fun m => scoreOf x0 x1 x2 x3 x4 x5 x6 x7 b h s m
  unfold val_main_v57 val_main_v56 val_main_v55 val_main_v54 val_main_v53 val_main_v52 val_main_v51 val_main_cst_6 val_main_cst_7
  generalize val_main_v50 (F := Ideal) x0 x1 x2 x3 x4 x5 x6 x7 = S at hS ⊢
  generalize scores (rowMul (rms (stream (fun k => x2 (ix3 b s k)) (rowMul (both (fun k => x0 (ix2 (tok b s) k)) (fun k => x1 (ix2 (tok b s) k))) (fun k j => x4 (ix3 0 k j))) (fun k => x5 (ix2 0 k))) (fun k => x6 (ix2 0 k))) (fun k j => x7 (ix3 0 k j))) (fun m k => x3 (ix2 (mem b m) k)) h = c at hS ⊢
  refine (expGen S _ b h s m).trans ?_
  rw [maxGen, foldGen S _ b h s hS, hS]
  rfl

theorem headOf (b : Fin 8) (h : Fin 4) (s : Fin 2048) (d : Fin 256) :
    val_main_v62 (F := Ideal) x0 x1 x2 x3 x4 x5 x6 x7 (ix4 b h s d) = headSoft (rowMul (rms (stream (fun k => x2 (ix3 b s k)) (rowMul (both (fun k => x0 (ix2 (tok b s) k)) (fun k => x1 (ix2 (tok b s) k))) (fun k j => x4 (ix3 0 k j))) (fun k => x5 (ix2 0 k))) (fun k => x6 (ix2 0 k))) (fun k j => x7 (ix3 0 k j))) (fun m k => x3 (ix2 (mem b m) k)) h d := by
  have hE := fun m => expOf x0 x1 x2 x3 x4 x5 x6 x7 b h s m
  have hV := fun m => valueOf x3 b h m d
  unfold val_main_v62 val_main_v61 val_main_v60 val_main_v59 val_main_v58 val_main_cst_8
  generalize val_main_v57 (F := Ideal) x0 x1 x2 x3 x4 x5 x6 x7 = E at hE ⊢
  generalize val_main_v47 (F := Ideal) x3 = T at hV ⊢
  unfold headSoft mixSoft
  generalize expo (fun m => scores (rowMul (rms (stream (fun k => x2 (ix3 b s k)) (rowMul (both (fun k => x0 (ix2 (tok b s) k)) (fun k => x1 (ix2 (tok b s) k))) (fun k j => x4 (ix3 0 k j))) (fun k => x5 (ix2 0 k))) (fun k => x6 (ix2 0 k))) (fun k j => x7 (ix3 0 k j))) (fun m k => x3 (ix2 (mem b m) k)) h m * ((1 / 16 : ℝ) : EReal)) = e at hE ⊢
  generalize valuesOf (fun m k => x3 (ix2 (mem b m) k)) h d = v at hV ⊢
  pointwise [hE, hV]

theorem headsOf (b : Fin 8) (s : Fin 2048) (k : Fin 1024) :
    val_main_v64 (F := Ideal) x0 x1 x2 x3 x4 x5 x6 x7 (ix3 b s k) = heads (headSoft (rowMul (rms (stream (fun k => x2 (ix3 b s k)) (rowMul (both (fun k => x0 (ix2 (tok b s) k)) (fun k => x1 (ix2 (tok b s) k))) (fun k j => x4 (ix3 0 k j))) (fun k => x5 (ix2 0 k))) (fun k => x6 (ix2 0 k))) (fun k j => x7 (ix3 0 k j))) (fun m k => x3 (ix2 (mem b m) k))) k := by
  unfold val_main_v64 val_main_v63 heads
  pointwise [headOf]

theorem outOf (b : Fin 8) (s : Fin 2048) (j : Fin 1024) :
    val_main_v66 (F := Ideal) x0 x1 x2 x3 x4 x5 x6 x7 x8 (ix3 b s j) = rowMul (heads (headSoft (rowMul (rms (stream (fun k => x2 (ix3 b s k)) (rowMul (both (fun k => x0 (ix2 (tok b s) k)) (fun k => x1 (ix2 (tok b s) k))) (fun k j => x4 (ix3 0 k j))) (fun k => x5 (ix2 0 k))) (fun k => x6 (ix2 0 k))) (fun k j => x7 (ix3 0 k j))) (fun m k => x3 (ix2 (mem b m) k)))) (fun k j => x8 (ix3 0 k j)) j := by
  unfold val_main_v66 val_main_v65
  pointwise [headsOf]
  rfl

theorem rowOf (b : Fin 8) (s : Fin 2048) (j : Fin 1024) :
    val_main_v81 (F := Ideal) x0 x1 x2 x3 x4 x5 x6 x7 x8 x9 (ix3 b s j)
      = crossRow (fun k => x0 (ix2 (tok b s) k)) (fun k => x1 (ix2 (tok b s) k)) (fun k => x2 (ix3 b s k)) (fun m k => x3 (ix2 (mem b m) k)) (fun k j => x4 (ix3 0 k j)) (fun k => x5 (ix2 0 k)) (fun k => x6 (ix2 0 k)) (fun k j => x7 (ix3 0 k j)) (fun k j => x8 (ix3 0 k j)) (fun k => x9 (ix2 0 k)) j := by
  have hO := fun j => outOf x0 x1 x2 x3 x4 x5 x6 x7 x8 b s j
  have hX := streamOf x0 x1 x2 x4 x5 b s j
  unfold crossRow
  unfold val_main_v81 val_main_v80 val_main_v79 val_main_v78 val_main_v77 val_main_v76 val_main_v75 val_main_v74 val_main_v73 val_main_v72 val_main_v71 val_main_v70 val_main_v69 val_main_v68 val_main_v67 val_main_cst_9 val_main_cst_10 val_main_cst_11
  generalize val_main_v66 (F := Ideal) x0 x1 x2 x3 x4 x5 x6 x7 x8 = O at hO ⊢
  generalize val_main_v23 (F := Ideal) x0 x1 x2 x4 x5 = X at hX ⊢
  generalize rowMul (heads (headSoft (rowMul (rms (stream (fun k => x2 (ix3 b s k)) (rowMul (both (fun k => x0 (ix2 (tok b s) k)) (fun k => x1 (ix2 (tok b s) k))) (fun k j => x4 (ix3 0 k j))) (fun k => x5 (ix2 0 k))) (fun k => x6 (ix2 0 k))) (fun k j => x7 (ix3 0 k j))) (fun m k => x3 (ix2 (mem b m) k)))) (fun k j => x8 (ix3 0 k j)) = o at hO ⊢
  generalize stream (fun k => x2 (ix3 b s k)) (rowMul (both (fun k => x0 (ix2 (tok b s) k)) (fun k => x1 (ix2 (tok b s) k))) (fun k j => x4 (ix3 0 k j))) (fun k => x5 (ix2 0 k)) = x at hX ⊢
  refine congrArg₂ (· + ·) hX ((normGen O _ x9 b s j).trans ?_)
  rw [invGen O o b s hO, hO]
  rfl

theorem flat (v : Vec Ideal S8x2048x1024 .f32) (i : Fin 16384) (k : Fin 1024) :
    shapeCast S16384x1024 v shapeCasts_S8x2048x1024_S16384x1024 (ix2 i k)
      = v (ix3 ⟨i.val / 2048, by omega⟩ ⟨i.val % 2048, by omega⟩ k) := by
  pointwise

theorem result (i : Fin 16384) (j : Fin 1024) :
    val_main_v82 (F := Ideal) x0 x1 x2 x3 x4 x5 x6 x7 x8 x9 (ix2 i j)
      = crossRow (fun k => x0 (ix2 i k)) (fun k => x1 (ix2 i k)) (fun k => x2 (ix3 ⟨i.val / 2048, by omega⟩ ⟨i.val % 2048, by omega⟩ k))
          (fun m k => x3 (ix2 ⟨i.val / 2048 * 256 + m.val, by omega⟩ k)) (fun k j => x4 (ix3 0 k j)) (fun k => x5 (ix2 0 k)) (fun k => x6 (ix2 0 k)) (fun k j => x7 (ix3 0 k j)) (fun k j => x8 (ix3 0 k j)) (fun k => x9 (ix2 0 k)) j := by
  refine (flat _ i j).trans ((rowOf x0 x1 x2 x3 x4 x5 x6 x7 x8 x9 _ _ j).trans ?_)
  have e : tok ⟨i.val / 2048, by omega⟩ ⟨i.val % 2048, by omega⟩ = i := Fin.ext (show i.val / 2048 * 2048 + i.val % 2048 = i.val by omega)
  rw [e]
  rfl

end Cert.Reference3Ideal.Array

end
-- ==== Proof.L.CrossClaim.lean ====
/-
  The `mix_cross` call against its reference: one row by one row, the kernel's row is the reference's.
-/
module

public import proofs.«01_k».proof.Defs
public import proofs.«01_k».proof.Proof.L.CrossArray
public import proofs.«01_k».proof.Proof.L.CrossRef
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Pre_finite_cross
public import Idealize.ShloMosaic.Lib.ReduceAll
public import Idealize.ShloMosaic.Lib.Quiescent

@[expose] public section

set_option maxRecDepth 16384

noncomputable section

namespace Cert.Layer.Cross

open Idealize.ShloMosaic Idealize.ShloMosaic.TcCoe Idealize.SL.Sem Cert.Layer

instance : Subsingleton Pre_finite_cross.S_.Idx := ⟨fun _ _ => funext fun a => a.elim0⟩

theorem slice_at (x : Vec Ideal Pre_finite_cross.S2048x2048 .bf16) (h : Pre_finite_cross.S2048x2048.Slices ![0, 0] Pre_finite_cross.S2048x1024)
    (i : Fin 2048) (j : Fin 1024) :
    extractStridedSlice Pre_finite_cross.S2048x1024 ![0, 0] x h (ix2 i j) = x (ix2 i ⟨j.val, by omega⟩) := by
  pointwise

/-- What the precondition says: the memory's keys, the attention's input gain and the query weights are reals. -/
theorem of_pre (x0 : Vec Ideal Pre_finite_cross.S16384x512 .bf16) (x1 : Vec Ideal Pre_finite_cross.S16384x512 .bf16) (x2 : Vec Ideal Pre_finite_cross.S8x2048x1024 .f32) (x3 : Vec Ideal Pre_finite_cross.S2048x2048 .bf16) (x4 : Vec Ideal Pre_finite_cross.S1x1024x1024 .f32) (x5 : Vec Ideal Pre_finite_cross.S1x1024 .f32) (x6 : Vec Ideal Pre_finite_cross.S1x1024 .f32) (x7 : Vec Ideal Pre_finite_cross.S1x1024x1024 .f32) (x8 : Vec Ideal Pre_finite_cross.S1x1024x1024 .f32) (x9 : Vec Ideal Pre_finite_cross.S1x1024 .f32)
    (h : letI := Pre_finite_cross.Gen.facts; Pre_finite_cross.fn (F := Ideal) x0 x1 x2 x3 x4 x5 x6 x7 x8 x9 = fun _ => 1#1) :
    (∀ i (k : Fin 1024), IsReal (x3 (ix2 i ⟨k.val, by omega⟩))) ∧ (∀ i, IsReal (x6 i)) ∧ ∀ i, IsReal (x7 i) := by
  letI := Pre_finite_cross.Gen.facts
  have h0 := congrFun h fun a => a.elim0
  obtain ⟨h1, h2⟩ := IntOp.andi_eq_one.mp h0
  obtain ⟨h3, h4⟩ := IntOp.andi_eq_one.mp h1
  refine ⟨fun i k => ?_, fun i => isReal_of_test x6 _ _ i (Host.reduce_andi_all _ _ _ _ _ h4 i), fun i => isReal_of_test x7 _ _ i (Host.reduce_andi_all _ _ _ _ _ h2 i)⟩
  have h5 := Host.reduce_andi_all _ _ _ _ _ h3 (ix2 i k)
  have h6 : IsReal (extractStridedSlice Pre_finite_cross.S2048x1024 ![0, 0] x3 Pre_finite_cross.Facts.slices_S2048x2048_S2048x1024_0_0 (ix2 i k)) :=
    isReal_of_test _ _ _ _ h5
  rwa [slice_at] at h6

theorem frame : Cert.quiescent_Kernel3 (hKernel3 := Cert.Kernel3.Gen.facts) := fun m ρ _ => Cert.Kernel3.Gen.frame m ρ

theorem frame_ideal : Cert.quiescent_Kernel3Ideal (hKernel3Ideal := Cert.Kernel3Ideal.Gen.facts) := fun m ρ _ => Cert.Kernel3Ideal.Gen.frame m ρ

theorem frame_ref : Cert.quiescent_Reference3Ideal (hReference3Ideal := Cert.Reference3Ideal.Gen.facts) := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem frame_ref_pre : Cert.quiescent_Reference3Ideal_pre_finite_cross (hReference3Ideal := Cert.Reference3Ideal.Gen.facts)
    (hPre_finite_cross := Cert.Pre_finite_cross.Gen.facts) := fun m ρ _ => frame_ref m ρ trivial

theorem frame_ideal_pre : Cert.quiescent_Kernel3Ideal_pre_finite_cross (hKernel3Ideal := Cert.Kernel3Ideal.Gen.facts) (hPre_finite_cross := Cert.Pre_finite_cross.Gen.facts) :=
  fun m ρ _ => Cert.Kernel3Ideal.Gen.frame m ρ

theorem algebraic : Cert.algebraic_Kernel3Ideal_Reference3Ideal_pre_finite_cross (hKernel3Ideal := Cert.Kernel3Ideal.Gen.facts)
    (hReference3Ideal := Cert.Reference3Ideal.Gen.facts) (hPre_finite_cross := Cert.Pre_finite_cross.Gen.facts) := by
  intro m ρ m' ρ' hpre hagree
  refine ⟨fun c => Cert.Kernel3Ideal.Array.G m c, ?_, ?_⟩
  · exact (θ_run Cert.Kernel3Ideal.defs _ _).mono (fun _ h c => ⟨(h c).1.trans (Cert.Kernel3Ideal.Array.final m c), (h c).2⟩)
      (Cert.Kernel3Ideal.Value.run_blocks (F := Ideal) m ρ)
  refine (θ_run Cert.Reference3Ideal.defs _ _).mono (fun _ h c => ⟨(h c).1.trans ?_, (h c).2⟩)
    (Cert.Reference3Ideal.Value.run (F := Ideal) m' ρ')
  obtain ⟨e0, e1, e2, e3, e4, e5, e6, e7, e8, e9⟩ := hagree c
  obtain ⟨hkv, hg, hw⟩ := of_pre _ _ _ _ _ _ _ _ _ _ (hpre c)
  rw [Cert.Reference3Ideal.Read.val_main_v82_eq]
  show Cert.Reference3Ideal.Read.val_main_v82 (F := Ideal) (m' ((c : Thread Cert.Reference3Ideal.nD Cert.Reference3Ideal.τ).loc Cert.Reference3Ideal.main_arg0)) (m' ((c : Thread Cert.Reference3Ideal.nD Cert.Reference3Ideal.τ).loc Cert.Reference3Ideal.main_arg1)) (m' ((c : Thread Cert.Reference3Ideal.nD Cert.Reference3Ideal.τ).loc Cert.Reference3Ideal.main_arg2)) (m' ((c : Thread Cert.Reference3Ideal.nD Cert.Reference3Ideal.τ).loc Cert.Reference3Ideal.main_arg3)) (m' ((c : Thread Cert.Reference3Ideal.nD Cert.Reference3Ideal.τ).loc Cert.Reference3Ideal.main_arg4)) (m' ((c : Thread Cert.Reference3Ideal.nD Cert.Reference3Ideal.τ).loc Cert.Reference3Ideal.main_arg5)) (m' ((c : Thread Cert.Reference3Ideal.nD Cert.Reference3Ideal.τ).loc Cert.Reference3Ideal.main_arg6)) (m' ((c : Thread Cert.Reference3Ideal.nD Cert.Reference3Ideal.τ).loc Cert.Reference3Ideal.main_arg7)) (m' ((c : Thread Cert.Reference3Ideal.nD Cert.Reference3Ideal.τ).loc Cert.Reference3Ideal.main_arg8)) (m' ((c : Thread Cert.Reference3Ideal.nD Cert.Reference3Ideal.τ).loc Cert.Reference3Ideal.main_arg9)) = _
  rw [e0, e1, e2, e3, e4, e5, e6, e7, e8, e9]
  funext i
  obtain ⟨i, j, rfl⟩ : ∃ (i0 : Fin 16384) (j : Fin 1024), i = ix2 i0 j := ⟨i 0, i 1, by funext a; match a with | ⟨0, _⟩ => rfl | ⟨1, _⟩ => rfl⟩
  refine (Cert.Reference3Ideal.Array.result _ _ _ _ _ _ _ _ _ _ i j).trans ?_
  exact (crossRowLate_eq _ _ _ _ _ _ _ _ _ _ (fun k => hg (ix2 0 k)) (fun k j => hw (ix3 0 k j)) (fun m k => hkv _ k) j).symm

end Cert.Layer.Cross

end
-- ==== Proof.L.InVec.lean ====
/-
  The `in_proj` call: the rotation of a block's columns in groups of 128, entry by entry.
-/
module

public import proofs.«01_k».proof.Proof.Gen.Kernel4Ideal.Skeleton
public import proofs.«01_k».proof.Proof.L.CrossRow

@[expose] public section

set_option maxRecDepth 16384

noncomputable section

namespace Cert.Kernel4Ideal.Block

open Cert.Kernel4Ideal Cert.Kernel4Ideal.Gen Cert.Layer Idealize.ShloMosaic

/-- One group of 128 columns, rotated: the group times `A`, plus the group shifted by one amount times `B`, plus the group
    shifted by the other amount times `C`. -/
def turn (a b : BitVec 32) (V A B C : FVec Ideal S512x128 .f32) : FVec Ideal S512x128 .f32 :=
  addf (addf (mulf V A) (mulf (dynamicRotate 1 a none V rotates_S512x128_d1) B)) (mulf (dynamicRotate 1 b none V rotates_S512x128_d1) C)

theorem turn8_at (V A B C : FVec Ideal S512x128 .f32) (r : Fin 512) (l : Fin 128) :
    turn 120#32 8#32 V A B C (ix2 r l)
      = V (ix2 r l) * A (ix2 r l) + V (ix2 r ⟨(l.val + 8) % 128, by omega⟩) * B (ix2 r l)
        + V (ix2 r ⟨(l.val + 120) % 128, by omega⟩) * C (ix2 r l) := by
  have e1 : (l.val + 8) % 128 = (l.val + 128 - 120) % 128 := by omega
  have e2 : (l.val + 120) % 128 = (l.val + 128 - 8) % 128 := by omega
  simp only [e1, e2]
  unfold turn
  pointwise

theorem turn32_at (V A B C : FVec Ideal S512x128 .f32) (r : Fin 512) (l : Fin 128) :
    turn 96#32 32#32 V A B C (ix2 r l)
      = V (ix2 r l) * A (ix2 r l) + V (ix2 r ⟨(l.val + 32) % 128, by omega⟩) * B (ix2 r l)
        + V (ix2 r ⟨(l.val + 96) % 128, by omega⟩) * C (ix2 r l) := by
  have e1 : (l.val + 32) % 128 = (l.val + 128 - 96) % 128 := by omega
  have e2 : (l.val + 96) % 128 = (l.val + 128 - 32) % 128 := by omega
  simp only [e1, e2]
  unfold turn
  pointwise

/-- The rotation of the four groups of a block of 512 columns. -/
def turns512 (V : FVec Ideal S512x512 .f32) (A B C : FVec Ideal S512x128 .f32) : FVec Ideal S512x512 .f32 :=
  concatenate S512x512 1 [⟨S512x128, turn 120#32 8#32 (extractStridedSlice S512x128 ![0, 0] V slices_S512x512_o0_0_S512x128) A B C⟩,
    ⟨S512x128, turn 120#32 8#32 (extractStridedSlice S512x128 ![0, 128] V slices_S512x512_o0_128_S512x128) A B C⟩,
    ⟨S512x128, turn 120#32 8#32 (extractStridedSlice S512x128 ![0, 256] V slices_S512x512_o0_256_S512x128) A B C⟩,
    ⟨S512x128, turn 120#32 8#32 (extractStridedSlice S512x128 ![0, 384] V slices_S512x512_o0_384_S512x128) A B C⟩]
    concatenates_S512x128_S512x128_S512x128_S512x128_S512x512_d1

/-- The rotation of the two groups of a block of 256 columns. -/
def turns256 (V : FVec Ideal S512x256 .f32) (A B C : FVec Ideal S512x128 .f32) : FVec Ideal S512x256 .f32 :=
  concatenate S512x256 1 [⟨S512x128, turn 96#32 32#32 (extractStridedSlice S512x128 ![0, 0] V slices_S512x256_o0_0_S512x128) A B C⟩,
    ⟨S512x128, turn 96#32 32#32 (extractStridedSlice S512x128 ![0, 128] V slices_S512x256_o0_128_S512x128) A B C⟩]
    concatenates_S512x128_S512x128_S512x256_d1

theorem turns512_at (V : FVec Ideal S512x512 .f32) (A B C : FVec Ideal S512x128 .f32) (r : Fin 512) (j : Fin 512) :
    turns512 V A B C (ix2 r j)
      = V (ix2 r j) * A (ix2 r ⟨j.val % 128, by omega⟩)
        + V (ix2 r ⟨j.val / 128 * 128 + (j.val % 128 + 8) % 128, by omega⟩) * B (ix2 r ⟨j.val % 128, by omega⟩)
        + V (ix2 r ⟨j.val / 128 * 128 + (j.val % 128 + 120) % 128, by omega⟩) * C (ix2 r ⟨j.val % 128, by omega⟩) := by
  unfold turns512
  have h : j.val < 512 := j.isLt
  pointwise [turn8_at]
  have eV : ∀ p q : Fin 512, p.val = q.val → V (ix2 r p) = V (ix2 r q) := fun p q e => by rw [Fin.ext e]
  have eT : ∀ (T : FVec Ideal S512x128 .f32) (p q : Fin 128), p.val = q.val → T (ix2 r p) = T (ix2 r q) := fun T p q e => by rw [Fin.ext e]
  split_ifs <;>
    exact congrArg₂ (· + ·) (congrArg₂ (· + ·)
        (congrArg₂ (· * ·) (eV _ _ (by first | rfl | (dsimp only; omega))) (eT A _ _ (by dsimp only; omega)))
        (congrArg₂ (· * ·) (eV _ _ (by dsimp only; omega)) (eT B _ _ (by dsimp only; omega))))
      (congrArg₂ (· * ·) (eV _ _ (by dsimp only; omega)) (eT C _ _ (by dsimp only; omega)))

theorem turns256_at (V : FVec Ideal S512x256 .f32) (A B C : FVec Ideal S512x128 .f32) (r : Fin 512) (j : Fin 256) :
    turns256 V A B C (ix2 r j)
      = V (ix2 r j) * A (ix2 r ⟨j.val % 128, by omega⟩)
        + V (ix2 r ⟨j.val / 128 * 128 + (j.val % 128 + 32) % 128, by omega⟩) * B (ix2 r ⟨j.val % 128, by omega⟩)
        + V (ix2 r ⟨j.val / 128 * 128 + (j.val % 128 + 96) % 128, by omega⟩) * C (ix2 r ⟨j.val % 128, by omega⟩) := by
  unfold turns256
  have h : j.val < 256 := j.isLt
  pointwise [turn32_at]
  have eV : ∀ p q : Fin 256, p.val = q.val → V (ix2 r p) = V (ix2 r q) := fun p q e => by rw [Fin.ext e]
  have eT : ∀ (T : FVec Ideal S512x128 .f32) (p q : Fin 128), p.val = q.val → T (ix2 r p) = T (ix2 r q) := fun T p q e => by rw [Fin.ext e]
  split_ifs <;>
    exact congrArg₂ (· + ·) (congrArg₂ (· + ·)
        (congrArg₂ (· * ·) (eV _ _ (by first | rfl | (dsimp only; omega))) (eT A _ _ (by dsimp only; omega)))
        (congrArg₂ (· * ·) (eV _ _ (by dsimp only; omega)) (eT B _ _ (by dsimp only; omega))))
      (congrArg₂ (· * ·) (eV _ _ (by dsimp only; omega)) (eT C _ _ (by dsimp only; omega)))

/-! ## A token's row of the projections -/

/-- The projections of one token: its norm times the weights. -/
def projRow (x g : Fin 1024 → EReal) (w : Fin 1024 → Fin 3072 → EReal) (j : Fin 3072) : EReal := ∑ k, rms x g k * w k j

/-- A column rotated with its neighbours 8 columns away in its group of 128, by the three tables. -/
def rot8 (p : Fin 3072 → EReal) (T : Fin 3 → Fin 128 → EReal) (j : Fin 3072) : EReal :=
  p j * T 0 ⟨j.val % 128, by omega⟩ + p ⟨j.val / 128 * 128 + (j.val % 128 + 8) % 128, by omega⟩ * T 1 ⟨j.val % 128, by omega⟩
    + p ⟨j.val / 128 * 128 + (j.val % 128 + 120) % 128, by omega⟩ * T 2 ⟨j.val % 128, by omega⟩

/-- A column rotated with its neighbours 32 columns away in its group of 128, by the three tables. -/
def rot32 (p : Fin 3072 → EReal) (T : Fin 3 → Fin 128 → EReal) (j : Fin 3072) : EReal :=
  p j * T 0 ⟨j.val % 128, by omega⟩ + p ⟨j.val / 128 * 128 + (j.val % 128 + 32) % 128, by omega⟩ * T 1 ⟨j.val % 128, by omega⟩
    + p ⟨j.val / 128 * 128 + (j.val % 128 + 96) % 128, by omega⟩ * T 2 ⟨j.val % 128, by omega⟩

/-- A token's row of the call's first result, from its projections and its rows of the four arrays of tables. -/
def mixRow (p : Fin 3072 → EReal) (mq mk rq rk : Fin 3 → Fin 128 → EReal) (j : Fin 3072) : EReal :=
  if j.val < 512 then rot8 p mq j else if j.val < 1024 then rot8 p mk j else if j.val < 1536 then p j
  else if j.val < 1792 then rot32 p rq j else if j.val < 2048 then rot32 p rk j else p j

theorem turns512_row (M : FVec Ideal S512x512 .f32) (A B C : FVec Ideal S512x128 .f32) (r : Fin 512) (p : Fin 3072 → EReal)
    (T : Fin 3 → Fin 128 → EReal) (o : ℕ) (ho : o + 512 ≤ 3072) (hd : o % 128 = 0)
    (hp : ∀ j : Fin 512, M (ix2 r j) = p ⟨o + j.val, by omega⟩) (hA : ∀ l, A (ix2 r l) = T 0 l) (hB : ∀ l, B (ix2 r l) = T 1 l)
    (hC : ∀ l, C (ix2 r l) = T 2 l) (j : Fin 512) :
    turns512 M A B C (ix2 r j) = rot8 p T ⟨o + j.val, by omega⟩ := by
  rw [turns512_at]
  simp only [hp, hA, hB, hC]
  have eP : ∀ a b : Fin 3072, a.val = b.val → p a = p b := fun a b e => by rw [Fin.ext e]
  have eT : ∀ (i : Fin 3) (a b : Fin 128), a.val = b.val → T i a = T i b := fun i a b e => by rw [Fin.ext e]
  have h := j.isLt
  unfold rot8
  exact congrArg₂ (· + ·) (congrArg₂ (· + ·)
      (congrArg₂ (· * ·) rfl (eT 0 _ _ (by dsimp only; omega)))
      (congrArg₂ (· * ·) (eP _ _ (by dsimp only; omega)) (eT 1 _ _ (by dsimp only; omega))))
    (congrArg₂ (· * ·) (eP _ _ (by dsimp only; omega)) (eT 2 _ _ (by dsimp only; omega)))

theorem turns256_row (M : FVec Ideal S512x256 .f32) (A B C : FVec Ideal S512x128 .f32) (r : Fin 512) (p : Fin 3072 → EReal)
    (T : Fin 3 → Fin 128 → EReal) (o : ℕ) (ho : o + 256 ≤ 3072) (hd : o % 128 = 0)
    (hp : ∀ j : Fin 256, M (ix2 r j) = p ⟨o + j.val, by omega⟩) (hA : ∀ l, A (ix2 r l) = T 0 l) (hB : ∀ l, B (ix2 r l) = T 1 l)
    (hC : ∀ l, C (ix2 r l) = T 2 l) (j : Fin 256) :
    turns256 M A B C (ix2 r j) = rot32 p T ⟨o + j.val, by omega⟩ := by
  rw [turns256_at]
  simp only [hp, hA, hB, hC]
  have eP : ∀ a b : Fin 3072, a.val = b.val → p a = p b := fun a b e => by rw [Fin.ext e]
  have eT : ∀ (i : Fin 3) (a b : Fin 128), a.val = b.val → T i a = T i b := fun i a b e => by rw [Fin.ext e]
  have h := j.isLt
  unfold rot32
  exact congrArg₂ (· + ·) (congrArg₂ (· + ·)
      (congrArg₂ (· * ·) rfl (eT 0 _ _ (by dsimp only; omega)))
      (congrArg₂ (· * ·) (eP _ _ (by dsimp only; omega)) (eT 1 _ _ (by dsimp only; omega))))
    (congrArg₂ (· * ·) (eP _ _ (by dsimp only; omega)) (eT 2 _ _ (by dsimp only; omega)))

/-- The product of a part's normed rows and 512 columns of the weights. -/
def mat512 (H : FVec Ideal S512x1024 .bf16) (W : Vec Ideal S1024x512 .f32) : FVec Ideal S512x512 .f32 :=
  matmul dot_S512x1024_S1024x512_S512x512_1_0_0_1_n_n none H (truncf .bf16 (shapeCast S1024x512 W shapeCasts_S1024x512_S1024x512) bitsLt_bf16_f32)
    (constant S512x512 .f32 0x00000000#32)

/-- The product of a part's normed rows and 256 columns of the weights. -/
def mat256 (H : FVec Ideal S512x1024 .bf16) (W : Vec Ideal S1024x256 .f32) : FVec Ideal S512x256 .f32 :=
  matmul dot_S512x1024_S1024x256_S512x256_1_0_0_1_n_n none H (truncf .bf16 (shapeCast S1024x256 W shapeCasts_S1024x256_S1024x256) bitsLt_bf16_f32)
    (constant S512x256 .f32 0x00000000#32)

theorem mat512_at (H : FVec Ideal S512x1024 .bf16) (W : Vec Ideal S1024x512 .f32) (r j : Fin 512) :
    mat512 H W (ix2 r j) = ∑ k : Fin 1024, H (ix2 r k) * W (ix2 k j) := by
  unfold mat512
  pointwise

theorem mat256_at (H : FVec Ideal S512x1024 .bf16) (W : Vec Ideal S1024x256 .f32) (r : Fin 512) (j : Fin 256) :
    mat256 H W (ix2 r j) = ∑ k : Fin 1024, H (ix2 r k) * W (ix2 k j) := by
  unfold mat256
  pointwise

theorem ofBits_256 : Ideal.ofBits .f32 1132462080#32 = ((256 : ℝ) : EReal) := by
  simp [Ideal.ofBits, Ideal.ieee, -EReal.coe_mul]; norm_num

/-- The means of a part's two blocks of 256 rows. -/
def means (V : FVec Ideal S512x512 .f32) : FVec Ideal S2x1x512 .f32 :=
  shapeCast S2x1x512 (divf (multiReduction .add [1] S2x512 (shapeCast S2x256x512 V shapeCasts_S512x512_S2x256x512) 0x00000000#32 reduces_S2x256x512_S2x512 (.inl rfl) rfl)
    (broadcast S2x512 (Scalar.ofBits .f32 0x43800000#32))) shapeCasts_S2x512_S2x1x512

theorem means_at (V : FVec Ideal S512x512 .f32) (b : Fin 2) (j : Fin 512) :
    means V (ix3 b 0 j) = Ideal.div (∑ q : Fin 256, V (ix2 ⟨b.val * 256 + q.val, by omega⟩ j)) ((256 : ℝ) : EReal) := by
  unfold means
  pointwise [ofBits_256]

theorem norm0_at (x : Vec Ideal S512x1024 .f32) (g : Vec Ideal S1x1024 .f32) (r : Fin 512) (k : Fin 1024) :
    k0_pay2 (F := Ideal) x g (ix2 r k) = rms (fun k => x (ix2 r k)) (fun k => g (ix2 0 k)) k := by
  unfold k0_pay2
  unfold rms rmsInv
  pointwise [ofBits_eps, ofBits_1024]

theorem norm1_at (x : Vec Ideal S512x1024 .f32) (g : Vec Ideal S1x1024 .f32) (r : Fin 512) (k : Fin 1024) :
    k0_pay3 (F := Ideal) x g (ix2 r k) = rms (fun k => x (ix2 r k)) (fun k => g (ix2 0 k)) k := by
  unfold k0_pay3
  unfold rms rmsInv
  pointwise [ofBits_eps, ofBits_1024]

end Cert.Kernel4Ideal.Block

end
-- ==== Proof.L.InBlock.lean ====
/-
  The `in_proj` call: what one grid point writes, row by row.
-/
module

public import proofs.«01_k».proof.Proof.Gen.Kernel4Ideal.Value
public import proofs.«01_k».proof.Proof.L.InVec

@[expose] public section

set_option maxRecDepth 16384

noncomputable section

namespace Cert.Kernel4Ideal.Block

open Cert.Kernel4Ideal Cert.Kernel4Ideal.Gen Cert.Layer Idealize.ShloMosaic Idealize.ShloMosaic.Tactic

/-! ## What the loads read -/

/-- The normed rows of the block's first part. -/
def H0 (x0 : Vec Ideal S1024x1024 .f32) (x1 : Vec Ideal S1x1024 .f32) : FVec Ideal S512x1024 .bf16 :=
  k0_pay2 (F := Ideal) (View.ld x0 (Rect.unit ![0, 0] ![512, 1024] inb_S1024x1024_S512x1024_0_0)) (View.ld x1 (Rect.unit ![0, 0] ![1, 1024] inb_S1x1024_S1x1024_0_0))

/-- The normed rows of the block's second part. -/
def H1 (x0 : Vec Ideal S1024x1024 .f32) (x1 : Vec Ideal S1x1024 .f32) : FVec Ideal S512x1024 .bf16 :=
  k0_pay3 (F := Ideal) (View.ld x0 (Rect.unit ![512, 0] ![512, 1024] inb_S1024x1024_S512x1024_512_0)) (View.ld x1 (Rect.unit ![0, 0] ![1, 1024] inb_S1x1024_S1x1024_0_0))

/-- One table of a part's 512 rows. -/
def tab (T : Vec Ideal S3x1024x128 .f32) (a o : ℕ) (h : ∀ q, (![a, o, 0] : Fin 3 → ℕ) q + S1x512x128.size q ≤ S3x1024x128.size q) : FVec Ideal S512x128 .f32 :=
  shapeCast S512x128 (View.ld T (Rect.unit (s := S3x1024x128) ![a, o, 0] S1x512x128.size h)) shapeCasts_S1x512x128_S512x128

theorem tab_at (T : Vec Ideal S3x1024x128 .f32) (a o : ℕ) (h : ∀ q, (![a, o, 0] : Fin 3 → ℕ) q + S1x512x128.size q ≤ S3x1024x128.size q)
    (ha : a < 3) (ho : o + 512 ≤ 1024) (r : Fin 512) (l : Fin 128) :
    tab T a o h (ix2 r l) = T (ix3 ⟨a, ha⟩ ⟨o + r.val, by omega⟩ l) := by
  have e : ∀ v : Vec Ideal S1x512x128 .f32, shapeCast S512x128 v shapeCasts_S1x512x128_S512x128 (ix2 r l) = v (ix3 0 r l) := by
    intro v; pointwise
  unfold tab
  rw [e]
  refine congrArg T ?_
  funext q
  match q with
  | ⟨0, _⟩ => exact Fin.ext (show a + 1 * 0 = a by omega)
  | ⟨1, _⟩ => exact Fin.ext (show o + 1 * r.val = o + r.val by omega)
  | ⟨2, _⟩ => exact Fin.ext (show 0 + 1 * l.val = l.val by omega)

/-- 512 columns of the weights. -/
def cols512 (W : Vec Ideal S1024x3072 .f32) (o : ℕ) (h : ∀ q, (![0, o] : Fin 2 → ℕ) q + S1024x512.size q ≤ S1024x3072.size q) : Vec Ideal S1024x512 .f32 :=
  View.ld W (Rect.unit (s := S1024x3072) ![0, o] S1024x512.size h)

theorem cols512_at (W : Vec Ideal S1024x3072 .f32) (o : ℕ) (h : ∀ q, (![0, o] : Fin 2 → ℕ) q + S1024x512.size q ≤ S1024x3072.size q)
    (ho : o + 512 ≤ 3072) (k : Fin 1024) (j : Fin 512) : cols512 W o h (ix2 k j) = W (ix2 k ⟨o + j.val, by omega⟩) := by
  refine congrArg W ?_
  funext q
  match q with
  | ⟨0, _⟩ => exact Fin.ext (show 0 + 1 * k.val = k.val by omega)
  | ⟨1, _⟩ => exact Fin.ext (show o + 1 * j.val = o + j.val by omega)

/-- 256 columns of the weights. -/
def cols256 (W : Vec Ideal S1024x3072 .f32) (o : ℕ) (h : ∀ q, (![0, o] : Fin 2 → ℕ) q + S1024x256.size q ≤ S1024x3072.size q) : Vec Ideal S1024x256 .f32 :=
  View.ld W (Rect.unit (s := S1024x3072) ![0, o] S1024x256.size h)

theorem cols256_at (W : Vec Ideal S1024x3072 .f32) (o : ℕ) (h : ∀ q, (![0, o] : Fin 2 → ℕ) q + S1024x256.size q ≤ S1024x3072.size q)
    (ho : o + 256 ≤ 3072) (k : Fin 1024) (j : Fin 256) : cols256 W o h (ix2 k j) = W (ix2 k ⟨o + j.val, by omega⟩) := by
  refine congrArg W ?_
  funext q
  match q with
  | ⟨0, _⟩ => exact Fin.ext (show 0 + 1 * k.val = k.val by omega)
  | ⟨1, _⟩ => exact Fin.ext (show o + 1 * j.val = o + j.val by omega)

/-- The projections of one row of the block. -/
def bp (x0 : Vec Ideal S1024x1024 .f32) (x1 : Vec Ideal S1x1024 .f32) (x2 : Vec Ideal S1024x3072 .f32) (r : Fin 1024) : Fin 3072 → EReal :=
  projRow (fun k => x0 (ix2 r k)) (fun k => x1 (ix2 0 k)) (fun k j => x2 (ix2 k j))

theorem H0_at (x0 : Vec Ideal S1024x1024 .f32) (x1 : Vec Ideal S1x1024 .f32) (r : Fin 512) (k : Fin 1024) :
    H0 x0 x1 (ix2 r k) = rms (fun k => x0 (ix2 ⟨0 + r.val, by omega⟩ k)) (fun k => x1 (ix2 0 k)) k := by
  unfold H0
  rw [norm0_at]
  refine congrArg₂ (fun X G => rms X G k) (funext fun k => congrArg x0 ?_) (funext fun k => congrArg x1 ?_) <;> funext q
  · match q with
    | ⟨0, _⟩ => exact Fin.ext (show 0 + 1 * r.val = 0 + r.val by omega)
    | ⟨1, _⟩ => exact Fin.ext (show 0 + 1 * k.val = k.val by omega)
  · match q with
    | ⟨0, _⟩ => exact Fin.ext (show 0 + 1 * 0 = 0 by omega)
    | ⟨1, _⟩ => exact Fin.ext (show 0 + 1 * k.val = k.val by omega)

theorem H1_at (x0 : Vec Ideal S1024x1024 .f32) (x1 : Vec Ideal S1x1024 .f32) (r : Fin 512) (k : Fin 1024) :
    H1 x0 x1 (ix2 r k) = rms (fun k => x0 (ix2 ⟨512 + r.val, by omega⟩ k)) (fun k => x1 (ix2 0 k)) k := by
  unfold H1
  rw [norm1_at]
  refine congrArg₂ (fun X G => rms X G k) (funext fun k => congrArg x0 ?_) (funext fun k => congrArg x1 ?_) <;> funext q
  · match q with
    | ⟨0, _⟩ => exact Fin.ext (show 512 + 1 * r.val = 512 + r.val by omega)
    | ⟨1, _⟩ => exact Fin.ext (show 0 + 1 * k.val = k.val by omega)
  · match q with
    | ⟨0, _⟩ => exact Fin.ext (show 0 + 1 * 0 = 0 by omega)
    | ⟨1, _⟩ => exact Fin.ext (show 0 + 1 * k.val = k.val by omega)

/-- Normed rows of a part that starts at row `a`. -/
def Part (x0 : Vec Ideal S1024x1024 .f32) (x1 : Vec Ideal S1x1024 .f32) (H : FVec Ideal S512x1024 .bf16) (a : ℕ) (ha : a + 512 ≤ 1024) : Prop :=
  ∀ (r : Fin 512) (k : Fin 1024), H (ix2 r k) = rms (fun k => x0 (ix2 ⟨a + r.val, by omega⟩ k)) (fun k => x1 (ix2 0 k)) k

section
variable (x0 : Vec Ideal S1024x1024 .f32) (x1 : Vec Ideal S1x1024 .f32) (x2 : Vec Ideal S1024x3072 .f32) (T : Vec Ideal S3x1024x128 .f32)
  (H : FVec Ideal S512x1024 .bf16) (a : ℕ) (ha : a + 512 ≤ 1024) (hH : Part x0 x1 H a ha) (o : ℕ)
include hH

theorem plain512 (h : ∀ q, (![0, o] : Fin 2 → ℕ) q + S1024x512.size q ≤ S1024x3072.size q) (ho : o + 512 ≤ 3072) (r j : Fin 512) :
    mat512 H (cols512 x2 o h) (ix2 r j) = bp x0 x1 x2 ⟨a + r.val, by omega⟩ ⟨o + j.val, by omega⟩ := by
  rw [mat512_at]
  exact Finset.sum_congr rfl fun k _ => congrArg₂ (· * ·) (hH r k) (cols512_at x2 o h ho k j)

theorem plain256 (h : ∀ q, (![0, o] : Fin 2 → ℕ) q + S1024x256.size q ≤ S1024x3072.size q) (ho : o + 256 ≤ 3072) (r : Fin 512) (j : Fin 256) :
    mat256 H (cols256 x2 o h) (ix2 r j) = bp x0 x1 x2 ⟨a + r.val, by omega⟩ ⟨o + j.val, by omega⟩ := by
  rw [mat256_at]
  exact Finset.sum_congr rfl fun k _ => congrArg₂ (· * ·) (hH r k) (cols256_at x2 o h ho k j)

theorem turned512 (h : ∀ q, (![0, o] : Fin 2 → ℕ) q + S1024x512.size q ≤ S1024x3072.size q) (ho : o + 512 ≤ 3072) (hd : o % 128 = 0)
    (h0 : ∀ q, (![0, a, 0] : Fin 3 → ℕ) q + S1x512x128.size q ≤ S3x1024x128.size q) (h1 : ∀ q, (![1, a, 0] : Fin 3 → ℕ) q + S1x512x128.size q ≤ S3x1024x128.size q)
    (h2 : ∀ q, (![2, a, 0] : Fin 3 → ℕ) q + S1x512x128.size q ≤ S3x1024x128.size q) (r j : Fin 512) :
    turns512 (mat512 H (cols512 x2 o h)) (tab T 0 a h0) (tab T 1 a h1) (tab T 2 a h2) (ix2 r j)
      = rot8 (bp x0 x1 x2 ⟨a + r.val, by omega⟩) (fun q l => T (ix3 q ⟨a + r.val, by omega⟩ l)) ⟨o + j.val, by omega⟩ :=
  turns512_row _ _ _ _ r _ _ o ho hd (fun j => plain512 x0 x1 x2 H a ha hH o h ho r j) (fun l => tab_at T 0 a h0 (by decide) ha r l)
    (fun l => tab_at T 1 a h1 (by decide) ha r l) (fun l => tab_at T 2 a h2 (by decide) ha r l) j

theorem turned256 (h : ∀ q, (![0, o] : Fin 2 → ℕ) q + S1024x256.size q ≤ S1024x3072.size q) (ho : o + 256 ≤ 3072) (hd : o % 128 = 0)
    (h0 : ∀ q, (![0, a, 0] : Fin 3 → ℕ) q + S1x512x128.size q ≤ S3x1024x128.size q) (h1 : ∀ q, (![1, a, 0] : Fin 3 → ℕ) q + S1x512x128.size q ≤ S3x1024x128.size q)
    (h2 : ∀ q, (![2, a, 0] : Fin 3 → ℕ) q + S1x512x128.size q ≤ S3x1024x128.size q) (r : Fin 512) (j : Fin 256) :
    turns256 (mat256 H (cols256 x2 o h)) (tab T 0 a h0) (tab T 1 a h1) (tab T 2 a h2) (ix2 r j)
      = rot32 (bp x0 x1 x2 ⟨a + r.val, by omega⟩) (fun q l => T (ix3 q ⟨a + r.val, by omega⟩ l)) ⟨o + j.val, by omega⟩ :=
  turns256_row _ _ _ _ r _ _ o ho hd (fun j => plain256 x0 x1 x2 H a ha hH o h ho r j) (fun l => tab_at T 0 a h0 (by decide) ha r l)
    (fun l => tab_at T 1 a h1 (by decide) ha r l) (fun l => tab_at T 2 a h2 (by decide) ha r l) j

end

/-- A row of the block's first result. -/
def rowOut (x0 : Vec Ideal S1024x1024 .f32) (x1 : Vec Ideal S1x1024 .f32) (x2 : Vec Ideal S1024x3072 .f32) (x3 x4 x5 x6 : Vec Ideal S3x1024x128 .f32) (r : Fin 1024) (j : Fin 3072) : EReal :=
  mixRow (bp x0 x1 x2 r) (fun q l => x3 (ix3 q r l)) (fun q l => x4 (ix3 q r l)) (fun q l => x5 (ix3 q r l)) (fun q l => x6 (ix3 q r l)) j

/-- A row of the block's second result: the mean of a block of 256 rows of the second part of the first result. -/
def meanOut (x0 : Vec Ideal S1024x1024 .f32) (x1 : Vec Ideal S1x1024 .f32) (x2 : Vec Ideal S1024x3072 .f32) (x3 x4 x5 x6 : Vec Ideal S3x1024x128 .f32) (b : Fin 4) (j : Fin 512) : EReal :=
  Ideal.div (∑ q : Fin 256, rowOut x0 x1 x2 x3 x4 x5 x6 ⟨b.val * 256 + q.val, by omega⟩ ⟨512 + j.val, by omega⟩) ((256 : ℝ) : EReal)

section
variable (x0 : Vec Ideal S1024x1024 .f32) (x1 : Vec Ideal S1x1024 .f32) (x2 : Vec Ideal S1024x3072 .f32) (x3 x4 x5 x6 : Vec Ideal S3x1024x128 .f32)

theorem row_mq (r : Fin 1024) (j : Fin 3072) (h : j.val < 512) :
    rot8 (bp x0 x1 x2 r) (fun q l => x3 (ix3 q r l)) j = rowOut x0 x1 x2 x3 x4 x5 x6 r j := by
  unfold rowOut mixRow
  rw [if_pos h]

theorem row_mk (r : Fin 1024) (j : Fin 3072) (h0 : 512 ≤ j.val) (h : j.val < 1024) :
    rot8 (bp x0 x1 x2 r) (fun q l => x4 (ix3 q r l)) j = rowOut x0 x1 x2 x3 x4 x5 x6 r j := by
  unfold rowOut mixRow
  rw [if_neg (by omega), if_pos h]

theorem row_mv (r : Fin 1024) (j : Fin 3072) (h0 : 1024 ≤ j.val) (h : j.val < 1536) :
    bp x0 x1 x2 r j = rowOut x0 x1 x2 x3 x4 x5 x6 r j := by
  unfold rowOut mixRow
  rw [if_neg (by omega), if_neg (by omega), if_pos h]

theorem row_rq (r : Fin 1024) (j : Fin 3072) (h0 : 1536 ≤ j.val) (h : j.val < 1792) :
    rot32 (bp x0 x1 x2 r) (fun q l => x5 (ix3 q r l)) j = rowOut x0 x1 x2 x3 x4 x5 x6 r j := by
  unfold rowOut mixRow
  rw [if_neg (by omega), if_neg (by omega), if_neg (by omega), if_pos h]

theorem row_rk (r : Fin 1024) (j : Fin 3072) (h0 : 1792 ≤ j.val) (h : j.val < 2048) :
    rot32 (bp x0 x1 x2 r) (fun q l => x6 (ix3 q r l)) j = rowOut x0 x1 x2 x3 x4 x5 x6 r j := by
  unfold rowOut mixRow
  rw [if_neg (by omega), if_neg (by omega), if_neg (by omega), if_neg (by omega), if_pos h]

theorem row_rest (r : Fin 1024) (j : Fin 3072) (h0 : 2048 ≤ j.val) :
    bp x0 x1 x2 r j = rowOut x0 x1 x2 x3 x4 x5 x6 r j := by
  unfold rowOut mixRow
  rw [if_neg (by omega), if_neg (by omega), if_neg (by omega), if_neg (by omega), if_neg (by omega)]

end

theorem out7_at (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3072 .f32) (harg3 : arg3.IsWhole) (arg4 : Memref sig .tc .vmem S3x1024x128 .f32) (harg4 : arg4.IsWhole) (arg5 : Memref sig .tc .vmem S3x1024x128 .f32) (harg5 : arg5.IsWhole) (arg6 : Memref sig .tc .vmem S3x1024x128 .f32) (harg6 : arg6.IsWhole) (arg7 : Memref sig .tc .vmem S3x1024x128 .f32) (harg7 : arg7.IsWhole) (arg8 : Memref sig .tc .vmem S1024x3072 .bf16) (harg8 : arg8.IsWhole) (arg9 : Memref sig .tc .vmem S4x1x512 .f32) (harg9 : arg9.IsWhole)
    (x0 : Vec Ideal S1024x1024 .f32) (x1 : Vec Ideal S1x1024 .f32) (x2 : Vec Ideal S1024x3072 .f32) (x3 x4 x5 x6 : Vec Ideal S3x1024x128 .f32) (y : S1024x3072.Idx) :
    out0_A_7 c i arg1 harg1 arg2 harg2 arg3 harg3 arg4 harg4 arg5 harg5 arg6 harg6 arg7 harg7 arg8 harg8 arg9 harg9 x0 x1 x2 x3 x4 x5 x6 y = rowOut x0 x1 x2 x3 x4 x5 x6 (y 0) (y 1) := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4 x5 x6)]
  refine View.canon_apply_of_pieces (Val := Elt Ideal) (e := .bf16) (S := S1024x3072) (fun y => rowOut x0 x1 x2 x3 x4 x5 x6 (y 0) (y 1)) _ ?_ y (cover0_A_7 c i arg1 harg1 arg2 harg2 arg3 harg3 arg4 harg4 arg5 harg5 arg6 harg6 arg7 harg7 arg8 harg8 arg9 harg9 x0 x1 x2 x3 x4 x5 x6 y)
  unfold kernelRun0_A
  dsimp only
  sl_unfold_words
  simp only [View.readAt_eq_ld, harg1.read_unread, harg2.read_unread, harg3.read_unread, harg4.read_unread, harg5.read_unread, harg6.read_unread, harg7.read_unread]
  intro p hp
  simp only [List.mem_cons, List.mem_nil_iff, or_false] at hp
  rcases hp with rfl | rfl | rfl | rfl | rfl | rfl | rfl | rfl | rfl | rfl | rfl | rfl | rfl | rfl <;> intro z <;> idx_vars z
  · refine (plain512 x0 x1 x2 (H1 x0 x1) 512 (by decide) (H1_at x0 x1) 2560 inb_S1024x3072_S1024x512_0_2560 (by decide) _ _).trans ?_
    refine (row_rest x0 x1 x2 x3 x4 x5 x6 _ _ (by dsimp only; omega)).trans ?_
    exact congrArg₂ (rowOut x0 x1 x2 x3 x4 x5 x6) (Fin.ext (show 512 + z0.val = 512 + 1 * z0.val by omega)) (Fin.ext (show 2560 + z1.val = 2560 + 1 * z1.val by omega))
  · refine (plain512 x0 x1 x2 (H0 x0 x1) 0 (by decide) (H0_at x0 x1) 2560 inb_S1024x3072_S1024x512_0_2560 (by decide) _ _).trans ?_
    refine (row_rest x0 x1 x2 x3 x4 x5 x6 _ _ (by dsimp only; omega)).trans ?_
    exact congrArg₂ (rowOut x0 x1 x2 x3 x4 x5 x6) (Fin.ext (show 0 + z0.val = 0 + 1 * z0.val by omega)) (Fin.ext (show 2560 + z1.val = 2560 + 1 * z1.val by omega))
  · refine (plain512 x0 x1 x2 (H1 x0 x1) 512 (by decide) (H1_at x0 x1) 2048 inb_S1024x3072_S1024x512_0_2048 (by decide) _ _).trans ?_
    refine (row_rest x0 x1 x2 x3 x4 x5 x6 _ _ (by dsimp only; omega)).trans ?_
    exact congrArg₂ (rowOut x0 x1 x2 x3 x4 x5 x6) (Fin.ext (show 512 + z0.val = 512 + 1 * z0.val by omega)) (Fin.ext (show 2048 + z1.val = 2048 + 1 * z1.val by omega))
  · refine (plain512 x0 x1 x2 (H0 x0 x1) 0 (by decide) (H0_at x0 x1) 2048 inb_S1024x3072_S1024x512_0_2048 (by decide) _ _).trans ?_
    refine (row_rest x0 x1 x2 x3 x4 x5 x6 _ _ (by dsimp only; omega)).trans ?_
    exact congrArg₂ (rowOut x0 x1 x2 x3 x4 x5 x6) (Fin.ext (show 0 + z0.val = 0 + 1 * z0.val by omega)) (Fin.ext (show 2048 + z1.val = 2048 + 1 * z1.val by omega))
  · refine (turned256 x0 x1 x2 x6 (H1 x0 x1) 512 (by decide) (H1_at x0 x1) 1792 inb_S1024x3072_S1024x256_0_1792 (by decide) (by decide) inb_S3x1024x128_S1x512x128_0_512_0 inb_S3x1024x128_S1x512x128_1_512_0 inb_S3x1024x128_S1x512x128_2_512_0 _ _).trans ?_
    refine (row_rk x0 x1 x2 x3 x4 x5 x6 _ _ (by dsimp only; omega) (by dsimp only; omega)).trans ?_
    exact congrArg₂ (rowOut x0 x1 x2 x3 x4 x5 x6) (Fin.ext (show 512 + z0.val = 512 + 1 * z0.val by omega)) (Fin.ext (show 1792 + z1.val = 1792 + 1 * z1.val by omega))
  · refine (turned256 x0 x1 x2 x6 (H0 x0 x1) 0 (by decide) (H0_at x0 x1) 1792 inb_S1024x3072_S1024x256_0_1792 (by decide) (by decide) inb_S3x1024x128_S1x512x128_0_0_0 inb_S3x1024x128_S1x512x128_1_0_0 inb_S3x1024x128_S1x512x128_2_0_0 _ _).trans ?_
    refine (row_rk x0 x1 x2 x3 x4 x5 x6 _ _ (by dsimp only; omega) (by dsimp only; omega)).trans ?_
    exact congrArg₂ (rowOut x0 x1 x2 x3 x4 x5 x6) (Fin.ext (show 0 + z0.val = 0 + 1 * z0.val by omega)) (Fin.ext (show 1792 + z1.val = 1792 + 1 * z1.val by omega))
  · refine (turned256 x0 x1 x2 x5 (H1 x0 x1) 512 (by decide) (H1_at x0 x1) 1536 inb_S1024x3072_S1024x256_0_1536 (by decide) (by decide) inb_S3x1024x128_S1x512x128_0_512_0 inb_S3x1024x128_S1x512x128_1_512_0 inb_S3x1024x128_S1x512x128_2_512_0 _ _).trans ?_
    refine (row_rq x0 x1 x2 x3 x4 x5 x6 _ _ (by dsimp only; omega) (by dsimp only; omega)).trans ?_
    exact congrArg₂ (rowOut x0 x1 x2 x3 x4 x5 x6) (Fin.ext (show 512 + z0.val = 512 + 1 * z0.val by omega)) (Fin.ext (show 1536 + z1.val = 1536 + 1 * z1.val by omega))
  · refine (turned256 x0 x1 x2 x5 (H0 x0 x1) 0 (by decide) (H0_at x0 x1) 1536 inb_S1024x3072_S1024x256_0_1536 (by decide) (by decide) inb_S3x1024x128_S1x512x128_0_0_0 inb_S3x1024x128_S1x512x128_1_0_0 inb_S3x1024x128_S1x512x128_2_0_0 _ _).trans ?_
    refine (row_rq x0 x1 x2 x3 x4 x5 x6 _ _ (by dsimp only; omega) (by dsimp only; omega)).trans ?_
    exact congrArg₂ (rowOut x0 x1 x2 x3 x4 x5 x6) (Fin.ext (show 0 + z0.val = 0 + 1 * z0.val by omega)) (Fin.ext (show 1536 + z1.val = 1536 + 1 * z1.val by omega))
  · refine (plain512 x0 x1 x2 (H1 x0 x1) 512 (by decide) (H1_at x0 x1) 1024 inb_S1024x3072_S1024x512_0_1024 (by decide) _ _).trans ?_
    refine (row_mv x0 x1 x2 x3 x4 x5 x6 _ _ (by dsimp only; omega) (by dsimp only; omega)).trans ?_
    exact congrArg₂ (rowOut x0 x1 x2 x3 x4 x5 x6) (Fin.ext (show 512 + z0.val = 512 + 1 * z0.val by omega)) (Fin.ext (show 1024 + z1.val = 1024 + 1 * z1.val by omega))
  · refine (plain512 x0 x1 x2 (H0 x0 x1) 0 (by decide) (H0_at x0 x1) 1024 inb_S1024x3072_S1024x512_0_1024 (by decide) _ _).trans ?_
    refine (row_mv x0 x1 x2 x3 x4 x5 x6 _ _ (by dsimp only; omega) (by dsimp only; omega)).trans ?_
    exact congrArg₂ (rowOut x0 x1 x2 x3 x4 x5 x6) (Fin.ext (show 0 + z0.val = 0 + 1 * z0.val by omega)) (Fin.ext (show 1024 + z1.val = 1024 + 1 * z1.val by omega))
  · refine (turned512 x0 x1 x2 x4 (H1 x0 x1) 512 (by decide) (H1_at x0 x1) 512 inb_S1024x3072_S1024x512_0_512 (by decide) (by decide) inb_S3x1024x128_S1x512x128_0_512_0 inb_S3x1024x128_S1x512x128_1_512_0 inb_S3x1024x128_S1x512x128_2_512_0 _ _).trans ?_
    refine (row_mk x0 x1 x2 x3 x4 x5 x6 _ _ (by dsimp only; omega) (by dsimp only; omega)).trans ?_
    exact congrArg₂ (rowOut x0 x1 x2 x3 x4 x5 x6) (Fin.ext (show 512 + z0.val = 512 + 1 * z0.val by omega)) (Fin.ext (show 512 + z1.val = 512 + 1 * z1.val by omega))
  · refine (turned512 x0 x1 x2 x4 (H0 x0 x1) 0 (by decide) (H0_at x0 x1) 512 inb_S1024x3072_S1024x512_0_512 (by decide) (by decide) inb_S3x1024x128_S1x512x128_0_0_0 inb_S3x1024x128_S1x512x128_1_0_0 inb_S3x1024x128_S1x512x128_2_0_0 _ _).trans ?_
    refine (row_mk x0 x1 x2 x3 x4 x5 x6 _ _ (by dsimp only; omega) (by dsimp only; omega)).trans ?_
    exact congrArg₂ (rowOut x0 x1 x2 x3 x4 x5 x6) (Fin.ext (show 0 + z0.val = 0 + 1 * z0.val by omega)) (Fin.ext (show 512 + z1.val = 512 + 1 * z1.val by omega))
  · refine (turned512 x0 x1 x2 x3 (H1 x0 x1) 512 (by decide) (H1_at x0 x1) 0 inb_S1024x3072_S1024x512_0_0 (by decide) (by decide) inb_S3x1024x128_S1x512x128_0_512_0 inb_S3x1024x128_S1x512x128_1_512_0 inb_S3x1024x128_S1x512x128_2_512_0 _ _).trans ?_
    refine (row_mq x0 x1 x2 x3 x4 x5 x6 _ _ (by dsimp only; omega)).trans ?_
    exact congrArg₂ (rowOut x0 x1 x2 x3 x4 x5 x6) (Fin.ext (show 512 + z0.val = 512 + 1 * z0.val by omega)) (Fin.ext (show 0 + z1.val = 0 + 1 * z1.val by omega))
  · refine (turned512 x0 x1 x2 x3 (H0 x0 x1) 0 (by decide) (H0_at x0 x1) 0 inb_S1024x3072_S1024x512_0_0 (by decide) (by decide) inb_S3x1024x128_S1x512x128_0_0_0 inb_S3x1024x128_S1x512x128_1_0_0 inb_S3x1024x128_S1x512x128_2_0_0 _ _).trans ?_
    refine (row_mq x0 x1 x2 x3 x4 x5 x6 _ _ (by dsimp only; omega)).trans ?_
    exact congrArg₂ (rowOut x0 x1 x2 x3 x4 x5 x6) (Fin.ext (show 0 + z0.val = 0 + 1 * z0.val by omega)) (Fin.ext (show 0 + z1.val = 0 + 1 * z1.val by omega))

theorem out8_at (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x3072 .f32) (harg3 : arg3.IsWhole) (arg4 : Memref sig .tc .vmem S3x1024x128 .f32) (harg4 : arg4.IsWhole) (arg5 : Memref sig .tc .vmem S3x1024x128 .f32) (harg5 : arg5.IsWhole) (arg6 : Memref sig .tc .vmem S3x1024x128 .f32) (harg6 : arg6.IsWhole) (arg7 : Memref sig .tc .vmem S3x1024x128 .f32) (harg7 : arg7.IsWhole) (arg8 : Memref sig .tc .vmem S1024x3072 .bf16) (harg8 : arg8.IsWhole) (arg9 : Memref sig .tc .vmem S4x1x512 .f32) (harg9 : arg9.IsWhole)
    (x0 : Vec Ideal S1024x1024 .f32) (x1 : Vec Ideal S1x1024 .f32) (x2 : Vec Ideal S1024x3072 .f32) (x3 x4 x5 x6 : Vec Ideal S3x1024x128 .f32) (y : S4x1x512.Idx) :
    out0_A_8 c i arg1 harg1 arg2 harg2 arg3 harg3 arg4 harg4 arg5 harg5 arg6 harg6 arg7 harg7 arg8 harg8 arg9 harg9 x0 x1 x2 x3 x4 x5 x6 y = meanOut x0 x1 x2 x3 x4 x5 x6 (y 0) (y 2) := by
  unfold out0_A_8
  rw [View.read_writes_eq_canon _ _ _ (cover0_A_8 c i arg1 harg1 arg2 harg2 arg3 harg3 arg4 harg4 arg5 harg5 arg6 harg6 arg7 harg7 arg8 harg8 arg9 harg9 x0 x1 x2 x3 x4 x5 x6)]
  refine View.canon_apply_of_pieces (Val := Elt Ideal) (e := .f32) (S := S4x1x512) (fun y => meanOut x0 x1 x2 x3 x4 x5 x6 (y 0) (y 2)) _ ?_ y (cover0_A_8 c i arg1 harg1 arg2 harg2 arg3 harg3 arg4 harg4 arg5 harg5 arg6 harg6 arg7 harg7 arg8 harg8 arg9 harg9 x0 x1 x2 x3 x4 x5 x6 y)
  unfold kernelRun0_A
  dsimp only
  sl_unfold_words
  simp only [View.readAt_eq_ld, harg1.read_unread, harg2.read_unread, harg3.read_unread, harg4.read_unread, harg5.read_unread, harg6.read_unread, harg7.read_unread]
  intro p hp
  simp only [List.mem_cons, List.mem_nil_iff, or_false] at hp
  rcases hp with rfl | rfl <;> intro z <;> idx_vars z
  · have e1 : z1 = 0 := Subsingleton.elim _ _
    subst e1
    refine (means_at (turns512 (mat512 (H1 x0 x1) (cols512 x2 512 inb_S1024x3072_S1024x512_0_512)) (tab x4 0 512 inb_S3x1024x128_S1x512x128_0_512_0) (tab x4 1 512 inb_S3x1024x128_S1x512x128_1_512_0) (tab x4 2 512 inb_S3x1024x128_S1x512x128_2_512_0)) _ _).trans ?_
    refine congrArg (fun s => Ideal.div s ((256 : ℝ) : EReal)) (Finset.sum_congr rfl fun q _ => ?_)
    refine (turned512 x0 x1 x2 x4 (H1 x0 x1) 512 (by decide) (H1_at x0 x1) 512 inb_S1024x3072_S1024x512_0_512 (by decide) (by decide) inb_S3x1024x128_S1x512x128_0_512_0 inb_S3x1024x128_S1x512x128_1_512_0 inb_S3x1024x128_S1x512x128_2_512_0 _ _).trans ?_
    refine (row_mk x0 x1 x2 x3 x4 x5 x6 _ _ (by dsimp only; omega) (by dsimp only; omega)).trans ?_
    exact congrArg₂ (rowOut x0 x1 x2 x3 x4 x5 x6) (Fin.ext (show 512 + (z0.val * 256 + q.val) = (2 + 1 * z0.val) * 256 + q.val by omega)) (Fin.ext (show 512 + z2.val = 512 + (0 + 1 * z2.val) by omega))
  · have e1 : z1 = 0 := Subsingleton.elim _ _
    subst e1
    refine (means_at (turns512 (mat512 (H0 x0 x1) (cols512 x2 512 inb_S1024x3072_S1024x512_0_512)) (tab x4 0 0 inb_S3x1024x128_S1x512x128_0_0_0) (tab x4 1 0 inb_S3x1024x128_S1x512x128_1_0_0) (tab x4 2 0 inb_S3x1024x128_S1x512x128_2_0_0)) _ _).trans ?_
    refine congrArg (fun s => Ideal.div s ((256 : ℝ) : EReal)) (Finset.sum_congr rfl fun q _ => ?_)
    refine (turned512 x0 x1 x2 x4 (H0 x0 x1) 0 (by decide) (H0_at x0 x1) 512 inb_S1024x3072_S1024x512_0_512 (by decide) (by decide) inb_S3x1024x128_S1x512x128_0_0_0 inb_S3x1024x128_S1x512x128_1_0_0 inb_S3x1024x128_S1x512x128_2_0_0 _ _).trans ?_
    refine (row_mk x0 x1 x2 x3 x4 x5 x6 _ _ (by dsimp only; omega) (by dsimp only; omega)).trans ?_
    exact congrArg₂ (rowOut x0 x1 x2 x3 x4 x5 x6) (Fin.ext (show 0 + (z0.val * 256 + q.val) = (0 + 1 * z0.val) * 256 + q.val by omega)) (Fin.ext (show 512 + z2.val = 512 + (0 + 1 * z2.val) by omega))

end Cert.Kernel4Ideal.Block

end
-- ==== Proof.L.InRow.lean ====
/-
  The input projection: a head's rotation, and the rotation by three tables over a group of two heads.
-/
module

public import proofs.«01_k».proof.Proof.L.InVec

@[expose] public section

set_option maxRecDepth 16384

noncomputable section

namespace Cert.Layer.In

open Cert.Kernel4Ideal.Block Cert.Layer Idealize.ShloMosaic

/-- A head's columns with the first sixteen rotated, by halves of eight. -/
def head8 (q : Fin 64 → EReal) (co si : Fin 8 → EReal) (d : Fin 64) : EReal :=
  if h : d.val < 8 then q d * co ⟨d.val, h⟩ - q ⟨d.val + 8, by omega⟩ * si ⟨d.val, h⟩
  else if h' : d.val < 16 then q d * co ⟨d.val - 8, by omega⟩ + q ⟨d.val - 8, by omega⟩ * si ⟨d.val - 8, by omega⟩
  else q d

/-- A head's columns rotated, by halves of 32. -/
def head32 (q : Fin 64 → EReal) (co si : Fin 32 → EReal) (d : Fin 64) : EReal :=
  if h : d.val < 32 then q d * co ⟨d.val, h⟩ - q ⟨d.val + 32, by omega⟩ * si ⟨d.val, h⟩
  else q d * co ⟨d.val - 32, by omega⟩ + q ⟨d.val - 32, by omega⟩ * si ⟨d.val - 32, by omega⟩

def a8 (co : Fin 8 → EReal) (d : Fin 64) : EReal :=
  if h : d.val < 8 then co ⟨d.val, h⟩ else if h' : d.val < 16 then co ⟨d.val - 8, by omega⟩ else 1
def b8 (si : Fin 8 → EReal) (d : Fin 64) : EReal := if h : d.val < 8 then -si ⟨d.val, h⟩ else 0
def c8 (si : Fin 8 → EReal) (d : Fin 64) : EReal :=
  if h : d.val < 8 then 0 else if h' : d.val < 16 then si ⟨d.val - 8, by omega⟩ else 0

def a32 (co : Fin 32 → EReal) (d : Fin 64) : EReal := if h : d.val < 32 then co ⟨d.val, h⟩ else co ⟨d.val - 32, by omega⟩
def b32 (si : Fin 32 → EReal) (d : Fin 64) : EReal := if h : d.val < 32 then -si ⟨d.val, h⟩ else 0
def c32 (si : Fin 32 → EReal) (d : Fin 64) : EReal := if h : d.val < 32 then 0 else si ⟨d.val - 32, by omega⟩

/-- The columns of column `j`'s head. -/
def headOf (p : Fin 3072 → EReal) (j : Fin 3072) (d : Fin 64) : EReal := p ⟨j.val / 64 * 64 + d.val, by omega⟩

theorem times_sub (x y a b : EReal) (s : ℝ) (hs : 0 ≤ s) : x * (a * s) + y * (-b * s) = (x * a - y * b) * (s : EReal) := by
  rw [sub_eq_add_neg, EReal.right_distrib_of_nonneg_of_ne_top (EReal.coe_nonneg.mpr hs) (EReal.coe_ne_top s), mul_assoc, EReal.neg_mul, EReal.neg_mul, mul_neg, mul_assoc]

theorem times_add (x y a b : EReal) (s : ℝ) (hs : 0 ≤ s) : x * (a * s) + y * (b * s) = (x * a + y * b) * (s : EReal) := by
  rw [EReal.right_distrib_of_nonneg_of_ne_top (EReal.coe_nonneg.mpr hs) (EReal.coe_ne_top s), mul_assoc, mul_assoc]

theorem rot8_eq (p : Fin 3072 → EReal) (T : Fin 3 → Fin 128 → EReal) (co si : Fin 8 → EReal) (s : ℝ) (hs : 0 ≤ s)
    (h0 : ∀ l : Fin 128, T 0 l = a8 co ⟨l.val % 64, by omega⟩ * (s : EReal)) (h1 : ∀ l : Fin 128, T 1 l = b8 si ⟨l.val % 64, by omega⟩ * (s : EReal))
    (h2 : ∀ l : Fin 128, T 2 l = c8 si ⟨l.val % 64, by omega⟩ * (s : EReal)) (j : Fin 3072) :
    rot8 p T j = head8 (headOf p j) co si ⟨j.val % 64, by omega⟩ * (s : EReal) := by
  unfold rot8
  rw [h0, h1, h2]
  have e : j.val % 128 % 64 = j.val % 64 := by omega
  have eP : ∀ a b : Fin 3072, a.val = b.val → p a = p b := fun a b e => by rw [Fin.ext e]
  simp only [e]
  unfold a8 b8 c8 head8 headOf
  dsimp only
  by_cases hA : j.val % 64 < 8
  · rw [dif_pos hA, dif_pos hA, dif_pos hA, dif_pos hA, zero_mul, mul_zero, add_zero, times_sub _ _ _ _ s hs]
    rw [eP j ⟨j.val / 64 * 64 + j.val % 64, by omega⟩ (by dsimp only; omega),
      eP ⟨j.val / 128 * 128 + (j.val % 128 + 8) % 128, by omega⟩ ⟨j.val / 64 * 64 + (j.val % 64 + 8), by omega⟩ (by dsimp only; omega)]
  · by_cases hB : j.val % 64 < 16
    · rw [dif_neg hA, dif_pos hB, dif_neg hA, dif_neg hA, dif_pos hB, dif_neg hA, dif_pos hB, zero_mul, mul_zero, add_zero, times_add _ _ _ _ s hs]
      rw [eP j ⟨j.val / 64 * 64 + j.val % 64, by omega⟩ (by dsimp only; omega),
        eP ⟨j.val / 128 * 128 + (j.val % 128 + 120) % 128, by omega⟩ ⟨j.val / 64 * 64 + (j.val % 64 - 8), by omega⟩ (by dsimp only; omega)]
    · rw [dif_neg hA, dif_neg hB, dif_neg hA, dif_neg hA, dif_neg hB, dif_neg hA, dif_neg hB, zero_mul, mul_zero, mul_zero, add_zero, add_zero, one_mul]
      rw [eP j ⟨j.val / 64 * 64 + j.val % 64, by omega⟩ (by dsimp only; omega)]

theorem rot32_eq (p : Fin 3072 → EReal) (T : Fin 3 → Fin 128 → EReal) (co si : Fin 32 → EReal) (s : ℝ) (hs : 0 ≤ s)
    (h0 : ∀ l : Fin 128, T 0 l = a32 co ⟨l.val % 64, by omega⟩ * (s : EReal)) (h1 : ∀ l : Fin 128, T 1 l = b32 si ⟨l.val % 64, by omega⟩ * (s : EReal))
    (h2 : ∀ l : Fin 128, T 2 l = c32 si ⟨l.val % 64, by omega⟩ * (s : EReal)) (j : Fin 3072) :
    rot32 p T j = head32 (headOf p j) co si ⟨j.val % 64, by omega⟩ * (s : EReal) := by
  unfold rot32
  rw [h0, h1, h2]
  have e : j.val % 128 % 64 = j.val % 64 := by omega
  have eP : ∀ a b : Fin 3072, a.val = b.val → p a = p b := fun a b e => by rw [Fin.ext e]
  simp only [e]
  unfold a32 b32 c32 head32 headOf
  dsimp only
  by_cases hA : j.val % 64 < 32
  · rw [dif_pos hA, dif_pos hA, dif_pos hA, dif_pos hA, zero_mul, mul_zero, add_zero, times_sub _ _ _ _ s hs]
    rw [eP j ⟨j.val / 64 * 64 + j.val % 64, by omega⟩ (by dsimp only; omega),
      eP ⟨j.val / 128 * 128 + (j.val % 128 + 32) % 128, by omega⟩ ⟨j.val / 64 * 64 + (j.val % 64 + 32), by omega⟩ (by dsimp only; omega)]
  · rw [dif_neg hA, dif_neg hA, dif_neg hA, dif_neg hA, zero_mul, mul_zero, add_zero, times_add _ _ _ _ s hs]
    rw [eP j ⟨j.val / 64 * 64 + j.val % 64, by omega⟩ (by dsimp only; omega),
      eP ⟨j.val / 128 * 128 + (j.val % 128 + 96) % 128, by omega⟩ ⟨j.val / 64 * 64 + (j.val % 64 - 32), by omega⟩ (by dsimp only; omega)]

/-- The scale of the block-sparse attention's queries. -/
def s8 : ℝ := 1 / (8 * Real.log 2)

/-- A token's row of the call's first result, by heads. -/
def headRow (p : Fin 3072 → EReal) (cm sm : Fin 8 → EReal) (cr sr : Fin 32 → EReal) (j : Fin 3072) : EReal :=
  if j.val < 512 then head8 (headOf p j) cm sm ⟨j.val % 64, by omega⟩ * (s8 : EReal)
  else if j.val < 1024 then head8 (headOf p j) cm sm ⟨j.val % 64, by omega⟩ else if j.val < 1536 then p j
  else if j.val < 1792 then head32 (headOf p j) cr sr ⟨j.val % 64, by omega⟩
  else if j.val < 2048 then head32 (headOf p j) cr sr ⟨j.val % 64, by omega⟩ * (((1 / 8 : ℝ)) : EReal) else p j

end Cert.Layer.In

end
-- ==== Proof.L.InTab.lean ====
/-
  The `in_proj` call: the rotary tables the host prepares and the other arrays the call is given.
-/
module

public import proofs.«01_k».proof.Proof.Gen.Kernel4Ideal.Value
public import proofs.«01_k».proof.Proof.Gen.Reference4Ideal.Read
public import proofs.«01_k».proof.Proof.L.InRow

@[expose] public section

set_option maxRecDepth 16384

noncomputable section

namespace Cert.Kernel4Ideal.Tab

open Cert.Kernel4Ideal Cert.Kernel4Ideal.Gen Cert.Layer Cert.Layer.In Idealize.ShloMosaic Idealize.ShloMosaic.TcCoe

/-! ## The tables as functions of the cosines and sines -/

/-- A table of 64 columns, twice side by side. -/
def twice (X : FVec Ideal S2048x64 .f32) : FVec Ideal S1x2048x128 .f32 :=
  broadcastInDim S1x2048x128 ![1, 2] bcast_S2048x128_S1x2048x128_1_2
    (shapeCast S2048x128 (broadcastInDim S1x2048x2x64 ![0, 1, 2, 3] bcast_S1x2048x1x64_S1x2048x2x64_0_1_2_3
      (shapeCast S1x2048x1x64 X shapeCasts_S2048x64_S1x2048x1x64)) shapeCasts_S1x2048x2x64_S2048x128)

/-- The three tables in one array, times the scale. -/
def three (A B C : FVec Ideal S2048x64 .f32) (s : FVec Ideal S_ .f32) : FVec Ideal S3x2048x128 .f32 :=
  mulf (concatenate S3x2048x128 0 [⟨S1x2048x128, twice A⟩, ⟨S1x2048x128, twice B⟩, ⟨S1x2048x128, twice C⟩]
      concatenates_S1x2048x128_S1x2048x128_S1x2048x128_S3x2048x128_d0)
    (broadcastInDim S3x2048x128 ![] bcast_S_S3x2048x128 s)

def c0 : FVec Ideal S_ .f32 := constant S_ .f32 0x00000000#32
def c1 : FVec Ideal S_ .f32 := constant S_ .f32 0x3F800000#32

/-- The tables of the rotation of 16 of 64 columns. -/
def tab8 (co si : FVec Ideal S2048x8 .f32) (s : FVec Ideal S_ .f32) : FVec Ideal S3x2048x128 .f32 :=
  three
    (concatenate S2048x64 1 [⟨S2048x8, co⟩, ⟨S2048x8, co⟩, ⟨S2048x48, broadcastInDim S2048x48 ![] bcast_S_S2048x48 c1⟩] concatenates_S2048x8_S2048x8_S2048x48_S2048x64_d1)
    (concatenate S2048x64 1 [⟨S2048x8, Host.negf si⟩, ⟨S2048x56, broadcastInDim S2048x56 ![] bcast_S_S2048x56 c0⟩] concatenates_S2048x8_S2048x56_S2048x64_d1)
    (concatenate S2048x64 1 [⟨S2048x8, broadcastInDim S2048x8 ![] bcast_S_S2048x8 c0⟩, ⟨S2048x8, si⟩, ⟨S2048x48, broadcastInDim S2048x48 ![] bcast_S_S2048x48 c0⟩] concatenates_S2048x8_S2048x8_S2048x48_S2048x64_d1)
    s

/-- The tables of the rotation of all 64 columns. -/
def tab32 (co si : FVec Ideal S2048x32 .f32) (s : FVec Ideal S_ .f32) : FVec Ideal S3x2048x128 .f32 :=
  three
    (concatenate S2048x64 1 [⟨S2048x32, co⟩, ⟨S2048x32, co⟩, ⟨S2048x0, broadcastInDim S2048x0 ![] bcast_S_S2048x0 c1⟩] concatenates_S2048x32_S2048x32_S2048x0_S2048x64_d1)
    (concatenate S2048x64 1 [⟨S2048x32, Host.negf si⟩, ⟨S2048x32, broadcastInDim S2048x32 ![] bcast_S_S2048x32 c0⟩] concatenates_S2048x32_S2048x32_S2048x64_d1)
    (concatenate S2048x64 1 [⟨S2048x32, broadcastInDim S2048x32 ![] bcast_S_S2048x32 c0⟩, ⟨S2048x32, si⟩, ⟨S2048x0, broadcastInDim S2048x0 ![] bcast_S_S2048x0 c0⟩] concatenates_S2048x32_S2048x32_S2048x0_S2048x64_d1)
    s

/-- The reference's cosines and sines. -/
abbrev cosM : FVec Ideal S2048x8 .f32 := Cert.Reference4Ideal.Read.val_main_v43 (F := Ideal)
abbrev sinM : FVec Ideal S2048x8 .f32 := Cert.Reference4Ideal.Read.val_main_v44 (F := Ideal)
abbrev cosR : FVec Ideal S2048x32 .f32 := Cert.Reference4Ideal.Read.val_main_v107 (F := Ideal)
abbrev sinR : FVec Ideal S2048x32 .f32 := Cert.Reference4Ideal.Read.val_main_v108 (F := Ideal)

variable (m : (ℓ : Loc nD τ sig) → Buf (Elt Ideal) ℓ)

theorem V_x (c : Dev nD) : V m c main_v140 = shapeCast S16384x1024 (m ((c : Thread nD τ).loc main_arg0)) shapeCasts_S8x2048x1024_S16384x1024 := by
  dsimp only [V, hostOps0, hostOps0_1, hostOps0_2, List.flatten_cons, List.flatten_nil, List.append_nil, List.cons_append, List.nil_append]
  after_results
  rfl

theorem V_mk (c : Dev nD) : V m c main_v77 = tab8 cosM sinM c1 := by
  dsimp only [V, hostOps0, hostOps0_1, hostOps0_2, List.flatten_cons, List.flatten_nil, List.append_nil, List.cons_append, List.nil_append]
  after_results
  rfl

/-- The scale of the block-sparse attention's queries, as the host computes it. -/
def cq : FVec Ideal S_ .f32 := id (Host.divf (constant S_ .f32 0x3E000000#32) (Host.log (constant S_ .f32 0x40000000#32)))
def ck : FVec Ideal S_ .f32 := constant S_ .f32 0x3E000000#32

theorem V_mq (c : Dev nD) : V m c main_v46 = tab8 cosM sinM cq := by
  dsimp only [V, hostOps0, hostOps0_1, hostOps0_2, List.flatten_cons, List.flatten_nil, List.append_nil, List.cons_append, List.nil_append]
  after_results
  rfl

set_option maxHeartbeats 4000000 in
theorem V_rq (c : Dev nD) : V m c main_v108 = tab32 cosR sinR c1 := by
  dsimp only [V, hostOps0, hostOps0_1, hostOps0_2, List.flatten_cons, List.flatten_nil, List.append_nil, List.cons_append, List.nil_append]
  after_results
  rfl

set_option maxHeartbeats 4000000 in
theorem V_rk (c : Dev nD) : V m c main_v139 = tab32 cosR sinR ck := by
  dsimp only [V, hostOps0, hostOps0_1, hostOps0_2, List.flatten_cons, List.flatten_nil, List.append_nil, List.cons_append, List.nil_append]
  after_results
  rfl

theorem V_g (c : Dev nD) : V m c main_v142 = shapeCast S1x1024 (shapeCast S1024 (m ((c : Thread nD τ).loc main_arg1)) shapeCasts_S1x1024_S1024) shapeCasts_S1024_S1x1024 := by
  dsimp only [V, hostOps0, hostOps0_1, hostOps0_2, List.flatten_cons, List.flatten_nil, List.append_nil, List.cons_append, List.nil_append]
  after_results
  rfl

theorem V_w (c : Dev nD) : V m c main_v143 = shapeCast S1024x3072 (m ((c : Thread nD τ).loc main_arg2)) shapeCasts_S1x1024x3072_S1024x3072 := by
  dsimp only [V, hostOps0, hostOps0_1, hostOps0_2, List.flatten_cons, List.flatten_nil, List.append_nil, List.cons_append, List.nil_append]
  after_results
  rfl

end Cert.Kernel4Ideal.Tab

end
-- ==== Proof.L.InTabAt.lean ====
/-
  The `in_proj` call: the rotary tables the host prepares, entry by entry.
-/
module

public import proofs.«01_k».proof.Proof.L.InTab

@[expose] public section

set_option maxRecDepth 16384

noncomputable section

namespace Cert.Kernel4Ideal.Tab

open Cert.Kernel4Ideal Cert.Kernel4Ideal.Gen Cert.Layer Cert.Layer.In Idealize.ShloMosaic Idealize.ShloMosaic.TcCoe

/-! ## Entry by entry -/

theorem twice_at (X : FVec Ideal S2048x64 .f32) (t : Fin 2048) (l : Fin 128) : twice X (ix3 0 t l) = X (ix2 t ⟨l.val % 64, by omega⟩) := by
  unfold twice
  pointwise

theorem three_at (A B C : FVec Ideal S2048x64 .f32) (s : FVec Ideal S_ .f32) (e : EReal) (he : s Idealize.ShloMosaic.ix0 = e) (t : Fin 2048) (l : Fin 128) :
    three A B C s (ix3 0 t l) = A (ix2 t ⟨l.val % 64, by omega⟩) * e ∧ three A B C s (ix3 1 t l) = B (ix2 t ⟨l.val % 64, by omega⟩) * e
      ∧ three A B C s (ix3 2 t l) = C (ix2 t ⟨l.val % 64, by omega⟩) * e := by
  subst he
  unfold three
  refine ⟨?_, ?_, ?_⟩
  · pointwise [twice_at]
  · pointwise [twice_at]
  · pointwise [twice_at]

theorem tab8_a (co : FVec Ideal S2048x8 .f32) (t : Fin 2048) (d : Fin 64) :
    concatenate S2048x64 1 [⟨S2048x8, co⟩, ⟨S2048x8, co⟩, ⟨S2048x48, broadcastInDim S2048x48 ![] bcast_S_S2048x48 c1⟩] concatenates_S2048x8_S2048x8_S2048x48_S2048x64_d1 (ix2 t d)
      = a8 (fun e => co (ix2 t e)) d := by
  unfold a8 c1
  pointwise
  by_cases hA : d.val < 8
  · refine (dif_pos hA).trans ?_
    rw [dif_pos hA]
  · refine (dif_neg hA).trans ?_
    rw [dif_neg hA]
    by_cases hB : d.val < 16
    · refine (dif_pos (show d.val - 8 < 8 by omega)).trans ?_
      rw [dif_pos hB]
    · refine (dif_neg (show ¬ d.val - 8 < 8 by omega)).trans ?_
      rw [dif_neg hB]

theorem tab8_b (si : FVec Ideal S2048x8 .f32) (t : Fin 2048) (d : Fin 64) :
    concatenate S2048x64 1 [⟨S2048x8, Host.negf si⟩, ⟨S2048x56, broadcastInDim S2048x56 ![] bcast_S_S2048x56 c0⟩] concatenates_S2048x8_S2048x56_S2048x64_d1 (ix2 t d)
      = b8 (fun e => si (ix2 t e)) d := by
  unfold b8 c0
  pointwise

theorem tab8_c (si : FVec Ideal S2048x8 .f32) (t : Fin 2048) (d : Fin 64) :
    concatenate S2048x64 1 [⟨S2048x8, broadcastInDim S2048x8 ![] bcast_S_S2048x8 c0⟩, ⟨S2048x8, si⟩, ⟨S2048x48, broadcastInDim S2048x48 ![] bcast_S_S2048x48 c0⟩] concatenates_S2048x8_S2048x8_S2048x48_S2048x64_d1 (ix2 t d)
      = c8 (fun e => si (ix2 t e)) d := by
  unfold c8 c0
  pointwise
  by_cases hA : d.val < 8
  · refine (dif_pos hA).trans ?_
    rw [dif_pos hA]
  · refine (dif_neg hA).trans ?_
    rw [dif_neg hA]
    by_cases hB : d.val < 16
    · refine (dif_pos (show d.val - 8 < 8 by omega)).trans ?_
      rw [dif_pos hB]
    · refine (dif_neg (show ¬ d.val - 8 < 8 by omega)).trans ?_
      rw [dif_neg hB]

theorem tab32_a (co : FVec Ideal S2048x32 .f32) (t : Fin 2048) (d : Fin 64) :
    concatenate S2048x64 1 [⟨S2048x32, co⟩, ⟨S2048x32, co⟩, ⟨S2048x0, broadcastInDim S2048x0 ![] bcast_S_S2048x0 c1⟩] concatenates_S2048x32_S2048x32_S2048x0_S2048x64_d1 (ix2 t d)
      = a32 (fun e => co (ix2 t e)) d := by
  unfold a32 c1
  pointwise
  split_ifs <;> first | rfl | (exfalso; omega)

theorem tab32_b (si : FVec Ideal S2048x32 .f32) (t : Fin 2048) (d : Fin 64) :
    concatenate S2048x64 1 [⟨S2048x32, Host.negf si⟩, ⟨S2048x32, broadcastInDim S2048x32 ![] bcast_S_S2048x32 c0⟩] concatenates_S2048x32_S2048x32_S2048x64_d1 (ix2 t d)
      = b32 (fun e => si (ix2 t e)) d := by
  unfold b32 c0
  pointwise

theorem tab32_c (si : FVec Ideal S2048x32 .f32) (t : Fin 2048) (d : Fin 64) :
    concatenate S2048x64 1 [⟨S2048x32, broadcastInDim S2048x32 ![] bcast_S_S2048x32 c0⟩, ⟨S2048x32, si⟩, ⟨S2048x0, broadcastInDim S2048x0 ![] bcast_S_S2048x0 c0⟩] concatenates_S2048x32_S2048x32_S2048x0_S2048x64_d1 (ix2 t d)
      = c32 (fun e => si (ix2 t e)) d := by
  unfold c32 c0
  pointwise
  split_ifs <;> first | rfl | (exfalso; omega)

theorem c1_at : c1 Idealize.ShloMosaic.ix0 = ((1 : ℝ) : EReal) := by
  unfold c1
  pointwise
  exact EReal.coe_one.symm

theorem ofBits_eighth : Ideal.ofBits .f32 0x3E000000#32 = ((1 / 8 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ck_at : ck Idealize.ShloMosaic.ix0 = ((1 / 8 : ℝ) : EReal) := ofBits_eighth

theorem cq_at : cq Idealize.ShloMosaic.ix0 = ((s8 : ℝ) : EReal) := by
  show Ideal.div (Ideal.ofBits .f32 0x3E000000#32) (Ideal.log (Ideal.ofBits .f32 0x40000000#32)) = _
  rw [ofBits_eighth, ofBits_two]
  rw [Ideal.log_coe, if_neg (by norm_num)]
  have hl : (0 : ℝ) < Real.log 2 := Real.log_pos (by norm_num)
  rw [Ideal.div_coe hl.ne']
  rw [← EReal.coe_mul]
  refine congrArg _ ?_
  unfold s8
  field_simp

/-- The tables of the rotation of 16 of 64 columns, at a position and a column of a group of two heads. -/
theorem tab8_at (co si : FVec Ideal S2048x8 .f32) (c : FVec Ideal S_ .f32) (s : ℝ) (hc : c Idealize.ShloMosaic.ix0 = (s : EReal)) (t : Fin 2048) (l : Fin 128) :
    tab8 co si c (ix3 0 t l) = a8 (fun e => co (ix2 t e)) ⟨l.val % 64, by omega⟩ * (s : EReal)
      ∧ tab8 co si c (ix3 1 t l) = b8 (fun e => si (ix2 t e)) ⟨l.val % 64, by omega⟩ * (s : EReal)
      ∧ tab8 co si c (ix3 2 t l) = c8 (fun e => si (ix2 t e)) ⟨l.val % 64, by omega⟩ * (s : EReal) := by
  unfold tab8
  refine ⟨(three_at _ _ _ c _ hc t l).1.trans (congrArg (· * (s : EReal)) (tab8_a co t _)), (three_at _ _ _ c _ hc t l).2.1.trans (congrArg (· * (s : EReal)) (tab8_b si t _)),
    (three_at _ _ _ c _ hc t l).2.2.trans (congrArg (· * (s : EReal)) (tab8_c si t _))⟩

/-- The tables of the rotation of all 64 columns, at a position and a column of a group of two heads. -/
theorem tab32_at (co si : FVec Ideal S2048x32 .f32) (c : FVec Ideal S_ .f32) (s : ℝ) (hc : c Idealize.ShloMosaic.ix0 = (s : EReal)) (t : Fin 2048) (l : Fin 128) :
    tab32 co si c (ix3 0 t l) = a32 (fun e => co (ix2 t e)) ⟨l.val % 64, by omega⟩ * (s : EReal)
      ∧ tab32 co si c (ix3 1 t l) = b32 (fun e => si (ix2 t e)) ⟨l.val % 64, by omega⟩ * (s : EReal)
      ∧ tab32 co si c (ix3 2 t l) = c32 (fun e => si (ix2 t e)) ⟨l.val % 64, by omega⟩ * (s : EReal) := by
  unfold tab32
  refine ⟨(three_at _ _ _ c _ hc t l).1.trans (congrArg (· * (s : EReal)) (tab32_a co t _)), (three_at _ _ _ c _ hc t l).2.1.trans (congrArg (· * (s : EReal)) (tab32_b si t _)),
    (three_at _ _ _ c _ hc t l).2.2.trans (congrArg (· * (s : EReal)) (tab32_c si t _))⟩

end Cert.Kernel4Ideal.Tab

end
-- ==== Proof.L.InRef.lean ====
/-
  The input projection's reference: its results as functions of the arguments.
-/
module

public import proofs.«01_k».proof.Proof.Gen.Reference4Ideal.Read
public import proofs.«01_k».proof.Proof.L.InTabAt

@[expose] public section

set_option maxRecDepth 16384

noncomputable section

namespace Cert.Reference4Ideal.Array

open Cert.Reference4Ideal Cert.Reference4Ideal.Gen Cert.Reference4Ideal.Read Cert.Layer Cert.Layer.In Cert.Kernel4Ideal.Block Cert.Kernel4Ideal.Tab Idealize.ShloMosaic Idealize.ShloMosaic.TcCoe

/-! ## The rotations of any array of heads -/

/-- Sixteen of 64 columns rotated, by halves of eight. -/
def turn16 (X : FVec Ideal S8x8x2048x64 .f32) (co si : FVec Ideal S2048x8 .f32) : FVec Ideal S8x8x2048x64 .f32 :=
  concatenate S8x8x2048x64 3 [⟨S8x8x2048x16, concatenate S8x8x2048x16 3 [⟨S8x8x2048x8, subf (mulf (extractStridedSlice S8x8x2048x8 ![0, 0, 0, 0] X slices_S8x8x2048x64_S8x8x2048x8_0_0_0_0) (broadcastInDim S8x8x2048x8 ![0, 1, 2, 3] bcast_S1x1x2048x8_S8x8x2048x8_0_1_2_3 (broadcastInDim S1x1x2048x8 ![2, 3] bcast_S2048x8_S1x1x2048x8_2_3 co))) (mulf (extractStridedSlice S8x8x2048x8 ![0, 0, 0, 8] X slices_S8x8x2048x64_S8x8x2048x8_0_0_0_8) (broadcastInDim S8x8x2048x8 ![0, 1, 2, 3] bcast_S1x1x2048x8_S8x8x2048x8_0_1_2_3 (broadcastInDim S1x1x2048x8 ![2, 3] bcast_S2048x8_S1x1x2048x8_2_3 si)))⟩, ⟨S8x8x2048x8, addf (mulf (extractStridedSlice S8x8x2048x8 ![0, 0, 0, 8] X slices_S8x8x2048x64_S8x8x2048x8_0_0_0_8) (broadcastInDim S8x8x2048x8 ![0, 1, 2, 3] bcast_S1x1x2048x8_S8x8x2048x8_0_1_2_3 (broadcastInDim S1x1x2048x8 ![2, 3] bcast_S2048x8_S1x1x2048x8_2_3 co))) (mulf (extractStridedSlice S8x8x2048x8 ![0, 0, 0, 0] X slices_S8x8x2048x64_S8x8x2048x8_0_0_0_0) (broadcastInDim S8x8x2048x8 ![0, 1, 2, 3] bcast_S1x1x2048x8_S8x8x2048x8_0_1_2_3 (broadcastInDim S1x1x2048x8 ![2, 3] bcast_S2048x8_S1x1x2048x8_2_3 si)))⟩] concatenates_S8x8x2048x8_S8x8x2048x8_S8x8x2048x16_d3⟩, ⟨S8x8x2048x48, extractStridedSlice S8x8x2048x48 ![0, 0, 0, 16] X slices_S8x8x2048x64_S8x8x2048x48_0_0_0_16⟩] concatenates_S8x8x2048x16_S8x8x2048x48_S8x8x2048x64_d3

theorem turn16_at (X : FVec Ideal S8x8x2048x64 .f32) (co si : FVec Ideal S2048x8 .f32) (b : Fin 8) (h : Fin 8) (t : Fin 2048) (d : Fin 64) :
    turn16 X co si (ix4 b h t d) = head8 (fun d => X (ix4 b h t d)) (fun e => co (ix2 t e)) (fun e => si (ix2 t e)) d := by
  have eX : ∀ d d' : Fin 64, d.val = d'.val → X (ix4 b h t d) = X (ix4 b h t d') := fun d d' e => by rw [Fin.ext e]
  unfold turn16 head8
  pointwise
  by_cases hB : d.val < 16
  · refine (dif_pos hB).trans ?_
    by_cases hA : d.val < 8
    · refine (dif_pos hA).trans ?_
      rw [dif_pos hA, eX ⟨8 + d.val, by omega⟩ ⟨d.val + 8, by omega⟩ (by dsimp only; omega)]
    · refine (dif_neg hA).trans ?_
      rw [dif_neg hA, dif_pos hB, eX ⟨8 + (d.val - 8), by omega⟩ d (by dsimp only; omega)]
  · refine (dif_neg hB).trans ?_
    rw [dif_neg (by omega), dif_neg hB]
    exact eX _ _ (by dsimp only; omega)

/-- All 64 columns rotated, by halves of 32. -/
def turn64 (X : FVec Ideal S8x4x2048x64 .f32) (co si : FVec Ideal S2048x32 .f32) : FVec Ideal S8x4x2048x64 .f32 :=
  concatenate S8x4x2048x64 3 [⟨S8x4x2048x32, subf (mulf (extractStridedSlice S8x4x2048x32 ![0, 0, 0, 0] X slices_S8x4x2048x64_S8x4x2048x32_0_0_0_0) (broadcastInDim S8x4x2048x32 ![0, 1, 2, 3] bcast_S1x1x2048x32_S8x4x2048x32_0_1_2_3 (broadcastInDim S1x1x2048x32 ![2, 3] bcast_S2048x32_S1x1x2048x32_2_3 co))) (mulf (extractStridedSlice S8x4x2048x32 ![0, 0, 0, 32] X slices_S8x4x2048x64_S8x4x2048x32_0_0_0_32) (broadcastInDim S8x4x2048x32 ![0, 1, 2, 3] bcast_S1x1x2048x32_S8x4x2048x32_0_1_2_3 (broadcastInDim S1x1x2048x32 ![2, 3] bcast_S2048x32_S1x1x2048x32_2_3 si)))⟩, ⟨S8x4x2048x32, addf (mulf (extractStridedSlice S8x4x2048x32 ![0, 0, 0, 32] X slices_S8x4x2048x64_S8x4x2048x32_0_0_0_32) (broadcastInDim S8x4x2048x32 ![0, 1, 2, 3] bcast_S1x1x2048x32_S8x4x2048x32_0_1_2_3 (broadcastInDim S1x1x2048x32 ![2, 3] bcast_S2048x32_S1x1x2048x32_2_3 co))) (mulf (extractStridedSlice S8x4x2048x32 ![0, 0, 0, 0] X slices_S8x4x2048x64_S8x4x2048x32_0_0_0_0) (broadcastInDim S8x4x2048x32 ![0, 1, 2, 3] bcast_S1x1x2048x32_S8x4x2048x32_0_1_2_3 (broadcastInDim S1x1x2048x32 ![2, 3] bcast_S2048x32_S1x1x2048x32_2_3 si)))⟩] concatenates_S8x4x2048x32_S8x4x2048x32_S8x4x2048x64_d3

theorem turn64_at (X : FVec Ideal S8x4x2048x64 .f32) (co si : FVec Ideal S2048x32 .f32) (b : Fin 8) (h : Fin 4) (t : Fin 2048) (d : Fin 64) :
    turn64 X co si (ix4 b h t d) = head32 (fun d => X (ix4 b h t d)) (fun e => co (ix2 t e)) (fun e => si (ix2 t e)) d := by
  have eX : ∀ d d' : Fin 64, d.val = d'.val → X (ix4 b h t d) = X (ix4 b h t d') := fun d d' e => by rw [Fin.ext e]
  unfold turn64 head32
  pointwise
  by_cases hA : d.val < 32
  · refine (dif_pos hA).trans ?_
    rw [dif_pos hA, eX ⟨32 + d.val, by omega⟩ ⟨d.val + 32, by omega⟩ (by dsimp only; omega)]
  · refine (dif_neg hA).trans ?_
    rw [dif_neg hA, eX ⟨32 + (d.val - 32), by omega⟩ d (by dsimp only; omega)]

/-! ## The projections -/

variable (x0 : Vec Ideal S8x2048x1024 .f32) (x1 : Vec Ideal S1x1024 .f32) (x2 : Vec Ideal S1x1024x3072 .f32)

/-- The projections of token `t` of batch `b`. -/
def pr (b : Fin 8) (t : Fin 2048) : Fin 3072 → EReal :=
  projRow (fun k => x0 (ix3 b t k)) (fun k => x1 (ix2 0 k)) (fun k j => x2 (ix3 0 k j))

theorem normOf (b : Fin 8) (t : Fin 2048) (k : Fin 1024) :
    val_main_v26 (F := Ideal) x0 x1 (ix3 b t k) = rms (fun k => x0 (ix3 b t k)) (fun k => x1 (ix2 0 k)) k := by
  unfold val_main_v26 val_main_v25 val_main_v24 val_main_v23 val_main_v22 val_main_v21 val_main_v20 val_main_v19 val_main_v18 val_main_v17 val_main_v16 val_main_v15 val_main_v14 val_main_v13 val_main_cst_6 val_main_cst_7 val_main_cst_8 rms rmsInv
  pointwise [ofBits_eps, ofBits_1024]

theorem projOf (b : Fin 8) (t : Fin 2048) (j : Fin 3072) : val_main_v28 (F := Ideal) x0 x1 x2 (ix3 b t j) = pr x0 x1 x2 b t j := by
  unfold val_main_v28 val_main_v27 pr projRow
  pointwise [normOf]

/-! ## The heads -/

theorem mqIn (b : Fin 8) (h : Fin 8) (t : Fin 2048) (d : Fin 64) :
    val_main_v36 (F := Ideal) x0 x1 x2 (ix4 b h t d) = pr x0 x1 x2 b t ⟨0 + h.val * 64 + d.val, by omega⟩ := by
  unfold val_main_v36 val_main_v35 val_main_v29
  generalize hX : val_main_v28 (F := Ideal) x0 x1 x2 = X
  refine Eq.trans (b := X (ix3 b t ⟨0 + h.val * 64 + d.val, by omega⟩)) ?_ (by rw [← hX, projOf])
  clear hX
  pointwise

theorem mkIn (b : Fin 8) (h : Fin 8) (t : Fin 2048) (d : Fin 64) :
    val_main_v65 (F := Ideal) x0 x1 x2 (ix4 b h t d) = pr x0 x1 x2 b t ⟨512 + h.val * 64 + d.val, by omega⟩ := by
  unfold val_main_v65 val_main_v64 val_main_v30
  generalize hX : val_main_v28 (F := Ideal) x0 x1 x2 = X
  refine Eq.trans (b := X (ix3 b t ⟨512 + h.val * 64 + d.val, by omega⟩)) ?_ (by rw [← hX, projOf])
  clear hX
  pointwise
  exact congrArg (fun q => X (ix3 b t q)) (Fin.ext (by dsimp only; omega))

theorem rqIn (b : Fin 8) (h : Fin 4) (t : Fin 2048) (d : Fin 64) :
    val_main_v100 (F := Ideal) x0 x1 x2 (ix4 b h t d) = pr x0 x1 x2 b t ⟨1536 + h.val * 64 + d.val, by omega⟩ := by
  unfold val_main_v100 val_main_v99 val_main_v32
  generalize hX : val_main_v28 (F := Ideal) x0 x1 x2 = X
  refine Eq.trans (b := X (ix3 b t ⟨1536 + h.val * 64 + d.val, by omega⟩)) ?_ (by rw [← hX, projOf])
  clear hX
  pointwise
  exact congrArg (fun q => X (ix3 b t q)) (Fin.ext (by dsimp only; omega))

theorem rkIn (b : Fin 8) (h : Fin 4) (t : Fin 2048) (d : Fin 64) :
    val_main_v127 (F := Ideal) x0 x1 x2 (ix4 b h t d) = pr x0 x1 x2 b t ⟨1792 + h.val * 64 + d.val, by omega⟩ := by
  unfold val_main_v127 val_main_v126 val_main_v33
  generalize hX : val_main_v28 (F := Ideal) x0 x1 x2 = X
  refine Eq.trans (b := X (ix3 b t ⟨1792 + h.val * 64 + d.val, by omega⟩)) ?_ (by rw [← hX, projOf])
  clear hX
  pointwise
  exact congrArg (fun q => X (ix3 b t q)) (Fin.ext (by dsimp only; omega))

theorem mqOut (b : Fin 8) (h : Fin 8) (t : Fin 2048) (d : Fin 64) :
    val_main_v63 (F := Ideal) x0 x1 x2 (ix4 b h t d)
      = head8 (headOf (pr x0 x1 x2 b t) ⟨0 + h.val * 64 + d.val, by omega⟩) (fun e => cosM (ix2 t e)) (fun e => sinM (ix2 t e)) d := by
  have e : val_main_v63 (F := Ideal) x0 x1 x2 = turn16 (val_main_v36 (F := Ideal) x0 x1 x2) cosM sinM := rfl
  rw [e, turn16_at]
  refine congrArg (fun q => head8 q (fun e => cosM (ix2 t e)) (fun e => sinM (ix2 t e)) d) (funext fun d' => ?_)
  rw [mqIn]
  unfold headOf
  exact congrArg (pr x0 x1 x2 b t) (Fin.ext (by dsimp only; omega))

theorem mkOut (b : Fin 8) (h : Fin 8) (t : Fin 2048) (d : Fin 64) :
    val_main_v92 (F := Ideal) x0 x1 x2 (ix4 b h t d)
      = head8 (headOf (pr x0 x1 x2 b t) ⟨512 + h.val * 64 + d.val, by omega⟩) (fun e => cosM (ix2 t e)) (fun e => sinM (ix2 t e)) d := by
  have e : val_main_v92 (F := Ideal) x0 x1 x2 = turn16 (val_main_v65 (F := Ideal) x0 x1 x2) cosM sinM := rfl
  rw [e, turn16_at]
  refine congrArg (fun q => head8 q (fun e => cosM (ix2 t e)) (fun e => sinM (ix2 t e)) d) (funext fun d' => ?_)
  rw [mkIn]
  unfold headOf
  exact congrArg (pr x0 x1 x2 b t) (Fin.ext (by dsimp only; omega))

theorem rqOut (b : Fin 8) (h : Fin 4) (t : Fin 2048) (d : Fin 64) :
    val_main_v125 (F := Ideal) x0 x1 x2 (ix4 b h t d)
      = head32 (headOf (pr x0 x1 x2 b t) ⟨1536 + h.val * 64 + d.val, by omega⟩) (fun e => cosR (ix2 t e)) (fun e => sinR (ix2 t e)) d := by
  have e : val_main_v125 (F := Ideal) x0 x1 x2 = turn64 (val_main_v100 (F := Ideal) x0 x1 x2) cosR sinR := rfl
  rw [e, turn64_at]
  refine congrArg (fun q => head32 q (fun e => cosR (ix2 t e)) (fun e => sinR (ix2 t e)) d) (funext fun d' => ?_)
  rw [rqIn]
  unfold headOf
  exact congrArg (pr x0 x1 x2 b t) (Fin.ext (by dsimp only; omega))

theorem rkOut (b : Fin 8) (h : Fin 4) (t : Fin 2048) (d : Fin 64) :
    val_main_v152 (F := Ideal) x0 x1 x2 (ix4 b h t d)
      = head32 (headOf (pr x0 x1 x2 b t) ⟨1792 + h.val * 64 + d.val, by omega⟩) (fun e => cosR (ix2 t e)) (fun e => sinR (ix2 t e)) d := by
  have e : val_main_v152 (F := Ideal) x0 x1 x2 = turn64 (val_main_v127 (F := Ideal) x0 x1 x2) cosR sinR := rfl
  rw [e, turn64_at]
  refine congrArg (fun q => head32 q (fun e => cosR (ix2 t e)) (fun e => sinR (ix2 t e)) d) (funext fun d' => ?_)
  rw [rkIn]
  unfold headOf
  exact congrArg (pr x0 x1 x2 b t) (Fin.ext (by dsimp only; omega))

/-! ## The results -/

theorem mvOf (b : Fin 8) (t : Fin 2048) (j : Fin 512) : val_main_v31 (F := Ideal) x0 x1 x2 (ix3 b t j) = pr x0 x1 x2 b t ⟨1024 + j.val, by omega⟩ := by
  unfold val_main_v31
  pointwise [projOf]

theorem restOf (b : Fin 8) (t : Fin 2048) (j : Fin 1024) : val_main_v34 (F := Ideal) x0 x1 x2 (ix3 b t j) = pr x0 x1 x2 b t ⟨2048 + j.val, by omega⟩ := by
  unfold val_main_v34
  pointwise [projOf]

theorem back8 (X : FVec Ideal S8x8x2048x64 .f32) (b : Fin 8) (t : Fin 2048) (j : Fin 512) :
    shapeCast S8x2048x512 (transpose S8x2048x8x64 [0, 2, 1, 3] X transposes_S8x8x2048x64_S8x2048x8x64_0_2_1_3) shapeCasts_S8x2048x8x64_S8x2048x512 (ix3 b t j)
      = X (ix4 b ⟨j.val / 64, by omega⟩ t ⟨j.val % 64, by omega⟩) := by
  pointwise

theorem back4 (X : FVec Ideal S8x4x2048x64 .f32) (b : Fin 8) (t : Fin 2048) (j : Fin 256) :
    shapeCast S8x2048x256 (transpose S8x2048x4x64 [0, 2, 1, 3] X transposes_S8x4x2048x64_S8x2048x4x64_0_2_1_3) shapeCasts_S8x2048x4x64_S8x2048x256 (ix3 b t j)
      = X (ix4 b ⟨j.val / 64, by omega⟩ t ⟨j.val % 64, by omega⟩) := by
  pointwise

theorem scaleGen (X : FVec Ideal S8x8x2048x64 .f32) (i : S8x8x2048x64.Idx) :
    Host.divf (mulf X (val_main_v155 (F := Ideal))) (val_main_v159 (F := Ideal)) i = X i * ((s8 : ℝ) : EReal) := by
  show Ideal.div (X i * Ideal.ofBits .f32 0x3E000000#32) (Ideal.log (Ideal.ofBits .f32 0x40000000#32)) = _
  have hl : (0 : ℝ) < Real.log 2 := Real.log_pos (by norm_num)
  rw [ofBits_eighth, ofBits_two, Ideal.log_coe, if_neg (by norm_num), Ideal.div_coe hl.ne', mul_assoc, ← EReal.coe_mul]
  refine congrArg (fun r : ℝ => X i * (r : EReal)) ?_
  unfold s8
  field_simp

theorem eighthGen (X : FVec Ideal S8x4x2048x64 .f32) (i : S8x4x2048x64.Idx) :
    mulf X (val_main_v153 (F := Ideal)) i = X i * ((1 / 8 : ℝ) : EReal) := by
  show X i * Ideal.ofBits .f32 0x3E000000#32 = _
  rw [ofBits_eighth]

/-- The cosines and sines of position `t`. -/
def cm (t : Fin 2048) (e : Fin 8) : EReal := cosM (ix2 t e)
def sm (t : Fin 2048) (e : Fin 8) : EReal := sinM (ix2 t e)
def cr (t : Fin 2048) (e : Fin 32) : EReal := cosR (ix2 t e)
def sr (t : Fin 2048) (e : Fin 32) : EReal := sinR (ix2 t e)

/-- Columns of one head have the same head. -/
theorem head8_congr (p : Fin 3072 → EReal) (co si : Fin 8 → EReal) (j j' : Fin 3072) (d d' : Fin 64) (hj : j.val / 64 = j'.val / 64) (hd : d.val = d'.val) :
    head8 (headOf p j) co si d = head8 (headOf p j') co si d' := by
  obtain rfl : d = d' := Fin.ext hd
  refine congrArg (fun q => head8 q co si d) (funext fun e => congrArg p (Fin.ext ?_))
  show j.val / 64 * 64 + e.val = j'.val / 64 * 64 + e.val
  rw [hj]

theorem head32_congr (p : Fin 3072 → EReal) (co si : Fin 32 → EReal) (j j' : Fin 3072) (d d' : Fin 64) (hj : j.val / 64 = j'.val / 64) (hd : d.val = d'.val) :
    head32 (headOf p j) co si d = head32 (headOf p j') co si d' := by
  obtain rfl : d = d' := Fin.ext hd
  refine congrArg (fun q => head32 q co si d) (funext fun e => congrArg p (Fin.ext ?_))
  show j.val / 64 * 64 + e.val = j'.val / 64 * 64 + e.val
  rw [hj]

theorem mqOf (b : Fin 8) (t : Fin 2048) (j : Fin 512) :
    val_main_v162 (F := Ideal) x0 x1 x2 (ix3 b t j)
      = head8 (headOf (pr x0 x1 x2 b t) ⟨0 + j.val, by omega⟩) (cm t) (sm t) ⟨(0 + j.val) % 64, by omega⟩ * ((s8 : ℝ) : EReal) := by
  refine (back8 (val_main_v160 (F := Ideal) x0 x1 x2) b t j).trans ?_
  refine (scaleGen (val_main_v63 (F := Ideal) x0 x1 x2) _).trans ?_
  rw [mqOut]
  refine congrArg (fun r : EReal => r * ((s8 : ℝ) : EReal)) ?_
  exact head8_congr _ _ _ _ _ _ _ (by dsimp only; omega) (by dsimp only; omega)

theorem mkOf (b : Fin 8) (t : Fin 2048) (j : Fin 512) :
    val_main_v164 (F := Ideal) x0 x1 x2 (ix3 b t j)
      = head8 (headOf (pr x0 x1 x2 b t) ⟨512 + j.val, by omega⟩) (cm t) (sm t) ⟨(512 + j.val) % 64, by omega⟩ := by
  refine (back8 (val_main_v92 (F := Ideal) x0 x1 x2) b t j).trans ?_
  rw [mkOut]
  exact head8_congr _ _ _ _ _ _ _ (by dsimp only; omega) (by dsimp only; omega)

theorem rqOf (b : Fin 8) (t : Fin 2048) (j : Fin 256) :
    val_main_v166 (F := Ideal) x0 x1 x2 (ix3 b t j)
      = head32 (headOf (pr x0 x1 x2 b t) ⟨1536 + j.val, by omega⟩) (cr t) (sr t) ⟨(1536 + j.val) % 64, by omega⟩ := by
  refine (back4 (val_main_v125 (F := Ideal) x0 x1 x2) b t j).trans ?_
  rw [rqOut]
  exact head32_congr _ _ _ _ _ _ _ (by dsimp only; omega) (by dsimp only; omega)

theorem rkOf (b : Fin 8) (t : Fin 2048) (j : Fin 256) :
    val_main_v168 (F := Ideal) x0 x1 x2 (ix3 b t j)
      = head32 (headOf (pr x0 x1 x2 b t) ⟨1792 + j.val, by omega⟩) (cr t) (sr t) ⟨(1792 + j.val) % 64, by omega⟩ * ((1 / 8 : ℝ) : EReal) := by
  refine (back4 (val_main_v154 (F := Ideal) x0 x1 x2) b t j).trans ?_
  refine (eighthGen (val_main_v152 (F := Ideal) x0 x1 x2) _).trans ?_
  rw [rkOut]
  refine congrArg (fun r : EReal => r * ((1 / 8 : ℝ) : EReal)) ?_
  exact head32_congr _ _ _ _ _ _ _ (by dsimp only; omega) (by dsimp only; omega)

/-- The first result, at a token and a column. -/
theorem result (i : Fin 16384) (j : Fin 3072) :
    val_main_v171 (F := Ideal) x0 x1 x2 (ix2 i j)
      = headRow (pr x0 x1 x2 ⟨i.val / 2048, by omega⟩ ⟨i.val % 2048, by omega⟩) (cm ⟨i.val % 2048, by omega⟩) (sm ⟨i.val % 2048, by omega⟩)
          (cr ⟨i.val % 2048, by omega⟩) (sr ⟨i.val % 2048, by omega⟩) j := by
  unfold val_main_v171 val_main_v170 val_main_v169
  pointwise [mqOf, mkOf, mvOf, rqOf, rkOf, restOf]
  have hj := j.isLt
  unfold headRow
  by_cases h1 : j.val < 512
  · refine (dif_pos h1).trans ?_
    rw [if_pos h1]
  refine (dif_neg h1).trans ?_
  rw [if_neg h1]
  by_cases h2 : j.val < 1024
  · refine (dif_pos (show j.val - 512 < 512 by omega)).trans ?_
    rw [if_pos h2]
    exact head8_congr _ _ _ _ _ _ _ (by dsimp only; omega) (by dsimp only; omega)
  refine (dif_neg (show ¬ j.val - 512 < 512 by omega)).trans ?_
  rw [if_neg h2]
  by_cases h3 : j.val < 1536
  · refine (dif_pos (show j.val - 512 - 512 < 512 by omega)).trans ?_
    rw [if_pos h3]
    exact congrArg (pr x0 x1 x2 ⟨i.val / 2048, by omega⟩ ⟨i.val % 2048, by omega⟩) (Fin.ext (by dsimp only; omega))
  refine (dif_neg (show ¬ j.val - 512 - 512 < 512 by omega)).trans ?_
  rw [if_neg h3]
  by_cases h4 : j.val < 1792
  · refine (dif_pos (show j.val - 512 - 512 - 512 < 256 by omega)).trans ?_
    rw [if_pos h4]
    exact head32_congr _ _ _ _ _ _ _ (by dsimp only; omega) (by dsimp only; omega)
  refine (dif_neg (show ¬ j.val - 512 - 512 - 512 < 256 by omega)).trans ?_
  rw [if_neg h4]
  by_cases h5 : j.val < 2048
  · refine (dif_pos (show j.val - 512 - 512 - 512 - 256 < 256 by omega)).trans ?_
    rw [if_pos h5]
    exact congrArg (fun r : EReal => r * ((1 / 8 : ℝ) : EReal)) (head32_congr _ _ _ _ _ _ _ (by dsimp only; omega) (by dsimp only; omega))
  refine (dif_neg (show ¬ j.val - 512 - 512 - 512 - 256 < 256 by omega)).trans ?_
  rw [if_neg h5]
  exact congrArg (pr x0 x1 x2 ⟨i.val / 2048, by omega⟩ ⟨i.val % 2048, by omega⟩) (Fin.ext (by dsimp only; omega))

/-- The mean of a block of 256 positions of a column. -/
theorem mean (n : Fin 64) (j : Fin 512) :
    val_main_v98 (F := Ideal) x0 x1 x2 (ix3 n 0 j)
      = Ideal.div (∑ q : Fin 256, headRow (pr x0 x1 x2 ⟨n.val / 8, by omega⟩ ⟨n.val % 8 * 256 + q.val, by omega⟩) (cm ⟨n.val % 8 * 256 + q.val, by omega⟩)
          (sm ⟨n.val % 8 * 256 + q.val, by omega⟩) (cr ⟨n.val % 8 * 256 + q.val, by omega⟩) (sr ⟨n.val % 8 * 256 + q.val, by omega⟩) ⟨512 + j.val, by omega⟩) ((256 : ℝ) : EReal) := by
  unfold val_main_v98 val_main_v97 val_main_v96 val_main_v95 val_main_v94 val_main_v93 val_main_cst_9 val_main_cst_10
  pointwise [mkOut, ofBits_256]
  refine congrArg (fun r => Ideal.div r ((256 : ℝ) : EReal)) (Finset.sum_congr rfl fun q _ => ?_)
  unfold headRow
  rw [if_neg (by dsimp only; omega), if_pos (by dsimp only; omega)]
  exact head8_congr _ _ _ _ _ _ _ (by dsimp only; omega) (by dsimp only; omega)

end Cert.Reference4Ideal.Array

end
-- ==== Proof.L.InArray.lean ====
/-
  The input projection's call: its two result arrays as functions of the arguments.
-/
module

public import proofs.«01_k».proof.Proof.L.InBlock
public import proofs.«01_k».proof.Proof.L.InRef

@[expose] public section

set_option maxRecDepth 16384

noncomputable section

namespace Cert.Kernel4Ideal.Array

open Cert.Kernel4Ideal Cert.Kernel4Ideal.Gen Cert.Layer Cert.Layer.In Cert.Kernel4Ideal.Block Cert.Kernel4Ideal.Tab Idealize.ShloMosaic Idealize.ShloMosaic.TcCoe
open Cert.Reference4Ideal.Array (cm sm cr sr)
open Idealize.ShloMosaic.Pipeline (Dat)

variable (m : (ℓ : Loc nD τ sig) → Buf (Elt Ideal) ℓ)

/-! ## The arrays the call is given -/

theorem cast_x (v : Vec Ideal S8x2048x1024 .f32) (i : Fin 16384) (k : Fin 1024) :
    shapeCast S16384x1024 v shapeCasts_S8x2048x1024_S16384x1024 (ix2 i k)
      = v (ix3 ⟨i.val / 2048, by omega⟩ ⟨i.val % 2048, by omega⟩ k) := by
  pointwise

theorem cast_w (v : Vec Ideal S1x1024x3072 .f32) (k : Fin 1024) (j : Fin 3072) :
    shapeCast S1024x3072 v shapeCasts_S1x1024x3072_S1024x3072 (ix2 k j) = v (ix3 0 k j) := by
  pointwise

theorem cast_g (v : Vec Ideal S1x1024 .f32) (k : Fin 1024) :
    shapeCast S1x1024 (shapeCast S1024 v shapeCasts_S1x1024_S1024) shapeCasts_S1024_S1x1024 (ix2 0 k) = v (ix2 0 k) := by
  pointwise

/-! ## The blocks a grid point reads -/

theorem fin_N (t : Fin cfg0.N) : t.val < 16 := t.isLt

theorem iblk_x (c : Dev nD) (t : Fin cfg0.N) (r : Fin 1024) (k : Fin 1024) :
    iblk m c 0 t (ix2 r k) = V m c main_v140 (ix2 ⟨t.val * 1024 + r.val, by have := fin_N t; omega⟩ k) := by
  have e : ∀ t : Fin grid0.N, win0_0.index t 0 = t.val ∧ win0_0.index t 1 = 0 := by decide +kernel
  refine congrArg (V m c main_v140) ?_
  funext a
  match a with
  | ⟨0, _⟩ => exact Fin.ext (show win0_0.index t 0 * 1024 + 1 * r.val = t.val * 1024 + r.val by rw [(e t).1]; omega)
  | ⟨1, _⟩ => exact Fin.ext (show win0_0.index t 1 * 1024 + 1 * k.val = k.val by rw [(e t).2]; omega)

theorem iblk_g (c : Dev nD) (t : Fin cfg0.N) (k : Fin 1024) :
    iblk m c 1 t (ix2 0 k) = V m c main_v142 (ix2 0 k) := by
  have e : ∀ t : Fin grid0.N, win0_1.index t 0 = 0 ∧ win0_1.index t 1 = 0 := by decide +kernel
  refine congrArg (V m c main_v142) ?_
  funext a
  match a with
  | ⟨0, _⟩ => exact Fin.ext (show win0_1.index t 0 * 1 + 1 * 0 = 0 by rw [(e t).1])
  | ⟨1, _⟩ => exact Fin.ext (show win0_1.index t 1 * 1024 + 1 * k.val = k.val by rw [(e t).2]; omega)

theorem iblk_w (c : Dev nD) (t : Fin cfg0.N) (k : Fin 1024) (j : Fin 3072) :
    iblk m c 2 t (ix2 k j) = V m c main_v143 (ix2 k j) := by
  have e : ∀ t : Fin grid0.N, win0_2.index t 0 = 0 ∧ win0_2.index t 1 = 0 := by decide +kernel
  refine congrArg (V m c main_v143) ?_
  funext a
  match a with
  | ⟨0, _⟩ => exact Fin.ext (show win0_2.index t 0 * 1024 + 1 * k.val = k.val by rw [(e t).1]; omega)
  | ⟨1, _⟩ => exact Fin.ext (show win0_2.index t 1 * 3072 + 1 * j.val = j.val by rw [(e t).2]; omega)

theorem iblk_mq (c : Dev nD) (t : Fin cfg0.N) (q : Fin 3) (r : Fin 1024) (l : Fin 128) :
    iblk m c 3 t (ix3 q r l) = V m c main_v46 (ix3 q ⟨(t.val * 1024 + r.val) % 2048, by omega⟩ l) := by
  have e : ∀ t : Fin grid0.N, win0_3.index t 0 = 0 ∧ win0_3.index t 1 = t.val % 2 ∧ win0_3.index t 2 = 0 := by decide +kernel
  refine congrArg (V m c main_v46) ?_
  funext a
  match a with
  | ⟨0, _⟩ => exact Fin.ext (show win0_3.index t 0 * 3 + 1 * q.val = q.val by rw [(e t).1]; omega)
  | ⟨1, _⟩ => exact Fin.ext (show win0_3.index t 1 * 1024 + 1 * r.val = (t.val * 1024 + r.val) % 2048 by rw [(e t).2.1]; omega)
  | ⟨2, _⟩ => exact Fin.ext (show win0_3.index t 2 * 128 + 1 * l.val = l.val by rw [(e t).2.2]; omega)

theorem iblk_mk (c : Dev nD) (t : Fin cfg0.N) (q : Fin 3) (r : Fin 1024) (l : Fin 128) :
    iblk m c 4 t (ix3 q r l) = V m c main_v77 (ix3 q ⟨(t.val * 1024 + r.val) % 2048, by omega⟩ l) := by
  have e : ∀ t : Fin grid0.N, win0_4.index t 0 = 0 ∧ win0_4.index t 1 = t.val % 2 ∧ win0_4.index t 2 = 0 := by decide +kernel
  refine congrArg (V m c main_v77) ?_
  funext a
  match a with
  | ⟨0, _⟩ => exact Fin.ext (show win0_4.index t 0 * 3 + 1 * q.val = q.val by rw [(e t).1]; omega)
  | ⟨1, _⟩ => exact Fin.ext (show win0_4.index t 1 * 1024 + 1 * r.val = (t.val * 1024 + r.val) % 2048 by rw [(e t).2.1]; omega)
  | ⟨2, _⟩ => exact Fin.ext (show win0_4.index t 2 * 128 + 1 * l.val = l.val by rw [(e t).2.2]; omega)

theorem iblk_rq (c : Dev nD) (t : Fin cfg0.N) (q : Fin 3) (r : Fin 1024) (l : Fin 128) :
    iblk m c 5 t (ix3 q r l) = V m c main_v108 (ix3 q ⟨(t.val * 1024 + r.val) % 2048, by omega⟩ l) := by
  have e : ∀ t : Fin grid0.N, win0_5.index t 0 = 0 ∧ win0_5.index t 1 = t.val % 2 ∧ win0_5.index t 2 = 0 := by decide +kernel
  refine congrArg (V m c main_v108) ?_
  funext a
  match a with
  | ⟨0, _⟩ => exact Fin.ext (show win0_5.index t 0 * 3 + 1 * q.val = q.val by rw [(e t).1]; omega)
  | ⟨1, _⟩ => exact Fin.ext (show win0_5.index t 1 * 1024 + 1 * r.val = (t.val * 1024 + r.val) % 2048 by rw [(e t).2.1]; omega)
  | ⟨2, _⟩ => exact Fin.ext (show win0_5.index t 2 * 128 + 1 * l.val = l.val by rw [(e t).2.2]; omega)

theorem iblk_rk (c : Dev nD) (t : Fin cfg0.N) (q : Fin 3) (r : Fin 1024) (l : Fin 128) :
    iblk m c 6 t (ix3 q r l) = V m c main_v139 (ix3 q ⟨(t.val * 1024 + r.val) % 2048, by omega⟩ l) := by
  have e : ∀ t : Fin grid0.N, win0_6.index t 0 = 0 ∧ win0_6.index t 1 = t.val % 2 ∧ win0_6.index t 2 = 0 := by decide +kernel
  refine congrArg (V m c main_v139) ?_
  funext a
  match a with
  | ⟨0, _⟩ => exact Fin.ext (show win0_6.index t 0 * 3 + 1 * q.val = q.val by rw [(e t).1]; omega)
  | ⟨1, _⟩ => exact Fin.ext (show win0_6.index t 1 * 1024 + 1 * r.val = (t.val * 1024 + r.val) % 2048 by rw [(e t).2.1]; omega)
  | ⟨2, _⟩ => exact Fin.ext (show win0_6.index t 2 * 128 + 1 * l.val = l.val by rw [(e t).2.2]; omega)

/-! ## A row -/

theorem turn8 (p : Fin 3072 → EReal) (T : Fin 3 → Fin 128 → EReal) (s : ℝ) (hs : 0 ≤ s) (v : FVec Ideal S_ .f32) (hv : v Idealize.ShloMosaic.ix0 = (s : EReal))
    (t : Fin 2048) (hT : ∀ q l, T q l = tab8 cosM sinM v (ix3 q t l)) (j : Fin 3072) :
    rot8 p T j = head8 (headOf p j) (cm t) (sm t) ⟨j.val % 64, by omega⟩ * (s : EReal) :=
  rot8_eq p T (cm t) (sm t) s hs (fun l => (hT 0 l).trans (tab8_at cosM sinM v s hv t l).1)
    (fun l => (hT 1 l).trans (tab8_at cosM sinM v s hv t l).2.1) (fun l => (hT 2 l).trans (tab8_at cosM sinM v s hv t l).2.2) j

theorem turn32 (p : Fin 3072 → EReal) (T : Fin 3 → Fin 128 → EReal) (s : ℝ) (hs : 0 ≤ s) (v : FVec Ideal S_ .f32) (hv : v Idealize.ShloMosaic.ix0 = (s : EReal))
    (t : Fin 2048) (hT : ∀ q l, T q l = tab32 cosR sinR v (ix3 q t l)) (j : Fin 3072) :
    rot32 p T j = head32 (headOf p j) (cr t) (sr t) ⟨j.val % 64, by omega⟩ * (s : EReal) :=
  rot32_eq p T (cr t) (sr t) s hs (fun l => (hT 0 l).trans (tab32_at cosR sinR v s hv t l).1)
    (fun l => (hT 1 l).trans (tab32_at cosR sinR v s hv t l).2.1) (fun l => (hT 2 l).trans (tab32_at cosR sinR v s hv t l).2.2) j

theorem s8_pos : 0 ≤ s8 := by
  unfold s8
  have hl : (0 : ℝ) < Real.log 2 := Real.log_pos (by norm_num)
  positivity

/-- With the host's tables the kernel's row is the row by heads. -/
theorem mixRow_eq (p : Fin 3072 → EReal) (mq mk rq rk : Fin 3 → Fin 128 → EReal) (t : Fin 2048)
    (h3 : ∀ q l, mq q l = tab8 cosM sinM cq (ix3 q t l)) (h4 : ∀ q l, mk q l = tab8 cosM sinM c1 (ix3 q t l))
    (h5 : ∀ q l, rq q l = tab32 cosR sinR c1 (ix3 q t l)) (h6 : ∀ q l, rk q l = tab32 cosR sinR ck (ix3 q t l)) (j : Fin 3072) :
    mixRow p mq mk rq rk j = headRow p (cm t) (sm t) (cr t) (sr t) j := by
  unfold mixRow headRow
  rw [turn8 p mq s8 s8_pos cq cq_at t h3, turn8 p mk 1 (by norm_num) c1 c1_at t h4, turn32 p rq 1 (by norm_num) c1 c1_at t h5,
    turn32 p rk (1 / 8) (by norm_num) ck ck_at t h6, EReal.coe_one, mul_one, mul_one]

/-- The kernel's row of token `i`. -/
def rowAt (c : Dev nD) (i : Fin 16384) (j : Fin 3072) : EReal :=
  headRow (Cert.Reference4Ideal.Array.pr (m ((c : Thread nD τ).loc main_arg0)) (m ((c : Thread nD τ).loc main_arg1)) (m ((c : Thread nD τ).loc main_arg2))
      ⟨i.val / 2048, by omega⟩ ⟨i.val % 2048, by omega⟩) (cm ⟨i.val % 2048, by omega⟩) (sm ⟨i.val % 2048, by omega⟩)
    (cr ⟨i.val % 2048, by omega⟩) (sr ⟨i.val % 2048, by omega⟩) j

/-- The mean of the keys of a block of 256 tokens. -/
def meanAt (c : Dev nD) (n : Fin 64) (j : Fin 512) : EReal :=
  Ideal.div (∑ q : Fin 256, rowAt m c ⟨n.val * 256 + q.val, by omega⟩ ⟨512 + j.val, by omega⟩) ((256 : ℝ) : EReal)

/-- The first result array. -/
def G7 (c : Dev nD) : S16384x3072.Idx → EReal := fun i => rowAt m c (i 0) (i 1)

/-- The second result array. -/
def G8 (c : Dev nD) : S64x1x512.Idx → EReal := fun i => meanAt m c (i 0) (i 2)

theorem projRow_congr {x x' g g' : Fin 1024 → EReal} {w w' : Fin 1024 → Fin 3072 → EReal} (hx : ∀ k, x k = x' k) (hg : ∀ k, g k = g' k)
    (hw : ∀ k j, w k j = w' k j) : projRow x g w = projRow x' g' w' := by
  obtain rfl : x = x' := funext hx
  obtain rfl : g = g' := funext hg
  obtain rfl : w = w' := funext fun k => funext (hw k)
  rfl

theorem rowOut_eq (c : Dev nD) (t : Fin cfg0.N) (r : Fin 1024) (j : Fin 3072) :
    rowOut (iblk m c 0 t) (iblk m c 1 t) (iblk m c 2 t) (iblk m c 3 t) (iblk m c 4 t) (iblk m c 5 t) (iblk m c 6 t) r j
      = rowAt m c ⟨t.val * 1024 + r.val, by have := fin_N t; omega⟩ j := by
  have ht := fin_N t
  unfold rowOut rowAt
  refine (mixRow_eq _ _ _ _ _ ⟨(t.val * 1024 + r.val) % 2048, by omega⟩ (fun q l => (iblk_mq m c t q r l).trans (congrFun (V_mq m c) _))
    (fun q l => (iblk_mk m c t q r l).trans (congrFun (V_mk m c) _)) (fun q l => (iblk_rq m c t q r l).trans (congrFun (V_rq m c) _))
    (fun q l => (iblk_rk m c t q r l).trans (congrFun (V_rk m c) _)) j).trans ?_
  refine congrArg (fun p => headRow p _ _ _ _ j) ?_
  unfold bp Cert.Reference4Ideal.Array.pr
  exact projRow_congr (fun k => (iblk_x m c t r k).trans ((congrFun (V_x m c) _).trans (cast_x _ _ k)))
    (fun k => (iblk_g m c t k).trans ((congrFun (V_g m c) _).trans (cast_g _ k))) (fun k j => (iblk_w m c t k j).trans ((congrFun (V_w m c) _).trans (cast_w _ k j)))

/-! ## The result arrays -/

theorem flushed7_eq (c : Dev nD) (t : Fin cfg0.N) :
    (dats m 0 c).flushed 7 t = ((cfg0.win 7).blk t).view.read (Elt Ideal) (G7 m c) := by
  have e : ∀ t : Fin grid0.N, win0_7.index t 0 = t.val ∧ win0_7.index t 1 = 0 := by decide +kernel
  rw [Value.flushed7_A]
  funext y
  refine (out7_at _ _ _ _ _ _ _ _ _ _ _ _ _ _ _ _ _ _ _ _ _ _ _ _ _ _ _ y).trans ?_
  refine (rowOut_eq m c t (y 0) (y 1)).trans ?_
  have hy : (y 0).val < 1024 := (y 0).isLt
  have ht := fin_N t
  have h0 : ((cfg0.win 7).blk t).view.emb y 0 = (⟨t.val * 1024 + (y 0).val, by omega⟩ : Fin 16384) :=
    Fin.ext (show win0_7.index t 0 * 1024 + 1 * (y 0).val = t.val * 1024 + (y 0).val by rw [(e t).1]; omega)
  have h1 : ((cfg0.win 7).blk t).view.emb y 1 = y 1 :=
    Fin.ext (show win0_7.index t 1 * 3072 + 1 * (y 1).val = (y 1).val by rw [(e t).2]; omega)
  show _ = rowAt m c (((cfg0.win 7).blk t).view.emb y 0) (((cfg0.win 7).blk t).view.emb y 1)
  rw [h0, h1]

theorem final7 (c : Dev nD) : (dats m 0 c).arrAt 7 cfg0.N = G7 m c := by
  have e : ∀ t : Fin grid0.N, win0_7.index t 0 = t.val ∧ win0_7.index t 1 = 0 := by decide +kernel
  refine (dats m 0 c).arrAt_eq_of_cover 7 (G7 m c) (fun t _ => flushed7_eq m c t) fun i => ?_
  have hi : (i 0).val < 16384 := (i 0).isLt
  have h1 : (i 1).val < 3072 := (i 1).isLt
  refine ⟨⟨(i 0).val / 1024, by show _ < 16; omega⟩, flush0_7 _, ?_⟩
  generalize ht : (⟨(i 0).val / 1024, by show _ < 16; omega⟩ : Fin cfg0.N) = t
  have htv : t.val = (i 0).val / 1024 := by rw [← ht]
  show i ∈ ((View.whole main_v144_0).slice (win0_7.rect t)).set
  rw [View.set_slice_whole, Rect.mem_set_unit]
  refine Fin.forall_fin_two.mpr ⟨?_, ?_⟩
  · show win0_7.index t 0 * 1024 ≤ (i 0).val ∧ (i 0).val < win0_7.index t 0 * 1024 + 1024
    rw [(e t).1]; omega
  · show win0_7.index t 1 * 3072 ≤ (i 1).val ∧ (i 1).val < win0_7.index t 1 * 3072 + 3072
    rw [(e t).2]; omega

theorem flushed8_eq (c : Dev nD) (t : Fin cfg0.N) :
    (dats m 0 c).flushed 8 t = ((cfg0.win 8).blk t).view.read (Elt Ideal) (G8 m c) := by
  have e : ∀ t : Fin grid0.N, win0_8.index t 0 = t.val ∧ win0_8.index t 1 = 0 ∧ win0_8.index t 2 = 0 := by decide +kernel
  rw [Value.flushed8_A]
  funext y
  refine (out8_at _ _ _ _ _ _ _ _ _ _ _ _ _ _ _ _ _ _ _ _ _ _ _ _ _ _ _ y).trans ?_
  have hy : (y 0).val < 4 := (y 0).isLt
  have ht := fin_N t
  have h0 : ((cfg0.win 8).blk t).view.emb y 0 = (⟨t.val * 4 + (y 0).val, by omega⟩ : Fin 64) :=
    Fin.ext (show win0_8.index t 0 * 4 + 1 * (y 0).val = t.val * 4 + (y 0).val by rw [(e t).1]; omega)
  have h2 : ((cfg0.win 8).blk t).view.emb y 2 = y 2 :=
    Fin.ext (show win0_8.index t 2 * 512 + 1 * (y 2).val = (y 2).val by rw [(e t).2.2]; omega)
  show _ = meanAt m c (((cfg0.win 8).blk t).view.emb y 0) (((cfg0.win 8).blk t).view.emb y 2)
  rw [h0, h2]
  unfold meanOut meanAt
  refine congrArg (fun r => Ideal.div r ((256 : ℝ) : EReal)) (Finset.sum_congr rfl fun q _ => ?_)
  refine (rowOut_eq m c t _ _).trans ?_
  exact congrArg (fun i => rowAt m c i _) (Fin.ext (show t.val * 1024 + ((y 0).val * 256 + q.val) = (t.val * 4 + (y 0).val) * 256 + q.val by omega))

theorem final8 (c : Dev nD) : (dats m 0 c).arrAt 8 cfg0.N = G8 m c := by
  have e : ∀ t : Fin grid0.N, win0_8.index t 0 = t.val ∧ win0_8.index t 1 = 0 ∧ win0_8.index t 2 = 0 := by decide +kernel
  refine (dats m 0 c).arrAt_eq_of_cover 8 (G8 m c) (fun t _ => flushed8_eq m c t) fun i => ?_
  have hi : (i 0).val < 64 := (i 0).isLt
  have h1 : (i 1).val < 1 := (i 1).isLt
  have h2 : (i 2).val < 512 := (i 2).isLt
  refine ⟨⟨(i 0).val / 4, by show _ < 16; omega⟩, flush0_8 _, ?_⟩
  generalize ht : (⟨(i 0).val / 4, by show _ < 16; omega⟩ : Fin cfg0.N) = t
  have htv : t.val = (i 0).val / 4 := by rw [← ht]
  show i ∈ ((View.whole main_v144_1).slice (win0_8.rect t)).set
  rw [View.set_slice_whole, Rect.mem_set_unit]
  intro a
  match a with
  | ⟨0, _⟩ =>
    show win0_8.index t 0 * 4 ≤ (i 0).val ∧ (i 0).val < win0_8.index t 0 * 4 + 4
    rw [(e t).1]; omega
  | ⟨1, _⟩ =>
    show win0_8.index t 1 * 1 ≤ (i 1).val ∧ (i 1).val < win0_8.index t 1 * 1 + 1
    rw [(e t).2.1]; omega
  | ⟨2, _⟩ =>
    show win0_8.index t 2 * 512 ≤ (i 2).val ∧ (i 2).val < win0_8.index t 2 * 512 + 512
    rw [(e t).2.2]; omega

end Cert.Kernel4Ideal.Array

end
-- ==== Proof.L.InClaim.lean ====
/-
  The input projection's call against its reference: row by row the kernel's row is the reference's, and so is the mean of
  its keys over a block.
-/
module

public import proofs.«01_k».proof.Defs
public import proofs.«01_k».proof.Proof.L.InArray
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import Idealize.ShloMosaic.Lib.Quiescent

@[expose] public section

set_option maxRecDepth 16384

noncomputable section

namespace Cert.Layer.In

open Idealize.ShloMosaic Idealize.ShloMosaic.TcCoe Idealize.SL.Sem Cert.Layer

theorem frame : Cert.quiescent_Kernel4 (hKernel4 := Cert.Kernel4.Gen.facts) := fun m ρ _ => Cert.Kernel4.Gen.frame m ρ

theorem frame_ideal : Cert.quiescent_Kernel4Ideal (hKernel4Ideal := Cert.Kernel4Ideal.Gen.facts) := fun m ρ _ => Cert.Kernel4Ideal.Gen.frame m ρ

theorem frame_ref : Cert.quiescent_Reference4Ideal (hReference4Ideal := Cert.Reference4Ideal.Gen.facts) := fun m ρ _ =>
  (θ_run Cert.Reference4Ideal.defs _ _).mono (fun r h => ⟨fun c => (h c).2.2, Idealize.ShloMosaic.sem_eq_zero_of_no_sems (by decide) r.2⟩)
    (Cert.Reference4Ideal.Value.run (F := Ideal) m ρ)

theorem algebraic : Cert.algebraic_Kernel4Ideal_Reference4Ideal (hKernel4Ideal := Cert.Kernel4Ideal.Gen.facts)
    (hReference4Ideal := Cert.Reference4Ideal.Gen.facts) := by
  intro m ρ m' ρ' _ hagree
  refine ⟨fun c => Cert.Kernel4Ideal.Array.G7 m c, fun c => Cert.Kernel4Ideal.Array.G8 m c, ?_, ?_⟩
  · exact (θ_run Cert.Kernel4Ideal.defs _ _).mono
      (fun _ h c => ⟨(h c).1.trans (Cert.Kernel4Ideal.Array.final7 m c), (h c).2.1.trans (Cert.Kernel4Ideal.Array.final8 m c), (h c).2.2⟩)
      (Cert.Kernel4Ideal.Value.run_blocks (F := Ideal) m ρ)
  refine (θ_run Cert.Reference4Ideal.defs _ _).mono (fun _ h c => ⟨(h c).1.trans ?_, (h c).2.1.trans ?_, (h c).2.2⟩)
    (Cert.Reference4Ideal.Value.run (F := Ideal) m' ρ')
  · obtain ⟨e0, e1, e2⟩ := hagree c
    rw [Cert.Reference4Ideal.Read.val_main_v171_eq]
    show Cert.Reference4Ideal.Read.val_main_v171 (F := Ideal) (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) = _
    rw [e0, e1, e2]
    funext i
    obtain ⟨i, j, rfl⟩ : ∃ (i0 : Fin 16384) (j : Fin 3072), i = ix2 i0 j := ⟨i 0, i 1, by funext a; match a with | ⟨0, _⟩ => rfl | ⟨1, _⟩ => rfl⟩
    exact Cert.Reference4Ideal.Array.result _ _ _ i j
  · obtain ⟨e0, e1, e2⟩ := hagree c
    rw [Cert.Reference4Ideal.Read.val_main_v98_eq]
    show Cert.Reference4Ideal.Read.val_main_v98 (F := Ideal) (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) = _
    rw [e0, e1, e2]
    funext i
    obtain ⟨n, z, j, rfl⟩ : ∃ (n : Fin 64) (z : Fin 1) (j : Fin 512), i = ix3 n z j :=
      ⟨i 0, i 1, i 2, by funext a; match a with | ⟨0, _⟩ => rfl | ⟨1, _⟩ => rfl | ⟨2, _⟩ => rfl⟩
    obtain rfl : z = 0 := Subsingleton.elim _ _
    refine (Cert.Reference4Ideal.Array.mean _ _ _ n j).trans ?_
    show _ = Cert.Kernel4Ideal.Array.meanAt m c n j
    unfold Cert.Kernel4Ideal.Array.meanAt Cert.Kernel4Ideal.Array.rowAt
    refine congrArg (fun r => Ideal.div r ((256 : ℝ) : EReal)) (Finset.sum_congr rfl fun q _ => ?_)
    have hb : (⟨n.val / 8, by omega⟩ : Fin 8) = ⟨(n.val * 256 + q.val) / 2048, by omega⟩ := Fin.ext (by dsimp only; omega)
    have ht : (⟨n.val % 8 * 256 + q.val, by omega⟩ : Fin 2048) = ⟨(n.val * 256 + q.val) % 2048, by omega⟩ := Fin.ext (by dsimp only; omega)
    rw [hb, ht]

end Cert.Layer.In

end
-- ==== Proof.lean ====
module

public import proofs.«01_k».proof.Defs
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.ReferenceIdeal.Run
public import proofs.«01_k».proof.Proof.Gen.Reference2Ideal.Run
public import proofs.«01_k».proof.Proof.Gen.Reference3Ideal
public import proofs.«01_k».proof.Proof.Gen.Reference3Ideal.Read
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference2Ideal.Read
public import proofs.«01_k».proof.Proof.L.FfnClaim
public import proofs.«01_k».proof.Proof.L.RetClaim
public import proofs.«01_k».proof.Proof.L.CrossClaim
public import proofs.«01_k».proof.Proof.L.InClaim
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference4Ideal
public import Idealize.ShloMosaic.Adequacy
public import Idealize.ShloMosaic.Init
public import Idealize.ShloMosaic.Lib.Quiescent

@[expose] public section

noncomputable section

namespace Cert.Proof

open Idealize.ShloMosaic Idealize.SL.Sem

theorem preserves : Cert.preserves_Kernel_KernelIdeal :=
  ⟨IdealRules.named_const.statement Cert.KernelIdeal.κ "log_decay0" .f32 _ _ rfl, IdealRules.named_const.statement Cert.KernelIdeal.κ "log_decay1" .f32 _ _ rfl,
    IdealRules.named_const.statement Cert.KernelIdeal.κ "log_decay2" .f32 _ _ rfl, IdealRules.named_const.statement Cert.KernelIdeal.κ "log_decay3" .f32 _ _ rfl,
    IdealRules.named_const.statement Cert.KernelIdeal.κ "chunk_decay0" .f32 _ _ rfl, IdealRules.named_const.statement Cert.KernelIdeal.κ "chunk_decay1" .f32 _ _ rfl,
    IdealRules.named_const.statement Cert.KernelIdeal.κ "chunk_decay2" .f32 _ _ rfl, IdealRules.named_const.statement Cert.KernelIdeal.κ "chunk_decay3" .f32 _ _ rfl⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Pre_finite_proj.Gen.facts, Cert.Pre_finite_ffn.Gen.facts, Cert.Pre_finite_cross.Gen.facts,
  Cert.Layer.Ret.frame, Cert.Layer.Ret.frame_ideal, Cert.Layer.Ret.frame_ideal_pre, Cert.Layer.Ret.frame_ref, Cert.Layer.Ret.frame_ref_pre,
  Cert.Layer.Ffn.frame, Cert.Layer.Ffn.frame_ideal, Cert.Layer.Ffn.frame_ideal_pre, Cert.Layer.Ffn.frame_ref, Cert.Layer.Ffn.frame_ref_pre,
  Cert.Layer.Cross.frame, Cert.Layer.Cross.frame_ideal, Cert.Layer.Cross.frame_ideal_pre, Cert.Layer.Cross.frame_ref, Cert.Layer.Cross.frame_ref_pre,
  Cert.Layer.In.frame, Cert.Layer.In.frame_ideal, Cert.Layer.In.frame_ref,
  preserves, Cert.Layer.Ret.algebraic, trivial, Cert.Layer.Ffn.algebraic, trivial, Cert.Layer.Cross.algebraic, trivial, Cert.Layer.In.algebraic⟩

end Cert.Proof

end
